-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_scores [hPre_finite_scores : Cert.Pre_finite_scores.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_scores.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite_scores.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_scores [hPre_finite_scores : Cert.Pre_finite_scores.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_scores.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite_scores.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_scores [hKernel6Ideal : Cert.Kernel6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_scores m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_scores [hReference6Ideal : Cert.Reference6Ideal.Facts] [hPre_finite_scores : Cert.Pre_finite_scores.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_scores m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)) (v3 : (c : Dev Cert.Kernel2Ideal.nD) → Buf (Elt Ideal) ((c.tc : Thread Cert.Kernel2Ideal.nD Cert.Kernel2Ideal.τ).loc Cert.Kernel2Ideal.main_v33_3)) (v4 : (c : Dev Cert.Kernel2Ideal.nD) → Buf (Elt Ideal) ((c.tc : Thread Cert.Kernel2Ideal.nD Cert.Kernel2Ideal.τ).loc Cert.Kernel2Ideal.main_v33_4)) (v5 : (c : Dev Cert.Kernel2Ideal.nD) → Buf (Elt Ideal) ((c.tc : Thread Cert.Kernel2Ideal.nD Cert.Kernel2Ideal.τ).loc Cert.Kernel2Ideal.main_v33_5)) (v6 : (c : Dev Cert.Kernel2Ideal.nD) → Buf (Elt Ideal) ((c.tc : Thread Cert.Kernel2Ideal.nD Cert.Kernel2Ideal.τ).loc Cert.Kernel2Ideal.main_v33_6)) (v7 : (c : Dev Cert.Kernel2Ideal.nD) → Buf (Elt Ideal) ((c.tc : Thread Cert.Kernel2Ideal.nD Cert.Kernel2Ideal.τ).loc Cert.Kernel2Ideal.main_v33_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_v33_3) = v3 c
          ∧ r.2.mem ((c.tc : Thread Cert.Kernel2Ideal.nD Cert.Kernel2Ideal.τ).loc Cert.Kernel2Ideal.main_v33_4) = v4 c
          ∧ r.2.mem ((c.tc : Thread Cert.Kernel2Ideal.nD Cert.Kernel2Ideal.τ).loc Cert.Kernel2Ideal.main_v33_5) = v5 c
          ∧ r.2.mem ((c.tc : Thread Cert.Kernel2Ideal.nD Cert.Kernel2Ideal.τ).loc Cert.Kernel2Ideal.main_v33_6) = v6 c
          ∧ r.2.mem ((c.tc : Thread Cert.Kernel2Ideal.nD Cert.Kernel2Ideal.τ).loc Cert.Kernel2Ideal.main_v33_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v127) = v0 c
          ∧ r.2.mem ((c.tc : Thread Cert.Reference2Ideal.nD Cert.Reference2Ideal.τ).loc Cert.Reference2Ideal.main_v129) = v1 c
          ∧ r.2.mem ((c.tc : Thread Cert.Reference2Ideal.nD Cert.Reference2Ideal.τ).loc Cert.Reference2Ideal.main_v130) = v2 c
          ∧ r.2.mem ((c.tc : Thread Cert.Reference2Ideal.nD Cert.Reference2Ideal.τ).loc Cert.Reference2Ideal.main_v131) = v3 c
          ∧ r.2.mem ((c.tc : Thread Cert.Reference2Ideal.nD Cert.Reference2Ideal.τ).loc Cert.Reference2Ideal.main_v133) = v4 c
          ∧ r.2.mem ((c.tc : Thread Cert.Reference2Ideal.nD Cert.Reference2Ideal.τ).loc Cert.Reference2Ideal.main_v134) = v5 c
          ∧ r.2.mem ((c.tc : Thread Cert.Reference2Ideal.nD Cert.Reference2Ideal.τ).loc Cert.Reference2Ideal.main_v141) = v6 c
          ∧ r.2.mem ((c.tc : Thread Cert.Reference2Ideal.nD Cert.Reference2Ideal.τ).loc Cert.Reference2Ideal.main_v148) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_1)) (v2 : (c : Dev Cert.Kernel5Ideal.nD) → Buf (Elt Ideal) ((c.tc : Thread Cert.Kernel5Ideal.nD Cert.Kernel5Ideal.τ).loc Cert.Kernel5Ideal.main_v41_2)) (v3 : (c : Dev Cert.Kernel5Ideal.nD) → Buf (Elt Ideal) ((c.tc : Thread Cert.Kernel5Ideal.nD Cert.Kernel5Ideal.τ).loc Cert.Kernel5Ideal.main_v41_3)) (v4 : (c : Dev Cert.Kernel5Ideal.nD) → Buf (Elt Ideal) ((c.tc : Thread Cert.Kernel5Ideal.nD Cert.Kernel5Ideal.τ).loc Cert.Kernel5Ideal.main_v41_4)) (v5 : (c : Dev Cert.Kernel5Ideal.nD) → Buf (Elt Ideal) ((c.tc : Thread Cert.Kernel5Ideal.nD Cert.Kernel5Ideal.τ).loc Cert.Kernel5Ideal.main_v41_5)) (v6 : (c : Dev Cert.Kernel5Ideal.nD) → Buf (Elt Ideal) ((c.tc : Thread Cert.Kernel5Ideal.nD Cert.Kernel5Ideal.τ).loc Cert.Kernel5Ideal.main_v41_6)) (v7 : (c : Dev Cert.Kernel5Ideal.nD) → Buf (Elt Ideal) ((c.tc : Thread Cert.Kernel5Ideal.nD Cert.Kernel5Ideal.τ).loc Cert.Kernel5Ideal.main_v41_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_1) = v1 c
          ∧ r.2.mem ((c.tc : Thread Cert.Kernel5Ideal.nD Cert.Kernel5Ideal.τ).loc Cert.Kernel5Ideal.main_v41_2) = v2 c
          ∧ r.2.mem ((c.tc : Thread Cert.Kernel5Ideal.nD Cert.Kernel5Ideal.τ).loc Cert.Kernel5Ideal.main_v41_3) = v3 c
          ∧ r.2.mem ((c.tc : Thread Cert.Kernel5Ideal.nD Cert.Kernel5Ideal.τ).loc Cert.Kernel5Ideal.main_v41_4) = v4 c
          ∧ r.2.mem ((c.tc : Thread Cert.Kernel5Ideal.nD Cert.Kernel5Ideal.τ).loc Cert.Kernel5Ideal.main_v41_5) = v5 c
          ∧ r.2.mem ((c.tc : Thread Cert.Kernel5Ideal.nD Cert.Kernel5Ideal.τ).loc Cert.Kernel5Ideal.main_v41_6) = v6 c
          ∧ r.2.mem ((c.tc : Thread Cert.Kernel5Ideal.nD Cert.Kernel5Ideal.τ).loc Cert.Kernel5Ideal.main_v41_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v129) = v0 c
          ∧ r.2.mem ((c.tc : Thread Cert.Reference5Ideal.nD Cert.Reference5Ideal.τ).loc Cert.Reference5Ideal.main_v131) = v1 c
          ∧ r.2.mem ((c.tc : Thread Cert.Reference5Ideal.nD Cert.Reference5Ideal.τ).loc Cert.Reference5Ideal.main_v132) = v2 c
          ∧ r.2.mem ((c.tc : Thread Cert.Reference5Ideal.nD Cert.Reference5Ideal.τ).loc Cert.Reference5Ideal.main_v133) = v3 c
          ∧ r.2.mem ((c.tc : Thread Cert.Reference5Ideal.nD Cert.Reference5Ideal.τ).loc Cert.Reference5Ideal.main_v135) = v4 c
          ∧ r.2.mem ((c.tc : Thread Cert.Reference5Ideal.nD Cert.Reference5Ideal.τ).loc Cert.Reference5Ideal.main_v136) = v5 c
          ∧ r.2.mem ((c.tc : Thread Cert.Reference5Ideal.nD Cert.Reference5Ideal.τ).loc Cert.Reference5Ideal.main_v143) = v6 c
          ∧ r.2.mem ((c.tc : Thread Cert.Reference5Ideal.nD Cert.Reference5Ideal.τ).loc Cert.Reference5Ideal.main_v150) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_scores [hKernel6Ideal : Cert.Kernel6Ideal.Facts] [hReference6Ideal : Cert.Reference6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_scores m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v40_0)) (v1 : (c : Dev Cert.Kernel7Ideal.nD) → Buf (Elt Ideal) ((c.tc : Thread Cert.Kernel7Ideal.nD Cert.Kernel7Ideal.τ).loc Cert.Kernel7Ideal.main_v40_1)) (v2 : (c : Dev Cert.Kernel7Ideal.nD) → Buf (Elt Ideal) ((c.tc : Thread Cert.Kernel7Ideal.nD Cert.Kernel7Ideal.τ).loc Cert.Kernel7Ideal.main_v40_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v40_0) = v0 c
          ∧ r.2.mem ((c.tc : Thread Cert.Kernel7Ideal.nD Cert.Kernel7Ideal.τ).loc Cert.Kernel7Ideal.main_v40_1) = v1 c
          ∧ r.2.mem ((c.tc : Thread Cert.Kernel7Ideal.nD Cert.Kernel7Ideal.τ).loc Cert.Kernel7Ideal.main_v40_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v88) = v0 c
          ∧ r.2.mem ((c.tc : Thread Cert.Reference7Ideal.nD Cert.Reference7Ideal.τ).loc Cert.Reference7Ideal.main_v89) = v1 c
          ∧ r.2.mem ((c.tc : Thread Cert.Reference7Ideal.nD Cert.Reference7Ideal.τ).loc Cert.Reference7Ideal.main_v86) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_scores (hKernel6Ideal := hKernel6Ideal) (hPre_finite_scores := hPre_finite_scores)
    ∧ quiescent_Reference6Ideal (hReference6Ideal := hReference6Ideal)
    ∧ quiescent_Reference6Ideal_pre_finite_scores (hReference6Ideal := hReference6Ideal) (hPre_finite_scores := hPre_finite_scores)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_scores (hKernel6Ideal := hKernel6Ideal) (hReference6Ideal := hReference6Ideal) (hPre_finite_scores := hPre_finite_scores)
    ∧ preserves_Kernel7_Kernel7Ideal
    ∧ algebraic_Kernel7Ideal_Reference7Ideal (hKernel7Ideal := hKernel7Ideal) (hReference7Ideal := hReference7Ideal)
-- ==== Pre_finite_scores.lean ====
abbrev S65536x1024 : Shape := ⟨2, ![65536, 1024]⟩
abbrev S65536x512 : Shape := ⟨2, ![65536, 512]⟩
abbrev S32x256x4x128 : Shape := ⟨4, ![32, 256, 4, 128]⟩
abbrev S1x512x1024 : Shape := ⟨3, ![1, 512, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩

class Facts : Prop where
  bcast_S_S65536x512 : S_.BroadcastsInDim S65536x512 (![] : Fin 0 → Fin S65536x512.rank)
  bcast_S_S32x256x4x128 : S_.BroadcastsInDim S32x256x4x128 (![] : Fin 0 → Fin S32x256x4x128.rank)

variable [Facts]

def fn {F : FTy → Type} [FloatOps F] (main_arg0 : FVec F S65536x1024 .f32) (main_arg1 : FVec F S65536x512 .f32) (main_arg2 : FVec F S32x256x4x128 .f32) (main_arg3 : FVec F S32x256x4x128 .f32) (main_arg4 : FVec F S1x512x1024 .f32) (main_arg5 : FVec F S1x1024 .f32) (main_arg6 : FVec F S1x1024x4 .f32) (main_arg7 : FVec F S1x4 .f32) (main_arg8 : FVec F S1x1024x32 .f32) (main_arg9 : FVec F S1x32 .f32) : IVec S65536x512 1 × IVec S32x256x4x128 1 :=
  let main_v0 : FVec F S65536x512 .f32 := Host.absf main_arg1
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_v3 : FVec F S32x256x4x128 .f32 := Host.absf main_arg2
  let main_cst_0 : FVec F S_ .f32 := constant S_ .f32 0x7F800000#32
  let main_v4 : FVec F S32x256x4x128 .f32 := broadcastInDim S32x256x4x128 ![] bcast_S_S32x256x4x128 main_cst_0
  let main_v5 : IVec S32x256x4x128 1 := cmpf .olt main_v3 main_v4
  (main_v2, main_v5)
-- ==== Kernel.lean ====
abbrev S128x8x512 : Shape := ⟨3, ![128, 8, 512]⟩
abbrev S1x128x3x512 : Shape := ⟨4, ![1, 128, 3, 512]⟩
abbrev S1x128x512 : Shape := ⟨3, ![1, 128, 512]⟩
abbrev S1x4x512 : Shape := ⟨3, ![1, 4, 512]⟩
abbrev S1x512 : Shape := ⟨2, ![1, 512]⟩
abbrev S1x8x64x64 : Shape := ⟨4, ![1, 8, 64, 64]⟩
abbrev S128x3x512 : Shape := ⟨3, ![128, 3, 512]⟩
abbrev S128x512 : Shape := ⟨2, ![128, 512]⟩
abbrev S4x512 : Shape := ⟨2, ![4, 512]⟩
abbrev S512 : Shape := ⟨1, ![512]⟩
abbrev S8x64x64 : Shape := ⟨3, ![8, 64, 64]⟩
abbrev S128x1x512 : Shape := ⟨3, ![128, 1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S8x8x512 : Shape := ⟨3, ![8, 8, 512]⟩
abbrev S8x3x512 : Shape := ⟨3, ![8, 3, 512]⟩
abbrev S8x1x512 : Shape := ⟨3, ![8, 1, 512]⟩
abbrev S8x16x512 : Shape := ⟨3, ![8, 16, 512]⟩
abbrev S8x5x512 : Shape := ⟨3, ![8, 5, 512]⟩
abbrev S1x1x512 : Shape := ⟨3, ![1, 1, 512]⟩
abbrev S64x512 : Shape := ⟨2, ![64, 512]⟩

abbrev nBuf : Space → Nat
  | .hbm => 55
  | .vmem => 23
  | .smem => 0
  | _ => 0

abbrev bufTy : (tb : Table) → Fin (tcTables nBuf tb) → BufTy
  | .hbm, ⟨0, _⟩ => ⟨S128x8x512, .f32⟩
  | .hbm, ⟨1, _⟩ => ⟨S1x128x3x512, .f32⟩
  | .hbm, ⟨2, _⟩ => ⟨S1x128x512, .f32⟩
  | .hbm, ⟨3, _⟩ => ⟨S1x4x512, .f32⟩
  | .hbm, ⟨4, _⟩ => ⟨S1x512, .f32⟩
  | .hbm, ⟨5, _⟩ => ⟨S1x8x64x64, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x512, .f32⟩
  | .hbm, ⟨10, _⟩ => ⟨S128x3x512, .f32⟩
  | .hbm, ⟨11, _⟩ => ⟨S128x512, .f32⟩
  | .hbm, ⟨12, _⟩ => ⟨S4x512, .f32⟩
  | .hbm, ⟨13, _⟩ => ⟨S512, .f32⟩
  | .hbm, ⟨14, _⟩ => ⟨S8x64x64, .f32⟩
  | .hbm, ⟨15, _⟩ => ⟨S512, .f32⟩
  | .hbm, ⟨16, _⟩ => ⟨S8x64x64, .f32⟩
  | .hbm, ⟨17, _⟩ => ⟨S512, .f32⟩
  | .hbm, ⟨18, _⟩ => ⟨S512, .f32⟩
  | .hbm, ⟨19, _⟩ => ⟨S128x1x512, .f32⟩
  | .hbm, ⟨20, _⟩ => ⟨S1x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x1x8x1, .f32⟩
  | .hbm, ⟨29, _⟩ => ⟨S8x64x1x64, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S512x512, .bf16⟩
  | .hbm, ⟨35, _⟩ => ⟨S1x512, .f32⟩
  | .hbm, ⟨36, _⟩ => ⟨S8x8, .i32⟩
  | .hbm, ⟨37, _⟩ => ⟨S8x8, .i32⟩
  | .hbm, ⟨38, _⟩ => ⟨S_, .i32⟩
  | .hbm, ⟨39, _⟩ => ⟨S8x8, .i32⟩
  | .hbm, ⟨40, _⟩ => ⟨S8x8, .i32⟩
  | .hbm, ⟨41, _⟩ => ⟨S8x8, .i1⟩
  | .hbm, ⟨42, _⟩ => ⟨S8x8, .f32⟩
  | .hbm, ⟨43, _⟩ => ⟨S8x1x8x1, .f32⟩
  | .hbm, ⟨44, _⟩ => ⟨S8x64x1x64, .f32⟩
  | .hbm, ⟨45, _⟩ => ⟨S8x64x8x64, .f32⟩
  | .hbm, ⟨46, _⟩ => ⟨S8x64x8x64, .f32⟩
  | .hbm, ⟨47, _⟩ => ⟨S8x64x8x64, .f32⟩
  | .hbm, ⟨48, _⟩ => ⟨S512x512, .f32⟩
  | .hbm, ⟨49, _⟩ => ⟨S512x512, .bf16⟩
  | .hbm, ⟨50, _⟩ => ⟨S1x512, .f32⟩
  | .hbm, ⟨51, _⟩ => ⟨S1x512, .f32⟩
  | .hbm, ⟨52, _⟩ => ⟨S128x8x512, .f32⟩
  | .hbm, ⟨53, _⟩ => ⟨S128x1x512, .f32⟩
  | .hbm, ⟨54, _⟩ => ⟨S128x3x512, .f32⟩
  | .local _ .vmem, ⟨0, _⟩ => ⟨S8x8x512, .f32⟩
  | .local _ .vmem, ⟨1, _⟩ => ⟨S8x8x512, .f32⟩
  | .local _ .vmem, ⟨2, _⟩ => ⟨S8x3x512, .f32⟩
  | .local _ .vmem, ⟨3, _⟩ => ⟨S8x3x512, .f32⟩
  | .local _ .vmem, ⟨4, _⟩ => ⟨S8x1x512, .f32⟩
  | .local _ .vmem, ⟨5, _⟩ => ⟨S8x1x512, .f32⟩
  | .local _ .vmem, ⟨6, _⟩ => ⟨S4x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S8x8x512, .f32⟩
  | .local _ .vmem, ⟨14, _⟩ => ⟨S8x8x512, .f32⟩
  | .local _ .vmem, ⟨15, _⟩ => ⟨S8x1x512, .f32⟩
  | .local _ .vmem, ⟨16, _⟩ => ⟨S8x1x512, .f32⟩
  | .local _ .vmem, ⟨17, _⟩ => ⟨S8x3x512, .f32⟩
  | .local _ .vmem, ⟨18, _⟩ => ⟨S8x3x512, .f32⟩
  | .local _ .vmem, ⟨19, _⟩ => ⟨S8x16x512, .f32⟩
  | .local _ .vmem, ⟨20, _⟩ => ⟨S8x8x512, .f32⟩
  | .local _ .vmem, ⟨21, _⟩ => ⟨S8x8x512, .f32⟩
  | .local _ .vmem, ⟨22, _⟩ => ⟨S8x1x512, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32_79 : BitVec 32 := 0#32
  let c8_i32 : BitVec 32 := 8#32
  let v116 : BitVec 32 := Scalar.addi c0_i32_79 c8_i32
  let c1_i32 : BitVec 32 := 1#32
  ⟨c0_i32_79, v116, c1_i32⟩
def k0_off1 (k0_t1 : Fin k0_t1_loop.trips) : Fin 3 → Nat :=
  let c0_135 : Index := 0#32
  let c0_i32_79 : BitVec 32 := 0#32
  let c1_i32 : BitVec 32 := 1#32
  let arg19 : BitVec 32 := Scf.iv c0_i32_79 c1_i32 k0_t1
  let v168 : Index := Scalar.indexCast arg19
  let c0_136 : Index := 0#32
  ![0, v168.toNat, 0]
def k0_off2 (k0_t1 : Fin k0_t1_loop.trips) : Fin 3 → Nat :=
  let c1_141 : Index := 1#32
  let c0_i32_79 : BitVec 32 := 0#32
  let c1_i32 : BitVec 32 := 1#32
  let arg19 : BitVec 32 := Scf.iv c0_i32_79 c1_i32 k0_t1
  let v180 : Index := Scalar.indexCast arg19
  let c0_142 : Index := 0#32
  ![1, v180.toNat, 0]
def k0_off3 (k0_t1 : Fin k0_t1_loop.trips) : Fin 3 → Nat :=
  let c2_147 : Index := 2#32
  let c0_i32_79 : BitVec 32 := 0#32
  let c1_i32 : BitVec 32 := 1#32
  let arg19 : BitVec 32 := Scf.iv c0_i32_79 c1_i32 k0_t1
  let v192 : Index := Scalar.indexCast arg19
  let c0_148 : Index := 0#32
  ![2, v192.toNat, 0]
def k0_off4 (k0_t1 : Fin k0_t1_loop.trips) : Fin 3 → Nat :=
  let c3_153 : Index := 3#32
  let c0_i32_79 : BitVec 32 := 0#32
  let c1_i32 : BitVec 32 := 1#32
  let arg19 : BitVec 32 := Scf.iv c0_i32_79 c1_i32 k0_t1
  let v204 : Index := Scalar.indexCast arg19
  let c0_154 : Index := 0#32
  ![3, v204.toNat, 0]
def k0_off5 (k0_t1 : Fin k0_t1_loop.trips) : Fin 3 → Nat :=
  let c4_159 : Index := 4#32
  let c0_i32_79 : BitVec 32 := 0#32
  let c1_i32 : BitVec 32 := 1#32
  let arg19 : BitVec 32 := Scf.iv c0_i32_79 c1_i32 k0_t1
  let v216 : Index := Scalar.indexCast arg19
  let c0_160 : Index := 0#32
  ![4, v216.toNat, 0]
def k0_off6 (k0_t1 : Fin k0_t1_loop.trips) : Fin 3 → Nat :=
  let c5_165 : Index := 5#32
  let c0_i32_79 : BitVec 32 := 0#32
  let c1_i32 : BitVec 32 := 1#32
  let arg19 : BitVec 32 := Scf.iv c0_i32_79 c1_i32 k0_t1
  let v228 : Index := Scalar.indexCast arg19
  let c0_166 : Index := 0#32
  ![5, v228.toNat, 0]
def k0_off7 (k0_t1 : Fin k0_t1_loop.trips) : Fin 3 → Nat :=
  let c6_171 : Index := 6#32
  let c0_i32_79 : BitVec 32 := 0#32
  let c1_i32 : BitVec 32 := 1#32
  let arg19 : BitVec 32 := Scf.iv c0_i32_79 c1_i32 k0_t1
  let v240 : Index := Scalar.indexCast arg19
  let c0_172 : Index := 0#32
  ![6, v240.toNat, 0]
def k0_off8 (k0_t1 : Fin k0_t1_loop.trips) : Fin 3 → Nat :=
  let c7_177 : Index := 7#32
  let c0_i32_79 : BitVec 32 := 0#32
  let c1_i32 : BitVec 32 := 1#32
  let arg19 : BitVec 32 := Scf.iv c0_i32_79 c1_i32 k0_t1
  let v252 : Index := Scalar.indexCast arg19
  let c0_178 : Index := 0#32
  ![7, v252.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S128x8x512 : Shape := ⟨3, ![128, 8, 512]⟩
abbrev S1x128x3x512 : Shape := ⟨4, ![1, 128, 3, 512]⟩
abbrev S1x128x512 : Shape := ⟨3, ![1, 128, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S128x3x512 : Shape := ⟨3, ![128, 3, 512]⟩
abbrev S128x11x512 : Shape := ⟨3, ![128, 11, 512]⟩
abbrev S1x1x512 : Shape := ⟨3, ![1, 1, 512]⟩
abbrev S128x8x8x64 : Shape := ⟨4, ![128, 8, 8, 64]⟩
abbrev S8x64x64 : Shape := ⟨3, ![8, 64, 64]⟩
abbrev S8x64x128x8 : Shape := ⟨4, ![8, 64, 128, 8]⟩
abbrev S_ : Shape := ⟨0, ![]⟩
abbrev S128x512 : Shape := ⟨2, ![128, 512]⟩
abbrev S8x128x512 : Shape := ⟨3, ![8, 128, 512]⟩
abbrev S128x1x512 : Shape := ⟨3, ![128, 1, 512]⟩

abbrev nBuf : Space → Nat
  | .hbm => 142
  | .vmem => 0
  | .smem => 0
  | _ => 0

abbrev hbmTy0_0 (i : Nat) : BufTy := match i % 128 with
  | 0 => ⟨S128x8x512, .f32⟩
  | 1 => ⟨S1x128x3x512, .f32⟩
  | 2 => ⟨S1x128x512, .f32⟩
  | 3 => ⟨S1x4x512, .f32⟩
  | 4 => ⟨S1x512, .f32⟩
  | 5 => ⟨S1x8x64x64, .f32⟩
  | 6 => ⟨S1x512, .f32⟩
  | 7 => ⟨S1x8x64x64, .f32⟩
  | 8 => ⟨S1x512, .f32⟩
  | 9 => ⟨S1x512, .f32⟩
  | 10 => ⟨S4x512, .f32⟩
  | 11 => ⟨S512, .f32⟩
  | 12 => ⟨S512, .f32⟩
  | 13 => ⟨S128x3x512, .f32⟩
  | 14 => ⟨S128x11x512, .f32⟩
  | 15 => ⟨S128x8x512, .f32⟩
  | 16 => ⟨S1x512, .f32⟩
  | 17 => ⟨S512, .f32⟩
  | 18 => ⟨S1x1x512, .f32⟩
  | 19 => ⟨S128x8x512, .f32⟩
  | 20 => ⟨S128x8x512, .f32⟩
  | 21 => ⟨S128x8x512, .f32⟩
  | 22 => ⟨S1x512, .f32⟩
  | 23 => ⟨S512, .f32⟩
  | 24 => ⟨S1x1x512, .f32⟩
  | 25 => ⟨S128x8x512, .f32⟩
  | 26 => ⟨S128x8x512, .f32⟩
  | 27 => ⟨S128x8x512, .f32⟩
  | 28 => ⟨S128x8x512, .f32⟩
  | 29 => ⟨S1x512, .f32⟩
  | 30 => ⟨S512, .f32⟩
  | 31 => ⟨S1x1x512, .f32⟩
  | 32 => ⟨S128x8x512, .f32⟩
  | 33 => ⟨S128x8x512, .f32⟩
  | 34 => ⟨S128x8x512, .f32⟩
  | 35 => ⟨S128x8x512, .f32⟩
  | 36 => ⟨S1x512, .f32⟩
  | 37 => ⟨S512, .f32⟩
  | 38 => ⟨S1x1x512, .f32⟩
  | 39 => ⟨S128x8x512, .f32⟩
  | 40 => ⟨S128x8x512, .f32⟩
  | 41 => ⟨S128x8x512, .f32⟩
  | 42 => ⟨S1x1x512, .f32⟩
  | 43 => ⟨S128x8x512, .f32⟩
  | 44 => ⟨S128x8x512, .f32⟩
  | 45 => ⟨S128x8x8x64, .f32⟩
  | 46 => ⟨S8x64x64, .f32⟩
  | 47 => ⟨S8x64x128x8, .f32⟩
  | 48 => ⟨S128x8x8x64, .f32⟩
  | 49 => ⟨S128x8x512, .f32⟩
  | 50 => ⟨S512, .f32⟩
  | 51 => ⟨S1x1x512, .f32⟩
  | 52 => ⟨S128x8x512, .f32⟩
  | 53 => ⟨S128x8x512, .f32⟩
  | 54 => ⟨S128x8x512, .f32⟩
  | 55 => ⟨S128x8x512, .f32⟩
  | 56 => ⟨S_, .f32⟩
  | 57 => ⟨S128x8x512, .f32⟩
  | 58 => ⟨S128x8x512, .f32⟩
  | 59 => ⟨S_, .f32⟩
  | 60 => ⟨S128x8x512, .f32⟩
  | 61 => ⟨S128x8x512, .f32⟩
  | 62 => ⟨S8x64x64, .f32⟩
  | 63 => ⟨S8x64x128x8, .f32⟩
  | 64 => ⟨S128x8x8x64, .f32⟩
  | 65 => ⟨S128x8x512, .f32⟩
  | 66 => ⟨S512, .f32⟩
  | 67 => ⟨S1x1x512, .f32⟩
  | 68 => ⟨S128x8x512, .f32⟩
  | 69 => ⟨S128x8x512, .f32⟩
  | 70 => ⟨S128x8x512, .f32⟩
  | 71 => ⟨S128x8x512, .f32⟩
  | 72 => ⟨S_, .f32⟩
  | 73 => ⟨S128x8x512, .f32⟩
  | 74 => ⟨S128x8x512, .f32⟩
  | 75 => ⟨S_, .f32⟩
  | 76 => ⟨S128x8x512, .f32⟩
  | 77 => ⟨S128x8x512, .f32⟩
  | 78 => ⟨S_, .f32⟩
  | 79 => ⟨S128x8x512, .f32⟩
  | 80 => ⟨S128x8x512, .f32⟩
  | 81 => ⟨S512, .f32⟩
  | 82 => ⟨S_, .f32⟩
  | 83 => ⟨S512, .f32⟩
  | 84 => ⟨S512, .f32⟩
  | 85 => ⟨S512, .f32⟩
  | 86 => ⟨S512, .f32⟩
  | 87 => ⟨S512, .i1⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S512, .f32⟩
  | 96 => ⟨S1x1x512, .f32⟩
  | 97 => ⟨S128x8x512, .f32⟩
  | 98 => ⟨S128x8x512, .f32⟩
  | 99 => ⟨S128x8x512, .f32⟩
  | 100 => ⟨S_, .f32⟩
  | 101 => ⟨S128x8x512, .f32⟩
  | 102 => ⟨S128x8x512, .f32⟩
  | 103 => ⟨S128x8x512, .f32⟩
  | 104 => ⟨S128x8x512, .f32⟩
  | 105 => ⟨S128x8x512, .f32⟩
  | 106 => ⟨S128x8x512, .f32⟩
  | 107 => ⟨S128x8x512, .f32⟩
  | 108 => ⟨S128x512, .f32⟩
  | 109 => ⟨S8x128x512, .f32⟩
  | 110 => ⟨S8x128x512, .f32⟩
  | 111 => ⟨S_, .f32⟩
  | 112 => ⟨S8x128x512, .f32⟩
  | 113 => ⟨S_, .i32⟩
  | 114 => ⟨S8x128x512, .f32⟩
  | 115 => ⟨S8x128x512, .f32⟩
  | 116 => ⟨S_, .i32⟩
  | 117 => ⟨S128x512, .f32⟩
  | 118 => ⟨S8x128x512, .f32⟩
  | 119 => ⟨S_, .i32⟩
  | 120 => ⟨S_, .i1⟩
  | 121 => ⟨S_, .i32⟩
  | 122 => ⟨S_, .i32⟩
  | 123 => ⟨S1x128x512, .f32⟩
  | 124 => ⟨S128x512, .f32⟩
  | 125 => ⟨S_, .i32⟩
  | 126 => ⟨S_, .i32⟩
  | 127 => ⟨S1x128x512, .f32⟩
  | _ => ⟨S128x8x512, .f32⟩

abbrev hbmTy0_1 (i : Nat) : BufTy := match i % 128 with
  | 0 => ⟨S128x512, .f32⟩
  | 1 => ⟨S128x512, .f32⟩
  | 2 => ⟨S128x512, .f32⟩
  | 3 => ⟨S1x128x512, .f32⟩
  | 4 => ⟨S_, .i32⟩
  | 5 => ⟨S_, .i32⟩
  | 6 => ⟨S8x128x512, .f32⟩
  | 7 => ⟨S_, .i32⟩
  | 8 => ⟨S_, .i32⟩
  | 9 => ⟨S128x3x512, .f32⟩
  | 10 => ⟨S128x11x512, .f32⟩
  | 11 => ⟨S128x3x512, .f32⟩
  | 12 => ⟨S128x8x512, .f32⟩
  | 13 => ⟨S128x1x512, .f32⟩
  | _ => ⟨S128x8x512, .f32⟩

abbrev hbmTy (i : Nat) : BufTy := match i / 128 with
  | 0 => hbmTy0_0 i
  | 1 => hbmTy0_1 i
  | _ => ⟨S128x8x512, .f32⟩

abbrev bufTy : (tb : Table) → Fin (tcTables nBuf tb) → BufTy
  | .hbm, ⟨i, _⟩ => hbmTy i
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst : Ref sig .tc := ⟨.hbm, 56, rfl⟩
abbrev main_v46 : Ref sig .tc := ⟨.hbm, 57, rfl⟩
abbrev main_v47 : Ref sig .tc := ⟨.hbm, 58, rfl⟩
abbrev main_cst_0 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_1 : Ref sig .tc := ⟨.hbm, 72, rfl⟩
abbrev main_v60 : Ref sig .tc := ⟨.hbm, 73, rfl⟩
abbrev main_v61 : Ref sig .tc := ⟨.hbm, 74, rfl⟩
abbrev main_cst_2 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_4 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_5 : Ref sig .tc := ⟨.hbm, 111, rfl⟩
abbrev main_v82 : Ref sig .tc := ⟨.hbm, 112, rfl⟩
abbrev main_c : Ref sig .tc := ⟨.hbm, 113, rfl⟩
abbrev main_v83_0 : Ref sig .tc := ⟨.hbm, 114, rfl⟩
abbrev main_v83_1 : Ref sig .tc := ⟨.hbm, 115, rfl⟩
abbrev main_v83_2 : Ref sig .tc := ⟨.hbm, 116, rfl⟩
abbrev main_v83_3 : Ref sig .tc := ⟨.hbm, 117, rfl⟩
abbrev main_v83_4 : Ref sig .tc := ⟨.hbm, 118, rfl⟩
abbrev main_while0c_c_10 : Ref sig .tc := ⟨.hbm, 119, rfl⟩
abbrev main_while0c_v89 : Ref sig .tc := ⟨.hbm, 120, rfl⟩
abbrev main_while0b_call1_c : Ref sig .tc := ⟨.hbm, 121, rfl⟩
abbrev main_while0b_call1_c_0 : Ref sig .tc := ⟨.hbm, 122, rfl⟩
abbrev main_while0b_call1_v0 : Ref sig .tc := ⟨.hbm, 123, rfl⟩
abbrev main_while0b_v89 : Ref sig .tc := ⟨.hbm, 124, rfl⟩
abbrev main_while0b_call2_c : Ref sig .tc := ⟨.hbm, 125, rfl⟩
abbrev main_while0b_call2_c_0 : Ref sig .tc := ⟨.hbm, 126, rfl⟩
abbrev main_while0b_call2_v0 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_call3_v0 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_v93 : Ref sig .tc := ⟨.hbm, 134, rfl⟩
abbrev main_while0b_c_10 : Ref sig .tc := ⟨.hbm, 135, rfl⟩
abbrev main_while0b_v94 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩

abbrev nD : Nat := 1
abbrev τ : Topo := Topo.v7x

variable {F : FTy → Type} [FloatOps F]

abbrev main_while0_count : Scf.Loop 32 := ⟨0#32, 8#32, 1#32⟩
-- ==== Kernel2.lean ====
abbrev S32x2048x1024 : Shape := ⟨3, ![32, 2048, 1024]⟩
abbrev S1x1024 : Shape := ⟨2, ![1, 1024]⟩
abbrev S1x1024x4680 : Shape := ⟨3, ![1, 1024, 4680]⟩
abbrev S65536x1024 : Shape := ⟨2, ![65536, 1024]⟩
abbrev S1024 : Shape := ⟨1, ![1024]⟩
abbrev S1024x4680 : Shape := ⟨2, ![1024, 4680]⟩
abbrev S1024x72 : Shape := ⟨2, ![1024, 72]⟩
abbrev S_ : Shape := ⟨0, ![]⟩
abbrev S1024x56 : Shape := ⟨2, ![1024, 56]⟩
abbrev S1024x2560 : Shape := ⟨2, ![1024, 2560]⟩
abbrev S1024x2048 : Shape := ⟨2, ![1024, 2048]⟩
abbrev S1024x4736 : Shape := ⟨2, ![1024, 4736]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S65536x512 : Shape := ⟨2, ![65536, 512]⟩
abbrev S65536x128 : Shape := ⟨2, ![65536, 128]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 49
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4680, .f32⟩
  | .hbm, ⟨3, _⟩ => ⟨S65536x1024, .f32⟩
  | .hbm, ⟨4, _⟩ => ⟨S1024, .f32⟩
  | .hbm, ⟨5, _⟩ => ⟨S1024x4680, .f32⟩
  | .hbm, ⟨6, _⟩ => ⟨S1024x72, .f32⟩
  | .hbm, ⟨7, _⟩ => ⟨S_, .f32⟩
  | .hbm, ⟨8, _⟩ => ⟨S1024x56, .f32⟩
  | .hbm, ⟨9, _⟩ => ⟨S1024x2560, .f32⟩
  | .hbm, ⟨10, _⟩ => ⟨S1024x2048, .f32⟩
  | .hbm, ⟨11, _⟩ => ⟨S1024x4736, .f32⟩
  | .hbm, ⟨12, _⟩ => ⟨S1024x4736, .bf16⟩
  | .hbm, ⟨13, _⟩ => ⟨S2048, .i32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S2048, .f32⟩
  | .hbm, ⟨29, _⟩ => ⟨S2048x1, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x128, .f32⟩
  | .hbm, ⟨37, _⟩ => ⟨S2048x32, .f32⟩
  | .hbm, ⟨38, _⟩ => ⟨S2048x32, .f32⟩
  | .hbm, ⟨39, _⟩ => ⟨S2048x128, .f32⟩
  | .hbm, ⟨40, _⟩ => ⟨S1x1024, .f32⟩
  | .hbm, ⟨41, _⟩ => ⟨S65536x512, .f32⟩
  | .hbm, ⟨42, _⟩ => ⟨S65536x512, .bf16⟩
  | .hbm, ⟨43, _⟩ => ⟨S65536x512, .f32⟩
  | .hbm, ⟨44, _⟩ => ⟨S65536x512, .f32⟩
  | .hbm, ⟨45, _⟩ => ⟨S65536x512, .bf16⟩
  | .hbm, ⟨46, _⟩ => ⟨S65536x128, .f32⟩
  | .hbm, ⟨47, _⟩ => ⟨S65536x1024, .f32⟩
  | .hbm, ⟨48, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev main_v33_2 : Ref sig .tc := ⟨.hbm, 43, rfl⟩
abbrev main_v33_3 : Ref sig .tc := ⟨.hbm, 44, rfl⟩
abbrev main_v33_4 : Ref sig .tc := ⟨.hbm, 45, rfl⟩
abbrev main_v33_5 : Ref sig .tc := ⟨.hbm, 46, rfl⟩
abbrev main_v33_6 : Ref sig .tc := ⟨.hbm, 47, rfl⟩
abbrev main_v33_7 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32x2048x1024 : Shape := ⟨3, ![32, 2048, 1024]⟩
abbrev S1x1024 : Shape := ⟨2, ![1, 1024]⟩
abbrev S1x1024x4680 : Shape := ⟨3, ![1, 1024, 4680]⟩
abbrev S_ : Shape := ⟨0, ![]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S1024x4680 : Shape := ⟨2, ![1024, 4680]⟩
abbrev S32x2048x4680 : Shape := ⟨3, ![32, 2048, 4680]⟩
abbrev S32x2048x512 : Shape := ⟨3, ![32, 2048, 512]⟩
abbrev S32x2048x64 : Shape := ⟨3, ![32, 2048, 64]⟩
abbrev S32x2048x8 : Shape := ⟨3, ![32, 2048, 8]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S32x2048x8x64 : Shape := ⟨4, ![32, 2048, 8, 64]⟩
abbrev S32x2048x8x32 : Shape := ⟨4, ![32, 2048, 8, 32]⟩
abbrev S1x2048x1x32 : Shape := ⟨4, ![1, 2048, 1, 32]⟩
abbrev S32x2048x1x64 : Shape := ⟨4, ![32, 2048, 1, 64]⟩
abbrev S32x2048x1x32 : Shape := ⟨4, ![32, 2048, 1, 32]⟩
abbrev S32x2048x56 : Shape := ⟨3, ![32, 2048, 56]⟩
abbrev S32x2048x128 : Shape := ⟨3, ![32, 2048, 128]⟩
abbrev S65536x512 : Shape := ⟨2, ![65536, 512]⟩
abbrev S65536x128 : Shape := ⟨2, ![65536, 128]⟩
abbrev S65536x1024 : Shape := ⟨2, ![65536, 1024]⟩

abbrev nBuf : Space → Nat
  | .hbm => 167
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x4680, .f32⟩
  | 3 => ⟨S32x2048x1024, .f32⟩
  | 4 => ⟨S_, .f32⟩
  | 5 => ⟨S32x2048, .f32⟩
  | 6 => ⟨S32x2048x1, .f32⟩
  | 7 => ⟨S_, .f32⟩
  | 8 => ⟨S32x2048x1, .f32⟩
  | 9 => ⟨S32x2048x1, .f32⟩
  | 10 => ⟨S_, .f32⟩
  | 11 => ⟨S32x2048x1, .f32⟩
  | 12 => ⟨S32x2048x1, .f32⟩
  | 13 => ⟨S32x2048x1, .f32⟩
  | 14 => ⟨S32x2048x1024, .f32⟩
  | 15 => ⟨S32x2048x1024, .f32⟩
  | 16 => ⟨S1024, .f32⟩
  | 17 => ⟨S1x1x1024, .f32⟩
  | 18 => ⟨S32x2048x1024, .f32⟩
  | 19 => ⟨S32x2048x1024, .f32⟩
  | 20 => ⟨S1024x4680, .f32⟩
  | 21 => ⟨S32x2048x4680, .f32⟩
  | 22 => ⟨S32x2048x512, .f32⟩
  | 23 => ⟨S32x2048x512, .f32⟩
  | 24 => ⟨S32x2048x512, .f32⟩
  | 25 => ⟨S32x2048x512, .f32⟩
  | 26 => ⟨S32x2048x512, .f32⟩
  | 27 => ⟨S32x2048x64, .f32⟩
  | 28 => ⟨S32x2048x8, .f32⟩
  | 29 => ⟨S32x2048x1024, .f32⟩
  | 30 => ⟨S32x2048x1024, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S2048, .i32⟩
  | 46 => ⟨S2048, .f32⟩
  | 47 => ⟨S2048x1, .f32⟩
  | 48 => ⟨S1x32, .f32⟩
  | 49 => ⟨S2048x32, .f32⟩
  | 50 => ⟨S2048x32, .f32⟩
  | 51 => ⟨S2048x32, .f32⟩
  | 52 => ⟨S2048x32, .f32⟩
  | 53 => ⟨S2048x1x32, .f32⟩
  | 54 => ⟨S2048x32, .f32⟩
  | 55 => ⟨S2048x1x32, .f32⟩
  | 56 => ⟨S32x2048x8x64, .f32⟩
  | 57 => ⟨S32x2048x8x32, .f32⟩
  | 58 => ⟨S32x2048x8x32, .f32⟩
  | 59 => ⟨S1x2048x1x32, .f32⟩
  | 60 => ⟨S32x2048x8x32, .f32⟩
  | 61 => ⟨S32x2048x8x32, .f32⟩
  | 62 => ⟨S1x2048x1x32, .f32⟩
  | 63 => ⟨S32x2048x8x32, .f32⟩
  | 64 => ⟨S32x2048x8x32, .f32⟩
  | 65 => ⟨S32x2048x8x32, .f32⟩
  | 66 => ⟨S1x2048x1x32, .f32⟩
  | 67 => ⟨S32x2048x8x32, .f32⟩
  | 68 => ⟨S32x2048x8x32, .f32⟩
  | 69 => ⟨S1x2048x1x32, .f32⟩
  | 70 => ⟨S32x2048x8x32, .f32⟩
  | 71 => ⟨S32x2048x8x32, .f32⟩
  | 72 => ⟨S32x2048x8x32, .f32⟩
  | 73 => ⟨S32x2048x8x64, .f32⟩
  | 74 => ⟨S_, .f32⟩
  | 75 => ⟨S32x2048x8x64, .f32⟩
  | 76 => ⟨S32x2048x8x64, .f32⟩
  | 77 => ⟨S32x2048x8x64, .f32⟩
  | 78 => ⟨S32x2048x8x32, .f32⟩
  | 79 => ⟨S32x2048x8x32, .f32⟩
  | 80 => ⟨S1x2048x1x32, .f32⟩
  | 81 => ⟨S32x2048x8x32, .f32⟩
  | 82 => ⟨S32x2048x8x32, .f32⟩
  | 83 => ⟨S1x2048x1x32, .f32⟩
  | 84 => ⟨S32x2048x8x32, .f32⟩
  | 85 => ⟨S32x2048x8x32, .f32⟩
  | 86 => ⟨S32x2048x8x32, .f32⟩
  | 87 => ⟨S1x2048x1x32, .f32⟩
  | 88 => ⟨S32x2048x8x32, .f32⟩
  | 89 => ⟨S32x2048x8x32, .f32⟩
  | 90 => ⟨S1x2048x1x32, .f32⟩
  | 91 => ⟨S32x2048x8x32, .f32⟩
  | 92 => ⟨S32x2048x8x32, .f32⟩
  | 93 => ⟨S32x2048x8x32, .f32⟩
  | 94 => ⟨S32x2048x8x64, .f32⟩
  | 95 => ⟨S32x2048x8x64, .f32⟩
  | 96 => ⟨S32x2048x8x32, .f32⟩
  | 97 => ⟨S32x2048x8x32, .f32⟩
  | 98 => ⟨S1x2048x1x32, .f32⟩
  | 99 => ⟨S32x2048x8x32, .f32⟩
  | 100 => ⟨S32x2048x8x32, .f32⟩
  | 101 => ⟨S1x2048x1x32, .f32⟩
  | 102 => ⟨S32x2048x8x32, .f32⟩
  | 103 => ⟨S32x2048x8x32, .f32⟩
  | 104 => ⟨S32x2048x8x32, .f32⟩
  | 105 => ⟨S1x2048x1x32, .f32⟩
  | 106 => ⟨S32x2048x8x32, .f32⟩
  | 107 => ⟨S32x2048x8x32, .f32⟩
  | 108 => ⟨S1x2048x1x32, .f32⟩
  | 109 => ⟨S32x2048x8x32, .f32⟩
  | 110 => ⟨S32x2048x8x32, .f32⟩
  | 111 => ⟨S32x2048x8x32, .f32⟩
  | 112 => ⟨S32x2048x8x64, .f32⟩
  | 113 => ⟨S_, .f32⟩
  | 114 => ⟨S32x2048x8x64, .f32⟩
  | 115 => ⟨S32x2048x8x64, .f32⟩
  | 116 => ⟨S32x2048x1x64, .f32⟩
  | 117 => ⟨S32x2048x1x32, .f32⟩
  | 118 => ⟨S32x2048x1x32, .f32⟩
  | 119 => ⟨S1x2048x1x32, .f32⟩
  | 120 => ⟨S32x2048x1x32, .f32⟩
  | 121 => ⟨S32x2048x1x32, .f32⟩
  | 122 => ⟨S1x2048x1x32, .f32⟩
  | 123 => ⟨S32x2048x1x32, .f32⟩
  | 124 => ⟨S32x2048x1x32, .f32⟩
  | 125 => ⟨S32x2048x1x32, .f32⟩
  | 126 => ⟨S1x2048x1x32, .f32⟩
  | 127 => ⟨S32x2048x1x32, .f32⟩
  | _ => ⟨S32x2048x1024, .f32⟩

abbrev hbmTy0_1 (i : Nat) : BufTy := match i % 128 with
  | 0 => ⟨S32x2048x1x32, .f32⟩
  | 1 => ⟨S1x2048x1x32, .f32⟩
  | 2 => ⟨S32x2048x1x32, .f32⟩
  | 3 => ⟨S32x2048x1x32, .f32⟩
  | 4 => ⟨S32x2048x1x32, .f32⟩
  | 5 => ⟨S32x2048x1x64, .f32⟩
  | 6 => ⟨S32x2048x64, .f32⟩
  | 7 => ⟨S_, .f32⟩
  | 8 => ⟨S32x2048x8, .f32⟩
  | 9 => ⟨S32x2048x8, .f32⟩
  | 10 => ⟨S_, .f32⟩
  | 11 => ⟨S32x2048x56, .f32⟩
  | 12 => ⟨S32x2048x128, .f32⟩
  | 13 => ⟨S65536x512, .f32⟩
  | 14 => ⟨S65536x512, .f32⟩
  | 15 => ⟨S65536x512, .bf16⟩
  | 16 => ⟨S65536x512, .f32⟩
  | 17 => ⟨S65536x512, .f32⟩
  | 18 => ⟨S65536x512, .f32⟩
  | 19 => ⟨S65536x512, .bf16⟩
  | 20 => ⟨S65536x128, .f32⟩
  | 21 => ⟨S32x2048x1024, .f32⟩
  | 22 => ⟨S32x2048x1024, .f32⟩
  | 23 => ⟨S_, .f32⟩
  | 24 => ⟨S32x2048x1024, .f32⟩
  | 25 => ⟨S32x2048x1024, .f32⟩
  | 26 => ⟨S_, .f32⟩
  | 27 => ⟨S32x2048x1024, .f32⟩
  | 28 => ⟨S32x2048x1024, .f32⟩
  | 29 => ⟨S65536x1024, .f32⟩
  | 30 => ⟨S32x2048x1024, .f32⟩
  | 31 => ⟨S32x2048x1024, .f32⟩
  | 32 => ⟨S_, .f32⟩
  | 33 => ⟨S32x2048x1024, .f32⟩
  | 34 => ⟨S32x2048x1024, .f32⟩
  | 35 => ⟨S_, .f32⟩
  | 36 => ⟨S32x2048x1024, .f32⟩
  | 37 => ⟨S32x2048x1024, .f32⟩
  | 38 => ⟨S65536x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_cst_7 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_cst_8 : Ref sig .tc := ⟨.hbm, 135, rfl⟩
abbrev main_v123 : Ref sig .tc := ⟨.hbm, 136, rfl⟩
abbrev main_v124 : Ref sig .tc := ⟨.hbm, 137, rfl⟩
abbrev main_cst_9 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_cst_10 : Ref sig .tc := ⟨.hbm, 151, rfl⟩
abbrev main_v137 : Ref sig .tc := ⟨.hbm, 152, rfl⟩
abbrev main_v138 : Ref sig .tc := ⟨.hbm, 153, rfl⟩
abbrev main_cst_11 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_cst_12 : Ref sig .tc := ⟨.hbm, 160, rfl⟩
abbrev main_v144 : Ref sig .tc := ⟨.hbm, 161, rfl⟩
abbrev main_v145 : Ref sig .tc := ⟨.hbm, 162, rfl⟩
abbrev main_cst_13 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩

abbrev nD : Nat := 1
abbrev τ : Topo := Topo.v7x

variable {F : FTy → Type} [FloatOps F]
-- ==== Kernel3.lean ====
abbrev S32x256x1024 : Shape := ⟨3, ![32, 256, 1024]⟩
abbrev S1x1024 : Shape := ⟨2, ![1, 1024]⟩
abbrev S1x1024x512 : Shape := ⟨3, ![1, 1024, 512]⟩
abbrev S1024 : Shape := ⟨1, ![1024]⟩
abbrev S1024x512 : Shape := ⟨2, ![1024, 512]⟩
abbrev S32x256x4x128 : Shape := ⟨4, ![32, 256, 4, 128]⟩
abbrev S1x256x1024 : Shape := ⟨3, ![1, 256, 1024]⟩
abbrev S1x256x4x128 : Shape := ⟨4, ![1, 256, 4, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x1x128 : Shape := ⟨4, ![1, 256, 1, 128]⟩

abbrev nBuf : Space → Nat
  | .hbm => 12
  | .vmem => 9
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1024, .f32⟩
  | .hbm, ⟨5, _⟩ => ⟨S1024x512, .f32⟩
  | .hbm, ⟨6, _⟩ => ⟨S1024x512, .f32⟩
  | .hbm, ⟨7, _⟩ => ⟨S1x1024, .f32⟩
  | .hbm, ⟨8, _⟩ => ⟨S1024x512, .bf16⟩
  | .hbm, ⟨9, _⟩ => ⟨S1024x512, .bf16⟩
  | .hbm, ⟨10, _⟩ => ⟨S32x256x4x128, .f32⟩
  | .hbm, ⟨11, _⟩ => ⟨S32x256x4x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x256x4x128, .f32⟩
  | .local _ .vmem, ⟨6, _⟩ => ⟨S1x256x4x128, .f32⟩
  | .local _ .vmem, ⟨7, _⟩ => ⟨S1x256x4x128, .f32⟩
  | .local _ .vmem, ⟨8, _⟩ => ⟨S1x256x4x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32x256x1024 : Shape := ⟨3, ![32, 256, 1024]⟩
abbrev S1x1024 : Shape := ⟨2, ![1, 1024]⟩
abbrev S1x1024x512 : Shape := ⟨3, ![1, 1024, 512]⟩
abbrev S_ : Shape := ⟨0, ![]⟩
abbrev S32x256 : Shape := ⟨2, ![32, 256]⟩
abbrev S32x256x1 : Shape := ⟨3, ![32, 256, 1]⟩
abbrev S1024 : Shape := ⟨1, ![1024]⟩
abbrev S1x1x1024 : Shape := ⟨3, ![1, 1, 1024]⟩
abbrev S1024x512 : Shape := ⟨2, ![1024, 512]⟩
abbrev S32x256x512 : Shape := ⟨3, ![32, 256, 512]⟩
abbrev S32x256x4x128 : Shape := ⟨4, ![32, 256, 4, 128]⟩

abbrev nBuf : Space → Nat
  | .hbm => 27
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S32x256x1024, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x1024, .f32⟩
  | .hbm, ⟨16, _⟩ => ⟨S32x256x1024, .f32⟩
  | .hbm, ⟨17, _⟩ => ⟨S1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1024x512, .f32⟩
  | .hbm, ⟨22, _⟩ => ⟨S32x256x512, .f32⟩
  | .hbm, ⟨23, _⟩ => ⟨S32x256x4x128, .f32⟩
  | .hbm, ⟨24, _⟩ => ⟨S1024x512, .f32⟩
  | .hbm, ⟨25, _⟩ => ⟨S32x256x512, .f32⟩
  | .hbm, ⟨26, _⟩ => ⟨S32x256x4x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S65536x1024 : Shape := ⟨2, ![65536, 1024]⟩
abbrev S65536x512 : Shape := ⟨2, ![65536, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S512x1024 : Shape := ⟨2, ![512, 1024]⟩
abbrev S1024x1024 : Shape := ⟨2, ![1024, 1024]⟩
abbrev S1024 : Shape := ⟨1, ![1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .f32⟩
  | .hbm, ⟨4, _⟩ => ⟨S65536x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S1024x512, .f32⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S1024x512, .bf16⟩
  | .hbm, ⟨20, _⟩ => ⟨S65536x1024, .f32⟩
  | .hbm, ⟨21, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x512, .bf16⟩
  | .local _ .vmem, ⟨15, _⟩ => ⟨S512x1024, .f32⟩
  | .local _ .vmem, ⟨16, _⟩ => ⟨S512x1024, .f32⟩
  | .local _ .vmem, ⟨17, _⟩ => ⟨S512x512, .f32⟩
  | .local _ .vmem, ⟨18, _⟩ => ⟨S512x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S65536x1024 : Shape := ⟨2, ![65536, 1024]⟩
abbrev S65536x512 : Shape := ⟨2, ![65536, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S512x1024 : Shape := ⟨2, ![512, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .f32⟩
  | .hbm, ⟨4, _⟩ => ⟨S65536x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x512, .f32⟩
  | .hbm, ⟨10, _⟩ => ⟨S65536x512, .f32⟩
  | .hbm, ⟨11, _⟩ => ⟨S512x1024, .f32⟩
  | .hbm, ⟨12, _⟩ => ⟨S65536x1024, .f32⟩
  | .hbm, ⟨13, _⟩ => ⟨S65536x1024, .f32⟩
  | .hbm, ⟨14, _⟩ => ⟨S65536x512, .f32⟩
  | .hbm, ⟨15, _⟩ => ⟨S512x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S1024x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S1024x512, .f32⟩
  | .hbm, ⟨40, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel5.lean ====
abbrev S128x8x1024 : Shape := ⟨3, ![128, 8, 1024]⟩
abbrev S1x1024 : Shape := ⟨2, ![1, 1024]⟩
abbrev S1x1024x4680 : Shape := ⟨3, ![1, 1024, 4680]⟩
abbrev S1024x1024 : Shape := ⟨2, ![1024, 1024]⟩
abbrev S1024 : Shape := ⟨1, ![1024]⟩
abbrev S1024x4680 : Shape := ⟨2, ![1024, 4680]⟩
abbrev S1024x72 : Shape := ⟨2, ![1024, 72]⟩
abbrev S_ : Shape := ⟨0, ![]⟩
abbrev S1024x56 : Shape := ⟨2, ![1024, 56]⟩
abbrev S1024x2560 : Shape := ⟨2, ![1024, 2560]⟩
abbrev S1024x2048 : Shape := ⟨2, ![1024, 2048]⟩
abbrev S1024x4736 : Shape := ⟨2, ![1024, 4736]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x128 : Shape := ⟨2, ![8, 128]⟩
abbrev S1x8x1x128 : Shape := ⟨4, ![1, 8, 1, 128]⟩
abbrev S64x8x1x128 : Shape := ⟨4, ![64, 8, 1, 128]⟩
abbrev S512x128 : Shape := ⟨2, ![512, 128]⟩
abbrev S1024x512 : Shape := ⟨2, ![1024, 512]⟩
abbrev S1024x128 : Shape := ⟨2, ![1024, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 58
  | .vmem => 22
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x4680, .f32⟩
  | .hbm, ⟨3, _⟩ => ⟨S1024x1024, .f32⟩
  | .hbm, ⟨4, _⟩ => ⟨S1024, .f32⟩
  | .hbm, ⟨5, _⟩ => ⟨S1024x4680, .f32⟩
  | .hbm, ⟨6, _⟩ => ⟨S1024x72, .f32⟩
  | .hbm, ⟨7, _⟩ => ⟨S_, .f32⟩
  | .hbm, ⟨8, _⟩ => ⟨S1024x56, .f32⟩
  | .hbm, ⟨9, _⟩ => ⟨S1024x2560, .f32⟩
  | .hbm, ⟨10, _⟩ => ⟨S1024x2048, .f32⟩
  | .hbm, ⟨11, _⟩ => ⟨S1024x4736, .f32⟩
  | .hbm, ⟨12, _⟩ => ⟨S1024x4736, .bf16⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S8, .f32⟩
  | .hbm, ⟨32, _⟩ => ⟨S8x1, .f32⟩
  | .hbm, ⟨33, _⟩ => ⟨S1x32, .f32⟩
  | .hbm, ⟨34, _⟩ => ⟨S8x32, .f32⟩
  | .hbm, ⟨35, _⟩ => ⟨S8x32, .f32⟩
  | .hbm, ⟨36, _⟩ => ⟨S8x32, .f32⟩
  | .hbm, ⟨37, _⟩ => ⟨S8x32, .f32⟩
  | .hbm, ⟨38, _⟩ => ⟨S8x32, .f32⟩
  | .hbm, ⟨39, _⟩ => ⟨S8x128, .f32⟩
  | .hbm, ⟨40, _⟩ => ⟨S8x32, .f32⟩
  | .hbm, ⟨41, _⟩ => ⟨S8x32, .f32⟩
  | .hbm, ⟨42, _⟩ => ⟨S8x128, .f32⟩
  | .hbm, ⟨43, _⟩ => ⟨S1x8x1x128, .f32⟩
  | .hbm, ⟨44, _⟩ => ⟨S64x8x1x128, .f32⟩
  | .hbm, ⟨45, _⟩ => ⟨S512x128, .f32⟩
  | .hbm, ⟨46, _⟩ => ⟨S1x8x1x128, .f32⟩
  | .hbm, ⟨47, _⟩ => ⟨S64x8x1x128, .f32⟩
  | .hbm, ⟨48, _⟩ => ⟨S512x128, .f32⟩
  | .hbm, ⟨49, _⟩ => ⟨S1x1024, .f32⟩
  | .hbm, ⟨50, _⟩ => ⟨S1024x512, .f32⟩
  | .hbm, ⟨51, _⟩ => ⟨S1024x512, .bf16⟩
  | .hbm, ⟨52, _⟩ => ⟨S1024x512, .f32⟩
  | .hbm, ⟨53, _⟩ => ⟨S1024x512, .f32⟩
  | .hbm, ⟨54, _⟩ => ⟨S1024x512, .bf16⟩
  | .hbm, ⟨55, _⟩ => ⟨S1024x128, .f32⟩
  | .hbm, ⟨56, _⟩ => ⟨S1024x1024, .f32⟩
  | .hbm, ⟨57, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_v41_3 : Ref sig .tc := ⟨.hbm, 53, rfl⟩
abbrev main_v41_4 : Ref sig .tc := ⟨.hbm, 54, rfl⟩
abbrev main_v41_5 : Ref sig .tc := ⟨.hbm, 55, rfl⟩
abbrev main_v41_6 : Ref sig .tc := ⟨.hbm, 56, rfl⟩
abbrev main_v41_7 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S128x8x1024 : Shape := ⟨3, ![128, 8, 1024]⟩
abbrev S1x1024 : Shape := ⟨2, ![1, 1024]⟩
abbrev S1x1024x4680 : Shape := ⟨3, ![1, 1024, 4680]⟩
abbrev S_ : Shape := ⟨0, ![]⟩
abbrev S128x8 : Shape := ⟨2, ![128, 8]⟩
abbrev S128x8x1 : Shape := ⟨3, ![128, 8, 1]⟩
abbrev S1024 : Shape := ⟨1, ![1024]⟩
abbrev S1x1x1024 : Shape := ⟨3, ![1, 1, 1024]⟩
abbrev S1024x4680 : Shape := ⟨2, ![1024, 4680]⟩
abbrev S128x8x4680 : Shape := ⟨3, ![128, 8, 4680]⟩
abbrev S128x8x512 : Shape := ⟨3, ![128, 8, 512]⟩
abbrev S128x8x64 : Shape := ⟨3, ![128, 8, 64]⟩
abbrev S128x8x8 : Shape := ⟨3, ![128, 8, 8]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x8x64 : Shape := ⟨4, ![128, 8, 8, 64]⟩
abbrev S128x8x8x32 : Shape := ⟨4, ![128, 8, 8, 32]⟩
abbrev S1x8x1x32 : Shape := ⟨4, ![1, 8, 1, 32]⟩
abbrev S128x8x1x64 : Shape := ⟨4, ![128, 8, 1, 64]⟩
abbrev S128x8x1x32 : Shape := ⟨4, ![128, 8, 1, 32]⟩
abbrev S128x8x56 : Shape := ⟨3, ![128, 8, 56]⟩
abbrev S128x8x128 : Shape := ⟨3, ![128, 8, 128]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 170
  | .vmem => 0
  | .smem => 0
  | _ => 0

abbrev hbmTy0_0 (i : Nat) : BufTy := match i % 128 with
  | 0 => ⟨S128x8x1024, .f32⟩
  | 1 => ⟨S1x1024, .f32⟩
  | 2 => ⟨S1x1024x4680, .f32⟩
  | 3 => ⟨S128x8x1024, .f32⟩
  | 4 => ⟨S_, .f32⟩
  | 5 => ⟨S128x8, .f32⟩
  | 6 => ⟨S128x8x1, .f32⟩
  | 7 => ⟨S_, .f32⟩
  | 8 => ⟨S128x8x1, .f32⟩
  | 9 => ⟨S128x8x1, .f32⟩
  | 10 => ⟨S_, .f32⟩
  | 11 => ⟨S128x8x1, .f32⟩
  | 12 => ⟨S128x8x1, .f32⟩
  | 13 => ⟨S128x8x1, .f32⟩
  | 14 => ⟨S128x8x1024, .f32⟩
  | 15 => ⟨S128x8x1024, .f32⟩
  | 16 => ⟨S1024, .f32⟩
  | 17 => ⟨S1x1x1024, .f32⟩
  | 18 => ⟨S128x8x1024, .f32⟩
  | 19 => ⟨S128x8x1024, .f32⟩
  | 20 => ⟨S1024x4680, .f32⟩
  | 21 => ⟨S128x8x4680, .f32⟩
  | 22 => ⟨S128x8x512, .f32⟩
  | 23 => ⟨S128x8x512, .f32⟩
  | 24 => ⟨S128x8x512, .f32⟩
  | 25 => ⟨S128x8x512, .f32⟩
  | 26 => ⟨S128x8x512, .f32⟩
  | 27 => ⟨S128x8x64, .f32⟩
  | 28 => ⟨S128x8x8, .f32⟩
  | 29 => ⟨S128x8x1024, .f32⟩
  | 30 => ⟨S128x8x1024, .f32⟩
  | 31 => ⟨S8, .i32⟩
  | 32 => ⟨S_, .i32⟩
  | 33 => ⟨S8, .i32⟩
  | 34 => ⟨S8, .i32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S8, .f32⟩
  | 50 => ⟨S8x1, .f32⟩
  | 51 => ⟨S1x32, .f32⟩
  | 52 => ⟨S8x32, .f32⟩
  | 53 => ⟨S8x32, .f32⟩
  | 54 => ⟨S8x32, .f32⟩
  | 55 => ⟨S8x32, .f32⟩
  | 56 => ⟨S8x1x32, .f32⟩
  | 57 => ⟨S8x32, .f32⟩
  | 58 => ⟨S8x1x32, .f32⟩
  | 59 => ⟨S128x8x8x64, .f32⟩
  | 60 => ⟨S128x8x8x32, .f32⟩
  | 61 => ⟨S128x8x8x32, .f32⟩
  | 62 => ⟨S1x8x1x32, .f32⟩
  | 63 => ⟨S128x8x8x32, .f32⟩
  | 64 => ⟨S128x8x8x32, .f32⟩
  | 65 => ⟨S1x8x1x32, .f32⟩
  | 66 => ⟨S128x8x8x32, .f32⟩
  | 67 => ⟨S128x8x8x32, .f32⟩
  | 68 => ⟨S128x8x8x32, .f32⟩
  | 69 => ⟨S1x8x1x32, .f32⟩
  | 70 => ⟨S128x8x8x32, .f32⟩
  | 71 => ⟨S128x8x8x32, .f32⟩
  | 72 => ⟨S1x8x1x32, .f32⟩
  | 73 => ⟨S128x8x8x32, .f32⟩
  | 74 => ⟨S128x8x8x32, .f32⟩
  | 75 => ⟨S128x8x8x32, .f32⟩
  | 76 => ⟨S128x8x8x64, .f32⟩
  | 77 => ⟨S_, .f32⟩
  | 78 => ⟨S128x8x8x64, .f32⟩
  | 79 => ⟨S128x8x8x64, .f32⟩
  | 80 => ⟨S128x8x8x64, .f32⟩
  | 81 => ⟨S128x8x8x32, .f32⟩
  | 82 => ⟨S128x8x8x32, .f32⟩
  | 83 => ⟨S1x8x1x32, .f32⟩
  | 84 => ⟨S128x8x8x32, .f32⟩
  | 85 => ⟨S128x8x8x32, .f32⟩
  | 86 => ⟨S1x8x1x32, .f32⟩
  | 87 => ⟨S128x8x8x32, .f32⟩
  | 88 => ⟨S128x8x8x32, .f32⟩
  | 89 => ⟨S128x8x8x32, .f32⟩
  | 90 => ⟨S1x8x1x32, .f32⟩
  | 91 => ⟨S128x8x8x32, .f32⟩
  | 92 => ⟨S128x8x8x32, .f32⟩
  | 93 => ⟨S1x8x1x32, .f32⟩
  | 94 => ⟨S128x8x8x32, .f32⟩
  | 95 => ⟨S128x8x8x32, .f32⟩
  | 96 => ⟨S128x8x8x32, .f32⟩
  | 97 => ⟨S128x8x8x64, .f32⟩
  | 98 => ⟨S128x8x8x64, .f32⟩
  | 99 => ⟨S128x8x8x32, .f32⟩
  | 100 => ⟨S128x8x8x32, .f32⟩
  | 101 => ⟨S1x8x1x32, .f32⟩
  | 102 => ⟨S128x8x8x32, .f32⟩
  | 103 => ⟨S128x8x8x32, .f32⟩
  | 104 => ⟨S1x8x1x32, .f32⟩
  | 105 => ⟨S128x8x8x32, .f32⟩
  | 106 => ⟨S128x8x8x32, .f32⟩
  | 107 => ⟨S128x8x8x32, .f32⟩
  | 108 => ⟨S1x8x1x32, .f32⟩
  | 109 => ⟨S128x8x8x32, .f32⟩
  | 110 => ⟨S128x8x8x32, .f32⟩
  | 111 => ⟨S1x8x1x32, .f32⟩
  | 112 => ⟨S128x8x8x32, .f32⟩
  | 113 => ⟨S128x8x8x32, .f32⟩
  | 114 => ⟨S128x8x8x32, .f32⟩
  | 115 => ⟨S128x8x8x64, .f32⟩
  | 116 => ⟨S_, .f32⟩
  | 117 => ⟨S128x8x8x64, .f32⟩
  | 118 => ⟨S128x8x8x64, .f32⟩
  | 119 => ⟨S128x8x1x64, .f32⟩
  | 120 => ⟨S128x8x1x32, .f32⟩
  | 121 => ⟨S128x8x1x32, .f32⟩
  | 122 => ⟨S1x8x1x32, .f32⟩
  | 123 => ⟨S128x8x1x32, .f32⟩
  | 124 => ⟨S128x8x1x32, .f32⟩
  | 125 => ⟨S1x8x1x32, .f32⟩
  | 126 => ⟨S128x8x1x32, .f32⟩
  | 127 => ⟨S128x8x1x32, .f32⟩
  | _ => ⟨S128x8x1024, .f32⟩

abbrev hbmTy0_1 (i : Nat) : BufTy := match i % 128 with
  | 0 => ⟨S128x8x1x32, .f32⟩
  | 1 => ⟨S1x8x1x32, .f32⟩
  | 2 => ⟨S128x8x1x32, .f32⟩
  | 3 => ⟨S128x8x1x32, .f32⟩
  | 4 => ⟨S1x8x1x32, .f32⟩
  | 5 => ⟨S128x8x1x32, .f32⟩
  | 6 => ⟨S128x8x1x32, .f32⟩
  | 7 => ⟨S128x8x1x32, .f32⟩
  | 8 => ⟨S128x8x1x64, .f32⟩
  | 9 => ⟨S128x8x64, .f32⟩
  | 10 => ⟨S_, .f32⟩
  | 11 => ⟨S128x8x8, .f32⟩
  | 12 => ⟨S128x8x8, .f32⟩
  | 13 => ⟨S_, .f32⟩
  | 14 => ⟨S128x8x56, .f32⟩
  | 15 => ⟨S128x8x128, .f32⟩
  | 16 => ⟨S1024x512, .f32⟩
  | 17 => ⟨S1024x512, .f32⟩
  | 18 => ⟨S1024x512, .bf16⟩
  | 19 => ⟨S1024x512, .f32⟩
  | 20 => ⟨S1024x512, .f32⟩
  | 21 => ⟨S1024x512, .f32⟩
  | 22 => ⟨S1024x512, .bf16⟩
  | 23 => ⟨S1024x128, .f32⟩
  | 24 => ⟨S128x8x1024, .f32⟩
  | 25 => ⟨S128x8x1024, .f32⟩
  | 26 => ⟨S_, .f32⟩
  | 27 => ⟨S128x8x1024, .f32⟩
  | 28 => ⟨S128x8x1024, .f32⟩
  | 29 => ⟨S_, .f32⟩
  | 30 => ⟨S128x8x1024, .f32⟩
  | 31 => ⟨S128x8x1024, .f32⟩
  | 32 => ⟨S1024x1024, .f32⟩
  | 33 => ⟨S128x8x1024, .f32⟩
  | 34 => ⟨S128x8x1024, .f32⟩
  | 35 => ⟨S_, .f32⟩
  | 36 => ⟨S128x8x1024, .f32⟩
  | 37 => ⟨S128x8x1024, .f32⟩
  | 38 => ⟨S_, .f32⟩
  | 39 => ⟨S128x8x1024, .f32⟩
  | 40 => ⟨S128x8x1024, .f32⟩
  | 41 => ⟨S1024x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_7 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_cst_8 : Ref sig .tc := ⟨.hbm, 138, rfl⟩
abbrev main_v125 : Ref sig .tc := ⟨.hbm, 139, rfl⟩
abbrev main_v126 : Ref sig .tc := ⟨.hbm, 140, rfl⟩
abbrev main_cst_9 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_cst_10 : Ref sig .tc := ⟨.hbm, 154, rfl⟩
abbrev main_v139 : Ref sig .tc := ⟨.hbm, 155, rfl⟩
abbrev main_v140 : Ref sig .tc := ⟨.hbm, 156, rfl⟩
abbrev main_cst_11 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_cst_12 : Ref sig .tc := ⟨.hbm, 163, rfl⟩
abbrev main_v146 : Ref sig .tc := ⟨.hbm, 164, rfl⟩
abbrev main_v147 : Ref sig .tc := ⟨.hbm, 165, rfl⟩
abbrev main_cst_13 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩

abbrev nD : Nat := 1
abbrev τ : Topo := Topo.v7x

variable {F : FTy → Type} [FloatOps F]
-- ==== Kernel6.lean ====
abbrev S65536x1024 : Shape := ⟨2, ![65536, 1024]⟩
abbrev S65536x512 : Shape := ⟨2, ![65536, 512]⟩
abbrev S32x256x4x128 : Shape := ⟨4, ![32, 256, 4, 128]⟩
abbrev S1x512x1024 : Shape := ⟨3, ![1, 512, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S512x1024 : Shape := ⟨2, ![512, 1024]⟩
abbrev S1024 : Shape := ⟨1, ![1024]⟩
abbrev S65536x128 : Shape := ⟨2, ![65536, 128]⟩
abbrev S256x1024 : Shape := ⟨2, ![256, 1024]⟩
abbrev S256x512 : Shape := ⟨2, ![256, 512]⟩
abbrev S1x256x4x128 : Shape := ⟨4, ![1, 256, 4, 128]⟩
abbrev S256x128 : Shape := ⟨2, ![256, 128]⟩
abbrev S1x256x1x128 : Shape := ⟨4, ![1, 256, 1, 128]⟩
abbrev S256x256 : Shape := ⟨2, ![256, 256]⟩
abbrev S256 : Shape := ⟨1, ![256]⟩
abbrev S256x1 : Shape := ⟨2, ![256, 1]⟩

abbrev nBuf : Space → Nat
  | .hbm => 29
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S32x256x4x128, .f32⟩
  | .hbm, ⟨3, _⟩ => ⟨S32x256x4x128, .f32⟩
  | .hbm, ⟨4, _⟩ => ⟨S1x512x1024, .f32⟩
  | .hbm, ⟨5, _⟩ => ⟨S1x1024, .f32⟩
  | .hbm, ⟨6, _⟩ => ⟨S1x1024x4, .f32⟩
  | .hbm, ⟨7, _⟩ => ⟨S1x4, .f32⟩
  | .hbm, ⟨8, _⟩ => ⟨S1x1024x32, .f32⟩
  | .hbm, ⟨9, _⟩ => ⟨S1x32, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S_, .f32⟩
  | .hbm, ⟨15, _⟩ => ⟨S1024x92, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S92, .f32⟩
  | .hbm, ⟨20, _⟩ => ⟨S128, .f32⟩
  | .hbm, ⟨21, _⟩ => ⟨S1x128, .f32⟩
  | .hbm, ⟨22, _⟩ => ⟨S512x1024, .f32⟩
  | .hbm, ⟨23, _⟩ => ⟨S1024, .f32⟩
  | .hbm, ⟨24, _⟩ => ⟨S512x1024, .bf16⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S1x256x4x128, .f32⟩
  | .local _ .vmem, ⟨5, _⟩ => ⟨S1x256x4x128, .f32⟩
  | .local _ .vmem, ⟨6, _⟩ => ⟨S1x256x4x128, .f32⟩
  | .local _ .vmem, ⟨7, _⟩ => ⟨S1x256x4x128, .f32⟩
  | .local _ .vmem, ⟨8, _⟩ => ⟨S512x1024, .bf16⟩
  | .local _ .vmem, ⟨9, _⟩ => ⟨S1x1024, .f32⟩
  | .local _ .vmem, ⟨10, _⟩ => ⟨S1024x128, .bf16⟩
  | .local _ .vmem, ⟨11, _⟩ => ⟨S1x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x128, .f32⟩
  | .local _ .vmem, ⟨17, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S65536x1024 : Shape := ⟨2, ![65536, 1024]⟩
abbrev S65536x512 : Shape := ⟨2, ![65536, 512]⟩
abbrev S32x256x4x128 : Shape := ⟨4, ![32, 256, 4, 128]⟩
abbrev S1x512x1024 : Shape := ⟨3, ![1, 512, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S32x2048x4x128 : Shape := ⟨4, ![32, 2048, 4, 128]⟩
abbrev S32x4x2048x256 : Shape := ⟨4, ![32, 4, 2048, 256]⟩
abbrev S_ : Shape := ⟨0, ![]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S512x1024 : Shape := ⟨2, ![512, 1024]⟩
abbrev S65536 : Shape := ⟨1, ![65536]⟩
abbrev S65536x1 : Shape := ⟨2, ![65536, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S32x256x4x128, .f32⟩
  | .hbm, ⟨3, _⟩ => ⟨S32x256x4x128, .f32⟩
  | .hbm, ⟨4, _⟩ => ⟨S1x512x1024, .f32⟩
  | .hbm, ⟨5, _⟩ => ⟨S1x1024, .f32⟩
  | .hbm, ⟨6, _⟩ => ⟨S1x1024x4, .f32⟩
  | .hbm, ⟨7, _⟩ => ⟨S1x4, .f32⟩
  | .hbm, ⟨8, _⟩ => ⟨S1x1024x32, .f32⟩
  | .hbm, ⟨9, _⟩ => ⟨S1x32, .f32⟩
  | .hbm, ⟨10, _⟩ => ⟨S32x2048x4x128, .f32⟩
  | .hbm, ⟨11, _⟩ => ⟨S32x4x2048x256, .f32⟩
  | .hbm, ⟨12, _⟩ => ⟨S_, .f32⟩
  | .hbm, ⟨13, _⟩ => ⟨S32x4x2048x256, .f32⟩
  | .hbm, ⟨14, _⟩ => ⟨S32x4x2048x256, .f32⟩
  | .hbm, ⟨15, _⟩ => ⟨S_, .f32⟩
  | .hbm, ⟨16, _⟩ => ⟨S32x4x2048, .f32⟩
  | .hbm, ⟨17, _⟩ => ⟨S_, .f32⟩
  | .hbm, ⟨18, _⟩ => ⟨S32x4x2048, .f32⟩
  | .hbm, ⟨19, _⟩ => ⟨S32x4x2048, .f32⟩
  | .hbm, ⟨20, _⟩ => ⟨S32x4x2048x1, .f32⟩
  | .hbm, ⟨21, _⟩ => ⟨S32x4x2048x256, .f32⟩
  | .hbm, ⟨22, _⟩ => ⟨S32x4x2048x256, .f32⟩
  | .hbm, ⟨23, _⟩ => ⟨S32x4x2048x256, .f32⟩
  | .hbm, ⟨24, _⟩ => ⟨S_, .f32⟩
  | .hbm, ⟨25, _⟩ => ⟨S32x4x2048, .f32⟩
  | .hbm, ⟨26, _⟩ => ⟨S32x4x2048x1, .f32⟩
  | .hbm, ⟨27, _⟩ => ⟨S32x4x2048x256, .f32⟩
  | .hbm, ⟨28, _⟩ => ⟨S32x4x2048x256, .f32⟩
  | .hbm, ⟨29, _⟩ => ⟨S32x4x128x2048, .f32⟩
  | .hbm, ⟨30, _⟩ => ⟨S32x2048x4x128, .f32⟩
  | .hbm, ⟨31, _⟩ => ⟨S65536x512, .f32⟩
  | .hbm, ⟨32, _⟩ => ⟨S512x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel7.lean ====
abbrev S32x2048x512 : Shape := ⟨3, ![32, 2048, 512]⟩
abbrev S1x4x512 : Shape := ⟨3, ![1, 4, 512]⟩
abbrev S1x512 : Shape := ⟨2, ![1, 512]⟩
abbrev S1x8x64x64 : Shape := ⟨4, ![1, 8, 64, 64]⟩
abbrev S_ : Shape := ⟨0, ![]⟩
abbrev S32x3x512 : Shape := ⟨3, ![32, 3, 512]⟩
abbrev S32x512 : Shape := ⟨2, ![32, 512]⟩
abbrev S4x512 : Shape := ⟨2, ![4, 512]⟩
abbrev S512 : Shape := ⟨1, ![512]⟩
abbrev S8x64x64 : Shape := ⟨3, ![8, 64, 64]⟩
abbrev S32x1x512 : Shape := ⟨3, ![32, 1, 512]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S8x128x512 : Shape := ⟨3, ![8, 128, 512]⟩
abbrev S8x3x512 : Shape := ⟨3, ![8, 3, 512]⟩
abbrev S8x1x512 : Shape := ⟨3, ![8, 1, 512]⟩
abbrev S8x136x512 : Shape := ⟨3, ![8, 136, 512]⟩
abbrev S8x5x512 : Shape := ⟨3, ![8, 5, 512]⟩
abbrev S1x1x512 : Shape := ⟨3, ![1, 1, 512]⟩
abbrev S8x8x512 : Shape := ⟨3, ![8, 8, 512]⟩
abbrev S1024x512 : Shape := ⟨2, ![1024, 512]⟩

abbrev nBuf : Space → Nat
  | .hbm => 55
  | .vmem => 23
  | .smem => 0
  | _ => 0

abbrev bufTy : (tb : Table) → Fin (tcTables nBuf tb) → BufTy
  | .hbm, ⟨0, _⟩ => ⟨S32x2048x512, .f32⟩
  | .hbm, ⟨1, _⟩ => ⟨S1x4x512, .f32⟩
  | .hbm, ⟨2, _⟩ => ⟨S1x512, .f32⟩
  | .hbm, ⟨3, _⟩ => ⟨S1x8x64x64, .f32⟩
  | .hbm, ⟨4, _⟩ => ⟨S1x512, .f32⟩
  | .hbm, ⟨5, _⟩ => ⟨S1x8x64x64, .f32⟩
  | .hbm, ⟨6, _⟩ => ⟨S1x512, .f32⟩
  | .hbm, ⟨7, _⟩ => ⟨S1x512, .f32⟩
  | .hbm, ⟨8, _⟩ => ⟨S_, .f32⟩
  | .hbm, ⟨9, _⟩ => ⟨S32x3x512, .f32⟩
  | .hbm, ⟨10, _⟩ => ⟨S_, .f32⟩
  | .hbm, ⟨11, _⟩ => ⟨S32x512, .f32⟩
  | .hbm, ⟨12, _⟩ => ⟨S4x512, .f32⟩
  | .hbm, ⟨13, _⟩ => ⟨S512, .f32⟩
  | .hbm, ⟨14, _⟩ => ⟨S8x64x64, .f32⟩
  | .hbm, ⟨15, _⟩ => ⟨S512, .f32⟩
  | .hbm, ⟨16, _⟩ => ⟨S8x64x64, .f32⟩
  | .hbm, ⟨17, _⟩ => ⟨S512, .f32⟩
  | .hbm, ⟨18, _⟩ => ⟨S512, .f32⟩
  | .hbm, ⟨19, _⟩ => ⟨S32x1x512, .f32⟩
  | .hbm, ⟨20, _⟩ => ⟨S1x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x1x8x1, .f32⟩
  | .hbm, ⟨29, _⟩ => ⟨S8x64x1x64, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S512x512, .bf16⟩
  | .hbm, ⟨35, _⟩ => ⟨S1x512, .f32⟩
  | .hbm, ⟨36, _⟩ => ⟨S8x8, .i32⟩
  | .hbm, ⟨37, _⟩ => ⟨S8x8, .i32⟩
  | .hbm, ⟨38, _⟩ => ⟨S_, .i32⟩
  | .hbm, ⟨39, _⟩ => ⟨S8x8, .i32⟩
  | .hbm, ⟨40, _⟩ => ⟨S8x8, .i32⟩
  | .hbm, ⟨41, _⟩ => ⟨S8x8, .i1⟩
  | .hbm, ⟨42, _⟩ => ⟨S8x8, .f32⟩
  | .hbm, ⟨43, _⟩ => ⟨S8x1x8x1, .f32⟩
  | .hbm, ⟨44, _⟩ => ⟨S8x64x1x64, .f32⟩
  | .hbm, ⟨45, _⟩ => ⟨S8x64x8x64, .f32⟩
  | .hbm, ⟨46, _⟩ => ⟨S8x64x8x64, .f32⟩
  | .hbm, ⟨47, _⟩ => ⟨S8x64x8x64, .f32⟩
  | .hbm, ⟨48, _⟩ => ⟨S512x512, .f32⟩
  | .hbm, ⟨49, _⟩ => ⟨S512x512, .bf16⟩
  | .hbm, ⟨50, _⟩ => ⟨S1x512, .f32⟩
  | .hbm, ⟨51, _⟩ => ⟨S1x512, .f32⟩
  | .hbm, ⟨52, _⟩ => ⟨S32x2048x512, .bf16⟩
  | .hbm, ⟨53, _⟩ => ⟨S32x1x512, .f32⟩
  | .hbm, ⟨54, _⟩ => ⟨S32x3x512, .f32⟩
  | .local _ .vmem, ⟨0, _⟩ => ⟨S8x128x512, .f32⟩
  | .local _ .vmem, ⟨1, _⟩ => ⟨S8x128x512, .f32⟩
  | .local _ .vmem, ⟨2, _⟩ => ⟨S8x3x512, .f32⟩
  | .local _ .vmem, ⟨3, _⟩ => ⟨S8x3x512, .f32⟩
  | .local _ .vmem, ⟨4, _⟩ => ⟨S8x1x512, .f32⟩
  | .local _ .vmem, ⟨5, _⟩ => ⟨S8x1x512, .f32⟩
  | .local _ .vmem, ⟨6, _⟩ => ⟨S4x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S8x128x512, .bf16⟩
  | .local _ .vmem, ⟨14, _⟩ => ⟨S8x128x512, .bf16⟩
  | .local _ .vmem, ⟨15, _⟩ => ⟨S8x1x512, .f32⟩
  | .local _ .vmem, ⟨16, _⟩ => ⟨S8x1x512, .f32⟩
  | .local _ .vmem, ⟨17, _⟩ => ⟨S8x3x512, .f32⟩
  | .local _ .vmem, ⟨18, _⟩ => ⟨S8x3x512, .f32⟩
  | .local _ .vmem, ⟨19, _⟩ => ⟨S8x136x512, .f32⟩
  | .local _ .vmem, ⟨20, _⟩ => ⟨S8x128x512, .f32⟩
  | .local _ .vmem, ⟨21, _⟩ => ⟨S8x128x512, .f32⟩
  | .local _ .vmem, ⟨22, _⟩ => ⟨S8x1x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_78 : BitVec 32 := 0#32
  let c128_i32 : BitVec 32 := 128#32
  let v116 : BitVec 32 := Scalar.addi c0_i32_78 c128_i32
  let c1_i32 : BitVec 32 := 1#32
  ⟨c0_i32_78, v116, c1_i32⟩
def k0_off1 (k0_t1 : Fin k0_t1_loop.trips) : Fin 3 → Nat :=
  let c0_134 : Index := 0#32
  let c0_i32_78 : BitVec 32 := 0#32
  let c1_i32 : BitVec 32 := 1#32
  let arg19 : BitVec 32 := Scf.iv c0_i32_78 c1_i32 k0_t1
  let v169 : Index := Scalar.indexCast arg19
  let c0_135 : Index := 0#32
  ![0, v169.toNat, 0]
def k0_off2 (k0_t1 : Fin k0_t1_loop.trips) : Fin 3 → Nat :=
  let c1_140 : Index := 1#32
  let c0_i32_78 : BitVec 32 := 0#32
  let c1_i32 : BitVec 32 := 1#32
  let arg19 : BitVec 32 := Scf.iv c0_i32_78 c1_i32 k0_t1
  let v181 : Index := Scalar.indexCast arg19
  let c0_141 : Index := 0#32
  ![1, v181.toNat, 0]
def k0_off3 (k0_t1 : Fin k0_t1_loop.trips) : Fin 3 → Nat :=
  let c2_146 : Index := 2#32
  let c0_i32_78 : BitVec 32 := 0#32
  let c1_i32 : BitVec 32 := 1#32
  let arg19 : BitVec 32 := Scf.iv c0_i32_78 c1_i32 k0_t1
  let v193 : Index := Scalar.indexCast arg19
  let c0_147 : Index := 0#32
  ![2, v193.toNat, 0]
def k0_off4 (k0_t1 : Fin k0_t1_loop.trips) : Fin 3 → Nat :=
  let c3_152 : Index := 3#32
  let c0_i32_78 : BitVec 32 := 0#32
  let c1_i32 : BitVec 32 := 1#32
  let arg19 : BitVec 32 := Scf.iv c0_i32_78 c1_i32 k0_t1
  let v205 : Index := Scalar.indexCast arg19
  let c0_153 : Index := 0#32
  ![3, v205.toNat, 0]
def k0_off5 (k0_t1 : Fin k0_t1_loop.trips) : Fin 3 → Nat :=
  let c4_158 : Index := 4#32
  let c0_i32_78 : BitVec 32 := 0#32
  let c1_i32 : BitVec 32 := 1#32
  let arg19 : BitVec 32 := Scf.iv c0_i32_78 c1_i32 k0_t1
  let v217 : Index := Scalar.indexCast arg19
  let c0_159 : Index := 0#32
  ![4, v217.toNat, 0]
def k0_off6 (k0_t1 : Fin k0_t1_loop.trips) : Fin 3 → Nat :=
  let c5_164 : Index := 5#32
  let c0_i32_78 : BitVec 32 := 0#32
  let c1_i32 : BitVec 32 := 1#32
  let arg19 : BitVec 32 := Scf.iv c0_i32_78 c1_i32 k0_t1
  let v229 : Index := Scalar.indexCast arg19
  let c0_165 : Index := 0#32
  ![5, v229.toNat, 0]
def k0_off7 (k0_t1 : Fin k0_t1_loop.trips) : Fin 3 → Nat :=
  let c6_170 : Index := 6#32
  let c0_i32_78 : BitVec 32 := 0#32
  let c1_i32 : BitVec 32 := 1#32
  let arg19 : BitVec 32 := Scf.iv c0_i32_78 c1_i32 k0_t1
  let v241 : Index := Scalar.indexCast arg19
  let c0_171 : Index := 0#32
  ![6, v241.toNat, 0]
def k0_off8 (k0_t1 : Fin k0_t1_loop.trips) : Fin 3 → Nat :=
  let c7_176 : Index := 7#32
  let c0_i32_78 : BitVec 32 := 0#32
  let c1_i32 : BitVec 32 := 1#32
  let arg19 : BitVec 32 := Scf.iv c0_i32_78 c1_i32 k0_t1
  let v253 : Index := Scalar.indexCast arg19
  let c0_177 : Index := 0#32
  ![7, v253.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference7Ideal.lean ====
abbrev S32x2048x512 : Shape := ⟨3, ![32, 2048, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S_ : Shape := ⟨0, ![]⟩
abbrev S32x3x512 : Shape := ⟨3, ![32, 3, 512]⟩
abbrev S32x2051x512 : Shape := ⟨3, ![32, 2051, 512]⟩
abbrev S1x1x512 : Shape := ⟨3, ![1, 1, 512]⟩
abbrev S32x2048x8x64 : Shape := ⟨4, ![32, 2048, 8, 64]⟩
abbrev S8x64x64 : Shape := ⟨3, ![8, 64, 64]⟩
abbrev S8x64x32x2048 : Shape := ⟨4, ![8, 64, 32, 2048]⟩
abbrev S32x512 : Shape := ⟨2, ![32, 512]⟩
abbrev S2048x32x512 : Shape := ⟨3, ![2048, 32, 512]⟩
abbrev S1x32x512 : Shape := ⟨3, ![1, 32, 512]⟩
abbrev S32x1x512 : Shape := ⟨3, ![32, 1, 512]⟩

abbrev nBuf : Space → Nat
  | .hbm => 144
  | .vmem => 0
  | .smem => 0
  | _ => 0

abbrev hbmTy0_0 (i : Nat) : BufTy := match i % 128 with
  | 0 => ⟨S32x2048x512, .f32⟩
  | 1 => ⟨S1x4x512, .f32⟩
  | 2 => ⟨S1x512, .f32⟩
  | 3 => ⟨S1x8x64x64, .f32⟩
  | 4 => ⟨S1x512, .f32⟩
  | 5 => ⟨S1x8x64x64, .f32⟩
  | 6 => ⟨S1x512, .f32⟩
  | 7 => ⟨S1x512, .f32⟩
  | 8 => ⟨S4x512, .f32⟩
  | 9 => ⟨S512, .f32⟩
  | 10 => ⟨S512, .f32⟩
  | 11 => ⟨S_, .f32⟩
  | 12 => ⟨S32x3x512, .f32⟩
  | 13 => ⟨S32x2051x512, .f32⟩
  | 14 => ⟨S32x2048x512, .f32⟩
  | 15 => ⟨S1x512, .f32⟩
  | 16 => ⟨S512, .f32⟩
  | 17 => ⟨S1x1x512, .f32⟩
  | 18 => ⟨S32x2048x512, .f32⟩
  | 19 => ⟨S32x2048x512, .f32⟩
  | 20 => ⟨S32x2048x512, .f32⟩
  | 21 => ⟨S1x512, .f32⟩
  | 22 => ⟨S512, .f32⟩
  | 23 => ⟨S1x1x512, .f32⟩
  | 24 => ⟨S32x2048x512, .f32⟩
  | 25 => ⟨S32x2048x512, .f32⟩
  | 26 => ⟨S32x2048x512, .f32⟩
  | 27 => ⟨S32x2048x512, .f32⟩
  | 28 => ⟨S1x512, .f32⟩
  | 29 => ⟨S512, .f32⟩
  | 30 => ⟨S1x1x512, .f32⟩
  | 31 => ⟨S32x2048x512, .f32⟩
  | 32 => ⟨S32x2048x512, .f32⟩
  | 33 => ⟨S32x2048x512, .f32⟩
  | 34 => ⟨S32x2048x512, .f32⟩
  | 35 => ⟨S1x512, .f32⟩
  | 36 => ⟨S512, .f32⟩
  | 37 => ⟨S1x1x512, .f32⟩
  | 38 => ⟨S32x2048x512, .f32⟩
  | 39 => ⟨S32x2048x512, .f32⟩
  | 40 => ⟨S32x2048x512, .f32⟩
  | 41 => ⟨S1x1x512, .f32⟩
  | 42 => ⟨S32x2048x512, .f32⟩
  | 43 => ⟨S32x2048x512, .f32⟩
  | 44 => ⟨S32x2048x8x64, .f32⟩
  | 45 => ⟨S8x64x64, .f32⟩
  | 46 => ⟨S8x64x32x2048, .f32⟩
  | 47 => ⟨S32x2048x8x64, .f32⟩
  | 48 => ⟨S32x2048x512, .f32⟩
  | 49 => ⟨S512, .f32⟩
  | 50 => ⟨S1x1x512, .f32⟩
  | 51 => ⟨S32x2048x512, .f32⟩
  | 52 => ⟨S32x2048x512, .f32⟩
  | 53 => ⟨S32x2048x512, .f32⟩
  | 54 => ⟨S32x2048x512, .f32⟩
  | 55 => ⟨S_, .f32⟩
  | 56 => ⟨S32x2048x512, .f32⟩
  | 57 => ⟨S32x2048x512, .f32⟩
  | 58 => ⟨S_, .f32⟩
  | 59 => ⟨S32x2048x512, .f32⟩
  | 60 => ⟨S32x2048x512, .f32⟩
  | 61 => ⟨S8x64x64, .f32⟩
  | 62 => ⟨S8x64x32x2048, .f32⟩
  | 63 => ⟨S32x2048x8x64, .f32⟩
  | 64 => ⟨S32x2048x512, .f32⟩
  | 65 => ⟨S512, .f32⟩
  | 66 => ⟨S1x1x512, .f32⟩
  | 67 => ⟨S32x2048x512, .f32⟩
  | 68 => ⟨S32x2048x512, .f32⟩
  | 69 => ⟨S32x2048x512, .f32⟩
  | 70 => ⟨S32x2048x512, .f32⟩
  | 71 => ⟨S_, .f32⟩
  | 72 => ⟨S32x2048x512, .f32⟩
  | 73 => ⟨S32x2048x512, .f32⟩
  | 74 => ⟨S_, .f32⟩
  | 75 => ⟨S32x2048x512, .f32⟩
  | 76 => ⟨S32x2048x512, .f32⟩
  | 77 => ⟨S_, .f32⟩
  | 78 => ⟨S32x2048x512, .f32⟩
  | 79 => ⟨S32x2048x512, .f32⟩
  | 80 => ⟨S512, .f32⟩
  | 81 => ⟨S_, .f32⟩
  | 82 => ⟨S512, .f32⟩
  | 83 => ⟨S512, .f32⟩
  | 84 => ⟨S512, .f32⟩
  | 85 => ⟨S512, .f32⟩
  | 86 => ⟨S512, .i1⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S1x1x512, .f32⟩
  | 96 => ⟨S32x2048x512, .f32⟩
  | 97 => ⟨S32x2048x512, .f32⟩
  | 98 => ⟨S32x2048x512, .f32⟩
  | 99 => ⟨S_, .f32⟩
  | 100 => ⟨S32x2048x512, .f32⟩
  | 101 => ⟨S32x2048x512, .f32⟩
  | 102 => ⟨S32x2048x512, .f32⟩
  | 103 => ⟨S32x2048x512, .f32⟩
  | 104 => ⟨S32x2048x512, .f32⟩
  | 105 => ⟨S32x2048x512, .f32⟩
  | 106 => ⟨S32x2048x512, .f32⟩
  | 107 => ⟨S_, .f32⟩
  | 108 => ⟨S32x512, .f32⟩
  | 109 => ⟨S2048x32x512, .f32⟩
  | 110 => ⟨S2048x32x512, .f32⟩
  | 111 => ⟨S_, .f32⟩
  | 112 => ⟨S2048x32x512, .f32⟩
  | 113 => ⟨S_, .i32⟩
  | 114 => ⟨S2048x32x512, .f32⟩
  | 115 => ⟨S2048x32x512, .f32⟩
  | 116 => ⟨S_, .i32⟩
  | 117 => ⟨S32x512, .f32⟩
  | 118 => ⟨S2048x32x512, .f32⟩
  | 119 => ⟨S_, .i32⟩
  | 120 => ⟨S_, .i1⟩
  | 121 => ⟨S_, .i32⟩
  | 122 => ⟨S_, .i32⟩
  | 123 => ⟨S1x32x512, .f32⟩
  | 124 => ⟨S32x512, .f32⟩
  | 125 => ⟨S_, .i32⟩
  | 126 => ⟨S_, .i32⟩
  | 127 => ⟨S1x32x512, .f32⟩
  | _ => ⟨S32x2048x512, .f32⟩

abbrev hbmTy0_1 (i : Nat) : BufTy := match i % 128 with
  | 0 => ⟨S32x512, .f32⟩
  | 1 => ⟨S32x512, .f32⟩
  | 2 => ⟨S32x512, .f32⟩
  | 3 => ⟨S1x32x512, .f32⟩
  | 4 => ⟨S_, .i32⟩
  | 5 => ⟨S_, .i32⟩
  | 6 => ⟨S2048x32x512, .f32⟩
  | 7 => ⟨S_, .i32⟩
  | 8 => ⟨S_, .i32⟩
  | 9 => ⟨S_, .f32⟩
  | 10 => ⟨S32x3x512, .f32⟩
  | 11 => ⟨S32x2051x512, .f32⟩
  | 12 => ⟨S32x3x512, .f32⟩
  | 13 => ⟨S32x2048x512, .f32⟩
  | 14 => ⟨S32x2048x512, .bf16⟩
  | 15 => ⟨S32x1x512, .f32⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_2 : Ref sig .tc := ⟨.hbm, 71, rfl⟩
abbrev main_v60 : Ref sig .tc := ⟨.hbm, 72, rfl⟩
abbrev main_v61 : Ref sig .tc := ⟨.hbm, 73, rfl⟩
abbrev main_cst_3 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_5 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_6 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_7 : Ref sig .tc := ⟨.hbm, 111, rfl⟩
abbrev main_v82 : Ref sig .tc := ⟨.hbm, 112, rfl⟩
abbrev main_c : Ref sig .tc := ⟨.hbm, 113, rfl⟩
abbrev main_v83_0 : Ref sig .tc := ⟨.hbm, 114, rfl⟩
abbrev main_v83_1 : Ref sig .tc := ⟨.hbm, 115, rfl⟩
abbrev main_v83_2 : Ref sig .tc := ⟨.hbm, 116, rfl⟩
abbrev main_v83_3 : Ref sig .tc := ⟨.hbm, 117, rfl⟩
abbrev main_v83_4 : Ref sig .tc := ⟨.hbm, 118, rfl⟩
abbrev main_while0c_c_13 : Ref sig .tc := ⟨.hbm, 119, rfl⟩
abbrev main_while0c_v90 : Ref sig .tc := ⟨.hbm, 120, rfl⟩
abbrev main_while0b_call1_c : Ref sig .tc := ⟨.hbm, 121, rfl⟩
abbrev main_while0b_call1_c_0 : Ref sig .tc := ⟨.hbm, 122, rfl⟩
abbrev main_while0b_call1_v0 : Ref sig .tc := ⟨.hbm, 123, rfl⟩
abbrev main_while0b_v90 : Ref sig .tc := ⟨.hbm, 124, rfl⟩
abbrev main_while0b_call2_c : Ref sig .tc := ⟨.hbm, 125, rfl⟩
abbrev main_while0b_call2_c_0 : Ref sig .tc := ⟨.hbm, 126, rfl⟩
abbrev main_while0b_call2_v0 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_call3_v0 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_v94 : Ref sig .tc := ⟨.hbm, 134, rfl⟩
abbrev main_while0b_c_13 : Ref sig .tc := ⟨.hbm, 135, rfl⟩
abbrev main_while0b_v95 : Ref sig .tc := ⟨.hbm, 136, rfl⟩
abbrev main_cst_8 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩

abbrev nD : Nat := 1
abbrev τ : Topo := Topo.v7x

variable {F : FTy → Type} [FloatOps F]

abbrev main_while0_count : Scf.Loop 32 := ⟨0#32, 2048#32, 1#32⟩
-- ==== Proof.KLoop.lean ====
module

public import proofs.«01_k».proof.Proof.Gen.KernelIdeal.Value
public import Idealize.ShloMosaic.Lib.Tactic
public import Idealize.ShloMosaic.Lib.Pointwise
public import Idealize.ShloMosaic.Lib.WordArith.Masks
public import Idealize.ShloMosaic.Lib.Pipeline.ReadBack
public import Idealize.ShloMosaic.Lib.Pipeline.ValueKit.Tiles

@[expose] public section

set_option maxRecDepth 16384

noncomputable section

/- The kernel's time loop on one block of eight batch rows: what the loop carries and what it stores,
   as the recurrence `h (t+1) = a t * h t + u t` of each row. -/

namespace Cert.KernelIdeal.RgLoop

open Cert.KernelIdeal Cert.KernelIdeal.Gen Idealize.ShloMosaic Idealize.ShloMosaic.TcCoe Idealize.ShloMosaic.Tactic Idealize.SL.Sem
open Idealize.ShloMosaic.Pipeline (Dat)

/-- The eight rows the loop carries. -/
abbrev C8 := FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32

/-- Row `b` of what the loop carries. -/
def comp (a : C8) : Fin 8 → S1x512.Idx → EReal :=
  ![a.1, a.2.1, a.2.2.1, a.2.2.2.1, a.2.2.2.2.1, a.2.2.2.2.2.1, a.2.2.2.2.2.2.1, a.2.2.2.2.2.2.2]

/-- The recurrence of a block: `h 0` given, `h (t+1) = a t * h t + u t` at every row and lane. -/
def hRec (A U : S8x8x512.Idx → EReal) (h0 : Fin 8 → Fin 512 → EReal) : ℕ → Fin 8 → Fin 512 → EReal
  | 0 => h0
  | t + 1 => fun b d => if ht : t < 8 then A (ix3 b ⟨t, ht⟩ d) * hRec A U h0 t b d + U (ix3 b ⟨t, ht⟩ d) else 0

theorem hRec_succ (A U : S8x8x512.Idx → EReal) (h0 : Fin 8 → Fin 512 → EReal) (t : ℕ) (ht : t < 8) (b : Fin 8) (d : Fin 512) :
    hRec A U h0 (t + 1) b d = A (ix3 b ⟨t, ht⟩ d) * hRec A U h0 t b d + U (ix3 b ⟨t, ht⟩ d) := dif_pos ht

/-- The state after step `t`, as an array of the block. -/
def hAll (A U : S8x8x512.Idx → EReal) (h0 : Fin 8 → Fin 512 → EReal) : S8x8x512.Idx → EReal :=
  fun y => hRec A U h0 ((y 1).val + 1) (y 0) (y 2)

/-- The row rectangle's corner: the loop's word is the trip's number. -/
theorem off_row (r : ℕ) (k : Fin k0_t1_loop.trips) :
    (![r, BitVec.toNat (Scalar.indexCast (Scf.iv 0#32 1#32 k.val)), 0] : Fin 3 → ℕ) = ![r, k.val, 0] := by
  have hk : k.val < 8 := Nat.lt_of_lt_of_le k.isLt k0_t1_abs.2.1
  have := WordArith.toNat_iv_zero_one k.val (by omega)
  rw [show BitVec.toNat (Scalar.indexCast (Scf.iv 0#32 1#32 k.val)) = k.val from this]

/-- A row rectangle at the corner `(r, k, 0)` places lane `d` at `(r, k, d)`. -/
theorem idx_row {off : Fin 3 → ℕ} (inb : ∀ a, off a + (![1, 1, 512] : Fin 3 → ℕ) a ≤ S8x8x512.size a) (r k : Fin 8)
    (hoff : off = ![r.val, k.val, 0]) (x : (Rect.unit (s := S8x8x512) off ![1, 1, 512] inb).shape.Idx) :
    (Rect.unit (s := S8x8x512) off ![1, 1, 512] inb).idx x = ix3 r k (x 2) := by
  have h0 : (x 0).val < 1 := (x 0).isLt
  have h1 : (x 1).val < 1 := (x 1).isLt
  have e0 : off 0 = r.val := by rw [hoff]; rfl
  have e1 : off 1 = k.val := by rw [hoff]; rfl
  have e2 : off 2 = 0 := by rw [hoff]; rfl
  funext a
  apply Fin.ext
  refine (Rect.idx_unit_val off ![1, 1, 512] inb x a).trans ?_
  fin_cases a
  · show off 0 + (x 0).val = r.val; omega
  · show off 1 + (x 1).val = k.val; omega
  · show off 2 + (x 2).val = (x 2).val; omega

/-- A trip stays inside the block. -/
theorem k_lt (k : Fin k0_t1_loop.trips) : k.val < 8 := Nat.lt_of_lt_of_le k.isLt k0_t1_abs.2.1

/-- One trip's row: the loaded row of `a` times the carried row plus the loaded row of `u`. -/
theorem row_val (pay : FVec Ideal S1x512 .f32 → Vec Ideal S1x1x512 .f32 → Vec Ideal S1x1x512 .f32 → FVec Ideal S1x512 .f32)
    (hpay : ∀ h w u (d : Fin 512), pay h w u (ix2 0 d) = w (ix3 0 0 d) * h (ix2 0 d) + u (ix3 0 0 d))
    (h : FVec Ideal S1x512 .f32) {off off' : Fin 3 → ℕ}
    (inb : ∀ a, off a + (![1, 1, 512] : Fin 3 → ℕ) a ≤ S8x8x512.size a) (inb' : ∀ a, off' a + (![1, 1, 512] : Fin 3 → ℕ) a ≤ S8x8x512.size a)
    (r k : Fin 8) (hoff : off = ![r.val, k.val, 0]) (hoff' : off' = ![r.val, k.val, 0])
    (m m' : Memref sig .tc .vmem S8x8x512 .f32)
    (X : BufTy.Contents (Elt Ideal) m.view.ty) (f : BufTy.Contents (Elt Ideal) m'.view.ty) (d : Fin 512) :
    pay h (m.view.readAt (Elt Ideal) (Rect.unit (s := S8x8x512) off ![1, 1, 512] inb).toLoadRect X)
      (m'.view.readAt (Elt Ideal) (Rect.unit (s := S8x8x512) off' ![1, 1, 512] inb').toLoadRect f) (ix2 0 d)
      = m.view.read (Elt Ideal) X (ix3 r k d) * h (ix2 0 d) + m'.view.read (Elt Ideal) f (ix3 r k d) := by
  rw [hpay, View.readAt_eq_ld, View.readAt_eq_ld, View.ld, View.ld, idx_row inb r k hoff, idx_row inb' r k hoff']
  rfl

theorem pay6_at (h : FVec Ideal S1x512 .f32) (w u : Vec Ideal S1x1x512 .f32) (d : Fin 512) :
    k0_pay6 h w u (ix2 0 d) = w (ix3 0 0 d) * h (ix2 0 d) + u (ix3 0 0 d) := by
  unfold_payloads; pointwise

theorem pay8_at (h : FVec Ideal S1x512 .f32) (w u : Vec Ideal S1x1x512 .f32) (d : Fin 512) :
    k0_pay8 h w u (ix2 0 d) = w (ix3 0 0 d) * h (ix2 0 d) + u (ix3 0 0 d) := by
  unfold_payloads; pointwise

theorem pay10_at (h : FVec Ideal S1x512 .f32) (w u : Vec Ideal S1x1x512 .f32) (d : Fin 512) :
    k0_pay10 h w u (ix2 0 d) = w (ix3 0 0 d) * h (ix2 0 d) + u (ix3 0 0 d) := by
  unfold_payloads; pointwise

theorem pay12_at (h : FVec Ideal S1x512 .f32) (w u : Vec Ideal S1x1x512 .f32) (d : Fin 512) :
    k0_pay12 h w u (ix2 0 d) = w (ix3 0 0 d) * h (ix2 0 d) + u (ix3 0 0 d) := by
  unfold_payloads; pointwise

theorem pay14_at (h : FVec Ideal S1x512 .f32) (w u : Vec Ideal S1x1x512 .f32) (d : Fin 512) :
    k0_pay14 h w u (ix2 0 d) = w (ix3 0 0 d) * h (ix2 0 d) + u (ix3 0 0 d) := by
  unfold_payloads; pointwise

theorem pay16_at (h : FVec Ideal S1x512 .f32) (w u : Vec Ideal S1x1x512 .f32) (d : Fin 512) :
    k0_pay16 h w u (ix2 0 d) = w (ix3 0 0 d) * h (ix2 0 d) + u (ix3 0 0 d) := by
  unfold_payloads; pointwise

theorem pay42_at (h : FVec Ideal S1x512 .f32) (w u : Vec Ideal S1x1x512 .f32) (d : Fin 512) :
    k0_pay42 h (k0_pay18 w) u (ix2 0 d) = w (ix3 0 0 d) * h (ix2 0 d) + u (ix3 0 0 d) := by
  unfold_payloads; pointwise

theorem pay44_at (h : FVec Ideal S1x512 .f32) (w u : Vec Ideal S1x1x512 .f32) (d : Fin 512) :
    k0_pay44 h w u (ix2 0 d) = w (ix3 0 0 d) * h (ix2 0 d) + u (ix3 0 0 d) := by
  unfold_payloads; pointwise

theorem pay7_at (h : FVec Ideal S1x512 .f32) (w u : Vec Ideal S1x1x512 .f32) (d : Fin 512) :
    k0_pay7 h w u (ix3 0 0 d) = w (ix3 0 0 d) * h (ix2 0 d) + u (ix3 0 0 d) := by
  unfold_payloads; pointwise

theorem pay9_at (h : FVec Ideal S1x512 .f32) (w u : Vec Ideal S1x1x512 .f32) (d : Fin 512) :
    k0_pay9 h w u (ix3 0 0 d) = w (ix3 0 0 d) * h (ix2 0 d) + u (ix3 0 0 d) := by
  unfold_payloads; pointwise

theorem pay11_at (h : FVec Ideal S1x512 .f32) (w u : Vec Ideal S1x1x512 .f32) (d : Fin 512) :
    k0_pay11 h w u (ix3 0 0 d) = w (ix3 0 0 d) * h (ix2 0 d) + u (ix3 0 0 d) := by
  unfold_payloads; pointwise

theorem pay13_at (h : FVec Ideal S1x512 .f32) (w u : Vec Ideal S1x1x512 .f32) (d : Fin 512) :
    k0_pay13 h w u (ix3 0 0 d) = w (ix3 0 0 d) * h (ix2 0 d) + u (ix3 0 0 d) := by
  unfold_payloads; pointwise

theorem pay15_at (h : FVec Ideal S1x512 .f32) (w u : Vec Ideal S1x1x512 .f32) (d : Fin 512) :
    k0_pay15 h w u (ix3 0 0 d) = w (ix3 0 0 d) * h (ix2 0 d) + u (ix3 0 0 d) := by
  unfold_payloads; pointwise

theorem pay17_at (h : FVec Ideal S1x512 .f32) (w u : Vec Ideal S1x1x512 .f32) (d : Fin 512) :
    k0_pay17 h w u (ix3 0 0 d) = w (ix3 0 0 d) * h (ix2 0 d) + u (ix3 0 0 d) := by
  unfold_payloads; pointwise

theorem pay45_at (h : FVec Ideal S1x512 .f32) (w u : Vec Ideal S1x1x512 .f32) (d : Fin 512) :
    k0_pay45 h w u (ix3 0 0 d) = w (ix3 0 0 d) * h (ix2 0 d) + u (ix3 0 0 d) := by
  unfold_payloads; pointwise

theorem pay43_at (h : FVec Ideal S1x512 .f32) (w u : Vec Ideal S1x1x512 .f32) (d : Fin 512) :
    k0_pay43 h (k0_pay18 w) u (ix3 0 0 d) = w (ix3 0 0 d) * h (ix2 0 d) + u (ix3 0 0 d) := by
  unfold_payloads; pointwise

/-- A row of a stored piece, likewise. -/
theorem row_piece (pay : FVec Ideal S1x512 .f32 → Vec Ideal S1x1x512 .f32 → Vec Ideal S1x1x512 .f32 → FVec Ideal S1x1x512 .f32)
    (hpay : ∀ h w u (d : Fin 512), pay h w u (ix3 0 0 d) = w (ix3 0 0 d) * h (ix2 0 d) + u (ix3 0 0 d))
    (h : FVec Ideal S1x512 .f32) {off off' off'' : Fin 3 → ℕ}
    (inb : ∀ a, off a + (![1, 1, 512] : Fin 3 → ℕ) a ≤ S8x8x512.size a) (inb' : ∀ a, off' a + (![1, 1, 512] : Fin 3 → ℕ) a ≤ S8x8x512.size a)
    (inb'' : ∀ a, off'' a + (![1, 1, 512] : Fin 3 → ℕ) a ≤ S8x8x512.size a)
    (r k : Fin 8) (hoff : off = ![r.val, k.val, 0]) (hoff' : off' = ![r.val, k.val, 0]) (hoff'' : off'' = ![r.val, k.val, 0])
    (m m' : Memref sig .tc .vmem S8x8x512 .f32)
    (X : BufTy.Contents (Elt Ideal) m.view.ty) (f : BufTy.Contents (Elt Ideal) m'.view.ty) (G : S8x8x512.Idx → EReal)
    (hG : ∀ d, m.view.read (Elt Ideal) X (ix3 r k d) * h (ix2 0 d) + m'.view.read (Elt Ideal) f (ix3 r k d) = G (ix3 r k d))
    (x : (Rect.unit (s := S8x8x512) off'' ![1, 1, 512] inb'').shape.Idx) :
    pay h (m.view.readAt (Elt Ideal) (Rect.unit (s := S8x8x512) off ![1, 1, 512] inb).toLoadRect X)
      (m'.view.readAt (Elt Ideal) (Rect.unit (s := S8x8x512) off' ![1, 1, 512] inb').toLoadRect f) x
      = G ((Rect.unit (s := S8x8x512) off'' ![1, 1, 512] inb'').emb x) := by
  have hx : x = ix3 (n0 := 1) (n1 := 1) (n2 := 512) 0 0 (x 2) := by
    have h0 : (x 0).val < 1 := (x 0).isLt
    have h1 : (x 1).val < 1 := (x 1).isLt
    funext a; apply Fin.ext; fin_cases a
    · show (x 0).val = 0; omega
    · show (x 1).val = 0; omega
    · rfl
  refine Eq.trans ?_ ((hG (x 2)).trans (congrArg G (idx_row inb'' r k hoff'' x).symm))
  obtain ⟨d, hd⟩ : ∃ d : Fin 512, x = ix3 (n0 := 1) (n1 := 1) (n2 := 512) 0 0 d := ⟨x 2, hx⟩
  subst hd
  refine (hpay _ _ _ d).trans ?_
  rw [View.readAt_eq_ld, View.readAt_eq_ld, View.ld, View.ld, idx_row inb r k hoff, idx_row inb' r k hoff']
  rfl

/-- A row rectangle lies in the block. -/
theorem inb_row {off : Fin 3 → ℕ} (r : Fin 8) (k : Fin k0_t1_loop.trips) (hoff : off = ![r.val, k.val, 0]) :
    ∀ a, off a + (![1, 1, 512] : Fin 3 → ℕ) a ≤ S8x8x512.size a := by
  have hk := k_lt k
  have hr := r.isLt
  have e0 : off 0 = r.val := by rw [hoff]; rfl
  have e1 : off 1 = k.val := by rw [hoff]; rfl
  have e2 : off 2 = 0 := by rw [hoff]; rfl
  intro a
  fin_cases a
  · show off 0 + 1 ≤ 8; omega
  · show off 1 + 1 ≤ 8; omega
  · show off 2 + 512 ≤ 512; omega

/-- Membership in a row rectangle. -/
theorem mem_row {off : Fin 3 → ℕ} (inb : ∀ a, off a + (![1, 1, 512] : Fin 3 → ℕ) a ≤ S8x8x512.size a) (r k : ℕ)
    (hoff : off = ![r, k, 0]) (y : S8x8x512.Idx) :
    y ∈ (Rect.unit (s := S8x8x512) off ![1, 1, 512] inb).set ↔ (y 0).val = r ∧ (y 1).val = k := by
  have e0 : off 0 = r := by rw [hoff]; rfl
  have e1 : off 1 = k := by rw [hoff]; rfl
  have e2 : off 2 = 0 := by rw [hoff]; rfl
  have h2 : (y 2).val < 512 := (y 2).isLt
  rw [Rect.mem_set_unit]
  constructor
  · intro h
    have h0 := h 0; have h1 := h 1
    simp only [e0, e1] at h0 h1
    have : (![1, 1, 512] : Fin 3 → ℕ) 0 = 1 := rfl
    have : (![1, 1, 512] : Fin 3 → ℕ) 1 = 1 := rfl
    exact ⟨by omega, by omega⟩
  · rintro ⟨h0, h1⟩ a
    fin_cases a
    · show off 0 ≤ (y 0).val ∧ (y 0).val < off 0 + 1; omega
    · show off 1 ≤ (y 1).val ∧ (y 1).val < off 1 + 1; omega
    · show off 2 ≤ (y 2).val ∧ (y 2).val < off 2 + 512; omega

/-- One trip: the carried rows after it. -/
theorem trip_comp (c : Dev nD) (i : grid0.Coords) (a2 : Memref sig .tc .vmem S8x8x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x8x512 .f32) (z12 : a12.IsWhole) (a13 : Memref sig .tc .vmem S8x1x512 .f32) (z13 : a13.IsWhole) (a14 : Memref sig .tc .vmem S8x3x512 .f32) (z14 : a14.IsWhole) (a15 : Memref sig .tc .vmem S8x16x512 .f32) (z15 : a15.IsWhole) (a16 : Memref sig .tc .vmem S8x8x512 .f32) (z16 : a16.IsWhole) (a17 : Memref sig .tc .vmem S8x8x512 .f32) (z17 : a17.IsWhole) (a18 : Memref sig .tc .vmem S8x1x512 .f32) (z18 : a18.IsWhole) (v101 : FVec Ideal S1x512 .f32) (X : BufTy.Contents (Elt Ideal) a16.view.ty) (k : Fin k0_t1_loop.trips) (acc : C8) (f : BufTy.Contents (Elt Ideal) a17.view.ty)
    (b : Fin 8) (d : Fin 512) :
    comp (tripR_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X k acc f) b (ix2 0 d)
      = a16.view.read (Elt Ideal) X (ix3 b ⟨k.val, k_lt k⟩ d) * comp acc b (ix2 0 d) + a17.view.read (Elt Ideal) f (ix3 b ⟨k.val, k_lt k⟩ d) := by
  unfold tripR_k0_t1 trip_k0_t1
  dsimp only
  sl_unfold_words
  fin_cases b
  · exact row_val k0_pay6 pay6_at _ _ _ 0 ⟨k.val, k_lt k⟩ (off_row 0 k) (off_row 0 k) _ _ X f d
  · exact row_val k0_pay8 pay8_at _ _ _ 1 ⟨k.val, k_lt k⟩ (off_row 1 k) (off_row 1 k) _ _ X f d
  · exact row_val k0_pay10 pay10_at _ _ _ 2 ⟨k.val, k_lt k⟩ (off_row 2 k) (off_row 2 k) _ _ X f d
  · exact row_val k0_pay12 pay12_at _ _ _ 3 ⟨k.val, k_lt k⟩ (off_row 3 k) (off_row 3 k) _ _ X f d
  · exact row_val k0_pay14 pay14_at _ _ _ 4 ⟨k.val, k_lt k⟩ (off_row 4 k) (off_row 4 k) _ _ X f d
  · exact row_val k0_pay16 pay16_at _ _ _ 5 ⟨k.val, k_lt k⟩ (off_row 5 k) (off_row 5 k) _ _ X f d
  · exact row_val (fun h w u => k0_pay42 h (k0_pay18 w) u) pay42_at _ _ _ 6 ⟨k.val, k_lt k⟩ (off_row 6 k) (off_row 6 k) _ _ X f d
  · exact row_val k0_pay44 pay44_at _ _ _ 7 ⟨k.val, k_lt k⟩ (off_row 7 k) (off_row 7 k) _ _ X f d

/-- One trip's stores: row `k` of every batch row, blocks of any array that holds the new rows there. -/
theorem trip_pieces (c : Dev nD) (i : grid0.Coords) (a2 : Memref sig .tc .vmem S8x8x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x8x512 .f32) (z12 : a12.IsWhole) (a13 : Memref sig .tc .vmem S8x1x512 .f32) (z13 : a13.IsWhole) (a14 : Memref sig .tc .vmem S8x3x512 .f32) (z14 : a14.IsWhole) (a15 : Memref sig .tc .vmem S8x16x512 .f32) (z15 : a15.IsWhole) (a16 : Memref sig .tc .vmem S8x8x512 .f32) (z16 : a16.IsWhole) (a17 : Memref sig .tc .vmem S8x8x512 .f32) (z17 : a17.IsWhole) (a18 : Memref sig .tc .vmem S8x1x512 .f32) (z18 : a18.IsWhole) (v101 : FVec Ideal S1x512 .f32) (X : BufTy.Contents (Elt Ideal) a16.view.ty) (k : Fin k0_t1_loop.trips) (acc : C8) (f : BufTy.Contents (Elt Ideal) a17.view.ty)
    (G : S8x8x512.Idx → EReal)
    (hG : ∀ b d, a16.view.read (Elt Ideal) X (ix3 b ⟨k.val, k_lt k⟩ d) * comp acc b (ix2 0 d) + a17.view.read (Elt Ideal) f (ix3 b ⟨k.val, k_lt k⟩ d) = G (ix3 b ⟨k.val, k_lt k⟩ d)) :
    View.PiecesOf G (tripL_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X k acc f)
    ∧ ∀ y : S8x8x512.Idx, (∃ p ∈ tripL_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X k acc f, y ∈ p.1.set) ↔ (y 1).val = k.val := by
  unfold tripL_k0_t1 trip_k0_t1
  dsimp only
  sl_unfold_words
  refine ⟨⟨?_, ?_, ?_, ?_, ?_, ?_, ?_, ?_, trivial⟩, fun y => ?_⟩
  · exact row_piece k0_pay45 pay45_at _ (inb_row 7 k (off_row 7 k)) (inb_row 7 k (off_row 7 k)) (inb_row 7 k (off_row 7 k)) 7 ⟨k.val, k_lt k⟩ (off_row 7 k) (off_row 7 k) (off_row 7 k) _ _ X f G (hG 7)
  · exact row_piece (fun h w u => k0_pay43 h (k0_pay18 w) u) pay43_at _ (inb_row 6 k (off_row 6 k)) (inb_row 6 k (off_row 6 k)) (inb_row 6 k (off_row 6 k)) 6 ⟨k.val, k_lt k⟩ (off_row 6 k) (off_row 6 k) (off_row 6 k) _ _ X f G (hG 6)
  · exact row_piece k0_pay17 pay17_at _ (inb_row 5 k (off_row 5 k)) (inb_row 5 k (off_row 5 k)) (inb_row 5 k (off_row 5 k)) 5 ⟨k.val, k_lt k⟩ (off_row 5 k) (off_row 5 k) (off_row 5 k) _ _ X f G (hG 5)
  · exact row_piece k0_pay15 pay15_at _ (inb_row 4 k (off_row 4 k)) (inb_row 4 k (off_row 4 k)) (inb_row 4 k (off_row 4 k)) 4 ⟨k.val, k_lt k⟩ (off_row 4 k) (off_row 4 k) (off_row 4 k) _ _ X f G (hG 4)
  · exact row_piece k0_pay13 pay13_at _ (inb_row 3 k (off_row 3 k)) (inb_row 3 k (off_row 3 k)) (inb_row 3 k (off_row 3 k)) 3 ⟨k.val, k_lt k⟩ (off_row 3 k) (off_row 3 k) (off_row 3 k) _ _ X f G (hG 3)
  · exact row_piece k0_pay11 pay11_at _ (inb_row 2 k (off_row 2 k)) (inb_row 2 k (off_row 2 k)) (inb_row 2 k (off_row 2 k)) 2 ⟨k.val, k_lt k⟩ (off_row 2 k) (off_row 2 k) (off_row 2 k) _ _ X f G (hG 2)
  · exact row_piece k0_pay9 pay9_at _ (inb_row 1 k (off_row 1 k)) (inb_row 1 k (off_row 1 k)) (inb_row 1 k (off_row 1 k)) 1 ⟨k.val, k_lt k⟩ (off_row 1 k) (off_row 1 k) (off_row 1 k) _ _ X f G (hG 1)
  · exact row_piece k0_pay7 pay7_at _ (inb_row 0 k (off_row 0 k)) (inb_row 0 k (off_row 0 k)) (inb_row 0 k (off_row 0 k)) 0 ⟨k.val, k_lt k⟩ (off_row 0 k) (off_row 0 k) (off_row 0 k) _ _ X f G (hG 0)
  · have hy : (y 0).val < 8 := (y 0).isLt
    simp only [List.mem_cons, List.not_mem_nil, or_false, exists_eq_or_imp, exists_eq_left]
    refine (or_congr (mem_row (inb_row 7 k (off_row 7 k)) 7 k.val (off_row 7 k) y) (or_congr (mem_row (inb_row 6 k (off_row 6 k)) 6 k.val (off_row 6 k) y) (or_congr (mem_row (inb_row 5 k (off_row 5 k)) 5 k.val (off_row 5 k) y) (or_congr (mem_row (inb_row 4 k (off_row 4 k)) 4 k.val (off_row 4 k) y) (or_congr (mem_row (inb_row 3 k (off_row 3 k)) 3 k.val (off_row 3 k) y) (or_congr (mem_row (inb_row 2 k (off_row 2 k)) 2 k.val (off_row 2 k) y) (or_congr (mem_row (inb_row 1 k (off_row 1 k)) 1 k.val (off_row 1 k) y) (mem_row (inb_row 0 k (off_row 0 k)) 0 k.val (off_row 0 k) y)))))))).trans ?_
    omega

/-- A list of pieces none of which holds the index leaves the earlier contents there. -/
theorem read_off (v : View sig .tc .vmem S8x8x512 .f32) (f : v.ty.Contents (Elt Ideal)) (y : S8x8x512.Idx) :
    ∀ L : List (View.Piece (Elt Ideal) S8x8x512 .f32), (¬ ∃ p ∈ L, y ∈ p.1.set) → v.read (Elt Ideal) (v.writes (Elt Ideal) f L) y = v.read (Elt Ideal) f y
  | [], _ => rfl
  | p :: L, h => by
    have h1 : y ∉ Finset.univ.map p.1.emb := by
      rw [Rect.map_emb_univ]; exact fun hy => h ⟨p, List.mem_cons_self, hy⟩
    rw [View.writes_cons, View.read_slice_write_of_not_mem p.1 _ _ _ h1]
    exact read_off v f y L fun ⟨q, hq, hy⟩ => h ⟨q, List.mem_cons_of_mem _ hq, hy⟩

theorem piecesOf_append (G : S8x8x512.Idx → EReal) : ∀ L L' : List (View.Piece (Elt Ideal) S8x8x512 .f32),
    View.PiecesOf (Val := Elt Ideal) G L → View.PiecesOf (Val := Elt Ideal) G L' → View.PiecesOf (Val := Elt Ideal) G (L ++ L')
  | [], _, _, h' => h'
  | _ :: L, L', h, h' => ⟨h.1, piecesOf_append G L L' h.2 h'⟩

/-- Before trip `k`: the carried rows are the recurrence's, and the pieces stored so far are the rows before `k`. -/
theorem loop_inv (c : Dev nD) (i : grid0.Coords) (a2 : Memref sig .tc .vmem S8x8x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x8x512 .f32) (z12 : a12.IsWhole) (a13 : Memref sig .tc .vmem S8x1x512 .f32) (z13 : a13.IsWhole) (a14 : Memref sig .tc .vmem S8x3x512 .f32) (z14 : a14.IsWhole) (a15 : Memref sig .tc .vmem S8x16x512 .f32) (z15 : a15.IsWhole) (a16 : Memref sig .tc .vmem S8x8x512 .f32) (z16 : a16.IsWhole) (a17 : Memref sig .tc .vmem S8x8x512 .f32) (z17 : a17.IsWhole) (a18 : Memref sig .tc .vmem S8x1x512 .f32) (z18 : a18.IsWhole) (v101 : FVec Ideal S1x512 .f32) (X : BufTy.Contents (Elt Ideal) a16.view.ty) (g : BufTy.Contents (Elt Ideal) a17.view.ty) (init : C8)
    (A U : S8x8x512.Idx → EReal) (h0 : Fin 8 → Fin 512 → EReal)
    (hA : a16.view.read (Elt Ideal) X = A) (hU : a17.view.read (Elt Ideal) g = U) (hi : ∀ b d, comp init b (ix2 0 d) = h0 b d) :
    ∀ k : ℕ, k ≤ 8 →
      (∀ b d, comp (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).1 b (ix2 0 d) = hRec A U h0 k b d)
      ∧ View.PiecesOf (Val := Elt Ideal) (hAll A U h0) (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2
      ∧ ∀ y : S8x8x512.Idx, (∃ p ∈ (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2, y ∈ p.1.set) ↔ (y 1).val < k
  | 0, _ => ⟨hi, trivial, fun y => by
      constructor
      · rintro ⟨p, hp, _⟩; exact absurd hp List.not_mem_nil
      · intro h; omega⟩
  | k + 1, hk => by
    obtain ⟨ih1, ih2, ih3⟩ := loop_inv c i a2 z2 a3 z3 a4 z4 a5 z5 a6 z6 a7 z7 a8 z8 a9 z9 a10 z10 a11 z11 a12 z12 a13 z13 a14 z14 a15 z15 a16 z16 a17 z17 a18 z18 v101 X g init A U h0 hA hU hi k (by omega)
    have ht : k0_t1_loop.trips = 8 := by decide
    have hs := st_k0_t1_succ (F := Ideal) Variants.none c none i a2 z2 a3 z3 a4 z4 a5 z5 a6 z6 a7 z7 a8 z8 a9 z9 a10 z10 a11 z11 a12 z12 a13 z13 a14 z14 a15 z15 a16 z16 a17 z17 a18 z18 v101 X g init ⟨k, by omega⟩
    dsimp only at hs
    rw [hs]
    have hrow : ∀ b d, a17.view.read (Elt Ideal) (a17.view.writes (Elt Ideal) g (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2) (ix3 b ⟨k, by omega⟩ d) = U (ix3 b ⟨k, by omega⟩ d) := by
      intro b d
      rw [read_off _ _ _ _ (by rw [ih3]; exact Nat.lt_irrefl k), hU]
    have hnew : ∀ b d, a16.view.read (Elt Ideal) X (ix3 b ⟨k, by omega⟩ d) * comp (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).1 b (ix2 0 d)
        + a17.view.read (Elt Ideal) (a17.view.writes (Elt Ideal) g (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2) (ix3 b ⟨k, by omega⟩ d) = hRec A U h0 (k + 1) b d := by
      intro b d
      rw [hrow, ih1, hA]
      exact (hRec_succ A U h0 k (by omega) b d).symm
    have hp := trip_pieces c i a2 z2 a3 z3 a4 z4 a5 z5 a6 z6 a7 z7 a8 z8 a9 z9 a10 z10 a11 z11 a12 z12 a13 z13 a14 z14 a15 z15 a16 z16 a17 z17 a18 z18 v101 X ⟨k, by omega⟩ _ (a17.view.writes (Elt Ideal) g (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2) (hAll A U h0) hnew
    refine ⟨fun b d => ?_, piecesOf_append _ _ _ hp.1 ih2, fun y => ?_⟩
    · rw [trip_comp]; exact hnew b d
    · have := hp.2 y
      have := ih3 y
      simp only [List.mem_append, or_and_right, exists_or]
      rw [hp.2 y, ih3 y]
      dsimp only
      omega

end Cert.KernelIdeal.RgLoop
-- ==== Proof.Spec.lean ====
module

public import Idealize.ShloMosaic.Lib.Pointwise

@[expose] public section

noncomputable section

/- The recurrent unit over the extended reals, at one lane: the gate's arithmetic, as numbers. -/

namespace Cert.RgSpec

open Idealize.ShloMosaic

/-- The softplus of `-l`, in its form that does not overflow. -/
def spE (l : EReal) : EReal :=
  max (0 - l) 0 + Ideal.log1p (Ideal.exp (0 - FloatOps.absf (F := Ideal) (φ := .f32) (0 - l)))

/-- The logarithm of the decay: minus eight times the recurrence gate times the softplus. -/
def laE (r l : EReal) : EReal := Ideal.ofBits FTy.f32 3238002688#32 * r * spE l

/-- The input's factor, by the hyperbolic tangent of the logarithm of the decay. -/
def multE (la : EReal) : EReal := Ideal.sqrt ((0 - Ideal.tanh la) * (Ideal.exp la * Ideal.exp la + 1))

/-- The convolution's four taps on a bias. -/
def cvE (b x0 w0 x1 w1 x2 w2 x3 w3 : EReal) : EReal := b + x0 * w0 + x1 * w1 + x2 * w2 + x3 * w3

/-- The rows of a sequence with its three carried rows in front. -/
def padG (X : Fin 128 → Fin 8 → Fin 512 → EReal) (B : Fin 128 → Fin 3 → Fin 512 → EReal) (b : Fin 128) (s : ℕ) (d : Fin 512) : EReal :=
  if h : s < 3 then B b ⟨s, h⟩ d else if h' : s < 11 then X b ⟨s - 3, by omega⟩ d else 0

/-- The causal convolution of a sequence. -/
def cvG (X : Fin 128 → Fin 8 → Fin 512 → EReal) (B : Fin 128 → Fin 3 → Fin 512 → EReal) (W : Fin 4 → Fin 512 → EReal) (bc : Fin 512 → EReal)
    (b : Fin 128) (t : Fin 8) (d : Fin 512) : EReal :=
  cvE (bc d) (padG X B b t.val d) (W 0 d) (padG X B b (t.val + 1) d) (W 1 d) (padG X B b (t.val + 2) d) (W 2 d) (padG X B b (t.val + 3) d) (W 3 d)

/-- The block a channel lies in. -/
def blk (d : Fin 512) : Fin 8 := ⟨d.val / 64, by omega⟩
/-- A channel's place in its block. -/
def low (d : Fin 512) : Fin 64 := ⟨d.val % 64, by omega⟩
/-- The channel at a place of a block. -/
def chan (g : Fin 8) (k : Fin 64) : Fin 512 := ⟨g.val * 64 + k.val, by omega⟩

/-- A gate: the logistic of the block's product with the block's matrix and a bias. -/
def gateG (c : Fin 512 → EReal) (R : Fin 8 → Fin 64 → Fin 64 → EReal) (bi : Fin 512 → EReal) (d : Fin 512) : EReal :=
  Ideal.logistic (∑ k : Fin 64, c (chan (blk d) k) * R (blk d) k (low d) + bi d)

/-- The logarithm of the decay. -/
def laG (cv : Fin 512 → EReal) (R : Fin 8 → Fin 64 → Fin 64 → EReal) (bi lam : Fin 512 → EReal) (d : Fin 512) : EReal :=
  laE (gateG cv R bi d) (lam d)

/-- The input of the recurrence. -/
def uG (cv : Fin 512 → EReal) (R : Fin 8 → Fin 64 → Fin 64 → EReal) (bi : Fin 512 → EReal) (Q : Fin 8 → Fin 64 → Fin 64 → EReal) (bq lam : Fin 512 → EReal)
    (d : Fin 512) : EReal :=
  multE (laG cv R bi lam d) * (gateG cv Q bq d * cv d)

/-- The recurrence of a sequence: decay times the state plus the input. -/
def recG (a u : Fin 8 → Fin 512 → EReal) (h : Fin 512 → EReal) : ℕ → Fin 512 → EReal
  | 0 => h
  | t + 1 => fun d => if ht : t < 8 then a ⟨t, ht⟩ d * recG a u h t d + u ⟨t, ht⟩ d else 0

/-- One step of the recurrence. -/
theorem recG_succ (a u : Fin 8 → Fin 512 → EReal) (h : Fin 512 → EReal) (t : ℕ) (ht : t < 8) (d : Fin 512) :
    recG a u h (t + 1) d = a ⟨t, ht⟩ d * recG a u h t d + u ⟨t, ht⟩ d := dif_pos ht

/-- A row's product with a block-diagonal matrix is its block's product with the block. -/
theorem blockdiag_sum (c : Fin 512 → EReal) (M : Fin 512 → EReal) (R : Fin 8 → Fin 64 → Fin 64 → EReal) (d : Fin 512)
    (hM : ∀ k, M k = (if blk k = blk d then 1 else 0) * R (blk k) (low k) (low d)) :
    ∑ k : Fin 512, c k * M k = ∑ k : Fin 64, c (chan (blk d) k) * R (blk d) k (low d) := by
  have e : ∑ k : Fin 512, c k * M k = ∑ p : Fin 8 × Fin 64, c (chan p.1 p.2) * M (chan p.1 p.2) := by
    refine (Fintype.sum_equiv (finProdFinEquiv (m := 8) (n := 64)) _ _ fun p => ?_).symm
    have : chan p.1 p.2 = finProdFinEquiv p := Fin.ext (by show p.1.val * 64 + p.2.val = p.2.val + 64 * p.1.val; omega)
    rw [this]
  rw [e, Fintype.sum_prod_type]
  have hb : ∀ (g : Fin 8) (k : Fin 64), blk (chan g k) = g := fun g k => Fin.ext (by show (g.val * 64 + k.val) / 64 = g.val; omega)
  have hl : ∀ (g : Fin 8) (k : Fin 64), low (chan g k) = k := fun g k => Fin.ext (by show (g.val * 64 + k.val) % 64 = k.val; omega)
  rw [Finset.sum_eq_single (blk d)]
  · refine Finset.sum_congr rfl fun k _ => ?_
    rw [hM, hb, hl, if_pos rfl, one_mul]
  · intro g _ hne
    refine Finset.sum_eq_zero fun k _ => ?_
    rw [hM, hb, if_neg hne, zero_mul, mul_zero]
  · intro h; exact absurd (Finset.mem_univ _) h

/-- The factor by the hyperbolic tangent is the factor by the exponential of twice the logarithm. -/
theorem mult_eq (L : EReal) : (0 - Ideal.tanh L) * (Ideal.exp L * Ideal.exp L + 1) = -(Ideal.exp (2 * L) - 1) := by
  induction L with
  | bot =>
    rw [EReal.mul_bot_of_pos (by norm_num : (0 : EReal) < 2)]
    simp
  | top =>
    rw [EReal.mul_top_of_pos (by norm_num : (0 : EReal) < 2)]
    simp
    exact (EReal.top_add_coe 1).trans (EReal.top_sub_coe 1).symm
  | coe r =>
    have h2 : (2 : EReal) * (r : EReal) = ((2 * r : ℝ) : EReal) := by rw [EReal.coe_mul]; rfl
    rw [h2]
    simp only [Ideal.tanh_coe, Ideal.exp_coe]
    have h0 : (0 : EReal) = ((0 : ℝ) : EReal) := rfl
    have h1 : (1 : EReal) = ((1 : ℝ) : EReal) := rfl
    rw [h0, h1, ← EReal.coe_sub, ← EReal.coe_mul, ← EReal.coe_add, ← EReal.coe_mul, ← EReal.coe_sub, ← EReal.coe_neg]
    congr 1
    rw [Real.tanh_eq_sinh_div_cosh, Real.sinh_eq, Real.cosh_eq]
    have hp := Real.exp_pos r
    have hn := Real.exp_pos (-r)
    have hm : Real.exp r * Real.exp (-r) = 1 := by rw [← Real.exp_add, add_neg_cancel, Real.exp_zero]
    have hq : Real.exp (2 * r) = Real.exp r * Real.exp r := by rw [two_mul, Real.exp_add]
    rw [hq]
    have : Real.exp (-r) = (Real.exp r)⁻¹ := Real.exp_neg r
    rw [this]
    field_simp
    ring

end Cert.RgSpec

end
-- ==== Proof.KBlock.lean ====
module

public import proofs.«01_k».proof.Proof.KLoop
public import proofs.«01_k».proof.Proof.Spec

@[expose] public section

set_option maxRecDepth 16384

noncomputable section

/- What one grid point of the kernel leaves in its three output blocks, as numbers of its input blocks. -/

namespace Cert.KernelIdeal.RgBlock

open Cert.KernelIdeal Cert.KernelIdeal.Gen Idealize.ShloMosaic Idealize.ShloMosaic.TcCoe Idealize.ShloMosaic.Tactic Idealize.SL.Sem
open Idealize.ShloMosaic.Pipeline (Dat)
open Cert.KernelIdeal.RgLoop Cert.RgSpec

/-- Row `b` of the block with its three carried rows in front. -/
def padE (x0 : Vec Ideal S8x8x512 .f32) (x1 : Vec Ideal S8x3x512 .f32) (b : Fin 8) (s : ℕ) (d : Fin 512) : EReal :=
  if h : s < 3 then x1 (ix3 b ⟨s, h⟩ d) else if h' : s < 11 then x0 (ix3 b ⟨s - 3, by omega⟩ d) else 0

/-- The convolution of the block. -/
def cvB (x0 : Vec Ideal S8x8x512 .f32) (x1 : Vec Ideal S8x3x512 .f32) (x3 : Vec Ideal S4x512 .f32) (x4 : Vec Ideal S1x512 .f32)
    (b t : Fin 8) (d : Fin 512) : EReal :=
  cvE (x4 (ix2 0 d)) (padE x0 x1 b t.val d) (x3 (ix2 0 d)) (padE x0 x1 b (t.val + 1) d) (x3 (ix2 1 d))
    (padE x0 x1 b (t.val + 2) d) (x3 (ix2 2 d)) (padE x0 x1 b (t.val + 3) d) (x3 (ix2 3 d))

/-- A gate of a row: the logistic of the row's product with a matrix and a bias. -/
def gateE (c : Fin 512 → EReal) (m : Vec Ideal S512x512 .bf16) (b : Vec Ideal S1x512 .f32) (d : Fin 512) : EReal :=
  Ideal.logistic (∑ k : Fin 512, c k * m (ix2 k d) + b (ix2 0 d))

/-- The logarithm of the block's decay. -/
def laB (x0 : Vec Ideal S8x8x512 .f32) (x1 : Vec Ideal S8x3x512 .f32) (x3 : Vec Ideal S4x512 .f32) (x4 : Vec Ideal S1x512 .f32)
    (x5 : Vec Ideal S512x512 .bf16) (x6 x9 : Vec Ideal S1x512 .f32) (b t : Fin 8) (d : Fin 512) : EReal :=
  laE (gateE (cvB x0 x1 x3 x4 b t) x5 x6 d) (x9 (ix2 0 d))

/-- The block's decay. -/
def aB (x0 : Vec Ideal S8x8x512 .f32) (x1 : Vec Ideal S8x3x512 .f32) (x3 : Vec Ideal S4x512 .f32) (x4 : Vec Ideal S1x512 .f32)
    (x5 : Vec Ideal S512x512 .bf16) (x6 x9 : Vec Ideal S1x512 .f32) : S8x8x512.Idx → EReal :=
  fun y => Ideal.exp (laB x0 x1 x3 x4 x5 x6 x9 (y 0) (y 1) (y 2))

/-- The block's input to the recurrence. -/
def uB (x0 : Vec Ideal S8x8x512 .f32) (x1 : Vec Ideal S8x3x512 .f32) (x3 : Vec Ideal S4x512 .f32) (x4 : Vec Ideal S1x512 .f32)
    (x5 : Vec Ideal S512x512 .bf16) (x6 : Vec Ideal S1x512 .f32) (x7 : Vec Ideal S512x512 .bf16) (x8 x9 : Vec Ideal S1x512 .f32) : S8x8x512.Idx → EReal :=
  fun y => multE (laB x0 x1 x3 x4 x5 x6 x9 (y 0) (y 1) (y 2))
    * (gateE (cvB x0 x1 x3 x4 (y 0) (y 1)) x7 x8 (y 2) * cvB x0 x1 x3 x4 (y 0) (y 1) (y 2))

/-- The recurrence of the block. -/
def hB (x0 : Vec Ideal S8x8x512 .f32) (x1 : Vec Ideal S8x3x512 .f32) (x2 : Vec Ideal S8x1x512 .f32) (x3 : Vec Ideal S4x512 .f32) (x4 : Vec Ideal S1x512 .f32)
    (x5 : Vec Ideal S512x512 .bf16) (x6 : Vec Ideal S1x512 .f32) (x7 : Vec Ideal S512x512 .bf16) (x8 x9 : Vec Ideal S1x512 .f32) : ℕ → Fin 8 → Fin 512 → EReal :=
  hRec (aB x0 x1 x3 x4 x5 x6 x9) (uB x0 x1 x3 x4 x5 x6 x7 x8 x9) (fun b d => x2 (ix3 b 0 d))

/-- The scratch the kernel pads the block in: five zero rows, the three carried rows, the block. -/
abbrev padPieces (x0 : Vec Ideal S8x8x512 .f32) (x1 : Vec Ideal S8x3x512 .f32) : List (View.Piece (Elt Ideal) S8x16x512 .f32) :=
  [⟨Rect.unit ![0, 8, 0] ![8, 8, 512] inb_S8x16x512_S8x8x512_0_8_0, k0_pay22 (View.ld x0 (Rect.unit ![0, 0, 0] ![8, 8, 512] inb_S8x8x512_S8x8x512_0_0_0))⟩,
   ⟨Rect.unit ![0, 5, 0] ![8, 3, 512] inb_S8x16x512_S8x3x512_0_5_0, k0_pay20 (View.ld x1 (Rect.unit ![0, 0, 0] ![8, 3, 512] inb_S8x3x512_S8x3x512_0_0_0))⟩,
   ⟨Rect.unit ![0, 0, 0] ![8, 5, 512] inb_S8x16x512_S8x5x512_0_0_0, k0_pay19 (F := Ideal)⟩]

theorem hz3 : (![0, 0, 0] : Fin 3 → ℕ) = fun _ => 0 := funext fun a => by fin_cases a <;> rfl
theorem hz2 : (![0, 0] : Fin 2 → ℕ) = fun _ => 0 := funext fun a => by fin_cases a <;> rfl

/-- The padded scratch at row `5 + s`. -/
theorem pad_at (x0 : Vec Ideal S8x8x512 .f32) (x1 : Vec Ideal S8x3x512 .f32) (b : Fin 8) (s : ℕ) (hs : s < 11) (d : Fin 512)
    (y : S8x16x512.Idx) (hy0 : (y 0).val = b.val) (hy1 : (y 1).val = 5 + s) (hy2 : (y 2).val = d.val) :
    View.canon (padPieces x0 x1) y = padE x0 x1 b s d := by
  have e20 : k0_pay20 (F := Ideal) (View.ld x1 (Rect.unit ![0, 0, 0] ![8, 3, 512] inb_S8x3x512_S8x3x512_0_0_0)) = x1 := by
    rw [View.ld_unit_zero hz3]; funext j; unfold_payloads; idx_vars j; pointwise
  have e22 : k0_pay22 (F := Ideal) (View.ld x0 (Rect.unit ![0, 0, 0] ![8, 8, 512] inb_S8x8x512_S8x8x512_0_0_0)) = x0 := by
    rw [View.ld_unit_zero hz3]; funext j; unfold_payloads; idx_vars j; pointwise
  have hb := b.isLt
  have hd := d.isLt
  unfold padE padPieces
  rw [e20, e22]
  by_cases h : s < 3
  · rw [dif_pos h, View.canon_cons_of_not_mem]
    · have hy : y = (Rect.unit (s := S8x16x512) ![0, 5, 0] ![8, 3, 512] inb_S8x16x512_S8x3x512_0_5_0).emb (ix3 b ⟨s, h⟩ d) := by
        funext a; apply Fin.ext
        refine Eq.trans ?_ (Rect.idx_unit_val ![0, 5, 0] ![8, 3, 512] _ _ a).symm
        fin_cases a
        · show (y 0).val = 0 + b.val; omega
        · show (y 1).val = 5 + s; omega
        · show (y 2).val = 0 + d.val; omega
      rw [hy, View.canon_cons_emb]
    · rw [Rect.mem_set_unit]
      intro hh
      have : 8 ≤ (y 1).val := (hh 1).1
      omega
  · rw [dif_neg h, dif_pos hs]
    have hy : y = (Rect.unit (s := S8x16x512) ![0, 8, 0] ![8, 8, 512] inb_S8x16x512_S8x8x512_0_8_0).emb (ix3 b ⟨s - 3, by omega⟩ d) := by
      funext a; apply Fin.ext
      refine Eq.trans ?_ (Rect.idx_unit_val ![0, 8, 0] ![8, 8, 512] _ _ a).symm
      fin_cases a
      · show (y 0).val = 0 + b.val; omega
      · show (y 1).val = 8 + (s - 3); omega
      · show (y 2).val = 0 + d.val; omega
    rw [hy, View.canon_cons_emb]

/-- A convolution tap: eight rows of the scratch from row `5 + s`. -/
theorem tap_at (v : View sig .tc .vmem S8x16x512 .f32) (x0 : Vec Ideal S8x8x512 .f32) (x1 : Vec Ideal S8x3x512 .f32) (s : ℕ) (hs : s < 4)
    (inb : ∀ a, (![0, 5 + s, 0] : Fin 3 → ℕ) a + (![8, 8, 512] : Fin 3 → ℕ) a ≤ S8x16x512.size a) (b t : Fin 8) (d : Fin 512) :
    v.readCov (padPieces x0 x1) (Rect.unit (s := S8x16x512) ![0, 5 + s, 0] ![8, 8, 512] inb).toLoadRect (ix3 b t d) = padE x0 x1 b (t.val + s) d := by
  have ht := t.isLt
  rw [View.readCov_eq_canon']
  refine pad_at x0 x1 b (t.val + s) (by omega) d _ ?_ ?_ ?_
  · refine (Rect.idx_unit_val (s := S8x16x512) ![0, 5 + s, 0] ![8, 8, 512] _ _ 0).trans ?_
    show 0 + b.val = b.val; omega
  · refine (Rect.idx_unit_val (s := S8x16x512) ![0, 5 + s, 0] ![8, 8, 512] _ _ 1).trans ?_
    show 5 + s + t.val = 5 + (t.val + s); omega
  · refine (Rect.idx_unit_val (s := S8x16x512) ![0, 5 + s, 0] ![8, 8, 512] _ _ 2).trans ?_
    show 0 + d.val = d.val; omega

/-- A row of the taps' weights. -/
theorem row_w (x3 : Vec Ideal S4x512 .f32) (r : Fin 4) (inb : ∀ a, (![r.val, 0] : Fin 2 → ℕ) a + (![1, 512] : Fin 2 → ℕ) a ≤ S4x512.size a) (d : Fin 512) :
    View.ld x3 (Rect.unit (s := S4x512) ![r.val, 0] ![1, 512] inb) (ix2 0 d) = x3 (ix2 r d) := by
  refine View.ld_unit_apply_of x3 _ _ _ _ _ fun a => ?_
  fin_cases a
  · show r.val = r.val + 0; omega
  · show d.val = 0 + d.val; omega

section Values

variable (x0 : Vec Ideal S8x8x512 .f32) (x1 : Vec Ideal S8x3x512 .f32) (x3 : Vec Ideal S4x512 .f32) (x4 : Vec Ideal S1x512 .f32)
  (x5 : Vec Ideal S512x512 .bf16) (x6 : Vec Ideal S1x512 .f32) (x7 : Vec Ideal S512x512 .bf16) (x8 x9 : Vec Ideal S1x512 .f32)
  (p0 p1 p2 p3 : Vec Ideal S8x8x512 .f32) (w0 w1 w2 w3 : Vec Ideal S1x512 .f32)
  (hp0 : ∀ b t d, p0 (ix3 b t d) = padE x0 x1 b (t.val + 0) d) (hp1 : ∀ b t d, p1 (ix3 b t d) = padE x0 x1 b (t.val + 1) d)
  (hp2 : ∀ b t d, p2 (ix3 b t d) = padE x0 x1 b (t.val + 2) d) (hp3 : ∀ b t d, p3 (ix3 b t d) = padE x0 x1 b (t.val + 3) d)
  (hw0 : ∀ d, w0 (ix2 0 d) = x3 (ix2 0 d)) (hw1 : ∀ d, w1 (ix2 0 d) = x3 (ix2 1 d)) (hw2 : ∀ d, w2 (ix2 0 d) = x3 (ix2 2 d)) (hw3 : ∀ d, w3 (ix2 0 d) = x3 (ix2 3 d))

include hp0 hp1 hp2 hp3 hw0 hw1 hw2 hw3

/-- The convolution the kernel computes, row-major over the block's batch rows and time steps. -/
theorem conv_at (j : Fin 64) (b t : Fin 8) (hj : j.val = b.val * 8 + t.val) (d : Fin 512) :
    k0_pay26 (k0_pay23 x4 p0 w0 p1 w1) p2 (k0_pay24 w2) p3 w3 (ix2 j d)
      = cvB x0 x1 x3 x4 b t d := by
  unfold_payloads
  pointwise [hp0, hp1, hp2, hp3, hw0, hw1, hw2, hw3]
  have ht := t.isLt
  have e1 : j.val / 8 = b.val := by omega
  have e2 : j.val % 8 = t.val := by omega
  simp only [e1, e2]
  rfl

/-- A gate's matrix product. -/
theorem gate_r (j : Fin 64) (b t : Fin 8) (hj : j.val = b.val * 8 + t.val) (d : Fin 512) :
    k0_pay28 (k0_pay23 x4 p0 w0 p1 w1) p2 (k0_pay24 w2) p3 w3 x5 x6 (ix2 j d)
      = gateE (cvB x0 x1 x3 x4 b t) x5 x6 d := by
  unfold k0_pay28 k0_pay27
  pointwise
  unfold gateE
  simp only [conv_at x0 x1 x3 x4 p0 p1 p2 p3 w0 w1 w2 w3 hp0 hp1 hp2 hp3 hw0 hw1 hw2 hw3 j b t hj]

theorem dot_i (j : Fin 64) (b t : Fin 8) (hj : j.val = b.val * 8 + t.val) (d : Fin 512) :
    k0_pay29 (k0_pay23 x4 p0 w0 p1 w1) p2 (k0_pay24 w2) p3 w3 x7 (ix2 j d)
      = ∑ k : Fin 512, cvB x0 x1 x3 x4 b t k * x7 (ix2 k d) := by
  unfold k0_pay29 k0_pay27
  pointwise
  simp only [conv_at x0 x1 x3 x4 p0 p1 p2 p3 w0 w1 w2 w3 hp0 hp1 hp2 hp3 hw0 hw1 hw2 hw3 j b t hj]

/-- The decay the kernel stores. -/
theorem a_eq :
    k0_pay32 (k0_pay28 (k0_pay23 x4 p0 w0 p1 w1) p2 (k0_pay24 w2) p3 w3 x5 x6) x9 = aB x0 x1 x3 x4 x5 x6 x9 := by
  funext j
  idx_vars j
  unfold k0_pay32 k0_pay31 k0_pay30
  pointwise
  rw [gate_r x0 x1 x3 x4 x5 x6 p0 p1 p2 p3 w0 w1 w2 w3 hp0 hp1 hp2 hp3 hw0 hw1 hw2 hw3 _ j0 j1 rfl]
  rfl

/-- The input the kernel stores. -/
theorem u_eq :
    k0_pay33 (k0_pay26 (k0_pay23 x4 p0 w0 p1 w1) p2 (k0_pay24 w2) p3 w3)
      (k0_pay28 (k0_pay23 x4 p0 w0 p1 w1) p2 (k0_pay24 w2) p3 w3 x5 x6)
      (k0_pay29 (k0_pay23 x4 p0 w0 p1 w1) p2 (k0_pay24 w2) p3 w3 x7) x8 x9 = uB x0 x1 x3 x4 x5 x6 x7 x8 x9 := by
  funext j
  idx_vars j
  unfold k0_pay33 k0_pay31 k0_pay30
  pointwise
  rw [gate_r x0 x1 x3 x4 x5 x6 p0 p1 p2 p3 w0 w1 w2 w3 hp0 hp1 hp2 hp3 hw0 hw1 hw2 hw3 _ j0 j1 rfl,
    dot_i x0 x1 x3 x4 x7 p0 p1 p2 p3 w0 w1 w2 w3 hp0 hp1 hp2 hp3 hw0 hw1 hw2 hw3 _ j0 j1 rfl,
    conv_at x0 x1 x3 x4 p0 p1 p2 p3 w0 w1 w2 w3 hp0 hp1 hp2 hp3 hw0 hw1 hw2 hw3 _ j0 j1 rfl]
  rfl

end Values

/-- Row `r` of the initial state. -/
theorem init_row (v : View sig .tc .vmem S8x1x512 .f32) (x2 : Vec Ideal S8x1x512 .f32) (r : Fin 8)
    (inb : ∀ a, (![r.val, 0, 0] : Fin 3 → ℕ) a + (![1, 1, 512] : Fin 3 → ℕ) a ≤ S8x1x512.size a) (d : Fin 512) :
    v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)]
      (Rect.unit (s := S8x1x512) ![r.val, 0, 0] ![1, 1, 512] inb).toLoadRect (ix3 0 0 d) = x2 (ix3 r 0 d) := by
  have e : k0_pay21 (F := Ideal) (View.ld x2 (Rect.unit ![0, 0, 0] ![8, 1, 512] inb_S8x1x512_S8x1x512_0_0_0)) = x2 := by
    rw [View.ld_unit_zero hz3]; funext j; unfold_payloads; idx_vars j; pointwise
  rw [View.readCov_eq_canon', e, View.canon_unit_zero hz3]
  refine congrArg x2 (funext fun a => Fin.ext ?_)
  refine (Rect.idx_unit_val (s := S8x1x512) ![r.val, 0, 0] ![1, 1, 512] _ _ a).trans ?_
  fin_cases a
  · show r.val + 0 = r.val; omega
  · show 0 + 0 = 0; omega
  · show 0 + d.val = d.val; omega

theorem pay34_at (w : Vec Ideal S1x1x512 .f32) (d : Fin 512) : k0_pay34 w (ix2 0 d) = w (ix3 0 0 d) := by
  unfold_payloads; pointwise

theorem pay35_at (w : Vec Ideal S1x1x512 .f32) (d : Fin 512) : k0_pay35 w (ix2 0 d) = w (ix3 0 0 d) := by
  unfold_payloads; pointwise

theorem pay36_at (w : Vec Ideal S1x1x512 .f32) (d : Fin 512) : k0_pay36 w (ix2 0 d) = w (ix3 0 0 d) := by
  unfold_payloads; pointwise

theorem pay37_at (w : Vec Ideal S1x1x512 .f32) (d : Fin 512) : k0_pay37 w (ix2 0 d) = w (ix3 0 0 d) := by
  unfold_payloads; pointwise

theorem pay38_at (w : Vec Ideal S1x1x512 .f32) (d : Fin 512) : k0_pay38 w (ix2 0 d) = w (ix3 0 0 d) := by
  unfold_payloads; pointwise

theorem pay39_at (w : Vec Ideal S1x1x512 .f32) (d : Fin 512) : k0_pay39 w (ix2 0 d) = w (ix3 0 0 d) := by
  unfold_payloads; pointwise

theorem pay40_at (w : Vec Ideal S1x1x512 .f32) (d : Fin 512) : k0_pay40 w (ix2 0 d) = w (ix3 0 0 d) := by
  unfold_payloads; pointwise

theorem pay41_at (w : Vec Ideal S1x1x512 .f32) (d : Fin 512) : k0_pay41 w (ix2 0 d) = w (ix3 0 0 d) := by
  unfold_payloads; pointwise

theorem pay47_at (h : FVec Ideal S1x512 .f32) (d : Fin 512) : k0_pay47 h (ix3 0 0 d) = h (ix2 0 d) := by
  unfold_payloads; pointwise

theorem pay49_at (h : FVec Ideal S1x512 .f32) (d : Fin 512) : k0_pay49 h (ix3 0 0 d) = h (ix2 0 d) := by
  unfold_payloads; pointwise

theorem pay51_at (h : FVec Ideal S1x512 .f32) (d : Fin 512) : k0_pay51 h (ix3 0 0 d) = h (ix2 0 d) := by
  unfold_payloads; pointwise

theorem pay53_at (h : FVec Ideal S1x512 .f32) (d : Fin 512) : k0_pay53 h (ix3 0 0 d) = h (ix2 0 d) := by
  unfold_payloads; pointwise

theorem pay55_at (h : FVec Ideal S1x512 .f32) (d : Fin 512) : k0_pay55 h (ix3 0 0 d) = h (ix2 0 d) := by
  unfold_payloads; pointwise

theorem pay1_at (h : FVec Ideal S1x512 .f32) (d : Fin 512) : k0_pay1 h (ix3 0 0 d) = h (ix2 0 d) := by
  unfold_payloads; pointwise

theorem pay3_at (h : FVec Ideal S1x512 .f32) (d : Fin 512) : k0_pay3 h (ix3 0 0 d) = h (ix2 0 d) := by
  unfold_payloads; pointwise

theorem pay5_at (h : FVec Ideal S1x512 .f32) (d : Fin 512) : k0_pay5 h (ix3 0 0 d) = h (ix2 0 d) := by
  unfold_payloads; pointwise

/-- The eight rows the loop starts from. -/
theorem init_rows (v : View sig .tc .vmem S8x1x512 .f32) (x2 : Vec Ideal S8x1x512 .f32) (b : Fin 8) (d : Fin 512) :
    comp (k0_pay34 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![0, 0, 0] ![1, 1, 512] inb_S8x1x512_S1x1x512_0_0_0).toLoadRect), k0_pay35 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![1, 0, 0] ![1, 1, 512] inb_S8x1x512_S1x1x512_1_0_0).toLoadRect), k0_pay36 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![2, 0, 0] ![1, 1, 512] inb_S8x1x512_S1x1x512_2_0_0).toLoadRect), k0_pay37 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![3, 0, 0] ![1, 1, 512] inb_S8x1x512_S1x1x512_3_0_0).toLoadRect), k0_pay38 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![4, 0, 0] ![1, 1, 512] inb_S8x1x512_S1x1x512_4_0_0).toLoadRect), k0_pay39 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![5, 0, 0] ![1, 1, 512] inb_S8x1x512_S1x1x512_5_0_0).toLoadRect), k0_pay40 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![6, 0, 0] ![1, 1, 512] inb_S8x1x512_S1x1x512_6_0_0).toLoadRect), k0_pay41 (v.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![7, 0, 0] ![1, 1, 512] inb_S8x1x512_S1x1x512_7_0_0).toLoadRect)) b (ix2 0 d) = x2 (ix3 b 0 d) := by
  fin_cases b
  · exact (pay34_at _ d).trans (init_row v x2 0 inb_S8x1x512_S1x1x512_0_0_0 d)
  · exact (pay35_at _ d).trans (init_row v x2 1 inb_S8x1x512_S1x1x512_1_0_0 d)
  · exact (pay36_at _ d).trans (init_row v x2 2 inb_S8x1x512_S1x1x512_2_0_0 d)
  · exact (pay37_at _ d).trans (init_row v x2 3 inb_S8x1x512_S1x1x512_3_0_0 d)
  · exact (pay38_at _ d).trans (init_row v x2 4 inb_S8x1x512_S1x1x512_4_0_0 d)
  · exact (pay39_at _ d).trans (init_row v x2 5 inb_S8x1x512_S1x1x512_5_0_0 d)
  · exact (pay40_at _ d).trans (init_row v x2 6 inb_S8x1x512_S1x1x512_6_0_0 d)
  · exact (pay41_at _ d).trans (init_row v x2 7 inb_S8x1x512_S1x1x512_7_0_0 d)

variable (c : Dev nD) (i : grid0.Coords) (a2 : Memref sig .tc .vmem S8x8x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x8x512 .f32) (z12 : a12.IsWhole) (a13 : Memref sig .tc .vmem S8x1x512 .f32) (z13 : a13.IsWhole) (a14 : Memref sig .tc .vmem S8x3x512 .f32) (z14 : a14.IsWhole) (a15 : Memref sig .tc .vmem S8x16x512 .f32) (z15 : a15.IsWhole) (a16 : Memref sig .tc .vmem S8x8x512 .f32) (z16 : a16.IsWhole) (a17 : Memref sig .tc .vmem S8x8x512 .f32) (z17 : a17.IsWhole) (a18 : Memref sig .tc .vmem S8x1x512 .f32) (z18 : a18.IsWhole) (hc0 : cond0_0 i)
  (x0 : Vec Ideal S8x8x512 .f32) (x1 : Vec Ideal S8x3x512 .f32) (x2 : Vec Ideal S8x1x512 .f32) (x3 : Vec Ideal S4x512 .f32) (x4 : Vec Ideal S1x512 .f32) (x5 : Vec Ideal S512x512 .bf16) (x6 : Vec Ideal S1x512 .f32) (x7 : Vec Ideal S512x512 .bf16) (x8 : Vec Ideal S1x512 .f32) (x9 : Vec Ideal S1x512 .f32)

/-- What the block stores as its last three rows. -/
theorem out12 (b : Fin 8) (s : Fin 3) (d : Fin 512) :
    out0_A_12 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b s d) = padE x0 x1 b (8 + s.val) d := by
  unfold out0_A_12
  rw [View.read_writes_eq_canon _ _ _ (fun _ => cover0_A_12 ..)]
  unfold kernelRun0_A
  dsimp only
  sl_unfold_words
  simp only [View.readAt_eq_ld, z2.read_unread, z3.read_unread, z4.read_unread, z5.read_unread, z6.read_unread, z7.read_unread, z8.read_unread, z9.read_unread, z10.read_unread, z11.read_unread]
  rw [View.canon_unit_zero hz3, View.readCov_eq_canon']
  have hs := s.isLt
  refine pad_at x0 x1 b (8 + s.val) (by omega) d _ ?_ ?_ ?_
  · refine (Rect.idx_unit_val (s := S8x16x512) ![0, 13, 0] ![8, 3, 512] _ _ 0).trans ?_
    show 0 + b.val = b.val; omega
  · refine (Rect.idx_unit_val (s := S8x16x512) ![0, 13, 0] ![8, 3, 512] _ _ 1).trans ?_
    show 13 + s.val = 5 + (8 + s.val); omega
  · refine (Rect.idx_unit_val (s := S8x16x512) ![0, 13, 0] ![8, 3, 512] _ _ 2).trans ?_
    show 0 + d.val = d.val; omega

/-- The loop runs over the block's eight steps. -/
theorem trips8 : Scf.trips (0#32) (Scalar.addi 0#32 8#32) 1#32 = 8 := by decide

/-- A row read where the last store wrote it. -/
theorem row_hit (r : Fin 8) (inb : ∀ a, (![r.val, 0, 0] : Fin 3 → ℕ) a + (![1, 1, 512] : Fin 3 → ℕ) a ≤ S8x1x512.size a)
    (w : Vec Ideal S1x1x512 .f32) (L : List (View.Piece (Elt Ideal) S8x1x512 .f32)) (d : Fin 512) :
    View.canon ((⟨Rect.unit ![r.val, 0, 0] ![1, 1, 512] inb, w⟩ : View.Piece (Elt Ideal) S8x1x512 .f32) :: L) (ix3 r 0 d) = w (ix3 0 0 d) := by
  have e : (ix3 r 0 d : S8x1x512.Idx) = (Rect.unit (s := S8x1x512) ![r.val, 0, 0] ![1, 1, 512] inb).emb (ix3 0 0 d) := by
    refine funext fun a => Fin.ext (Eq.symm ?_)
    refine (Rect.idx_unit_val (s := S8x1x512) ![r.val, 0, 0] ![1, 1, 512] inb _ a).trans ?_
    fin_cases a
    · show r.val + 0 = r.val; omega
    · show 0 + 0 = 0; omega
    · show 0 + d.val = d.val; omega
  refine (congrArg (View.canon _) e).trans ?_
  exact View.canon_cons_emb (Rect.unit (s := S8x1x512) ![r.val, 0, 0] ![1, 1, 512] inb) w L (ix3 0 0 d : S1x1x512.Idx)

/-- A row another store wrote. -/
theorem row_miss (r b : Fin 8) (hne : b.val ≠ r.val) (inb : ∀ a, (![r.val, 0, 0] : Fin 3 → ℕ) a + (![1, 1, 512] : Fin 3 → ℕ) a ≤ S8x1x512.size a)
    (w : Vec Ideal S1x1x512 .f32) (L : List (View.Piece (Elt Ideal) S8x1x512 .f32)) (d : Fin 512) :
    View.canon ((⟨Rect.unit ![r.val, 0, 0] ![1, 1, 512] inb, w⟩ : View.Piece (Elt Ideal) S8x1x512 .f32) :: L) (ix3 b 0 d) = View.canon L (ix3 b 0 d) := by
  refine View.canon_cons_of_not_mem _ L ?_
  show (ix3 b 0 d : S8x1x512.Idx) ∉ (Rect.unit (s := S8x1x512) ![r.val, 0, 0] ![1, 1, 512] inb).set
  rw [Rect.mem_set_unit]
  intro h
  have h0 := h 0
  have h1 : r.val ≤ b.val := h0.1
  have h2 : b.val < r.val + 1 := h0.2
  omega

/-- What the block stores as its states and as its last states. -/
theorem outs :
    (∀ (b t : Fin 8) (d : Fin 512), out0_A_10 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b t d) = hB x0 x1 x2 x3 x4 x5 x6 x7 x8 x9 (t.val + 1) b d)
    ∧ ∀ (b : Fin 8) (d : Fin 512), out0_A_11 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b 0 d) = hB x0 x1 x2 x3 x4 x5 x6 x7 x8 x9 8 b d := by
  have hA := a_eq x0 x1 x3 x4 x5 x6 x9 (a15.view.readCov (padPieces x0 x1) (Rect.unit (s := S8x16x512) ![0, 5, 0] ![8, 8, 512] inb_S8x16x512_S8x8x512_0_5_0).toLoadRect) (a15.view.readCov (padPieces x0 x1) (Rect.unit (s := S8x16x512) ![0, 6, 0] ![8, 8, 512] inb_S8x16x512_S8x8x512_0_6_0).toLoadRect) (a15.view.readCov (padPieces x0 x1) (Rect.unit (s := S8x16x512) ![0, 7, 0] ![8, 8, 512] inb_S8x16x512_S8x8x512_0_7_0).toLoadRect) (a15.view.readCov (padPieces x0 x1) (Rect.unit (s := S8x16x512) ![0, 8, 0] ![8, 8, 512] inb_S8x16x512_S8x8x512_0_8_0).toLoadRect) (View.ld x3 (Rect.unit (s := S4x512) ![0, 0] ![1, 512] inb_S4x512_S1x512_0_0)) (View.ld x3 (Rect.unit (s := S4x512) ![1, 0] ![1, 512] inb_S4x512_S1x512_1_0)) (View.ld x3 (Rect.unit (s := S4x512) ![2, 0] ![1, 512] inb_S4x512_S1x512_2_0)) (View.ld x3 (Rect.unit (s := S4x512) ![3, 0] ![1, 512] inb_S4x512_S1x512_3_0)) (tap_at a15.view x0 x1 0 (by omega) inb_S8x16x512_S8x8x512_0_5_0) (tap_at a15.view x0 x1 1 (by omega) inb_S8x16x512_S8x8x512_0_6_0) (tap_at a15.view x0 x1 2 (by omega) inb_S8x16x512_S8x8x512_0_7_0) (tap_at a15.view x0 x1 3 (by omega) inb_S8x16x512_S8x8x512_0_8_0) (row_w x3 0 inb_S4x512_S1x512_0_0) (row_w x3 1 inb_S4x512_S1x512_1_0) (row_w x3 2 inb_S4x512_S1x512_2_0) (row_w x3 3 inb_S4x512_S1x512_3_0)
  have hU := u_eq x0 x1 x3 x4 x5 x6 x7 x8 x9 (a15.view.readCov (padPieces x0 x1) (Rect.unit (s := S8x16x512) ![0, 5, 0] ![8, 8, 512] inb_S8x16x512_S8x8x512_0_5_0).toLoadRect) (a15.view.readCov (padPieces x0 x1) (Rect.unit (s := S8x16x512) ![0, 6, 0] ![8, 8, 512] inb_S8x16x512_S8x8x512_0_6_0).toLoadRect) (a15.view.readCov (padPieces x0 x1) (Rect.unit (s := S8x16x512) ![0, 7, 0] ![8, 8, 512] inb_S8x16x512_S8x8x512_0_7_0).toLoadRect) (a15.view.readCov (padPieces x0 x1) (Rect.unit (s := S8x16x512) ![0, 8, 0] ![8, 8, 512] inb_S8x16x512_S8x8x512_0_8_0).toLoadRect) (View.ld x3 (Rect.unit (s := S4x512) ![0, 0] ![1, 512] inb_S4x512_S1x512_0_0)) (View.ld x3 (Rect.unit (s := S4x512) ![1, 0] ![1, 512] inb_S4x512_S1x512_1_0)) (View.ld x3 (Rect.unit (s := S4x512) ![2, 0] ![1, 512] inb_S4x512_S1x512_2_0)) (View.ld x3 (Rect.unit (s := S4x512) ![3, 0] ![1, 512] inb_S4x512_S1x512_3_0)) (tap_at a15.view x0 x1 0 (by omega) inb_S8x16x512_S8x8x512_0_5_0) (tap_at a15.view x0 x1 1 (by omega) inb_S8x16x512_S8x8x512_0_6_0) (tap_at a15.view x0 x1 2 (by omega) inb_S8x16x512_S8x8x512_0_7_0) (tap_at a15.view x0 x1 3 (by omega) inb_S8x16x512_S8x8x512_0_8_0) (row_w x3 0 inb_S4x512_S1x512_0_0) (row_w x3 1 inb_S4x512_S1x512_1_0) (row_w x3 2 inb_S4x512_S1x512_2_0) (row_w x3 3 inb_S4x512_S1x512_3_0)
  have hinv := loop_inv c i a2 z2 a3 z3 a4 z4 a5 z5 a6 z6 a7 z7 a8 z8 a9 z9 a10 z10 a11 z11 a12 z12 a13 z13 a14 z14 a15 z15 a16 z16 a17 z17 a18 z18 (k0_pay34 (a18.view.readCov [(⟨Rect.unit ![0, 0, 0] ![8, 1, 512] inb_S8x1x512_S8x1x512_0_0_0, k0_pay21 (View.ld x2 (Rect.unit ![0, 0, 0] ![8, 1, 512] inb_S8x1x512_S8x1x512_0_0_0))⟩ : View.Piece (Elt Ideal) S8x1x512 .f32)] (Rect.unit (s := S8x1x512) ![0, 0, 0] ![1, 1, 512] inb_S8x1x512_S1x1x512_0_0_0).toLoadRect)) (a16.view.writes (Elt Ideal) a16.view.junk [⟨Rect.unit ![0, 0, 0] ![8, 8, 512] inb_S8x8x512_S8x8x512_0_0_0, aB x0 x1 x3 x4 x5 x6 x9⟩]) (a17.view.writes (Elt Ideal) a17.view.junk [⟨Rect.unit ![0, 0, 0] ![8, 8, 512] inb_S8x8x512_S8x8x512_0_0_0, uB x0 x1 x3 x4 x5 x6 x7 x8 x9⟩]) _ (aB x0 x1 x3 x4 x5 x6 x9) (uB x0 x1 x3 x4 x5 x6 x7 x8 x9) (fun b d => x2 (ix3 b 0 d))
    (by rw [View.read_writes_junk_eq_canon, View.canon_unit_zero hz3]) (by rw [View.read_writes_junk_eq_canon, View.canon_unit_zero hz3])
    (init_rows a18.view x2) 8 (le_refl 8)
  refine ⟨fun b t d => ?_, fun b d => ?_⟩
  · unfold out0_A_10
    rw [View.read_writes_eq_canon _ _ _ (fun _ => cover0_A_10 ..)]
    unfold kernelRun0_A
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    rw [hA, hU]
    rw [View.canon_unit_zero hz3, View.readCov_eq_canon']
    rw [trips8]
    have hy : (Rect.unit (s := S8x8x512) ![0, 0, 0] ![8, 8, 512] inb_S8x8x512_S8x8x512_0_0_0).toLoadRect.idx (ix3 b t d) = ix3 b t d := by
      refine funext fun a => Fin.ext ?_
      refine (Rect.idx_unit_val (s := S8x8x512) ![0, 0, 0] ![8, 8, 512] _ _ a).trans ?_
      fin_cases a
      · show 0 + b.val = b.val; omega
      · show 0 + t.val = t.val; omega
      · show 0 + d.val = d.val; omega
    refine (congrArg (View.canon _) hy).trans ?_
    exact View.canon_append_of_piecesOf (hAll _ _ _) _ _ hinv.2.1 (ix3 b t d) ((hinv.2.2 _).2 t.isLt)
  · unfold out0_A_11
    rw [View.read_writes_eq_canon _ _ _ (fun _ => cover0_A_11 ..)]
    unfold kernelRun0_A
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    rw [hA, hU]
    rw [trips8]
    have hfin := fun b => hinv.1 b d
    fin_cases b
    · refine (row_miss 7 0 (by decide) inb_S8x1x512_S1x1x512_7_0_0 _ _ d).trans ?_
      refine (row_miss 6 0 (by decide) inb_S8x1x512_S1x1x512_6_0_0 _ _ d).trans ?_
      refine (row_miss 5 0 (by decide) inb_S8x1x512_S1x1x512_5_0_0 _ _ d).trans ?_
      refine (row_miss 4 0 (by decide) inb_S8x1x512_S1x1x512_4_0_0 _ _ d).trans ?_
      refine (row_miss 3 0 (by decide) inb_S8x1x512_S1x1x512_3_0_0 _ _ d).trans ?_
      refine (row_miss 2 0 (by decide) inb_S8x1x512_S1x1x512_2_0_0 _ _ d).trans ?_
      refine (row_miss 1 0 (by decide) inb_S8x1x512_S1x1x512_1_0_0 _ _ d).trans ?_
      exact (row_hit 0 inb_S8x1x512_S1x1x512_0_0_0 _ _ d).trans ((pay47_at _ d).trans (hfin 0))
    · refine (row_miss 7 1 (by decide) inb_S8x1x512_S1x1x512_7_0_0 _ _ d).trans ?_
      refine (row_miss 6 1 (by decide) inb_S8x1x512_S1x1x512_6_0_0 _ _ d).trans ?_
      refine (row_miss 5 1 (by decide) inb_S8x1x512_S1x1x512_5_0_0 _ _ d).trans ?_
      refine (row_miss 4 1 (by decide) inb_S8x1x512_S1x1x512_4_0_0 _ _ d).trans ?_
      refine (row_miss 3 1 (by decide) inb_S8x1x512_S1x1x512_3_0_0 _ _ d).trans ?_
      refine (row_miss 2 1 (by decide) inb_S8x1x512_S1x1x512_2_0_0 _ _ d).trans ?_
      exact (row_hit 1 inb_S8x1x512_S1x1x512_1_0_0 _ _ d).trans ((pay49_at _ d).trans (hfin 1))
    · refine (row_miss 7 2 (by decide) inb_S8x1x512_S1x1x512_7_0_0 _ _ d).trans ?_
      refine (row_miss 6 2 (by decide) inb_S8x1x512_S1x1x512_6_0_0 _ _ d).trans ?_
      refine (row_miss 5 2 (by decide) inb_S8x1x512_S1x1x512_5_0_0 _ _ d).trans ?_
      refine (row_miss 4 2 (by decide) inb_S8x1x512_S1x1x512_4_0_0 _ _ d).trans ?_
      refine (row_miss 3 2 (by decide) inb_S8x1x512_S1x1x512_3_0_0 _ _ d).trans ?_
      exact (row_hit 2 inb_S8x1x512_S1x1x512_2_0_0 _ _ d).trans ((pay51_at _ d).trans (hfin 2))
    · refine (row_miss 7 3 (by decide) inb_S8x1x512_S1x1x512_7_0_0 _ _ d).trans ?_
      refine (row_miss 6 3 (by decide) inb_S8x1x512_S1x1x512_6_0_0 _ _ d).trans ?_
      refine (row_miss 5 3 (by decide) inb_S8x1x512_S1x1x512_5_0_0 _ _ d).trans ?_
      refine (row_miss 4 3 (by decide) inb_S8x1x512_S1x1x512_4_0_0 _ _ d).trans ?_
      exact (row_hit 3 inb_S8x1x512_S1x1x512_3_0_0 _ _ d).trans ((pay53_at _ d).trans (hfin 3))
    · refine (row_miss 7 4 (by decide) inb_S8x1x512_S1x1x512_7_0_0 _ _ d).trans ?_
      refine (row_miss 6 4 (by decide) inb_S8x1x512_S1x1x512_6_0_0 _ _ d).trans ?_
      refine (row_miss 5 4 (by decide) inb_S8x1x512_S1x1x512_5_0_0 _ _ d).trans ?_
      exact (row_hit 4 inb_S8x1x512_S1x1x512_4_0_0 _ _ d).trans ((pay55_at _ d).trans (hfin 4))
    · refine (row_miss 7 5 (by decide) inb_S8x1x512_S1x1x512_7_0_0 _ _ d).trans ?_
      refine (row_miss 6 5 (by decide) inb_S8x1x512_S1x1x512_6_0_0 _ _ d).trans ?_
      exact (row_hit 5 inb_S8x1x512_S1x1x512_5_0_0 _ _ d).trans ((pay1_at _ d).trans (hfin 5))
    · refine (row_miss 7 6 (by decide) inb_S8x1x512_S1x1x512_7_0_0 _ _ d).trans ?_
      exact (row_hit 6 inb_S8x1x512_S1x1x512_6_0_0 _ _ d).trans ((pay3_at _ d).trans (hfin 6))
    · exact (row_hit 7 inb_S8x1x512_S1x1x512_7_0_0 _ _ d).trans ((pay5_at _ d).trans (hfin 7))

end Cert.KernelIdeal.RgBlock
-- ==== Proof.KHost.lean ====
module

public import proofs.«01_k».proof.Proof.KBlock
public import proofs.«01_k».proof.Proof.Gen.KernelIdeal.Value
public import Idealize.ShloMosaic.Lib.Pointwise
public import Idealize.ShloMosaic.Lib.StableHlo.RunRead

@[expose] public section

set_option maxRecDepth 16384

noncomputable section

/- The blocks the kernel's grid points read, as numbers of the program's arguments. -/

namespace Cert.KernelIdeal.RgHost

open Cert.KernelIdeal Cert.KernelIdeal.Gen Idealize.ShloMosaic Idealize.ShloMosaic.TcCoe Idealize.ShloMosaic.Tactic Idealize.SL.Sem Idealize.ShloMosaic.StableHlo
open Idealize.ShloMosaic.Pipeline (Dat)
open Cert.RgSpec

variable (m : (ℓ : Loc nD τ sig) → Buf (Elt Ideal) ℓ) (c : Dev nD)

/-- An entry of the identity matrix the host builds. -/
theorem eye_at (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if a = b then 1 else 0 := by
  by_cases h : a = b
  · subst h
    rw [if_pos rfl, show IntOp.cmpi CmpIPredicate.eq (IntOp.addi (BitVec.ofNat 32 a) 0#32) (BitVec.ofNat 32 a) = 1#1 from by
      interval_cases a <;> rfl]
    show (((1#1 : BitVec 1).toNat : ℝ) : EReal) = 1
    simp
  · rw [if_neg h, show IntOp.cmpi CmpIPredicate.eq (IntOp.addi (BitVec.ofNat 32 a) 0#32) (BitVec.ofNat 32 b) = 0#1 from by
      interval_cases a <;> interval_cases b <;> first | rfl | exact absurd rfl h]
    show (((0#1 : BitVec 1).toNat : ℝ) : EReal) = 0
    simp

/-- The host's form of an argument. -/
def form_v0 (x : (⟨S1x128x3x512, .f32⟩ : BufTy).Contents (Elt Ideal)) : (⟨S128x3x512, .f32⟩ : BufTy).Contents (Elt Ideal) :=
  shapeCast S128x3x512 x shapeCasts_S1x128x3x512_S128x3x512

/-- The form at an index. -/
theorem form_v0_at (x : (⟨S1x128x3x512, .f32⟩ : BufTy).Contents (Elt Ideal)) (b : Fin 128) (s : Fin 3) (d : Fin 512) : form_v0 x (ix3 b s d) = (x (ix4 0 b s d) : EReal) := by
  unfold form_v0
  pointwise

set_option maxRecDepth 65536 in
set_option maxHeartbeats 1000000 in
/-- What the host leaves in the array `main_v0`. -/
theorem host_v0 : V m c main_v0 = form_v0 (m ((c : Thread nD τ).loc main_arg1)) := by
  show StableHlo.after hostOps0 (fun b => m (c, b)) (Proc.devRef .tc main_v0) = _
  simp only [hostOps0]
  after_reads_simp
  try rfl

/-- The host's form of an argument. -/
def form_v9 (x : (⟨S1x128x512, .f32⟩ : BufTy).Contents (Elt Ideal)) : (⟨S128x1x512, .f32⟩ : BufTy).Contents (Elt Ideal) :=
  shapeCast S128x1x512 (shapeCast S128x512 x shapeCasts_S1x128x512_S128x512) shapeCasts_S128x512_S128x1x512

/-- The form at an index. -/
theorem form_v9_at (x : (⟨S1x128x512, .f32⟩ : BufTy).Contents (Elt Ideal)) (b : Fin 128) (d : Fin 512) : form_v9 x (ix3 b 0 d) = (x (ix3 0 b d) : EReal) := by
  unfold form_v9
  pointwise

set_option maxRecDepth 65536 in
set_option maxHeartbeats 1000000 in
/-- What the host leaves in the array `main_v9`. -/
theorem host_v9 : V m c main_v9 = form_v9 (m ((c : Thread nD τ).loc main_arg2)) := by
  show StableHlo.after hostOps0 (fun b => m (c, b)) (Proc.devRef .tc main_v9) = _
  simp only [hostOps0]
  after_reads_simp
  try rfl

/-- The host's form of an argument. -/
def form_v2 (x : (⟨S1x4x512, .f32⟩ : BufTy).Contents (Elt Ideal)) : (⟨S4x512, .f32⟩ : BufTy).Contents (Elt Ideal) :=
  shapeCast S4x512 x shapeCasts_S1x4x512_S4x512

/-- The form at an index. -/
theorem form_v2_at (x : (⟨S1x4x512, .f32⟩ : BufTy).Contents (Elt Ideal)) (k : Fin 4) (d : Fin 512) : form_v2 x (ix2 k d) = (x (ix3 0 k d) : EReal) := by
  unfold form_v2
  pointwise

set_option maxRecDepth 65536 in
set_option maxHeartbeats 1000000 in
/-- What the host leaves in the array `main_v2`. -/
theorem host_v2 : V m c main_v2 = form_v2 (m ((c : Thread nD τ).loc main_arg3)) := by
  show StableHlo.after hostOps0 (fun b => m (c, b)) (Proc.devRef .tc main_v2) = _
  simp only [hostOps0]
  after_reads_simp
  try rfl

/-- The host's form of an argument. -/
def form_v10 (x : (⟨S1x512, .f32⟩ : BufTy).Contents (Elt Ideal)) : (⟨S1x512, .f32⟩ : BufTy).Contents (Elt Ideal) :=
  shapeCast S1x512 (shapeCast S512 x shapeCasts_S1x512_S512) shapeCasts_S512_S1x512

/-- The form at an index. -/
theorem form_v10_at (x : (⟨S1x512, .f32⟩ : BufTy).Contents (Elt Ideal)) (d : Fin 512) : form_v10 x (ix2 0 d) = (x (ix2 0 d) : EReal) := by
  unfold form_v10
  pointwise

set_option maxRecDepth 65536 in
set_option maxHeartbeats 1000000 in
/-- What the host leaves in the array `main_v10`. -/
theorem host_v10 : V m c main_v10 = form_v10 (m ((c : Thread nD τ).loc main_arg4)) := by
  show StableHlo.after hostOps0 (fun b => m (c, b)) (Proc.devRef .tc main_v10) = _
  simp only [hostOps0]
  after_reads_simp
  try rfl

set_option maxRecDepth 65536 in
set_option maxHeartbeats 1000000 in
/-- What the host leaves in the array `main_v24`. -/
theorem host_v24 : V m c main_v24 = form_v10 (m ((c : Thread nD τ).loc main_arg6)) := by
  show StableHlo.after hostOps0 (fun b => m (c, b)) (Proc.devRef .tc main_v24) = _
  simp only [hostOps0]
  after_reads_simp
  try rfl

set_option maxRecDepth 65536 in
set_option maxHeartbeats 1000000 in
/-- What the host leaves in the array `main_v38`. -/
theorem host_v38 : V m c main_v38 = form_v10 (m ((c : Thread nD τ).loc main_arg8)) := by
  show StableHlo.after hostOps0 (fun b => m (c, b)) (Proc.devRef .tc main_v38) = _
  simp only [hostOps0]
  after_reads_simp
  try rfl

set_option maxRecDepth 65536 in
set_option maxHeartbeats 1000000 in
/-- What the host leaves in the array `main_v39`. -/
theorem host_v39 : V m c main_v39 = form_v10 (m ((c : Thread nD τ).loc main_arg9)) := by
  show StableHlo.after hostOps0 (fun b => m (c, b)) (Proc.devRef .tc main_v39) = _
  simp only [hostOps0]
  after_reads_simp
  try rfl

/-- The host's form of an argument. -/
def form_v23 (x : (⟨S1x8x64x64, .f32⟩ : BufTy).Contents (Elt Ideal)) : (⟨S512x512, .bf16⟩ : BufTy).Contents (Elt Ideal) :=
  truncf (F := Ideal) .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 (uitofp (F := Ideal) .f32 (cmpi .eq (addi (iotaInDim S8x8 32 0) (broadcastInDim S8x8 ![] bcast_S_S8x8 (constantI S_ 32 0#32))) (iotaInDim S8x8 32 1))))) (broadcastInDim S8x64x8x64 ![0, 1, 2, 3] bcast_S8x64x1x64_S8x64x8x64_0_1_2_3 (broadcastInDim S8x64x1x64 ![0, 1, 3] bcast_S8x64x64_S8x64x1x64_0_1_3 (shapeCast S8x64x64 x shapeCasts_S1x8x64x64_S8x64x64)))) shapeCasts_S8x64x8x64_S512x512) bitsLt_bf16_f32

/-- The form at an index. -/
theorem form_v23_at (x : (⟨S1x8x64x64, .f32⟩ : BufTy).Contents (Elt Ideal)) (k d : Fin 512) : form_v23 x (ix2 k d) = ((if blk k = blk d then 1 else 0) * x (ix4 0 (blk k) (low k) (low d)) : EReal) := by
  unfold form_v23
  pointwise
  rw [eye_at _ _ (by omega) (by omega)]
  have e : (blk k = blk d) = (k.val / 64 = d.val / 64) := propext ⟨fun h => congrArg Fin.val h, fun h => Fin.ext h⟩
  simp only [e]
  rfl

set_option maxRecDepth 65536 in
set_option maxHeartbeats 1000000 in
/-- What the host leaves in the array `main_v23`. -/
theorem host_v23 : V m c main_v23 = form_v23 (m ((c : Thread nD τ).loc main_arg5)) := by
  show StableHlo.after hostOps0 (fun b => m (c, b)) (Proc.devRef .tc main_v23) = _
  simp only [hostOps0]
  after_reads_simp
  try rfl

set_option maxRecDepth 65536 in
set_option maxHeartbeats 1000000 in
/-- What the host leaves in the array `main_v37`. -/
theorem host_v37 : V m c main_v37 = form_v23 (m ((c : Thread nD τ).loc main_arg7)) := by
  show StableHlo.after hostOps0 (fun b => m (c, b)) (Proc.devRef .tc main_v37) = _
  simp only [hostOps0]
  after_reads_simp
  try rfl

/-- Grid points and batch rows: point `t` works on the rows `8 t` to `8 t + 7`. -/
def row (t : Fin cfg0.N) (b : Fin 8) : Fin 128 := ⟨8 * t.val + b.val, by have h : t.val < 16 := t.isLt; omega⟩

/-- The block of window 0 at an index. -/
theorem blk0 (t : Fin cfg0.N) (b s : Fin 8) (d : Fin 512) : iblk m c 0 t (ix3 b s d) = m ((c : Thread nD τ).loc main_arg0) (ix3 (row t b) s d) := by
  have hi := (by decide +kernel : ∀ t : Fin grid0.N, win0_0.index t 0 = t.val ∧ win0_0.index t 1 = 0 ∧ win0_0.index t 2 = 0) t
  unfold iblk
  rw [View.read_apply]
  have e : V m c main_arg0 (ix3 (row t b) (s) (d)) = m ((c : Thread nD τ).loc main_arg0) (ix3 (row t b) s d) := by
    rw [V_main_arg0]
  refine Eq.trans ?_ e
  show V m c main_arg0 _ = V m c main_arg0 _
  refine congrArg (V m c main_arg0) (funext fun a => Fin.ext ?_)
  match a with
  | ⟨0, _⟩ => show win0_0.index t 0 * 8 + 1 * b.val = 8 * t.val + b.val; rw [hi.1]; try omega
  | ⟨1, _⟩ => show win0_0.index t 1 * 8 + 1 * s.val = s.val; rw [hi.2.1]; try omega
  | ⟨2, _⟩ => show win0_0.index t 2 * 512 + 1 * d.val = d.val; rw [hi.2.2]; try omega

/-- The block of window 1 at an index. -/
theorem blk1 (t : Fin cfg0.N) (b : Fin 8) (s : Fin 3) (d : Fin 512) : iblk m c 1 t (ix3 b s d) = m ((c : Thread nD τ).loc main_arg1) (ix4 0 (row t b) s d) := by
  have hi := (by decide +kernel : ∀ t : Fin grid0.N, win0_1.index t 0 = t.val ∧ win0_1.index t 1 = 0 ∧ win0_1.index t 2 = 0) t
  unfold iblk
  rw [View.read_apply]
  have e : V m c main_v0 (ix3 (row t b) (s) (d)) = m ((c : Thread nD τ).loc main_arg1) (ix4 0 (row t b) s d) := by
    rw [host_v0]; exact form_v0_at _ _ _ _
  refine Eq.trans ?_ e
  show V m c main_v0 _ = V m c main_v0 _
  refine congrArg (V m c main_v0) (funext fun a => Fin.ext ?_)
  match a with
  | ⟨0, _⟩ => show win0_1.index t 0 * 8 + 1 * b.val = 8 * t.val + b.val; rw [hi.1]; try omega
  | ⟨1, _⟩ => show win0_1.index t 1 * 3 + 1 * s.val = s.val; rw [hi.2.1]; try omega
  | ⟨2, _⟩ => show win0_1.index t 2 * 512 + 1 * d.val = d.val; rw [hi.2.2]; try omega

/-- The block of window 2 at an index. -/
theorem blk2 (t : Fin cfg0.N) (b : Fin 8) (d : Fin 512) : iblk m c 2 t (ix3 b 0 d) = m ((c : Thread nD τ).loc main_arg2) (ix3 0 (row t b) d) := by
  have hi := (by decide +kernel : ∀ t : Fin grid0.N, win0_2.index t 0 = t.val ∧ win0_2.index t 1 = 0 ∧ win0_2.index t 2 = 0) t
  unfold iblk
  rw [View.read_apply]
  have e : V m c main_v9 (ix3 (row t b) (0) (d)) = m ((c : Thread nD τ).loc main_arg2) (ix3 0 (row t b) d) := by
    rw [host_v9]; exact form_v9_at _ _ _
  refine Eq.trans ?_ e
  show V m c main_v9 _ = V m c main_v9 _
  refine congrArg (V m c main_v9) (funext fun a => Fin.ext ?_)
  match a with
  | ⟨0, _⟩ => show win0_2.index t 0 * 8 + 1 * b.val = 8 * t.val + b.val; rw [hi.1]; try omega
  | ⟨1, _⟩ => show win0_2.index t 1 * 1 + 1 * 0 = 0; rw [hi.2.1]; try omega
  | ⟨2, _⟩ => show win0_2.index t 2 * 512 + 1 * d.val = d.val; rw [hi.2.2]; try omega

/-- The block of window 3 at an index. -/
theorem blk3 (t : Fin cfg0.N) (k : Fin 4) (d : Fin 512) : iblk m c 3 t (ix2 k d) = m ((c : Thread nD τ).loc main_arg3) (ix3 0 k d) := by
  have hi := (by decide +kernel : ∀ t : Fin grid0.N, win0_3.index t 0 = 0 ∧ win0_3.index t 1 = 0) t
  unfold iblk
  rw [View.read_apply]
  have e : V m c main_v2 (ix2 (k) (d)) = m ((c : Thread nD τ).loc main_arg3) (ix3 0 k d) := by
    rw [host_v2]; exact form_v2_at _ _ _
  refine Eq.trans ?_ e
  show V m c main_v2 _ = V m c main_v2 _
  refine congrArg (V m c main_v2) (funext fun a => Fin.ext ?_)
  match a with
  | ⟨0, _⟩ => show win0_3.index t 0 * 4 + 1 * k.val = k.val; rw [hi.1]; try omega
  | ⟨1, _⟩ => show win0_3.index t 1 * 512 + 1 * d.val = d.val; rw [hi.2]; try omega

/-- The block of window 4 at an index. -/
theorem blk4 (t : Fin cfg0.N) (d : Fin 512) : iblk m c 4 t (ix2 0 d) = m ((c : Thread nD τ).loc main_arg4) (ix2 0 d) := by
  have hi := (by decide +kernel : ∀ t : Fin grid0.N, win0_4.index t 0 = 0 ∧ win0_4.index t 1 = 0) t
  unfold iblk
  rw [View.read_apply]
  have e : V m c main_v10 (ix2 (0) (d)) = m ((c : Thread nD τ).loc main_arg4) (ix2 0 d) := by
    rw [host_v10]; exact form_v10_at _ _
  refine Eq.trans ?_ e
  show V m c main_v10 _ = V m c main_v10 _
  refine congrArg (V m c main_v10) (funext fun a => Fin.ext ?_)
  match a with
  | ⟨0, _⟩ => show win0_4.index t 0 * 1 + 1 * 0 = 0; rw [hi.1]; try omega
  | ⟨1, _⟩ => show win0_4.index t 1 * 512 + 1 * d.val = d.val; rw [hi.2]; try omega

/-- The block of window 6 at an index. -/
theorem blk6 (t : Fin cfg0.N) (d : Fin 512) : iblk m c 6 t (ix2 0 d) = m ((c : Thread nD τ).loc main_arg6) (ix2 0 d) := by
  have hi := (by decide +kernel : ∀ t : Fin grid0.N, win0_6.index t 0 = 0 ∧ win0_6.index t 1 = 0) t
  unfold iblk
  rw [View.read_apply]
  have e : V m c main_v24 (ix2 (0) (d)) = m ((c : Thread nD τ).loc main_arg6) (ix2 0 d) := by
    rw [host_v24]; exact form_v10_at _ _
  refine Eq.trans ?_ e
  show V m c main_v24 _ = V m c main_v24 _
  refine congrArg (V m c main_v24) (funext fun a => Fin.ext ?_)
  match a with
  | ⟨0, _⟩ => show win0_6.index t 0 * 1 + 1 * 0 = 0; rw [hi.1]; try omega
  | ⟨1, _⟩ => show win0_6.index t 1 * 512 + 1 * d.val = d.val; rw [hi.2]; try omega

/-- The block of window 8 at an index. -/
theorem blk8 (t : Fin cfg0.N) (d : Fin 512) : iblk m c 8 t (ix2 0 d) = m ((c : Thread nD τ).loc main_arg8) (ix2 0 d) := by
  have hi := (by decide +kernel : ∀ t : Fin grid0.N, win0_8.index t 0 = 0 ∧ win0_8.index t 1 = 0) t
  unfold iblk
  rw [View.read_apply]
  have e : V m c main_v38 (ix2 (0) (d)) = m ((c : Thread nD τ).loc main_arg8) (ix2 0 d) := by
    rw [host_v38]; exact form_v10_at _ _
  refine Eq.trans ?_ e
  show V m c main_v38 _ = V m c main_v38 _
  refine congrArg (V m c main_v38) (funext fun a => Fin.ext ?_)
  match a with
  | ⟨0, _⟩ => show win0_8.index t 0 * 1 + 1 * 0 = 0; rw [hi.1]; try omega
  | ⟨1, _⟩ => show win0_8.index t 1 * 512 + 1 * d.val = d.val; rw [hi.2]; try omega

/-- The block of window 9 at an index. -/
theorem blk9 (t : Fin cfg0.N) (d : Fin 512) : iblk m c 9 t (ix2 0 d) = m ((c : Thread nD τ).loc main_arg9) (ix2 0 d) := by
  have hi := (by decide +kernel : ∀ t : Fin grid0.N, win0_9.index t 0 = 0 ∧ win0_9.index t 1 = 0) t
  unfold iblk
  rw [View.read_apply]
  have e : V m c main_v39 (ix2 (0) (d)) = m ((c : Thread nD τ).loc main_arg9) (ix2 0 d) := by
    rw [host_v39]; exact form_v10_at _ _
  refine Eq.trans ?_ e
  show V m c main_v39 _ = V m c main_v39 _
  refine congrArg (V m c main_v39) (funext fun a => Fin.ext ?_)
  match a with
  | ⟨0, _⟩ => show win0_9.index t 0 * 1 + 1 * 0 = 0; rw [hi.1]; try omega
  | ⟨1, _⟩ => show win0_9.index t 1 * 512 + 1 * d.val = d.val; rw [hi.2]; try omega

/-- The block of window 5 at an index. -/
theorem blk5 (t : Fin cfg0.N) (k d : Fin 512) : iblk m c 5 t (ix2 k d) = ((if blk k = blk d then 1 else 0) * ((m ((c : Thread nD τ).loc main_arg5) (ix4 0 (blk k) (low k) (low d)) : EReal)) : EReal) := by
  have hi := (by decide +kernel : ∀ t : Fin grid0.N, win0_5.index t 0 = 0 ∧ win0_5.index t 1 = 0) t
  unfold iblk
  rw [View.read_apply]
  have e : V m c main_v23 (ix2 (k) (d)) = ((if blk k = blk d then 1 else 0) * ((m ((c : Thread nD τ).loc main_arg5) (ix4 0 (blk k) (low k) (low d)) : EReal)) : EReal) := by
    rw [host_v23]; exact form_v23_at _ _ _
  refine Eq.trans ?_ e
  show V m c main_v23 _ = V m c main_v23 _
  refine congrArg (V m c main_v23) (funext fun a => Fin.ext ?_)
  match a with
  | ⟨0, _⟩ => show win0_5.index t 0 * 512 + 1 * k.val = k.val; rw [hi.1]; try omega
  | ⟨1, _⟩ => show win0_5.index t 1 * 512 + 1 * d.val = d.val; rw [hi.2]; try omega

/-- The block of window 7 at an index. -/
theorem blk7 (t : Fin cfg0.N) (k d : Fin 512) : iblk m c 7 t (ix2 k d) = ((if blk k = blk d then 1 else 0) * ((m ((c : Thread nD τ).loc main_arg7) (ix4 0 (blk k) (low k) (low d)) : EReal)) : EReal) := by
  have hi := (by decide +kernel : ∀ t : Fin grid0.N, win0_7.index t 0 = 0 ∧ win0_7.index t 1 = 0) t
  unfold iblk
  rw [View.read_apply]
  have e : V m c main_v37 (ix2 (k) (d)) = ((if blk k = blk d then 1 else 0) * ((m ((c : Thread nD τ).loc main_arg7) (ix4 0 (blk k) (low k) (low d)) : EReal)) : EReal) := by
    rw [host_v37]; exact form_v23_at _ _ _
  refine Eq.trans ?_ e
  show V m c main_v37 _ = V m c main_v37 _
  refine congrArg (V m c main_v37) (funext fun a => Fin.ext ?_)
  match a with
  | ⟨0, _⟩ => show win0_7.index t 0 * 512 + 1 * k.val = k.val; rw [hi.1]; try omega
  | ⟨1, _⟩ => show win0_7.index t 1 * 512 + 1 * d.val = d.val; rw [hi.2]; try omega

end Cert.KernelIdeal.RgHost

end
-- ==== Proof.KValue.lean ====
module

public import proofs.«01_k».proof.Proof.KHost

@[expose] public section

set_option maxRecDepth 16384

noncomputable section

/- The kernel's three result arrays, as numbers of the program's arguments. -/

namespace Cert.KernelIdeal.RgValue

open Cert.KernelIdeal Cert.KernelIdeal.Gen Idealize.ShloMosaic Idealize.ShloMosaic.TcCoe Idealize.ShloMosaic.Tactic Idealize.SL.Sem
open Idealize.ShloMosaic.Pipeline (Dat)
open Cert.RgSpec Cert.KernelIdeal.RgHost Cert.KernelIdeal.RgBlock Cert.KernelIdeal.RgLoop

variable (m : (ℓ : Loc nD τ sig) → Buf (Elt Ideal) ℓ) (c : Dev nD)

/-- The sequences. -/
def X (b : Fin 128) (t : Fin 8) (d : Fin 512) : EReal := m ((c : Thread nD τ).loc main_arg0) (ix3 b t d)
/-- The carried rows. -/
def B (b : Fin 128) (s : Fin 3) (d : Fin 512) : EReal := m ((c : Thread nD τ).loc main_arg1) (ix4 0 b s d)
/-- The carried state. -/
def H (b : Fin 128) (d : Fin 512) : EReal := m ((c : Thread nD τ).loc main_arg2) (ix3 0 b d)
/-- The convolution's taps. -/
def W (k : Fin 4) (d : Fin 512) : EReal := m ((c : Thread nD τ).loc main_arg3) (ix3 0 k d)
/-- The convolution's bias. -/
def bc (d : Fin 512) : EReal := m ((c : Thread nD τ).loc main_arg4) (ix2 0 d)
/-- The recurrence gate's blocks. -/
def R (g : Fin 8) (k e : Fin 64) : EReal := m ((c : Thread nD τ).loc main_arg5) (ix4 0 g k e)
/-- The recurrence gate's bias. -/
def br (d : Fin 512) : EReal := m ((c : Thread nD τ).loc main_arg6) (ix2 0 d)
/-- The input gate's blocks. -/
def Q (g : Fin 8) (k e : Fin 64) : EReal := m ((c : Thread nD τ).loc main_arg7) (ix4 0 g k e)
/-- The input gate's bias. -/
def bq (d : Fin 512) : EReal := m ((c : Thread nD τ).loc main_arg8) (ix2 0 d)
/-- The decay's parameter. -/
def lam (d : Fin 512) : EReal := m ((c : Thread nD τ).loc main_arg9) (ix2 0 d)

/-- The convolution at a token. -/
def cvK (b : Fin 128) (t : Fin 8) (d : Fin 512) : EReal := cvG (X m c) (B m c) (W m c) (bc m c) b t d
/-- The decay at a token. -/
def aK (b : Fin 128) (t : Fin 8) (d : Fin 512) : EReal := Ideal.exp (laG (cvK m c b t) (R m c) (br m c) (lam m c) d)
/-- The recurrence's input at a token. -/
def uK (b : Fin 128) (t : Fin 8) (d : Fin 512) : EReal := uG (cvK m c b t) (R m c) (br m c) (Q m c) (bq m c) (lam m c) d
/-- The state after `n` tokens. -/
def hK (b : Fin 128) (n : ℕ) (d : Fin 512) : EReal := recG (aK m c b) (uK m c b) (H m c b) n d

variable (t : Fin cfg0.N)

/-- A block's rows with the carried ones in front are the array's. -/
theorem pad_eq (b : Fin 8) (s : ℕ) (d : Fin 512) : padE (iblk m c 0 t) (iblk m c 1 t) b s d = padG (X m c) (B m c) (row t b) s d := by
  unfold padE padG
  by_cases h : s < 3
  · rw [dif_pos h, dif_pos h]; exact blk1 m c t b _ d
  · rw [dif_neg h, dif_neg h]
    by_cases h' : s < 11
    · rw [dif_pos h', dif_pos h']; exact blk0 m c t b _ d
    · rw [dif_neg h', dif_neg h']

/-- A block's convolution is the array's. -/
theorem cv_eq (b s : Fin 8) (d : Fin 512) : cvB (iblk m c 0 t) (iblk m c 1 t) (iblk m c 3 t) (iblk m c 4 t) b s d = cvK m c (row t b) s d := by
  unfold cvB cvK cvG
  rw [pad_eq, pad_eq, pad_eq, pad_eq, blk3, blk3, blk3, blk3, blk4]
  rfl

/-- The recurrence gate with the block-diagonal matrix is the gate with the blocks. -/
theorem gate_r (cv : Fin 512 → EReal) (d : Fin 512) : gateE cv (iblk m c 5 t) (iblk m c 6 t) d = gateG cv (R m c) (br m c) d := by
  unfold gateE gateG
  rw [blockdiag_sum cv (fun k => iblk m c 5 t (ix2 k d)) (R m c) d (fun k => blk5 m c t k d), blk6]
  rfl

/-- The input gate with the block-diagonal matrix is the gate with the blocks. -/
theorem gate_i (cv : Fin 512 → EReal) (d : Fin 512) : gateE cv (iblk m c 7 t) (iblk m c 8 t) d = gateG cv (Q m c) (bq m c) d := by
  unfold gateE gateG
  rw [blockdiag_sum cv (fun k => iblk m c 7 t (ix2 k d)) (Q m c) d (fun k => blk7 m c t k d), blk8]
  rfl

/-- A block's logarithm of the decay is the array's. -/
theorem la_eq (b s : Fin 8) (d : Fin 512) :
    laB (iblk m c 0 t) (iblk m c 1 t) (iblk m c 3 t) (iblk m c 4 t) (iblk m c 5 t) (iblk m c 6 t) (iblk m c 9 t) b s d
      = laG (cvK m c (row t b) s) (R m c) (br m c) (lam m c) d := by
  unfold laB laG
  rw [gate_r, blk9, show cvB (iblk m c 0 t) (iblk m c 1 t) (iblk m c 3 t) (iblk m c 4 t) b s = cvK m c (row t b) s from funext (cv_eq m c t b s)]
  rfl

/-- A block's recurrence is the array's. -/
theorem h_eq (n : ℕ) (hn : n ≤ 8) (b : Fin 8) (d : Fin 512) :
    hB (iblk m c 0 t) (iblk m c 1 t) (iblk m c 2 t) (iblk m c 3 t) (iblk m c 4 t) (iblk m c 5 t) (iblk m c 6 t) (iblk m c 7 t) (iblk m c 8 t) (iblk m c 9 t) n b d
      = hK m c (row t b) n d := by
  induction n with
  | zero => exact blk2 m c t b d
  | succ n ih =>
    have hlt : n < 8 := by omega
    unfold hB hK at ih ⊢
    rw [hRec_succ _ _ _ n hlt, recG_succ _ _ _ n hlt, ih (by omega)]
    have ea : aB (iblk m c 0 t) (iblk m c 1 t) (iblk m c 3 t) (iblk m c 4 t) (iblk m c 5 t) (iblk m c 6 t) (iblk m c 9 t) (ix3 b ⟨n, hlt⟩ d) = aK m c (row t b) ⟨n, hlt⟩ d :=
      congrArg Ideal.exp (la_eq m c t b ⟨n, hlt⟩ d)
    have eu : uB (iblk m c 0 t) (iblk m c 1 t) (iblk m c 3 t) (iblk m c 4 t) (iblk m c 5 t) (iblk m c 6 t) (iblk m c 7 t) (iblk m c 8 t) (iblk m c 9 t) (ix3 b ⟨n, hlt⟩ d) = uK m c (row t b) ⟨n, hlt⟩ d := by
      show multE (laB (iblk m c 0 t) (iblk m c 1 t) (iblk m c 3 t) (iblk m c 4 t) (iblk m c 5 t) (iblk m c 6 t) (iblk m c 9 t) b ⟨n, hlt⟩ d)
        * (gateE (cvB (iblk m c 0 t) (iblk m c 1 t) (iblk m c 3 t) (iblk m c 4 t) b ⟨n, hlt⟩) (iblk m c 7 t) (iblk m c 8 t) d
          * cvB (iblk m c 0 t) (iblk m c 1 t) (iblk m c 3 t) (iblk m c 4 t) b ⟨n, hlt⟩ d) = _
      rw [la_eq, gate_i, show cvB (iblk m c 0 t) (iblk m c 1 t) (iblk m c 3 t) (iblk m c 4 t) b ⟨n, hlt⟩ = cvK m c (row t b) ⟨n, hlt⟩ from funext (cv_eq m c t b ⟨n, hlt⟩)]
      rfl
    rw [ea, eu]

/-- The stacked states. -/
def hs : (⟨S128x8x512, .f32⟩ : BufTy).Contents (Elt Ideal) := fun i => hK m c (i 0) ((i 1).val + 1) (i 2)

/-- What a grid point leaves in result 0, at an index. -/
theorem point10 (t : Fin cfg0.N) (b : Fin 8) (s : Fin 8) (d : Fin 512) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (ix3 b s d) = hs m c (ix3 (row t b) s d) :=
  ((outs ..).1 b s d).trans (h_eq m c t (s.val + 1) (by omega) b d)

/-- What a grid point writes back is its block of result 0. -/
theorem flushed_eq10 (t : Fin cfg0.N) : (dats m 0 c).flushed 10 t = ((cfg0.win 10).blk t).view.read (Elt Ideal) (hs m c) := by
  have hi := (by decide +kernel : ∀ t : Fin grid0.N, win0_10.index t 0 = t.val ∧ win0_10.index t 1 = 0 ∧ win0_10.index t 2 = 0) t
  rw [Value.flushed10_A]
  have key : ∀ y : S8x8x512.Idx, out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) y = ((cfg0.win 10).blk t).view.read (Elt Ideal) (hs m c) y := by
    intro y
    obtain ⟨b, s, d, rfl⟩ : ∃ (b : Fin 8) (s : Fin 8) (d : Fin 512), y = ix3 b s d := ⟨y 0, y 1, y 2, (ix3_eta y).symm⟩
    rw [point10, View.read_apply]
    show hs m c _ = hs m c _
    refine congrArg (hs m c) (funext fun a => Fin.ext ?_)
    match a with
    | ⟨0, _⟩ => show 8 * t.val + b.val = win0_10.index t 0 * 8 + 1 * b.val; rw [hi.1]; omega
    | ⟨1, _⟩ => show s.val = win0_10.index t 1 * 8 + 1 * s.val; rw [hi.2.1]; omega
    | ⟨2, _⟩ => show d.val = win0_10.index t 2 * 512 + 1 * d.val; rw [hi.2.2]; omega
  exact funext key

/-- Result 0 of the kernel. -/
theorem final10 : (dats m 0 c).arrAt 10 cfg0.N = hs m c :=
  (dats m 0 c).arrAt_eq_of_cover 10 (hs m c) (fun t _ => flushed_eq10 m c t) fun i => by
    have h0 : (i 0 : ℕ) < 128 := (i 0).isLt
    have h1 : (i 1 : ℕ) < 8 := (i 1).isLt
    have h2 : (i 2 : ℕ) < 512 := (i 2).isLt
    let t : Fin cfg0.N := ⟨(i 0 : ℕ) / 8, by show (i 0 : ℕ) / 8 < 16; omega⟩
    have ht : t.val = (i 0 : ℕ) / 8 := rfl
    have hi := (by decide +kernel : ∀ t : Fin grid0.N, win0_10.index t 0 = t.val ∧ win0_10.index t 1 = 0 ∧ win0_10.index t 2 = 0) t
    have hf := (by decide +kernel : ∀ t : Fin grid0.N, win0_10.flush t = true) t
    refine ⟨t, hf, ?_⟩
    show i ∈ ((View.whole main_v40_0).slice (win0_10.rect t)).set
    rw [View.set_slice_whole, Rect.mem_set_unit]
    intro a
    match a with
    | ⟨0, _⟩ => show win0_10.index t 0 * 8 ≤ (i 0 : ℕ) ∧ (i 0 : ℕ) < win0_10.index t 0 * 8 + 8; rw [hi.1]; omega
    | ⟨1, _⟩ => show win0_10.index t 1 * 8 ≤ (i 1 : ℕ) ∧ (i 1 : ℕ) < win0_10.index t 1 * 8 + 8; rw [hi.2.1]; omega
    | ⟨2, _⟩ => show win0_10.index t 2 * 512 ≤ (i 2 : ℕ) ∧ (i 2 : ℕ) < win0_10.index t 2 * 512 + 512; rw [hi.2.2]; omega

/-- The last state. -/
def last : (⟨S128x1x512, .f32⟩ : BufTy).Contents (Elt Ideal) := fun i => hK m c (i 0) 8 (i 2)

/-- What a grid point leaves in result 1, at an index. -/
theorem point11 (t : Fin cfg0.N) (b : Fin 8) (s : Fin 1) (d : Fin 512) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (ix3 b s d) = last m c (ix3 (row t b) s d) :=
  by obtain rfl : s = 0 := Subsingleton.elim _ _; exact ((outs ..).2 b d).trans (h_eq m c t 8 le_rfl b d)

/-- What a grid point writes back is its block of result 1. -/
theorem flushed_eq11 (t : Fin cfg0.N) : (dats m 0 c).flushed 11 t = ((cfg0.win 11).blk t).view.read (Elt Ideal) (last m c) := by
  have hi := (by decide +kernel : ∀ t : Fin grid0.N, win0_11.index t 0 = t.val ∧ win0_11.index t 1 = 0 ∧ win0_11.index t 2 = 0) t
  rw [Value.flushed11_A]
  have key : ∀ y : S8x1x512.Idx, out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) y = ((cfg0.win 11).blk t).view.read (Elt Ideal) (last m c) y := by
    intro y
    obtain ⟨b, s, d, rfl⟩ : ∃ (b : Fin 8) (s : Fin 1) (d : Fin 512), y = ix3 b s d := ⟨y 0, y 1, y 2, (ix3_eta y).symm⟩
    rw [point11, View.read_apply]
    show last m c _ = last m c _
    refine congrArg (last m c) (funext fun a => Fin.ext ?_)
    match a with
    | ⟨0, _⟩ => show 8 * t.val + b.val = win0_11.index t 0 * 8 + 1 * b.val; rw [hi.1]; omega
    | ⟨1, _⟩ => show s.val = win0_11.index t 1 * 1 + 1 * s.val; rw [hi.2.1]; omega
    | ⟨2, _⟩ => show d.val = win0_11.index t 2 * 512 + 1 * d.val; rw [hi.2.2]; omega
  exact funext key

/-- Result 1 of the kernel. -/
theorem final11 : (dats m 0 c).arrAt 11 cfg0.N = last m c :=
  (dats m 0 c).arrAt_eq_of_cover 11 (last m c) (fun t _ => flushed_eq11 m c t) fun i => by
    have h0 : (i 0 : ℕ) < 128 := (i 0).isLt
    have h1 : (i 1 : ℕ) < 1 := (i 1).isLt
    have h2 : (i 2 : ℕ) < 512 := (i 2).isLt
    let t : Fin cfg0.N := ⟨(i 0 : ℕ) / 8, by show (i 0 : ℕ) / 8 < 16; omega⟩
    have ht : t.val = (i 0 : ℕ) / 8 := rfl
    have hi := (by decide +kernel : ∀ t : Fin grid0.N, win0_11.index t 0 = t.val ∧ win0_11.index t 1 = 0 ∧ win0_11.index t 2 = 0) t
    have hf := (by decide +kernel : ∀ t : Fin grid0.N, win0_11.flush t = true) t
    refine ⟨t, hf, ?_⟩
    show i ∈ ((View.whole main_v40_1).slice (win0_11.rect t)).set
    rw [View.set_slice_whole, Rect.mem_set_unit]
    intro a
    match a with
    | ⟨0, _⟩ => show win0_11.index t 0 * 8 ≤ (i 0 : ℕ) ∧ (i 0 : ℕ) < win0_11.index t 0 * 8 + 8; rw [hi.1]; omega
    | ⟨1, _⟩ => show win0_11.index t 1 * 1 ≤ (i 1 : ℕ) ∧ (i 1 : ℕ) < win0_11.index t 1 * 1 + 1; rw [hi.2.1]; omega
    | ⟨2, _⟩ => show win0_11.index t 2 * 512 ≤ (i 2 : ℕ) ∧ (i 2 : ℕ) < win0_11.index t 2 * 512 + 512; rw [hi.2.2]; omega

/-- The rows carried on. -/
def rows : (⟨S128x3x512, .f32⟩ : BufTy).Contents (Elt Ideal) := fun i => padG (X m c) (B m c) (i 0) (8 + (i 1).val) (i 2)

/-- What a grid point leaves in result 2, at an index. -/
theorem point12 (t : Fin cfg0.N) (b : Fin 8) (s : Fin 3) (d : Fin 512) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (ix3 b s d) = rows m c (ix3 (row t b) s d) :=
  (out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) b s d).trans (pad_eq m c t b (8 + s.val) d)

/-- What a grid point writes back is its block of result 2. -/
theorem flushed_eq12 (t : Fin cfg0.N) : (dats m 0 c).flushed 12 t = ((cfg0.win 12).blk t).view.read (Elt Ideal) (rows m c) := by
  have hi := (by decide +kernel : ∀ t : Fin grid0.N, win0_12.index t 0 = t.val ∧ win0_12.index t 1 = 0 ∧ win0_12.index t 2 = 0) t
  rw [Value.flushed12_A]
  have key : ∀ y : S8x3x512.Idx, out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) y = ((cfg0.win 12).blk t).view.read (Elt Ideal) (rows m c) y := by
    intro y
    obtain ⟨b, s, d, rfl⟩ : ∃ (b : Fin 8) (s : Fin 3) (d : Fin 512), y = ix3 b s d := ⟨y 0, y 1, y 2, (ix3_eta y).symm⟩
    rw [point12, View.read_apply]
    show rows m c _ = rows m c _
    refine congrArg (rows m c) (funext fun a => Fin.ext ?_)
    match a with
    | ⟨0, _⟩ => show 8 * t.val + b.val = win0_12.index t 0 * 8 + 1 * b.val; rw [hi.1]; omega
    | ⟨1, _⟩ => show s.val = win0_12.index t 1 * 3 + 1 * s.val; rw [hi.2.1]; omega
    | ⟨2, _⟩ => show d.val = win0_12.index t 2 * 512 + 1 * d.val; rw [hi.2.2]; omega
  exact funext key

/-- Result 2 of the kernel. -/
theorem final12 : (dats m 0 c).arrAt 12 cfg0.N = rows m c :=
  (dats m 0 c).arrAt_eq_of_cover 12 (rows m c) (fun t _ => flushed_eq12 m c t) fun i => by
    have h0 : (i 0 : ℕ) < 128 := (i 0).isLt
    have h1 : (i 1 : ℕ) < 3 := (i 1).isLt
    have h2 : (i 2 : ℕ) < 512 := (i 2).isLt
    let t : Fin cfg0.N := ⟨(i 0 : ℕ) / 8, by show (i 0 : ℕ) / 8 < 16; omega⟩
    have ht : t.val = (i 0 : ℕ) / 8 := rfl
    have hi := (by decide +kernel : ∀ t : Fin grid0.N, win0_12.index t 0 = t.val ∧ win0_12.index t 1 = 0 ∧ win0_12.index t 2 = 0) t
    have hf := (by decide +kernel : ∀ t : Fin grid0.N, win0_12.flush t = true) t
    refine ⟨t, hf, ?_⟩
    show i ∈ ((View.whole main_v40_2).slice (win0_12.rect t)).set
    rw [View.set_slice_whole, Rect.mem_set_unit]
    intro a
    match a with
    | ⟨0, _⟩ => show win0_12.index t 0 * 8 ≤ (i 0 : ℕ) ∧ (i 0 : ℕ) < win0_12.index t 0 * 8 + 8; rw [hi.1]; omega
    | ⟨1, _⟩ => show win0_12.index t 1 * 3 ≤ (i 1 : ℕ) ∧ (i 1 : ℕ) < win0_12.index t 1 * 3 + 3; rw [hi.2.1]; omega
    | ⟨2, _⟩ => show win0_12.index t 2 * 512 ≤ (i 2 : ℕ) ∧ (i 2 : ℕ) < win0_12.index t 2 * 512 + 512; rw [hi.2.2]; omega

end Cert.KernelIdeal.RgValue

end
-- ==== Proof.RefVal.lean ====
module

public import proofs.«01_k».proof.Proof.Gen.ReferenceIdeal.Step
public import Idealize.ShloMosaic.Lib.Pointwise
public import proofs.«01_k».proof.Proof.Spec

@[expose] public section

set_option maxRecDepth 16384

noncomputable section

/- What the reference computes, as numbers of its arguments. -/

namespace Cert.ReferenceIdeal.RgRef

open Idealize.ShloMosaic Idealize.ShloMosaic.Tactic
open Cert.ReferenceIdeal Cert.ReferenceIdeal.Gen Cert.ReferenceIdeal.Step
open Cert.RgSpec

variable (x0 : (⟨S128x8x512, .f32⟩ : BufTy).Contents (Elt Ideal)) (x1 : (⟨S1x128x3x512, .f32⟩ : BufTy).Contents (Elt Ideal))
  (x2 : (⟨S1x128x512, .f32⟩ : BufTy).Contents (Elt Ideal)) (x3 : (⟨S1x4x512, .f32⟩ : BufTy).Contents (Elt Ideal))
  (x4 : (⟨S1x512, .f32⟩ : BufTy).Contents (Elt Ideal)) (x5 : (⟨S1x8x64x64, .f32⟩ : BufTy).Contents (Elt Ideal))
  (x6 : (⟨S1x512, .f32⟩ : BufTy).Contents (Elt Ideal)) (x7 : (⟨S1x8x64x64, .f32⟩ : BufTy).Contents (Elt Ideal))
  (x8 x9 : (⟨S1x512, .f32⟩ : BufTy).Contents (Elt Ideal))

/-- The convolution at a token. -/
abbrev cvR (b : Fin 128) (t : Fin 8) (d : Fin 512) : EReal :=
  cvG (fun b t d => x0 (ix3 b t d)) (fun b s d => x1 (ix4 0 b s d)) (fun k d => x3 (ix3 0 k d)) (fun d => x4 (ix2 0 d)) b t d

/-- The decay at a token. -/
abbrev aR (b : Fin 128) (t : Fin 8) (d : Fin 512) : EReal :=
  Ideal.exp (laG (cvR x0 x1 x3 x4 b t) (fun g k e => x5 (ix4 0 g k e)) (fun d => x6 (ix2 0 d)) (fun d => x9 (ix2 0 d)) d)

/-- The recurrence's input at a token. -/
abbrev uR (b : Fin 128) (t : Fin 8) (d : Fin 512) : EReal :=
  uG (cvR x0 x1 x3 x4 b t) (fun g k e => x5 (ix4 0 g k e)) (fun d => x6 (ix2 0 d)) (fun g k e => x7 (ix4 0 g k e)) (fun d => x8 (ix2 0 d)) (fun d => x9 (ix2 0 d)) d

/-- The state after `n` tokens. -/
abbrev hR (b : Fin 128) (n : ℕ) (d : Fin 512) : EReal :=
  recG (aR x0 x1 x3 x4 x5 x6 x9 b) (uR x0 x1 x3 x4 x5 x6 x7 x8 x9 b) (fun d => x2 (ix3 0 b d)) n d

/-- The carried rows and the tokens, joined. -/
theorem v4_at (b : Fin 128) (s : ℕ) (hs : s < 11) (d : Fin 512) :
    A_main_v4 (F := Ideal) x0 x1 x2 x3 x4 x5 x6 x7 x8 x9 (ix3 b ⟨s, hs⟩ d)
      = padG (fun b t d => x0 (ix3 b t d)) (fun b s d => x1 (ix4 0 b s d)) b s d := by
  unfold A_main_v4 A_main_v3
  pointwise
  unfold padG
  by_cases h : s < 3
  · rw [dif_pos h, dif_pos h]
  · rw [dif_neg h, dif_neg h, dif_pos hs]

/-- The reference's convolution. -/
theorem v34_at (b : Fin 128) (t : Fin 8) (d : Fin 512) :
    A_main_v34 (F := Ideal) x0 x1 x2 x3 x4 x5 x6 x7 x8 x9 (ix3 b t d) = cvR x0 x1 x3 x4 b t d := by
  unfold A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v9 A_main_v8 A_main_v7 A_main_v6 A_main_v5 A_main_v1 A_main_v0
  pointwise
  simp only [v4_at]
  unfold cvR cvG cvE
  rw [Nat.add_comm 1 t.val, Nat.add_comm 2 t.val, Nat.add_comm 3 t.val]
  have e : ∀ q0 q1 q2 q3 a : EReal, q0 + q1 + q2 + q3 + a = a + q0 + q1 + q2 + q3 := by intros; ac_rfl
  exact e _ _ _ _ _

/-- The reference's product with a gate's blocks. -/
theorem v39_at (b : Fin 128) (t : Fin 8) (d : Fin 512) :
    A_main_v39 (F := Ideal) x0 x1 x2 x3 x4 x5 x6 x7 x8 x9 (ix3 b t d)
      = ∑ k : Fin 64, cvR x0 x1 x3 x4 b t (chan (blk d) k) * x5 (ix4 0 (blk d) k (low d)) := by
  unfold A_main_v39 A_main_v38 A_main_v37 A_main_v36 A_main_v35
  pointwise
  refine Finset.sum_congr rfl fun k _ => ?_
  rw [v34_at, mul_comm]
  rfl

/-- The same for the second gate. -/
theorem v53_at (b : Fin 128) (t : Fin 8) (d : Fin 512) :
    A_main_v53 (F := Ideal) x0 x1 x2 x3 x4 x5 x6 x7 x8 x9 (ix3 b t d)
      = ∑ k : Fin 64, cvR x0 x1 x3 x4 b t (chan (blk d) k) * x7 (ix4 0 (blk d) k (low d)) := by
  unfold A_main_v53 A_main_v52 A_main_v51 A_main_v50 A_main_v35
  pointwise
  refine Finset.sum_congr rfl fun k _ => ?_
  rw [v34_at, mul_comm]
  rfl

/-- The recurrence gate. -/
theorem v49_at (b : Fin 128) (t : Fin 8) (d : Fin 512) :
    A_main_v49 (F := Ideal) x0 x1 x2 x3 x4 x5 x6 x7 x8 x9 (ix3 b t d)
      = gateG (cvR x0 x1 x3 x4 b t) (fun g k e => x5 (ix4 0 g k e)) (fun d => x6 (ix2 0 d)) d := by
  unfold A_main_v49 A_main_v47 A_main_v45 A_main_v44 A_main_v43 A_main_v42 A_main_v41 A_main_v40 K_main_v48 K_main_v46 K_main_cst_0 K_main_cst
  pointwise
  rw [v39_at]
  rfl

/-- The input gate. -/
theorem v63_at (b : Fin 128) (t : Fin 8) (d : Fin 512) :
    A_main_v63 (F := Ideal) x0 x1 x2 x3 x4 x5 x6 x7 x8 x9 (ix3 b t d)
      = gateG (cvR x0 x1 x3 x4 b t) (fun g k e => x7 (ix4 0 g k e)) (fun d => x8 (ix2 0 d)) d := by
  unfold A_main_v63 A_main_v61 A_main_v59 A_main_v58 A_main_v57 A_main_v56 A_main_v55 A_main_v54 K_main_v62 K_main_v60 K_main_cst_1 K_main_cst_2
  pointwise
  rw [v53_at]
  rfl

/-- The logarithm of the decay. -/
theorem v70_at (b : Fin 128) (t : Fin 8) (d : Fin 512) :
    A_main_v70 (F := Ideal) x0 x1 x2 x3 x4 x5 x6 x7 x8 x9 (ix3 b t d)
      = laG (cvR x0 x1 x3 x4 b t) (fun g k e => x5 (ix4 0 g k e)) (fun d => x6 (ix2 0 d)) (fun d => x9 (ix2 0 d)) d := by
  unfold A_main_v70 A_main_v69 A_main_v68 A_main_v67 A_main_v65 A_main_call0_v11 A_main_call0_v10 A_main_call0_v9 A_main_call0_v8 A_main_call0_v7 A_main_call0_v6 A_main_call0_v4 A_main_call0_v3 A_main_call0_v1 A_main_v66 A_main_v2 K_main_call0_v0 K_main_call0_v2 K_main_call0_v5 K_main_call0_cst K_main_v64 K_main_cst_3
  pointwise
  rw [v49_at]
  unfold laG laE spE
  rw [if_neg (not_not.mpr rfl)]
  simp only [zero_sub]

/-- The decay. -/
theorem v80_at (b : Fin 128) (t : Fin 8) (d : Fin 512) :
    A_main_v80 (F := Ideal) x0 x1 x2 x3 x4 x5 x6 x7 x8 x9 (ix3 t b d) = aR x0 x1 x3 x4 x5 x6 x9 b t d := by
  unfold A_main_v80 A_main_v71
  pointwise
  rw [v70_at]

/-- The recurrence's input. -/
theorem v81_at (b : Fin 128) (t : Fin 8) (d : Fin 512) :
    A_main_v81 (F := Ideal) x0 x1 x2 x3 x4 x5 x6 x7 x8 x9 (ix3 t b d) = uR x0 x1 x3 x4 x5 x6 x7 x8 x9 b t d := by
  unfold A_main_v81 A_main_v78 A_main_v77 A_main_v76 A_main_v75 A_main_v74 A_main_v73 K_main_v72 K_main_cst_4
  pointwise
  rw [v70_at, v63_at, v34_at]
  have h2 : Ideal.ofBits FTy.f32 1073741824#32 = 2 := by
    simp [Ideal.ofBits, Ideal.ieee, -EReal.coe_mul]; norm_num; rfl
  rw [h2, ← mult_eq]
  rfl

/-- Where a trip's slice starts. -/
theorem start0 (j : ℕ) (hj : j < 8) (h : S8x128x512.rank = S1x128x512.rank) :
    Host.clampedStart S8x128x512 S1x128x512 h (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 0 = j := by
  interval_cases j <;> rfl

theorem start1 (j : ℕ) (hj : j < 8) (h : S8x128x512.rank = S1x128x512.rank) :
    Host.clampedStart S8x128x512 S1x128x512 h (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 1 = 0 := by
  interval_cases j <;> rfl

theorem start2 (j : ℕ) (hj : j < 8) (h : S8x128x512.rank = S1x128x512.rank) :
    Host.clampedStart S8x128x512 S1x128x512 h (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 2 = 0 := by
  interval_cases j <;> rfl

/-- One trip's new state. -/
theorem b9_at (j : ℕ) (hj : j < 8) (s : State Ideal) (b : Fin 128) (d : Fin 512) :
    b9 j s (ix2 b d) = s.main_v83_0 (ix3 ⟨j, hj⟩ b d) * s.main_v83_3 (ix2 b d) + s.main_v83_1 (ix3 ⟨j, hj⟩ b d) := by
  unfold b9 b8 b7 b6 b5 b4 b3 b2 b1 b0
  pointwise
  simp only [start0 j hj, start1 j hj, start2 j hj, Nat.zero_add]

/-- One trip's new stack of states. -/
theorem b13_at (j : ℕ) (hj : j < 8) (s : State Ideal) (t : Fin 8) (b : Fin 128) (d : Fin 512) :
    b13 j s (ix3 t b d) = if t.val = j then b9 j s (ix2 b d) else s.main_v83_4 (ix3 t b d) := by
  unfold b13 b12 b11 b10
  pointwise
  simp only [start0 j hj, start1 j hj, start2 j hj, Nat.zero_le, and_true, Nat.sub_zero, dite_eq_ite]
  by_cases e : t.val = j
  · rw [if_pos e]; exact dif_pos ⟨by omega, by omega⟩
  · rw [if_neg e]; exact dif_neg (by omega)

/-- The states the loop goes through. -/
def it : ℕ → State Ideal
  | 0 => init x0 x1 x2 x3 x4 x5 x6 x7 x8 x9
  | n + 1 => step n (it n)

/-- What a state holds before trip `n`. -/
theorem it_at : ∀ n ≤ 8,
    (it x0 x1 x2 x3 x4 x5 x6 x7 x8 x9 n).main_v83_0 = A_main_v80 x0 x1 x2 x3 x4 x5 x6 x7 x8 x9
    ∧ (it x0 x1 x2 x3 x4 x5 x6 x7 x8 x9 n).main_v83_1 = A_main_v81 x0 x1 x2 x3 x4 x5 x6 x7 x8 x9
    ∧ (∀ b d, (it x0 x1 x2 x3 x4 x5 x6 x7 x8 x9 n).main_v83_3 (ix2 b d) = hR x0 x1 x2 x3 x4 x5 x6 x7 x8 x9 b n d)
    ∧ (∀ (t : Fin 8) b d, t.val < n → (it x0 x1 x2 x3 x4 x5 x6 x7 x8 x9 n).main_v83_4 (ix3 t b d) = hR x0 x1 x2 x3 x4 x5 x6 x7 x8 x9 b (t.val + 1) d)
  | 0, _ => by
    refine ⟨rfl, rfl, fun b d => ?_, fun t b d h => absurd h (Nat.not_lt_zero _)⟩
    show A_main_v79 x0 x1 x2 x3 x4 x5 x6 x7 x8 x9 (ix2 b d) = x2 (ix3 0 b d)
    unfold A_main_v79
    pointwise
  | n + 1, hn => by
    obtain ⟨h0, h1, h3, h4⟩ := it_at n (by omega)
    have hlt : n < 8 := hn
    have h9 : ∀ b d, b9 n (it x0 x1 x2 x3 x4 x5 x6 x7 x8 x9 n) (ix2 b d) = hR x0 x1 x2 x3 x4 x5 x6 x7 x8 x9 b (n + 1) d := by
      intro b d
      rw [b9_at n hlt, h0, h1, h3, v80_at, v81_at]
      exact (recG_succ _ _ _ n hlt d).symm
    refine ⟨h0, h1, h9, fun t b d ht => ?_⟩
    show b13 n (it x0 x1 x2 x3 x4 x5 x6 x7 x8 x9 n) (ix3 t b d) = _
    rw [b13_at n hlt]
    by_cases e : t.val = n
    · rw [if_pos e, h9, e]
    · rw [if_neg e, h4 t b d (by omega)]

/-- The reference's states. -/
theorem R87_at (b : Fin 128) (t : Fin 8) (d : Fin 512) :
    R_main_v87 (it x0 x1 x2 x3 x4 x5 x6 x7 x8 x9 8) (ix3 b t d) = hR x0 x1 x2 x3 x4 x5 x6 x7 x8 x9 b (t.val + 1) d := by
  unfold R_main_v87
  pointwise
  exact (it_at x0 x1 x2 x3 x4 x5 x6 x7 x8 x9 8 le_rfl).2.2.2 t b d t.isLt

/-- The reference's last state. -/
theorem R88_at (b : Fin 128) (d : Fin 512) :
    R_main_v88 (it x0 x1 x2 x3 x4 x5 x6 x7 x8 x9 8) (ix3 b 0 d) = hR x0 x1 x2 x3 x4 x5 x6 x7 x8 x9 b 8 d := by
  unfold R_main_v88
  pointwise
  exact (it_at x0 x1 x2 x3 x4 x5 x6 x7 x8 x9 8 le_rfl).2.2.1 b d

/-- The reference's carried rows. -/
theorem R86_at (st : State Ideal) (b : Fin 128) (s : Fin 3) (d : Fin 512) :
    R_main_v86 st x0 x1 (ix3 b s d) = padG (fun b t d => x0 (ix3 b t d)) (fun b s d => x1 (ix4 0 b s d)) b (8 + s.val) d := by
  unfold R_main_v86
  pointwise
  unfold padG
  have hs := s.isLt
  refine (dif_neg (by omega : ¬ 8 + s.val < 3)).trans ?_
  exact ((dif_neg (by omega : ¬ 8 + s.val < 3)).trans (dif_pos (by omega : 8 + s.val < 11))).symm

end Cert.ReferenceIdeal.RgRef

end
-- ==== Proof.RefRun.lean ====
/- The reference's run told as a sequence of loop states: what every trip of the scan leaves, and the three results of it. -/
module

public import proofs.«01_k».proof.Proof.Gen.ReferenceIdeal.Run
public import proofs.«01_k».proof.Proof.Gen.ReferenceIdeal.Step

@[expose] public section

set_option maxRecDepth 16384

noncomputable section

namespace Cert.ReferenceIdeal.RgRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The loop's buffers contain the state `s` before trip number `j`. -/
structure At (W : Valuation τ sig (Elt F)) (s : State F) (j : ℕ) : Prop where
  decay : W (Proc.devRef .tc main_v83_0) = s.main_v83_0
  input : W (Proc.devRef .tc main_v83_1) = s.main_v83_1
  count : W (Proc.devRef .tc main_v83_2) = constantI S_ 32 (BitVec.ofNat 32 j)
  carry : W (Proc.devRef .tc main_v83_3) = s.main_v83_3
  stack : W (Proc.devRef .tc main_v83_4) = s.main_v83_4

variable {W : Valuation τ sig (Elt F)} {s : State F} {j : ℕ}

/-- The new state vector of a trip. -/
theorem new_carry (h : At W s j) : res_main_while0b_v92 W = b9 j s := by
  unfold res_main_while0b_v92 b9 b8 b7 b6 b5 b4 b3 b2 b1 b0
  rw [h.decay, h.input, h.count, h.carry]
  rfl

/-- The new stack of state vectors of a trip. -/
theorem new_stack (h : At W s j) : Value.step_main_v83_4 W = b13 j s := by
  unfold Value.step_main_v83_4 b13 b12 b11 b10
  rw [new_carry h, h.count, h.stack]
  rfl

/-- The new counter of a trip. -/
theorem new_count (h : At W s j) : Value.step_main_v83_2 W = constantI S_ 32 (BitVec.ofNat 32 (j + 1)) := by
  unfold Value.step_main_v83_2
  rw [h.count]
  funext i
  exact (BitVec.ofNat_add j 1).symm

/-- One trip takes a state to the next. -/
theorem next (h : At W s j) : At (STEP W) (step j s) (j + 1) where
  decay := (STEP_main_v83_0 W).trans h.decay
  input := (STEP_main_v83_1 W).trans h.input
  count := (STEP_main_v83_2 W).trans (new_count h)
  carry := (STEP_main_v83_3 W).trans (new_carry h)
  stack := (STEP_main_v83_4 W).trans (new_stack h)

variable (m : (ℓ : Loc nD τ sig) → Buf (Elt F) ℓ) (c : Dev nD)

/-- The state before the first trip. -/
abbrev first : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

set_option maxRecDepth 65536 in
set_option maxHeartbeats 1000000 in
/-- The operations before the loop leave the first state. -/
theorem at_first : At (entryContents preI m c) (first m c) 0 := by
  refine ⟨?_, ?_, ?_, ?_, ?_⟩ <;> simp only [entryContents, afterL_cons, afterL_nil] <;> after_reads_simp <;> rfl

/-- After `k` trips the buffers contain the `k`-th state. -/
theorem at_trip (it : ℕ → State F) (h0 : it 0 = first m c) (hs : ∀ n, it (n + 1) = step n (it n)) (k : ℕ) :
    At (STEP^[k] (entryContents preI m c)) (it k) k := by
  induction k with
  | zero => rw [h0]; exact at_first m c
  | succ k ih => rw [Function.iterate_succ_apply', hs]; exact next ih

/-- The stacked result, of the last state. -/
theorem out87 (h : At W s j) : out_main_v87 W = R_main_v87 s := by
  unfold out_main_v87 R_main_v87
  rw [h.stack]

/-- The last state vector, of the last state. -/
theorem out88 (h : At W s j) : out_main_v88 W = R_main_v88 s := by
  unfold out_main_v88 R_main_v88
  rw [h.carry]

end Cert.ReferenceIdeal.RgRun

end
-- ==== Proof.Join.lean ====
module

public import proofs.«01_k».proof.Proof.KValue
public import proofs.«01_k».proof.Proof.RefVal
public import proofs.«01_k».proof.Proof.RefRun

@[expose] public section

set_option maxRecDepth 16384

noncomputable section

/- The reference's three results are the kernel's, from memories that agree on the arguments. -/

namespace Cert.RgJoin

open Idealize.ShloMosaic Idealize.ShloMosaic.TcCoe Idealize.ShloMosaic.Tactic Idealize.SL.Sem
open Cert.RgSpec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories agree on the arguments of one device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- The reference's loop after eight trips. -/
abbrev last : Cert.ReferenceIdeal.Step.State Ideal :=
  Cert.ReferenceIdeal.RgRef.it (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) 8

/-- The reference's buffers contain the loop's last state. -/
theorem at_last : Cert.ReferenceIdeal.RgRun.At (Cert.ReferenceIdeal.Value.STEP^[8] (StableHlo.entryContents Cert.ReferenceIdeal.Value.preI m' c)) (last m' c) 8 :=
  Cert.ReferenceIdeal.RgRun.at_trip m' c (Cert.ReferenceIdeal.RgRef.it (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) rfl (fun _ => rfl) 8

/-- The reference's state after `n` tokens is the kernel's. -/
theorem h_eq (h : Agree m m' c) (b : Fin 128) (n : ℕ) (d : Fin 512) :
    Cert.ReferenceIdeal.RgRef.hR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) b n d = Cert.KernelIdeal.RgValue.hK m c b n d := by
  obtain ⟨h0, h1, h2, h3, h4, h5, h6, h7, h8, h9⟩ := h
  rw [h0, h1, h2, h3, h4, h5, h6, h7, h8, h9]
  rfl

/-- The stacked states. -/
theorem hs_eq (h : Agree m m' c) : Cert.ReferenceIdeal.Value.out_main_v87 (Cert.ReferenceIdeal.Value.STEP^[8] (StableHlo.entryContents Cert.ReferenceIdeal.Value.preI m' c)) = Cert.KernelIdeal.RgValue.hs m c := by
  rw [Cert.ReferenceIdeal.RgRun.out87 (at_last m' c)]
  refine funext fun i => ?_
  obtain ⟨b, t, d, rfl⟩ : ∃ (b : Fin 128) (t : Fin 8) (d : Fin 512), i = ix3 b t d := ⟨i 0, i 1, i 2, (ix3_eta i).symm⟩
  exact (Cert.ReferenceIdeal.RgRef.R87_at _ _ _ _ _ _ _ _ _ _ b t d).trans (h_eq m m' c h b (t.val + 1) d)

/-- The last state. -/
theorem last_eq (h : Agree m m' c) : Cert.ReferenceIdeal.Value.out_main_v88 (Cert.ReferenceIdeal.Value.STEP^[8] (StableHlo.entryContents Cert.ReferenceIdeal.Value.preI m' c)) = Cert.KernelIdeal.RgValue.last m c := by
  rw [Cert.ReferenceIdeal.RgRun.out88 (at_last m' c)]
  refine funext fun i => ?_
  obtain ⟨b, t, d, rfl⟩ : ∃ (b : Fin 128) (t : Fin 1) (d : Fin 512), i = ix3 b t d := ⟨i 0, i 1, i 2, (ix3_eta i).symm⟩
  obtain rfl : t = 0 := Subsingleton.elim _ _
  exact (Cert.ReferenceIdeal.RgRef.R88_at _ _ _ _ _ _ _ _ _ _ b d).trans (h_eq m m' c h b 8 d)

/-- The rows carried on. -/
theorem rows_eq (h : Agree m m' c) : Cert.ReferenceIdeal.Value.out_main_v86 (Cert.ReferenceIdeal.Value.STEP^[8] (StableHlo.entryContents Cert.ReferenceIdeal.Value.preI m' c)) = Cert.KernelIdeal.RgValue.rows m c := by
  refine funext fun i => ?_
  obtain ⟨b, t, d, rfl⟩ : ∃ (b : Fin 128) (t : Fin 3) (d : Fin 512), i = ix3 b t d := ⟨i 0, i 1, i 2, (ix3_eta i).symm⟩
  have e : Cert.ReferenceIdeal.Value.out_main_v86 (Cert.ReferenceIdeal.Value.STEP^[8] (StableHlo.entryContents Cert.ReferenceIdeal.Value.preI m' c))
      = Cert.ReferenceIdeal.Step.R_main_v86 (last m' c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) := by
    unfold Cert.ReferenceIdeal.Value.out_main_v86 Cert.ReferenceIdeal.Step.R_main_v86
    rw [Cert.ReferenceIdeal.Value.iter_main_arg0 m' c 8, Cert.ReferenceIdeal.Value.iter_main_arg1 m' c 8]
  rw [e]
  refine (Cert.ReferenceIdeal.RgRef.R86_at _ _ _ b t d).trans ?_
  rw [h.1, h.2.1]
  rfl

end Cert.RgJoin

end
-- ==== Proof.Dense.lean ====
module

public import Idealize.ShloMosaic.PureOps.Ideal

@[expose] public section

noncomputable section

/- The dense parts of the layer as numbers: a normalised row, its product with a matrix, and the gated sum of two branches. -/

namespace Cert.Dense

open Idealize.ShloMosaic

/-- A row of 1024 numbers divided by its root mean square, times the gains. -/
def normR (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- One entry of a row's product with a matrix's column. -/
def dotR {n : ℕ} (u w : Fin n → EReal) : EReal := ∑ k : Fin n, u k * w k

/-- One column of a normalised row's product with a matrix. -/
def projR (x g w : Fin 1024 → EReal) : EReal := dotR (normR x g) w

/-- The residual row plus the output projection of the two gated branches. -/
def mixR (x gl ga : Fin 1024 → EReal) (hs att : Fin 512 → EReal) (wl wa : Fin 512 → Fin 1024 → EReal) (wm : Fin 1024 → EReal) (d : Fin 1024) : EReal :=
  x d + ∑ k : Fin 1024, (gl k * dotR hs (fun j => wl j k) + ga k * dotR att (fun j => wa j k)) * wm k

end Cert.Dense

end
-- ==== Proof.CrossSpec.lean ====
module

public import proofs.«01_k».proof.Proof.Dense

@[expose] public section

noncomputable section

/- One row of attention over 256 keys as numbers, and the two orders in which it may be normalised. -/

namespace Cert.Dense

open Idealize.ShloMosaic

/-- A query's scores against the keys: their products, scaled. -/
def scoreR (q : Fin 128 → EReal) (k : Fin 256 → Fin 128 → EReal) (j : Fin 256) : EReal :=
  dotR q (k j) * Ideal.ofBits FTy.f32 1035273459#32

/-- The largest score of a row. -/
def topR (s : Fin 256 → EReal) : EReal := Finset.fold max (Ideal.ofBits FTy.f32 4286578688#32) s Finset.univ

/-- A key's weight before it is normalised. -/
def weightR (s : Fin 256 → EReal) (j : Fin 256) : EReal := Ideal.exp (s j - topR s)

/-- The weighted sum of the values, divided by the sum of the weights. -/
def attnR (s v : Fin 256 → EReal) : EReal := Ideal.div (∑ j : Fin 256, weightR s j * v j) (∑ j : Fin 256, weightR s j)

/-- The column of a head's lane. -/
def col (h : Fin 4) (d : Fin 128) : Fin 512 := ⟨128 * h.val + d.val, by have := h.isLt; have := d.isLt; omega⟩

/-- The head of a column. -/
def headOf (c : Fin 512) : Fin 4 := ⟨c.val / 128, by have := c.isLt; omega⟩

/-- The lane of a column within its head. -/
def laneOf (c : Fin 512) : Fin 128 := ⟨c.val % 128, by omega⟩

/-- A column is its head's lane. -/
theorem col_eta (c : Fin 512) : col (headOf c) (laneOf c) = c := Fin.ext (by show 128 * (c.val / 128) + c.val % 128 = c.val; omega)

/-- One column of a token's attention over its memory: the attention of the column's head. -/
def heldR (q : Fin 512 → EReal) (k v : Fin 256 → Fin 4 → Fin 128 → EReal) (c : Fin 512) : EReal :=
  attnR (scoreR (fun e => q (col (headOf c) e)) (fun j => k j (headOf c))) (fun j => v j (headOf c) (laneOf c))

/-- The residual row plus the output projection of the attention. -/
def crossR (x : Fin 1024 → EReal) (q : Fin 512 → EReal) (k v : Fin 256 → Fin 4 → Fin 128 → EReal) (w : Fin 512 → Fin 1024 → EReal) (d : Fin 1024) : EReal :=
  x d + dotR (heldR q k v) (fun c => w c d)

/-- A sum of real numbers is a real number. -/
theorem sum_real {n : ℕ} (f : Fin n → EReal) (h : ∀ j, ∃ x : ℝ, f j = x) : ∃ x : ℝ, ∑ j, f j = x := by
  choose g hg using h
  refine ⟨∑ j, g j, ?_⟩
  rw [Finset.sum_congr rfl fun j _ => hg j]
  exact (map_sum (⟨⟨Real.toEReal, rfl⟩, EReal.coe_add⟩ : ℝ →+ EReal) g Finset.univ).symm

/-- The scale of the scores is a real number. -/
theorem scale_real : ∃ x : ℝ, Ideal.ofBits FTy.f32 1035273459#32 = (x : EReal) := by
  unfold Ideal.ofBits
  simp [Ideal.ieee]
  exact ⟨_, (EReal.coe_mul _ _).symm⟩

/-- The scores of finite queries and keys are real numbers. -/
theorem score_real (q : Fin 128 → EReal) (k : Fin 256 → Fin 128 → EReal) (hq : ∀ d, ∃ x : ℝ, q d = x) (hk : ∀ j d, ∃ x : ℝ, k j d = x) (j : Fin 256) :
    ∃ x : ℝ, scoreR q k j = x := by
  unfold scoreR dotR
  obtain ⟨c, hc⟩ := scale_real
  obtain ⟨x, hx⟩ := sum_real (fun d => q d * k j d) (fun d => by
    obtain ⟨a, ha⟩ := hq d
    obtain ⟨b, hb⟩ := hk j d
    exact ⟨a * b, by rw [ha, hb, EReal.coe_mul]⟩)
  exact ⟨x * c, by rw [hx, hc, EReal.coe_mul]⟩

/-- The bits of the largest score's start are the least number. -/
theorem least_bits : Ideal.ofBits FTy.f32 4286578688#32 = (⊥ : EReal) := by
  unfold Ideal.ofBits
  simp [Ideal.ieee]

/-- The largest of real scores is a real number. -/
theorem top_real (s : Fin 256 → EReal) (h : ∀ j, ∃ x : ℝ, s j = x) : ∃ x : ℝ, topR s = x := by
  unfold topR
  rw [least_bits]
  obtain ⟨j, _, hj⟩ := Finset.exists_mem_eq_sup (Finset.univ : Finset (Fin 256)) ⟨0, Finset.mem_univ _⟩ s
  obtain ⟨x, hx⟩ := h j
  exact ⟨x, hj.trans hx⟩

/-- The weights of real scores are positive real numbers. -/
theorem weight_real (s : Fin 256 → EReal) (h : ∀ j, ∃ x : ℝ, s j = x) (j : Fin 256) : ∃ x : ℝ, 0 < x ∧ weightR s j = x := by
  obtain ⟨a, ha⟩ := h j
  obtain ⟨b, hb⟩ := top_real s h
  refine ⟨Real.exp (a - b), Real.exp_pos _, ?_⟩
  unfold weightR
  rw [ha, hb, ← EReal.coe_sub]
  rfl

/-- A real factor that is not negative moves into a sum. -/
theorem sum_mul_real {n : ℕ} (f : Fin n → EReal) (c : ℝ) (hc : 0 ≤ c) (S : Finset (Fin n)) : (∑ j ∈ S, f j) * (c : EReal) = ∑ j ∈ S, f j * (c : EReal) := by
  induction S using Finset.induction_on with
  | empty => simp
  | insert a S ha ih =>
    rw [Finset.sum_insert ha, Finset.sum_insert ha, ← ih]
    exact EReal.right_distrib_of_nonneg_of_ne_top (EReal.coe_nonneg.mpr hc) (EReal.coe_ne_top c) _ _

/-- For real scores, normalising each weight first gives the same number as normalising the weighted sum. -/
theorem attn_eq (s v : Fin 256 → EReal) (h : ∀ j, ∃ x : ℝ, s j = x) :
    ∑ j : Fin 256, v j * Ideal.div (weightR s j) (∑ i : Fin 256, weightR s i) = attnR s v := by
  choose w hpos hw using weight_real s h
  have hZ : ∑ i : Fin 256, weightR s i = ((∑ i, w i : ℝ) : EReal) := by
    rw [Finset.sum_congr rfl fun j _ => hw j]
    exact (map_sum (⟨⟨Real.toEReal, rfl⟩, EReal.coe_add⟩ : ℝ →+ EReal) w Finset.univ).symm
  have hz : 0 < ∑ i, w i := Finset.sum_pos (fun i _ => hpos i) ⟨0, Finset.mem_univ _⟩
  have hne : ((∑ i, w i : ℝ) : EReal) ≠ 0 := fun e => hz.ne' (EReal.coe_eq_zero.mp e)
  unfold attnR
  rw [hZ]
  unfold Ideal.div
  rw [if_neg hne, ← EReal.coe_inv, sum_mul_real _ _ (inv_nonneg.mpr hz.le)]
  refine Finset.sum_congr rfl fun j _ => ?_
  rw [if_neg hne, ← mul_assoc, mul_comm (v j)]

end Cert.Dense

end
-- ==== Proof.CrossValue.lean ====
module

public import proofs.«01_k».proof.Proof.CrossSpec
public import proofs.«01_k».proof.Proof.Gen.Kernel6Ideal.Value
public import Idealize.ShloMosaic.Lib.Pointwise
public import Idealize.ShloMosaic.Lib.StableHlo.RunRead

@[expose] public section

set_option maxRecDepth 16384

noncomputable section

/- What the cross-attention kernel's first two result arrays hold, as numbers of the program's arguments. -/

namespace Cert.Kernel6Ideal.CrossValue

open Cert.Kernel6Ideal Cert.Kernel6Ideal.Gen Idealize.ShloMosaic Idealize.ShloMosaic.TcCoe Idealize.ShloMosaic.Tactic Idealize.SL.Sem Idealize.ShloMosaic.StableHlo
open Idealize.ShloMosaic.Pipeline (Dat)
open Cert.Dense

/-- The zero offset of a two-dimensional block. -/
theorem off2 : (![0, 0] : Fin 2 → ℕ) = fun _ => 0 := funext fun a => by fin_cases a <;> rfl

/-- One head's attention at an index, from its keys, values and queries. -/
theorem head_at (k v : Vec Ideal S1x256x1x128 .f32) (q : Vec Ideal S256x128 .f32) (r : Fin 256) (d : Fin 128) :
    k0_pay2 (F := Ideal) k v q (ix2 r d) = attnR (scoreR (fun e => q (ix2 r e)) (fun j e => k (ix4 0 j 0 e))) (fun j => v (ix4 0 j 0 d)) := by
  unfold_payloads
  unfold attnR weightR topR scoreR dotR
  pointwise

/-- Four heads side by side. -/
def wide (a b e f : FVec Ideal S256x128 .f32) : FVec Ideal S256x512 .f32 :=
  concatenate S256x512 1 [⟨S256x128, a⟩, ⟨S256x128, b⟩, ⟨S256x128, e⟩, ⟨S256x128, f⟩] concatenates_S256x128_S256x128_S256x128_S256x128_S256x512_d1

/-- A column of four heads side by side, by the span of columns it falls in. -/
theorem wide_span (a b e f : FVec Ideal S256x128 .f32) (r : Fin 256) (c : Fin 512) :
    wide a b e f (ix2 r c) = (if h : c.val < 128 then a (ix2 r ⟨c.val, h⟩) else if h : c.val - 128 < 128 then b (ix2 r ⟨c.val - 128, h⟩)
      else if h : c.val - 128 - 128 < 128 then e (ix2 r ⟨c.val - 128 - 128, h⟩) else f (ix2 r ⟨c.val - 128 - 128 - 128, by have := c.isLt; omega⟩) : EReal) := by
  unfold wide
  pointwise

/-- A column of four heads side by side is its head's lane. -/
theorem wide_at (a b e f : FVec Ideal S256x128 .f32) (r : Fin 256) (h : Fin 4) (d : Fin 128) : wide a b e f (ix2 r (col h d)) = (![a, b, e, f] h (ix2 r d) : EReal) := by
  have hd := d.isLt
  have hv : (col h d).val = 128 * h.val + d.val := rfl
  rw [wide_span]
  match h with
  | ⟨0, _⟩ => rw [dif_pos (by rw [hv]; show 128 * 0 + d.val < 128; omega)]; exact congrArg (fun z => a (ix2 r z)) (Fin.ext (by show 128 * 0 + d.val = d.val; omega))
  | ⟨1, _⟩ =>
    rw [dif_neg (by rw [hv]; show ¬ 128 * 1 + d.val < 128; omega), dif_pos (by rw [hv]; show 128 * 1 + d.val - 128 < 128; omega)]
    exact congrArg (fun z => b (ix2 r z)) (Fin.ext (by show 128 * 1 + d.val - 128 = d.val; omega))
  | ⟨2, _⟩ =>
    rw [dif_neg (by rw [hv]; show ¬ 128 * 2 + d.val < 128; omega), dif_neg (by rw [hv]; show ¬ 128 * 2 + d.val - 128 < 128; omega), dif_pos (by rw [hv]; show 128 * 2 + d.val - 128 - 128 < 128; omega)]
    exact congrArg (fun z => e (ix2 r z)) (Fin.ext (by show 128 * 2 + d.val - 128 - 128 = d.val; omega))
  | ⟨3, _⟩ =>
    rw [dif_neg (by rw [hv]; show ¬ 128 * 3 + d.val < 128; omega), dif_neg (by rw [hv]; show ¬ 128 * 3 + d.val - 128 < 128; omega), dif_neg (by rw [hv]; show ¬ 128 * 3 + d.val - 128 - 128 < 128; omega)]
    exact congrArg (fun z => f (ix2 r z)) (Fin.ext (by show 128 * 3 + d.val - 128 - 128 - 128 = d.val; omega))

/-- The residual block plus the output projection. -/
def outw (o : FVec Ideal S256x512 .f32) (x : FVec Ideal S256x1024 .f32) (w : FVec Ideal S512x1024 .bf16) : FVec Ideal S256x1024 .f32 :=
  addf x (matmul dot_S256x512_S512x1024_S256x1024_1_0_0_1_n_n none (truncf .bf16 o bitsLt_bf16_f32) (shapeCast S512x1024 w shapeCasts_S512x1024_S512x1024) (constant S256x1024 .f32 0x00000000#32))

/-- It at an index. -/
theorem outw_at (o : FVec Ideal S256x512 .f32) (x : FVec Ideal S256x1024 .f32) (w : FVec Ideal S512x1024 .bf16) (r : Fin 256) (d : Fin 1024) :
    outw o x w (ix2 r d) = (x (ix2 r d) : EReal) + dotR (fun c => o (ix2 r c)) (fun c => w (ix2 c d)) := by
  unfold outw dotR
  pointwise

section Block

variable (x0 : Vec Ideal S256x1024 .f32) (x1 : Vec Ideal S256x512 .f32) (x2 x3 : Vec Ideal S1x256x4x128 .f32) (x4 : Vec Ideal S512x1024 .bf16)
  (x5 : Vec Ideal S1x1024 .f32) (x6 : Vec Ideal S1024x128 .bf16) (x7 : Vec Ideal S1x128 .f32)

/-- The block's attention, its four heads side by side. -/
def held : FVec Ideal S256x512 .f32 :=
  wide (k0_pay2 (View.ld x2 r0_0) (View.ld x3 r0_0) (View.ld x1 r0_1)) (k0_pay2 (View.ld x2 r0_2) (View.ld x3 r0_2) (View.ld x1 r0_3))
    (k0_pay2 (View.ld x2 r0_4) (View.ld x3 r0_4) (View.ld x1 r0_5)) (k0_pay2 (View.ld x2 r0_6) (View.ld x3 r0_6) (View.ld x1 r0_7))

/-- A column of the block's attention. -/
theorem held_col (r : Fin 256) (h : Fin 4) (d : Fin 128) :
    held x1 x2 x3 (ix2 r (col h d)) = attnR (scoreR (fun e => x1 (ix2 r (col h e))) (fun j e => x2 (ix4 0 j h e))) (fun j => x3 (ix4 0 j h d)) := by
  unfold held
  rw [wide_at]
  match h with
  | ⟨0, _⟩ => refine (head_at _ _ _ r d).trans ?_; unfold col; pointwise
  | ⟨1, _⟩ => refine (head_at _ _ _ r d).trans ?_; unfold col; pointwise
  | ⟨2, _⟩ => refine (head_at _ _ _ r d).trans ?_; unfold col; pointwise
  | ⟨3, _⟩ => refine (head_at _ _ _ r d).trans ?_; unfold col; pointwise

/-- A column of the block's attention, by its number. -/
theorem held_at (r : Fin 256) (c : Fin 512) : held x1 x2 x3 (ix2 r c) = heldR (fun e => x1 (ix2 r e)) (fun j h e => x2 (ix4 0 j h e)) (fun j h e => x3 (ix4 0 j h e)) c := by
  have h := held_col x1 x2 x3 r (headOf c) (laneOf c)
  rw [col_eta] at h
  exact h

/-- The stored block of the first result. -/
theorem out_x2 : out0_8 x0 x1 x2 x3 x4 x5 x6 x7 = outw (held x1 x2 x3) x0 x4 := by
  unfold out0_8
  rw [View.canon_unit_zero off2]
  simp only [View.ld_unit_zero (S := S256x1024) off2, View.ld_unit_zero (S := S512x1024) off2]
  rfl

/-- The stored block of the second result, from the first's. -/
def normed (x : FVec Ideal S256x1024 .f32) (g : FVec Ideal S1x1024 .f32) : FVec Ideal S256x1024 .f32 :=
  k0_pay11 x (k0_pay9 g) (addf (divf (shapeCast S256x1 (multiReduction .add [1] S256 (mulf x x) 0x00000000#32 reduces_S256x1024_S256 (.inl rfl) rfl) shapeCasts_S256_S256x1) (broadcast S256x1 (Scalar.ofBits (F := Ideal) .f32 0x44800000#32))) (broadcast S256x1 (Scalar.ofBits (F := Ideal) .f32 0x358637BD#32)))

/-- It at an index. -/
theorem normed_at (x : FVec Ideal S256x1024 .f32) (g : FVec Ideal S1x1024 .f32) (r : Fin 256) (d : Fin 1024) :
    normed x g (ix2 r d) = normR (fun k => x (ix2 r k)) (fun k => g (ix2 0 k)) d := by
  unfold normed normR
  unfold_payloads
  pointwise

/-- The stored block of the second result. -/
theorem out_u3 : out0_9 x0 x1 x2 x3 x4 x5 x6 x7 = normed (outw (held x1 x2 x3) x0 x4) x5 := by
  unfold out0_9 k0_pay33 k0_pay34 k0_pay35
  rw [View.canon_unit_zero off2]
  simp only [View.ld_unit_zero (S := S256x1024) off2, View.ld_unit_zero (S := S512x1024) off2, View.ld_unit_zero (S := S1x1024) off2]
  rfl

end Block

variable (m : (ℓ : Loc nD τ sig) → Buf (Elt Ideal) ℓ) (c : Dev nD)

/-- The output projection's host form: its layer axis dropped, cast to the narrow type. -/
def form_wide (x : FVec Ideal S1x512x1024 .f32) : FVec Ideal S512x1024 .bf16 :=
  truncf .bf16 (shapeCast S512x1024 x shapeCasts_S1x512x1024_S512x1024) bitsLt_bf16_f32

/-- The form at an index. -/
theorem form_wide_at (x : FVec Ideal S1x512x1024 .f32) (k : Fin 512) (d : Fin 1024) : form_wide x (ix2 k d) = (x (ix3 0 k d) : EReal) := by
  unfold form_wide
  pointwise

/-- The gains' host form. -/
def form_gain (x : (⟨S1x1024, .f32⟩ : BufTy).Contents (Elt Ideal)) : (⟨S1x1024, .f32⟩ : BufTy).Contents (Elt Ideal) :=
  shapeCast S1x1024 (shapeCast S1024 x shapeCasts_S1x1024_S1024) shapeCasts_S1024_S1x1024

/-- The form at an index. -/
theorem form_gain_at (x : (⟨S1x1024, .f32⟩ : BufTy).Contents (Elt Ideal)) (d : Fin 1024) : form_gain x (ix2 0 d) = (x (ix2 0 d) : EReal) := by
  unfold form_gain
  pointwise

set_option maxRecDepth 65536 in
set_option maxHeartbeats 1000000 in
/-- What the host leaves in the array `main_v12`. -/
theorem host_v12 : V m c main_v12 = form_wide (m ((c : Thread nD τ).loc main_arg4)) := by
  show StableHlo.after hostOps0 (fun b => m (c, b)) (Proc.devRef .tc main_v12) = _
  simp only [hostOps0]
  after_reads_simp
  try rfl

set_option maxRecDepth 65536 in
set_option maxHeartbeats 1000000 in
/-- What the host leaves in the array `main_v13`. -/
theorem host_v13 : V m c main_v13 = form_gain (m ((c : Thread nD τ).loc main_arg5)) := by
  show StableHlo.after hostOps0 (fun b => m (c, b)) (Proc.devRef .tc main_v13) = _
  simp only [hostOps0]
  after_reads_simp
  try rfl

/-- The array's row that is row `r` of block `t`. -/
def row (t : Fin cfg0.N) (r : Fin 256) : Fin 65536 := ⟨256 * t.val + r.val, by have h : t.val < 256 := t.isLt; have := r.isLt; omega⟩

/-- The batch entry of a row. -/
def batch (r : Fin 65536) : Fin 32 := ⟨r.val / 2048, by have := r.isLt; omega⟩

/-- The block of window 0 at an index. -/
theorem blk0 (t : Fin cfg0.N) (r : Fin 256) (k : Fin 1024) : iblk m c 0 t (ix2 r k) = m ((c : Thread nD τ).loc main_arg0) (ix2 (row t r) k) := by
  have hi := (by decide +kernel : ∀ t : Fin grid0.N, win0_0.index t 0 = t.val ∧ win0_0.index t 1 = 0) t
  unfold iblk
  rw [View.read_apply]
  refine Eq.trans ?_ (congrFun (V_main_arg0 m c) (ix2 (row t r) k))
  show V m c main_arg0 _ = V m c main_arg0 _
  refine congrArg (V m c main_arg0) (funext fun a => Fin.ext ?_)
  match a with
  | ⟨0, _⟩ => show win0_0.index t 0 * 256 + 1 * r.val = 256 * t.val + r.val; rw [hi.1]; omega
  | ⟨1, _⟩ => show win0_0.index t 1 * 1024 + 1 * k.val = k.val; rw [hi.2]; omega

/-- The block of window 1 at an index. -/
theorem blk1 (t : Fin cfg0.N) (r : Fin 256) (k : Fin 512) : iblk m c 1 t (ix2 r k) = m ((c : Thread nD τ).loc main_arg1) (ix2 (row t r) k) := by
  have hi := (by decide +kernel : ∀ t : Fin grid0.N, win0_1.index t 0 = t.val ∧ win0_1.index t 1 = 0) t
  unfold iblk
  rw [View.read_apply]
  refine Eq.trans ?_ (congrFun (V_main_arg1 m c) (ix2 (row t r) k))
  show V m c main_arg1 _ = V m c main_arg1 _
  refine congrArg (V m c main_arg1) (funext fun a => Fin.ext ?_)
  match a with
  | ⟨0, _⟩ => show win0_1.index t 0 * 256 + 1 * r.val = 256 * t.val + r.val; rw [hi.1]; omega
  | ⟨1, _⟩ => show win0_1.index t 1 * 512 + 1 * k.val = k.val; rw [hi.2]; omega

/-- The block of window 2 at an index: the memory of the row's batch entry. -/
theorem blk2 (t : Fin cfg0.N) (r : Fin 256) (j : Fin 256) (h : Fin 4) (d : Fin 128) :
    iblk m c 2 t (ix4 0 j h d) = m ((c : Thread nD τ).loc main_arg2) (ix4 (batch (row t r)) j h d) := by
  have hi := (by decide +kernel : ∀ t : Fin grid0.N, win0_2.index t 0 = t.val / 8 ∧ win0_2.index t 1 = 0 ∧ win0_2.index t 2 = 0 ∧ win0_2.index t 3 = 0) t
  have hr := r.isLt
  unfold iblk
  rw [View.read_apply]
  refine Eq.trans ?_ (congrFun (V_main_arg2 m c) (ix4 (batch (row t r)) j h d))
  show V m c main_arg2 _ = V m c main_arg2 _
  refine congrArg (V m c main_arg2) (funext fun a => Fin.ext ?_)
  match a with
  | ⟨0, _⟩ => show win0_2.index t 0 * 1 + 1 * 0 = (256 * t.val + r.val) / 2048; rw [hi.1]; omega
  | ⟨1, _⟩ => show win0_2.index t 1 * 256 + 1 * j.val = j.val; rw [hi.2.1]; omega
  | ⟨2, _⟩ => show win0_2.index t 2 * 4 + 1 * h.val = h.val; rw [hi.2.2.1]; omega
  | ⟨3, _⟩ => show win0_2.index t 3 * 128 + 1 * d.val = d.val; rw [hi.2.2.2]; omega

/-- The block of window 3 at an index: the memory of the row's batch entry. -/
theorem blk3 (t : Fin cfg0.N) (r : Fin 256) (j : Fin 256) (h : Fin 4) (d : Fin 128) :
    iblk m c 3 t (ix4 0 j h d) = m ((c : Thread nD τ).loc main_arg3) (ix4 (batch (row t r)) j h d) := by
  have hi := (by decide +kernel : ∀ t : Fin grid0.N, win0_3.index t 0 = t.val / 8 ∧ win0_3.index t 1 = 0 ∧ win0_3.index t 2 = 0 ∧ win0_3.index t 3 = 0) t
  have hr := r.isLt
  unfold iblk
  rw [View.read_apply]
  refine Eq.trans ?_ (congrFun (V_main_arg3 m c) (ix4 (batch (row t r)) j h d))
  show V m c main_arg3 _ = V m c main_arg3 _
  refine congrArg (V m c main_arg3) (funext fun a => Fin.ext ?_)
  match a with
  | ⟨0, _⟩ => show win0_3.index t 0 * 1 + 1 * 0 = (256 * t.val + r.val) / 2048; rw [hi.1]; omega
  | ⟨1, _⟩ => show win0_3.index t 1 * 256 + 1 * j.val = j.val; rw [hi.2.1]; omega
  | ⟨2, _⟩ => show win0_3.index t 2 * 4 + 1 * h.val = h.val; rw [hi.2.2.1]; omega
  | ⟨3, _⟩ => show win0_3.index t 3 * 128 + 1 * d.val = d.val; rw [hi.2.2.2]; omega

/-- The block of window 4 at an index. -/
theorem blk4 (t : Fin cfg0.N) (k : Fin 512) (d : Fin 1024) : iblk m c 4 t (ix2 k d) = m ((c : Thread nD τ).loc main_arg4) (ix3 0 k d) := by
  have hi := (by decide +kernel : ∀ t : Fin grid0.N, win0_4.index t 0 = 0 ∧ win0_4.index t 1 = 0) t
  unfold iblk
  rw [View.read_apply]
  refine Eq.trans ?_ ((congrFun (host_v12 m c) (ix2 k d)).trans (form_wide_at _ k d))
  show V m c main_v12 _ = V m c main_v12 _
  refine congrArg (V m c main_v12) (funext fun a => Fin.ext ?_)
  match a with
  | ⟨0, _⟩ => show win0_4.index t 0 * 512 + 1 * k.val = k.val; rw [hi.1]; omega
  | ⟨1, _⟩ => show win0_4.index t 1 * 1024 + 1 * d.val = d.val; rw [hi.2]; omega

/-- The block of window 5 at an index. -/
theorem blk5 (t : Fin cfg0.N) (d : Fin 1024) : iblk m c 5 t (ix2 0 d) = m ((c : Thread nD τ).loc main_arg5) (ix2 0 d) := by
  have hi := (by decide +kernel : ∀ t : Fin grid0.N, win0_5.index t 0 = 0 ∧ win0_5.index t 1 = 0) t
  unfold iblk
  rw [View.read_apply]
  refine Eq.trans ?_ ((congrFun (host_v13 m c) (ix2 0 d)).trans (form_gain_at _ d))
  show V m c main_v13 _ = V m c main_v13 _
  refine congrArg (V m c main_v13) (funext fun a => Fin.ext ?_)
  match a with
  | ⟨0, _⟩ => show win0_5.index t 0 * 1 + 1 * 0 = 0; rw [hi.1]
  | ⟨1, _⟩ => show win0_5.index t 1 * 1024 + 1 * d.val = d.val; rw [hi.2]; omega

/-- The residual row after the cross attention, at a token and a channel. -/
def x2E (r : Fin 65536) (d : Fin 1024) : EReal :=
  crossR (fun k => m ((c : Thread nD τ).loc main_arg0) (ix2 r k)) (fun e => m ((c : Thread nD τ).loc main_arg1) (ix2 r e))
    (fun j h e => m ((c : Thread nD τ).loc main_arg2) (ix4 (batch r) j h e)) (fun j h e => m ((c : Thread nD τ).loc main_arg3) (ix4 (batch r) j h e))
    (fun k d => m ((c : Thread nD τ).loc main_arg4) (ix3 0 k d)) d

/-- The experts' normalised row, at a token and a channel. -/
def u3E (r : Fin 65536) (d : Fin 1024) : EReal := normR (x2E m c r) (fun k => m ((c : Thread nD τ).loc main_arg5) (ix2 0 k)) d

/-- The first result array. -/
def x2A : (⟨S65536x1024, .f32⟩ : BufTy).Contents (Elt Ideal) := fun i => x2E m c (i 0) (i 1)
/-- The second result array. -/
def u3A : (⟨S65536x1024, .f32⟩ : BufTy).Contents (Elt Ideal) := fun i => u3E m c (i 0) (i 1)

/-- A grid point's block after the cross attention is the array's rows. -/
theorem x2_at (t : Fin cfg0.N) (r : Fin 256) (d : Fin 1024) :
    outw (held (iblk m c 1 t) (iblk m c 2 t) (iblk m c 3 t)) (iblk m c 0 t) (iblk m c 4 t) (ix2 r d) = x2E m c (row t r) d := by
  refine (outw_at _ _ _ r d).trans ?_
  unfold x2E crossR
  refine congrArg₂ (· + ·) (blk0 m c t r d) (congrArg₂ dotR (funext fun k => (held_at _ _ _ r k).trans ?_) (funext fun k => blk4 m c t k d))
  congr 1
  · exact funext fun e => blk1 m c t r e
  · exact funext fun j => funext fun h => funext fun e => blk2 m c t r j h e
  · exact funext fun j => funext fun h => funext fun e => blk3 m c t r j h e

/-- What a grid point leaves in the first result, at an index. -/
theorem point8 (t : Fin cfg0.N) (r : Fin 256) (d : Fin 1024) :
    out0_8 (iblk m c 0 t) (iblk m c 1 t) (iblk m c 2 t) (iblk m c 3 t) (iblk m c 4 t) (iblk m c 5 t) (iblk m c 6 t) (iblk m c 7 t) (ix2 r d) = x2A m c (ix2 (row t r) d) := by
  rw [out_x2]
  exact x2_at m c t r d

/-- What a grid point leaves in the second result, at an index. -/
theorem point9 (t : Fin cfg0.N) (r : Fin 256) (d : Fin 1024) :
    out0_9 (iblk m c 0 t) (iblk m c 1 t) (iblk m c 2 t) (iblk m c 3 t) (iblk m c 4 t) (iblk m c 5 t) (iblk m c 6 t) (iblk m c 7 t) (ix2 r d) = u3A m c (ix2 (row t r) d) := by
  rw [out_u3]
  refine (normed_at _ _ r d).trans ?_
  show _ = u3E m c (row t r) d
  unfold u3E
  congr 1
  · exact funext fun k => x2_at m c t r k
  · exact funext fun k => blk5 m c t k

/-- What a grid point writes back is its block of the result. -/
theorem flushed_eq8 (t : Fin cfg0.N) : (dats m 0 c).flushed 8 t = ((cfg0.win 8).blk t).view.read (Elt Ideal) (x2A m c) := by
  have hi := (by decide +kernel : ∀ t : Fin grid0.N, win0_8.index t 0 = t.val ∧ win0_8.index t 1 = 0) t
  rw [Value.flushed8]
  have key : ∀ y : S256x1024.Idx, out0_8 (iblk m c 0 t) (iblk m c 1 t) (iblk m c 2 t) (iblk m c 3 t) (iblk m c 4 t) (iblk m c 5 t) (iblk m c 6 t) (iblk m c 7 t) y
      = ((cfg0.win 8).blk t).view.read (Elt Ideal) (x2A m c) y := by
    intro y
    obtain ⟨r, d, rfl⟩ : ∃ (r : Fin 256) (d : Fin 1024), y = ix2 r d := ⟨y 0, y 1, (ix2_eta y).symm⟩
    rw [point8, View.read_apply]
    show x2A m c _ = x2A m c _
    refine congrArg (x2A m c) (funext fun a => Fin.ext ?_)
    match a with
    | ⟨0, _⟩ => show 256 * t.val + r.val = win0_8.index t 0 * 256 + 1 * r.val; rw [hi.1]; omega
    | ⟨1, _⟩ => show d.val = win0_8.index t 1 * 1024 + 1 * d.val; rw [hi.2]; omega
  exact funext key

/-- The result array after the run. -/
theorem final8 : (dats m 0 c).arrAt 8 cfg0.N = x2A m c :=
  (dats m 0 c).arrAt_eq_of_cover 8 (x2A m c) (fun t _ => flushed_eq8 m c t) fun i => by
    have h0 : (i 0 : ℕ) < 65536 := (i 0).isLt
    have h1 : (i 1 : ℕ) < 1024 := (i 1).isLt
    let t : Fin cfg0.N := ⟨(i 0 : ℕ) / 256, by show (i 0 : ℕ) / 256 < 256; omega⟩
    have ht : t.val = (i 0 : ℕ) / 256 := rfl
    have hi := (by decide +kernel : ∀ t : Fin grid0.N, win0_8.index t 0 = t.val ∧ win0_8.index t 1 = 0) t
    have hf := (by decide +kernel : ∀ t : Fin grid0.N, win0_8.flush t = true) t
    refine ⟨t, hf, ?_⟩
    show i ∈ ((View.whole main_v14_0).slice (win0_8.rect t)).set
    rw [View.set_slice_whole, Rect.mem_set_unit]
    intro a
    match a with
    | ⟨0, _⟩ => show win0_8.index t 0 * 256 ≤ (i 0 : ℕ) ∧ (i 0 : ℕ) < win0_8.index t 0 * 256 + 256; rw [hi.1]; omega
    | ⟨1, _⟩ => show win0_8.index t 1 * 1024 ≤ (i 1 : ℕ) ∧ (i 1 : ℕ) < win0_8.index t 1 * 1024 + 1024; rw [hi.2]; omega

/-- What a grid point writes back is its block of the result. -/
theorem flushed_eq9 (t : Fin cfg0.N) : (dats m 0 c).flushed 9 t = ((cfg0.win 9).blk t).view.read (Elt Ideal) (u3A m c) := by
  have hi := (by decide +kernel : ∀ t : Fin grid0.N, win0_9.index t 0 = t.val ∧ win0_9.index t 1 = 0) t
  rw [Value.flushed9]
  have key : ∀ y : S256x1024.Idx, out0_9 (iblk m c 0 t) (iblk m c 1 t) (iblk m c 2 t) (iblk m c 3 t) (iblk m c 4 t) (iblk m c 5 t) (iblk m c 6 t) (iblk m c 7 t) y
      = ((cfg0.win 9).blk t).view.read (Elt Ideal) (u3A m c) y := by
    intro y
    obtain ⟨r, d, rfl⟩ : ∃ (r : Fin 256) (d : Fin 1024), y = ix2 r d := ⟨y 0, y 1, (ix2_eta y).symm⟩
    rw [point9, View.read_apply]
    show u3A m c _ = u3A m c _
    refine congrArg (u3A m c) (funext fun a => Fin.ext ?_)
    match a with
    | ⟨0, _⟩ => show 256 * t.val + r.val = win0_9.index t 0 * 256 + 1 * r.val; rw [hi.1]; omega
    | ⟨1, _⟩ => show d.val = win0_9.index t 1 * 1024 + 1 * d.val; rw [hi.2]; omega
  exact funext key

/-- The result array after the run. -/
theorem final9 : (dats m 0 c).arrAt 9 cfg0.N = u3A m c :=
  (dats m 0 c).arrAt_eq_of_cover 9 (u3A m c) (fun t _ => flushed_eq9 m c t) fun i => by
    have h0 : (i 0 : ℕ) < 65536 := (i 0).isLt
    have h1 : (i 1 : ℕ) < 1024 := (i 1).isLt
    let t : Fin cfg0.N := ⟨(i 0 : ℕ) / 256, by show (i 0 : ℕ) / 256 < 256; omega⟩
    have ht : t.val = (i 0 : ℕ) / 256 := rfl
    have hi := (by decide +kernel : ∀ t : Fin grid0.N, win0_9.index t 0 = t.val ∧ win0_9.index t 1 = 0) t
    have hf := (by decide +kernel : ∀ t : Fin grid0.N, win0_9.flush t = true) t
    refine ⟨t, hf, ?_⟩
    show i ∈ ((View.whole main_v14_1).slice (win0_9.rect t)).set
    rw [View.set_slice_whole, Rect.mem_set_unit]
    intro a
    match a with
    | ⟨0, _⟩ => show win0_9.index t 0 * 256 ≤ (i 0 : ℕ) ∧ (i 0 : ℕ) < win0_9.index t 0 * 256 + 256; rw [hi.1]; omega
    | ⟨1, _⟩ => show win0_9.index t 1 * 1024 ≤ (i 1 : ℕ) ∧ (i 1 : ℕ) < win0_9.index t 1 * 1024 + 1024; rw [hi.2]; omega

end Cert.Kernel6Ideal.CrossValue

end
-- ==== Proof.CrossJoin.lean ====
module

public import proofs.«01_k».proof.Proof.CrossValue
public import proofs.«01_k».proof.Proof.Gen.Reference6Ideal.Run
public import proofs.«01_k».proof.Pre_finite_scores

@[expose] public section

set_option maxRecDepth 16384

noncomputable section

/- The reference of the cross-attention call, and the equality of its results with the kernel's for finite queries and keys. -/

namespace Cert.Reference6Ideal.CrossRef

open Cert.Reference6Ideal Cert.Reference6Ideal.Gen Idealize.ShloMosaic Idealize.ShloMosaic.TcCoe Idealize.ShloMosaic.Tactic Idealize.SL.Sem Idealize.ShloMosaic.StableHlo
open Cert.Dense
open Cert.Kernel6Ideal.CrossValue (batch)

/-- The place of a row among its batch entry's tokens. -/
def place (r : Fin 65536) : Fin 2048 := ⟨r.val % 2048, by omega⟩

/-- The scaled scores of every token against its memory's keys. -/
def scores (q : FVec Ideal S65536x512 .f32) (k : FVec Ideal S32x256x4x128 .f32) : FVec Ideal S32x4x2048x256 .f32 :=
  mulf (Host.dotGeneral dot_S32x2048x4x128_S32x256x4x128_S32x4x2048x256_3_3_1_1_02_02 none (shapeCast _ q shapeCasts_S65536x512_S32x2048x4x128) k) (broadcastInDim S32x4x2048x256 ![] bcast_S_S32x4x2048x256 (constant S_ .f32 0x3DB504F3#32))

/-- A score, from its row of queries. -/
theorem scores_at (q : FVec Ideal S65536x512 .f32) (k : FVec Ideal S32x256x4x128 .f32) (r : Fin 65536) (h : Fin 4) (j : Fin 256) :
    scores q k (ix4 (batch r) h (place r) j) = scoreR (fun e => q (ix2 r (col h e))) (fun j e => k (ix4 (batch r) j h e)) j := by
  have hr : ∀ p, (⟨(batch r).val * 2048 + (place r).val, p⟩ : Fin 65536) = r := fun _ => Fin.ext (by show r.val / 2048 * 2048 + r.val % 2048 = r.val; omega)
  have hc : ∀ (e : Fin 128) p, (⟨h.val * 128 + e.val, p⟩ : Fin 512) = col h e := fun e _ => Fin.ext (by show h.val * 128 + e.val = 128 * h.val + e.val; omega)
  unfold scores scoreR dotR
  pointwise
  simp only [hr, hc]

/-- The largest entries along the last axis of a four-dimensional array. -/
theorem reduce_top {n0 n1 n2 n3 : ℕ} (s : FVec Ideal ⟨4, ![n0, n1, n2, n3]⟩ .f32) (c : FVec Ideal S_ .f32)
    (hred : (⟨4, ![n0, n1, n2, n3]⟩ : Shape).ReducesTo [3] ⟨3, ![n0, n1, n2]⟩) (hs : 0 < S_.numel) (b : Fin n0) (h : Fin n1) (t : Fin n2) :
    Host.reduce FloatOps.maximumf s c hred hs (ix3 b h t) = (Finset.fold max (c (Shape.Idx.first hs)) (fun j : Fin n3 => s (ix4 b h t j)) Finset.univ : EReal) := by
  simp only [pointwise]

/-- Each row's largest score, spread over the row. -/
def spread (x : FVec Ideal S32x4x2048 .f32) : FVec Ideal S32x4x2048x256 .f32 :=
  broadcastInDim S32x4x2048x256 ![0, 1, 2, 3] bcast_S32x4x2048x1_S32x4x2048x256_0_1_2_3 (broadcastInDim S32x4x2048x1 ![0, 1, 2] bcast_S32x4x2048_S32x4x2048x1_0_1_2 (maximumf (broadcastInDim S32x4x2048 ![] bcast_S_S32x4x2048 (constant S_ .f32 0xFF800000#32)) x))

/-- It at an index. -/
theorem spread_at (x : FVec Ideal S32x4x2048 .f32) (b : Fin 32) (h : Fin 4) (t : Fin 2048) (j : Fin 256) :
    spread x (ix4 b h t j) = (max (Ideal.ofBits FTy.f32 4286578688#32) (x (ix3 b h t)) : EReal) := by
  unfold spread
  pointwise

/-- The weights before they are normalised. -/
def weights (s : FVec Ideal S32x4x2048x256 .f32) : FVec Ideal S32x4x2048x256 .f32 :=
  Host.exp (subf s (spread (Host.reduce FloatOps.maximumf s (constant S_ .f32 0xFF800000#32) reducesTo_S32x4x2048x256_S32x4x2048_d3 h_S_)))

/-- A weight, from its row of scores. -/
theorem weights_at (s : FVec Ideal S32x4x2048x256 .f32) (b : Fin 32) (h : Fin 4) (t : Fin 2048) (j : Fin 256) :
    weights s (ix4 b h t j) = weightR (fun j => s (ix4 b h t j)) j := by
  have e := spread_at (Host.reduce FloatOps.maximumf s (constant S_ .f32 0xFF800000#32) reducesTo_S32x4x2048x256_S32x4x2048_d3 h_S_) b h t j
  rw [least_bits, max_bot_left] at e
  have f := reduce_top s (constant S_ .f32 0xFF800000#32) reducesTo_S32x4x2048x256_S32x4x2048_d3 h_S_ b h t
  show Ideal.exp (s (ix4 b h t j) - spread _ (ix4 b h t j)) = Ideal.exp (s (ix4 b h t j) - topR _)
  rw [e, f]
  rfl

/-- Each token's normalised weights. -/
def probs (w : FVec Ideal S32x4x2048x256 .f32) : FVec Ideal S32x4x2048x256 .f32 :=
  Host.divf w (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduceAdd w (constant S_ .f32 0x00000000#32) reducesTo_S32x4x2048x256_S32x4x2048_d3 h_S_)))

/-- A normalised weight at an index. -/
theorem probs_at (w : FVec Ideal S32x4x2048x256 .f32) (b : Fin 32) (h : Fin 4) (t : Fin 2048) (j : Fin 256) :
    probs w (ix4 b h t j) = Ideal.div (w (ix4 b h t j)) (∑ i : Fin 256, w (ix4 b h t i)) := by
  unfold probs
  pointwise

/-- The weighted sums of the values, a row of 512 columns for each token. -/
def heads (v : FVec Ideal S32x256x4x128 .f32) (p : FVec Ideal S32x4x2048x256 .f32) : FVec Ideal S65536x512 .f32 :=
  shapeCast _ (transpose S32x2048x4x128 [0, 3, 1, 2] (Host.dotGeneral dot_S32x256x4x128_S32x4x2048x256_S32x4x128x2048_1_3_3_2_02_01 none v p) transposes_S32x4x128x2048_S32x2048x4x128_0_3_1_2) shapeCasts_S32x2048x4x128_S65536x512

/-- A weighted sum of the values, by its row and column. -/
theorem heads_at (v : FVec Ideal S32x256x4x128 .f32) (p : FVec Ideal S32x4x2048x256 .f32) (r : Fin 65536) (c : Fin 512) :
    heads v p (ix2 r c) = (∑ j : Fin 256, v (ix4 (batch r) j (headOf c) (laneOf c)) * p (ix4 (batch r) (headOf c) (place r) j) : EReal) := by
  unfold heads
  pointwise
  rfl

/-- The reference's attention, as its host operations write it. -/
def formO (q : FVec Ideal S65536x512 .f32) (k v : FVec Ideal S32x256x4x128 .f32) : FVec Ideal S65536x512 .f32 := heads v (probs (weights (scores q k)))

/-- For finite queries and keys the reference's attention is the kernel's, at an index. -/
theorem formO_at (q : FVec Ideal S65536x512 .f32) (k v : FVec Ideal S32x256x4x128 .f32) (hq : ∀ r e, ∃ x : ℝ, q (ix2 r e) = (x : EReal))
    (hk : ∀ b j h e, ∃ x : ℝ, k (ix4 b j h e) = (x : EReal)) (r : Fin 65536) (c : Fin 512) :
    formO q k v (ix2 r c) = heldR (fun e => q (ix2 r e)) (fun j h e => k (ix4 (batch r) j h e)) (fun j h e => v (ix4 (batch r) j h e)) c := by
  refine (heads_at _ _ r c).trans ?_
  unfold heldR
  rw [← attn_eq _ _ (score_real _ _ (fun e => hq r _) (fun j e => hk _ j _ e))]
  refine Finset.sum_congr rfl fun j _ => congrArg (_ * ·) ?_
  refine (probs_at _ _ _ _ j).trans ?_
  have hw : ∀ i : Fin 256, weights (scores q k) (ix4 (batch r) (headOf c) (place r) i)
      = weightR (scoreR (fun e => q (ix2 r (col (headOf c) e))) (fun j e => k (ix4 (batch r) j (headOf c) e))) i := fun i => by
    rw [weights_at, funext fun j => scores_at q k r (headOf c) j]
  rw [hw j, Finset.sum_congr rfl fun i _ => hw i]

/-- The reference's first result from its attention, as its host operations write it. -/
def formX (x : FVec Ideal S65536x1024 .f32) (o : FVec Ideal S65536x512 .f32) (w : FVec Ideal S1x512x1024 .f32) : FVec Ideal S65536x1024 .f32 :=
  addf x (Host.dotGeneral dot_S65536x512_S512x1024_S65536x1024_1_0_0_1_n_n none o (shapeCast _ w shapeCasts_S1x512x1024_S512x1024))

/-- The first result at an index. -/
theorem formX_at (x : FVec Ideal S65536x1024 .f32) (o : FVec Ideal S65536x512 .f32) (w : FVec Ideal S1x512x1024 .f32) (r : Fin 65536) (d : Fin 1024) :
    formX x o w (ix2 r d) = (x (ix2 r d) : EReal) + dotR (fun c => o (ix2 r c)) (fun c => w (ix3 0 c d)) := by
  unfold formX dotR
  pointwise

/-- The reference's second result from its first, as its host operations write it. -/
def formU (x : FVec Ideal S65536x1024 .f32) (g : FVec Ideal S1x1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ g shapeCasts_S1x1024_S1024)))

/-- The second result at an index. -/
theorem formU_at (x : FVec Ideal S65536x1024 .f32) (g : FVec Ideal S1x1024 .f32) (r : Fin 65536) (d : Fin 1024) :
    formU x g (ix2 r d) = normR (fun k => x (ix2 r k)) (fun k => g (ix2 0 k)) d := by
  unfold formU normR
  pointwise

end Cert.Reference6Ideal.CrossRef

namespace Cert.CrossJoin

open Idealize.ShloMosaic Idealize.ShloMosaic.TcCoe Idealize.ShloMosaic.Tactic Idealize.SL.Sem
open Cert.Kernel6Ideal.CrossValue Cert.Reference6Ideal.CrossRef Cert.Dense

/-- The side conditions of the precondition's operations. -/
theorem preFacts : Cert.Pre_finite_scores.Facts where
  bcast_S_S65536x512 := by decide
  bcast_S_S32x256x4x128 := by decide

/-- The bits of the precondition's bound are the greatest number. -/
theorem greatest_bits : Ideal.ofBits FTy.f32 2139095040#32 = (⊤ : EReal) := by
  unfold Ideal.ofBits
  simp [Ideal.ieee]

/-- A number whose magnitude compares below the bound is real. -/
theorem real_of_lt (x : EReal) (h : BitVec.ofBool (decide (max x (-x) < Ideal.ofBits FTy.f32 2139095040#32)) = 1#1) : ∃ y : ℝ, x = y := by
  rw [greatest_bits] at h
  have hl : max x (-x) < ⊤ := by
    by_contra hn
    rw [decide_eq_false hn] at h
    exact absurd h (by decide)
  have h1 : x ≠ ⊤ := fun e => (lt_of_le_of_lt (le_max_left _ _) hl).ne e
  have h2 : x ≠ ⊥ := fun e => (lt_of_le_of_lt (le_max_right _ _) hl).ne (by rw [e]; rfl)
  exact ⟨x.toReal, (EReal.coe_toReal h1 h2).symm⟩

section Pre

variable [Cert.Pre_finite_scores.Facts]
  (a0 : FVec Ideal Cert.Pre_finite_scores.S65536x1024 .f32) (a1 : FVec Ideal Cert.Pre_finite_scores.S65536x512 .f32) (a2 a3 : FVec Ideal Cert.Pre_finite_scores.S32x256x4x128 .f32)
  (a4 : FVec Ideal Cert.Pre_finite_scores.S1x512x1024 .f32) (a5 : FVec Ideal Cert.Pre_finite_scores.S1x1024 .f32) (a6 : FVec Ideal Cert.Pre_finite_scores.S1x1024x4 .f32)
  (a7 : FVec Ideal Cert.Pre_finite_scores.S1x4 .f32) (a8 : FVec Ideal Cert.Pre_finite_scores.S1x1024x32 .f32) (a9 : FVec Ideal Cert.Pre_finite_scores.S1x32 .f32)

/-- Under the precondition the queries are real numbers. -/
theorem queries_real (h : (Cert.Pre_finite_scores.fn a0 a1 a2 a3 a4 a5 a6 a7 a8 a9).1 = fun _ => 1#1) (r : Fin 65536) (e : Fin 512) : ∃ y : ℝ, a1 (ix2 r e) = (y : EReal) := by
  have hp := congrFun h (ix2 r e)
  unfold Cert.Pre_finite_scores.fn at hp
  exact real_of_lt _ hp

/-- Under the precondition the memory's keys are real numbers. -/
theorem keys_real (h : (Cert.Pre_finite_scores.fn a0 a1 a2 a3 a4 a5 a6 a7 a8 a9).2 = fun _ => 1#1) (b : Fin 32) (j : Fin 256) (g : Fin 4) (e : Fin 128) : ∃ y : ℝ, a2 (ix4 b j g e) = (y : EReal) := by
  have hp := congrFun h (ix4 b j g e)
  unfold Cert.Pre_finite_scores.fn at hp
  exact real_of_lt _ hp

end Pre

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ) (c : Dev Cert.Kernel6Ideal.nD)

/-- The two memories agree on the arguments of one device. -/
def Agree : Prop :=
  m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
  ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
  ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
  ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
  ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
  ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
  ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
  ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
  ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
  ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)

/-- The queries and the memory's keys of one device are real numbers. -/
def Finite : Prop :=
  (∀ r e, ∃ y : ℝ, m ((c.tc : Thread Cert.Kernel6Ideal.nD Cert.Kernel6Ideal.τ).loc Cert.Kernel6Ideal.main_arg1) (ix2 r e) = (y : EReal))
  ∧ (∀ b j h e, ∃ y : ℝ, m ((c.tc : Thread Cert.Kernel6Ideal.nD Cert.Kernel6Ideal.τ).loc Cert.Kernel6Ideal.main_arg2) (ix4 b j h e) = (y : EReal))

/-- The reference's first result is the kernel's. -/
theorem x2_eq (h : Agree m m' c) (hf : Finite m c) : formX (m' ((c.tc : Thread Cert.Reference6Ideal.nD Cert.Reference6Ideal.τ).loc Cert.Reference6Ideal.main_arg0)) (formO (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4)) = x2A m c := by
  obtain ⟨h0, h1, h2, h3, h4, h5, h6, h7, h8, h9⟩ := h
  rw [h0, h1, h2, h3, h4]
  funext y
  obtain ⟨r, d, rfl⟩ : ∃ (r : Fin 65536) (d : Fin 1024), y = ix2 r d := ⟨y 0, y 1, (ix2_eta y).symm⟩
  refine (formX_at _ _ _ r d).trans ?_
  show _ = x2E m c r d
  unfold x2E crossR
  exact congrArg₂ (fun a b : EReal => a + b) rfl (congrArg₂ dotR (funext fun k => formO_at _ _ _ hf.1 hf.2 r k) rfl)

/-- The reference's second result is the kernel's. -/
theorem u3_eq (h : Agree m m' c) (hf : Finite m c) : formU (formX (m' ((c.tc : Thread Cert.Reference6Ideal.nD Cert.Reference6Ideal.τ).loc Cert.Reference6Ideal.main_arg0)) (formO (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4))) (m' ((c.tc : Thread Cert.Reference6Ideal.nD Cert.Reference6Ideal.τ).loc Cert.Reference6Ideal.main_arg5)) = u3A m c := by
  rw [x2_eq m m' c h hf]
  obtain ⟨h0, h1, h2, h3, h4, h5, h6, h7, h8, h9⟩ := h
  rw [h5]
  funext y
  obtain ⟨r, d, rfl⟩ : ∃ (r : Fin 65536) (d : Fin 1024), y = ix2 r d := ⟨y 0, y 1, (ix2_eta y).symm⟩
  exact formU_at _ _ r d

end Cert.CrossJoin

end
-- ==== Proof.Turn.lean ====
module

public import proofs.«01_k».proof.Proof.Dense

@[expose] public section

noncomputable section

/- The rotary embedding as numbers: each pair of lanes of a head, 32 apart, turned by an angle of the position and the pair. -/

namespace Cert.Dense

open Idealize.ShloMosaic

/-- The angle that pair `j` turns by at position `p`. -/
def angR (p j : ℕ) : EReal :=
  FloatOps.sitofp (F := Ideal) FTy.f32 (BitVec.ofNat 32 p)
    * Ideal.pow (Ideal.ofBits FTy.f32 1176256512#32)
        (Ideal.div (-(Ideal.ofBits FTy.f32 1073741824#32 * FloatOps.sitofp (F := Ideal) FTy.f32 (BitVec.ofNat 32 j))) (Ideal.ofBits FTy.f32 1115684864#32))

/-- The lane that lane `l` turns with. -/
def partner (l : ℕ) : ℕ := if l % 64 < 32 then l + 32 else l - 32

/-- A lane and its partner lie in the same width, a multiple of 64. -/
theorem partner_lt {n l : ℕ} (hn : n % 64 = 0) (h : l < n) : partner l < n := by
  unfold partner
  split <;> omega

/-- Lane `l` of value `a` and partner's value `b`, turned at position `p`. -/
def turnR (a b : EReal) (p l : ℕ) : EReal :=
  if l % 64 < 32 then a * Ideal.cos (angR p (l % 32)) - b * Ideal.sin (angR p (l % 32))
  else a * Ideal.cos (angR p (l % 32)) + b * Ideal.sin (angR p (l % 32))

/-- The turned lane, with the sine's sign put into the table. -/
theorem turnR_signed (a b : EReal) (p l : ℕ) :
    turnR a b p l = a * Ideal.cos (angR p (l % 32)) + b * (if l % 64 < 32 then -Ideal.sin (angR p (l % 32)) else Ideal.sin (angR p (l % 32))) := by
  unfold turnR
  split
  · rw [sub_eq_add_neg, mul_neg]
  · rfl

/-- A head's lane turned half by half, as the turned lane. -/
theorem turn_halves (z : Fin 64 → EReal) (p : ℕ) (l : Fin 64) :
    (if h : l.val < 32 then z ⟨l.val, by omega⟩ * Ideal.cos (angR p l.val) - z ⟨32 + l.val, by omega⟩ * Ideal.sin (angR p l.val)
      else z ⟨32 + (l.val - 32), by omega⟩ * Ideal.cos (angR p (l.val - 32)) + z ⟨l.val - 32, by omega⟩ * Ideal.sin (angR p (l.val - 32)))
      = turnR (z l) (z ⟨partner l.val, partner_lt (n := 64) (by decide) l.isLt⟩) p l.val := by
  have hl := l.isLt
  unfold turnR partner
  by_cases h : l.val < 32
  · have e1 : l.val % 64 < 32 := by omega
    have e2 : l.val % 32 = l.val := by omega
    simp only [dif_pos h, if_pos e1, e2, Nat.add_comm 32 l.val]
  · have e1 : ¬ l.val % 64 < 32 := by omega
    have e2 : l.val % 32 = l.val - 32 := by omega
    have e3 : 32 + (l.val - 32) = l.val := by omega
    simp only [dif_neg h, if_neg e1, e2, e3]

/-- A turned lane depends on the lane's place in its head only. -/
theorem turnR_head (a b : EReal) (p d : ℕ) : turnR a b p (d % 64) = turnR a b p d := by
  unfold turnR
  rw [(by omega : d % 64 % 64 = d % 64), (by omega : d % 64 % 32 = d % 32)]

/-- The partner's place in the head. -/
theorem partner_head (d : ℕ) : d / 64 * 64 + partner (d % 64) = partner d := by
  unfold partner
  split <;> split <;> omega

/-- A lane of a head among the columns that start at `o`, turned, by its column's number. -/
theorem turn_cols (y : Fin 4680 → EReal) (o p : ℕ) (d : Fin 512) (h1 : o + (d.val / 64 * 64 + d.val % 64) < 4680) (h2 : o + (d.val / 64 * 64 + partner (d.val % 64)) < 4680)
    (h3 : o + d.val < 4680) (h4 : o + partner d.val < 4680) :
    turnR (y ⟨o + (d.val / 64 * 64 + d.val % 64), h1⟩) (y ⟨o + (d.val / 64 * 64 + partner (d.val % 64)), h2⟩) p (d.val % 64) = turnR (y ⟨o + d.val, h3⟩) (y ⟨o + partner d.val, h4⟩) p d.val := by
  rw [turnR_head, (Fin.ext (by show o + (d.val / 64 * 64 + d.val % 64) = o + d.val; omega) : (⟨o + (d.val / 64 * 64 + d.val % 64), h1⟩ : Fin 4680) = ⟨o + d.val, h3⟩),
    (Fin.ext (congrArg (o + ·) (partner_head d.val)) : (⟨o + (d.val / 64 * 64 + partner (d.val % 64)), h2⟩ : Fin 4680) = ⟨o + partner d.val, h4⟩)]

end Cert.Dense

end
-- ==== Proof.InProjBlock.lean ====
module

public import proofs.«01_k».proof.Proof.Turn
public import proofs.«01_k».proof.Proof.Gen.Kernel2Ideal.Value
public import Idealize.ShloMosaic.Lib.Pointwise
public import Idealize.ShloMosaic.Lib.Pipeline.ValueKit.Tiles

@[expose] public section

set_option maxRecDepth 16384

noncomputable section

/- What the input projection's kernel leaves in its eight output blocks, as numbers of its input blocks. -/

namespace Cert.Kernel2Ideal.InProjValue

open Cert.Kernel2Ideal Cert.Kernel2Ideal.Gen Idealize.ShloMosaic Idealize.ShloMosaic.TcCoe Idealize.ShloMosaic.Tactic Idealize.SL.Sem Idealize.ShloMosaic.StableHlo
open Idealize.ShloMosaic.Pipeline (Dat)
open Cert.Dense

/-- The zero offset of a two-dimensional block. -/
theorem off2 : (![0, 0] : Fin 2 → ℕ) = fun _ => 0 := funext fun a => by fin_cases a <;> rfl

/-- Whether a lane is in the lower half of its head, as the kernel's integer operations decide it. -/
def lowBit (d : ℕ) : BitVec 1 :=
  IntOp.cmpi CmpIPredicate.slt
    (Scalar.select
      (IntOp.andi
        (IntOp.xori
          (IntOp.cmpi CmpIPredicate.slt (IntOp.remsi ArithUnit.vector (BitVec.ofNat 32 d) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 d) (Scalar.select (Scalar.cmpi CmpIPredicate.eq 64#32 0#32) 1#32 64#32)) 0#32))
      (IntOp.addi (IntOp.remsi ArithUnit.vector (BitVec.ofNat 32 d) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 d) (Scalar.select (Scalar.cmpi CmpIPredicate.eq 64#32 0#32) 1#32 64#32)))
    32#32

/-- The bit of a lane in the lower half. -/
theorem low_true : ∀ d : Fin 512, d.val % 64 < 32 → lowBit d.val = 1#1 := by decide +kernel

/-- The bit of a lane in the upper half. -/
theorem low_false : ∀ d : Fin 512, ¬ d.val % 64 < 32 → lowBit d.val = 0#1 := by decide +kernel

/-- The table's column of a lane. -/
def tcol (d : Fin 512) : Fin 128 := ⟨d.val % 128, by omega⟩

/-- A table repeated four times along the lanes, at a lane. -/
theorem wide (v : Fin 128 → EReal) (d : Fin 512) :
    (if h : d.val < 128 then v ⟨d.val, h⟩
      else if h : d.val - 128 < 128 then v ⟨d.val - 128, h⟩
      else if h : d.val - 128 - 128 < 128 then v ⟨d.val - 128 - 128, h⟩
      else v ⟨d.val - 128 - 128 - 128, by omega⟩) = v (tcol d) := by
  unfold tcol
  split_ifs <;> exact congrArg v (Fin.ext (by dsimp only; omega))

/-- The lane that a lane turns with. -/
def pair (d : Fin 512) : Fin 512 := ⟨partner d.val, partner_lt (by decide) d.isLt⟩

/-- The lane that a lane of a two-head block turns with. -/
def pair2 (d : Fin 128) : Fin 128 := ⟨partner d.val, partner_lt (by decide) d.isLt⟩

/-- The choice between the two rolled blocks is the partner lane. -/
theorem sel (a : Fin 512 → EReal) (d : Fin 512) (h1 : (d.val + 512 - 480) % 512 < 512) (h2 : (d.val + 512 - 32) % 512 < 512) :
    Scalar.select (lowBit d.val) (a ⟨(d.val + 512 - 480) % 512, h1⟩) (a ⟨(d.val + 512 - 32) % 512, h2⟩) = a (pair d) := by
  unfold pair partner
  by_cases h : d.val % 64 < 32
  · rw [low_true d h]
    refine congrArg a (Fin.ext ?_)
    dsimp only
    rw [if_pos h]; omega
  · rw [low_false d h]
    refine congrArg a (Fin.ext ?_)
    dsimp only
    rw [if_neg h]; omega

/-- The same for a block of two heads. -/
theorem sel2 (a : Fin 128 → EReal) (d : Fin 128) (h1 : (d.val + 128 - 96) % 128 < 128) (h2 : (d.val + 128 - 32) % 128 < 128) :
    Scalar.select (lowBit d.val) (a ⟨(d.val + 128 - 96) % 128, h1⟩) (a ⟨(d.val + 128 - 32) % 128, h2⟩) = a (pair2 d) := by
  unfold pair2 partner
  have hd := d.isLt
  by_cases h : d.val % 64 < 32
  · rw [low_true ⟨d.val, by omega⟩ h]
    refine congrArg a (Fin.ext ?_)
    dsimp only
    rw [if_pos h]; omega
  · rw [low_false ⟨d.val, by omega⟩ h]
    refine congrArg a (Fin.ext ?_)
    dsimp only
    rw [if_neg h]; omega

/-- Whether a lane is one of the first 64, as the kernel decides it. -/
theorem first_true : ∀ d : Fin 128, d.val < 64 → IntOp.cmpi CmpIPredicate.slt (BitVec.ofNat 32 d.val) 64#32 = 1#1 := by decide +kernel

/-- The other lanes. -/
theorem first_false : ∀ d : Fin 128, ¬ d.val < 64 → IntOp.cmpi CmpIPredicate.slt (BitVec.ofNat 32 d.val) 64#32 = 0#1 := by decide +kernel

section Turned

variable (v18 v20 : FVec Ideal S512x128 .f32) (a : FVec Ideal S512x512 .f32)

/-- The attention queries' block from its projection and the tables. -/
theorem pay_q (r d : Fin 512) :
    k0_pay12 v18 v20 a (dynamicRotate 1 32#32 none a rotates_S512x512_d1) (dynamicRotate 1 480#32 none a rotates_S512x512_d1) (iota .tc S512x512 32 [1] iota_S512x512_d1_w32) (Scalar.select (Scalar.cmpi .eq 64#32 0#32) 1#32 64#32) k0_pay11 (ix2 r d)
      = (a (ix2 r d) * v18 (ix2 r (tcol d)) + a (ix2 r (pair d)) * v20 (ix2 r (tcol d))) * Ideal.ofBits FTy.f32 1040187392#32 := by
  rw [← wide (fun j => v18 (ix2 r j)) d, ← wide (fun j => v20 (ix2 r j)) d, ← sel (fun j => a (ix2 r j)) d (by omega) (by omega)]
  unfold_payloads
  unfold lowBit
  pointwise

/-- The attention keys' block from its projection and the tables. -/
theorem pay_k (r d : Fin 512) :
    k0_pay20 v18 v20 a (dynamicRotate 1 32#32 none a rotates_S512x512_d1) (dynamicRotate 1 480#32 none a rotates_S512x512_d1) (Scalar.select (Scalar.cmpi .eq 64#32 0#32) 1#32 64#32) k0_pay16 k0_pay17 k0_pay18 k0_pay19 (ix2 r d)
      = a (ix2 r d) * v18 (ix2 r (tcol d)) + a (ix2 r (pair d)) * v20 (ix2 r (tcol d)) := by
  rw [← wide (fun j => v18 (ix2 r j)) d, ← wide (fun j => v20 (ix2 r j)) d, ← sel (fun j => a (ix2 r j)) d (by omega) (by omega)]
  unfold_payloads
  unfold lowBit
  pointwise

/-- The index queries' block from its projection and the tables. -/
theorem pay_qi (r d : Fin 512) :
    k0_pay28 v18 v20 a (dynamicRotate 1 32#32 none a rotates_S512x512_d1) (dynamicRotate 1 480#32 none a rotates_S512x512_d1) k0_pay25 k0_pay26 k0_pay27 (ix2 r d)
      = (a (ix2 r d) * v18 (ix2 r (tcol d)) + a (ix2 r (pair d)) * v20 (ix2 r (tcol d))) * Ideal.ofBits FTy.f32 1040187392#32 := by
  rw [← wide (fun j => v18 (ix2 r j)) d, ← wide (fun j => v20 (ix2 r j)) d, ← sel (fun j => a (ix2 r j)) d (by omega) (by omega)]
  unfold_payloads
  unfold lowBit
  pointwise

end Turned

section Block

variable (x0 : Vec Ideal S512x1024 .f32) (x1 : Vec Ideal S1x1024 .f32) (x2 : Vec Ideal S1024x4736 .bf16) (x3 x4 : Vec Ideal S512x128 .f32)

/-- One entry of a block's product with a column of the packed weights. -/
def colP (r : Fin 512) (n : Fin 4736) : EReal := projR (fun k => x0 (ix2 r k)) (fun k => x1 (ix2 0 k)) (fun k => x2 (ix2 k n))

/-- One entry of a block's projection. -/
theorem pay_p (w : Vec Ideal S1024x512 .bf16) (r d : Fin 512) :
    k0_pay7 x0 x1 w (ix2 r d) = projR (fun k => x0 (ix2 r k)) (fun k => x1 (ix2 0 k)) (fun k => w (ix2 k d)) := by
  unfold_payloads
  unfold projR normR dotR
  pointwise

/-- One entry of a gate's block. -/
theorem pay_gl (w : Vec Ideal S1024x1024 .bf16) (r : Fin 512) (d : Fin 1024) :
    k0_pay2 (k0_pay4 x0 x1) w (ix2 r d) = Ideal.logistic (projR (fun k => x0 (ix2 r k)) (fun k => x1 (ix2 0 k)) (fun k => w (ix2 k d))) := by
  unfold_payloads
  unfold projR normR dotR
  pointwise

/-- One entry of the other gate's block. -/
theorem pay_ga (w : Vec Ideal S1024x1024 .bf16) (r : Fin 512) (d : Fin 1024) :
    k0_pay3 (k0_pay4 x0 x1) w (ix2 r d) = Ideal.logistic (projR (fun k => x0 (ix2 r k)) (fun k => x1 (ix2 0 k)) (fun k => w (ix2 k d))) := by
  unfold_payloads
  unfold projR normR dotR
  pointwise

/-- One entry of the projection of the index keys and weights. -/
theorem pay_s (w : Vec Ideal S1024x128 .bf16) (r : Fin 512) (d : Fin 128) :
    k0_pay29 (k0_pay4 x0 x1) w (ix2 r d) = projR (fun k => x0 (ix2 r k)) (fun k => x1 (ix2 0 k)) (fun k => w (ix2 k d)) := by
  unfold_payloads
  unfold projR normR dotR
  pointwise

/-- The rolled choice of the index keys' block is the partner lane. -/
theorem pay_roll (u : FVec Ideal S512x1024 .bf16) (w : Vec Ideal S1024x128 .bf16) (r : Fin 512) (d : Fin 128) :
    k0_pay31 u w (ix2 r d) = k0_pay29 u w (ix2 r (pair2 d)) := by
  rw [← sel2 (fun j => k0_pay29 u w (ix2 r j)) d (by omega) (by omega)]
  unfold_payloads
  unfold lowBit
  pointwise

/-- The index keys' and weights' block from its projection. -/
theorem pay_kw (a b : FVec Ideal S512x128 .f32) (r : Fin 512) (d : Fin 128) :
    k0_pay1 x3 x4 a k0_pay30 b (ix2 r d)
      = if d.val < 64 then a (ix2 r d) * x3 (ix2 r d) + b (ix2 r d) * x4 (ix2 r d) else a (ix2 r d) * Ideal.ofBits FTy.f32 1052050675#32 := by
  have e : k0_pay1 x3 x4 a k0_pay30 b (ix2 r d)
      = Scalar.select (IntOp.cmpi CmpIPredicate.slt (BitVec.ofNat 32 d.val) 64#32) (a (ix2 r d) * x3 (ix2 r d) + b (ix2 r d) * x4 (ix2 r d)) (a (ix2 r d) * Ideal.ofBits FTy.f32 1052050675#32) := by
    unfold_payloads
    pointwise
  rw [e]
  by_cases h : d.val < 64
  · rw [first_true d h, if_pos h]; rfl
  · rw [first_false d h, if_neg h]; rfl

/-- A table's block as it is stored. -/
theorem pay_t (x : Vec Ideal S512x128 .f32) : k0_pay5 x = x := by
  funext y
  obtain ⟨r, d, rfl⟩ : ∃ (r : Fin 512) (d : Fin 128), y = ix2 r d := ⟨y 0, y 1, (ix2_eta y).symm⟩
  unfold_payloads
  pointwise

/-- The other table's block as it is stored. -/
theorem pay_t' (x : Vec Ideal S512x128 .f32) : k0_pay6 x = x := by
  funext y
  obtain ⟨r, d, rfl⟩ : ∃ (r : Fin 512) (d : Fin 128), y = ix2 r d := ⟨y 0, y 1, (ix2_eta y).symm⟩
  unfold_payloads
  pointwise

/-- The columns from 0 on, as the kernel loads them. -/
theorem ld3 (k : Fin 1024) (d : Fin 512) : View.ld x2 r0_3 (ix2 k d) = x2 (ix2 k ⟨0 + d.val, by have := d.isLt; omega⟩) := by
  refine View.ld_unit_apply_of x2 _ _ _ _ _ fun a => ?_
  match a with
  | ⟨0, _⟩ => show k.val = 0 + k.val; omega
  | ⟨1, _⟩ => show 0 + d.val = 0 + d.val; rfl

/-- The block's entry of those columns. -/
theorem pc3 (r : Fin 512) (d : Fin 512) : k0_pay7 x0 x1 (View.ld x2 r0_3) (ix2 r d) = colP x0 x1 x2 r ⟨0 + d.val, by have := d.isLt; omega⟩ :=
  (pay_p x0 x1 (View.ld x2 r0_3) r d).trans (congrArg (projR (fun k => x0 (ix2 r k)) (fun k => x1 (ix2 0 k))) (funext fun k => ld3 x2 k d))

/-- The columns from 512 on, as the kernel loads them. -/
theorem ld5 (k : Fin 1024) (d : Fin 512) : View.ld x2 r0_5 (ix2 k d) = x2 (ix2 k ⟨512 + d.val, by have := d.isLt; omega⟩) := by
  refine View.ld_unit_apply_of x2 _ _ _ _ _ fun a => ?_
  match a with
  | ⟨0, _⟩ => show k.val = 0 + k.val; omega
  | ⟨1, _⟩ => show 512 + d.val = 512 + d.val; rfl

/-- The block's entry of those columns. -/
theorem pc5 (r : Fin 512) (d : Fin 512) : k0_pay7 x0 x1 (View.ld x2 r0_5) (ix2 r d) = colP x0 x1 x2 r ⟨512 + d.val, by have := d.isLt; omega⟩ :=
  (pay_p x0 x1 (View.ld x2 r0_5) r d).trans (congrArg (projR (fun k => x0 (ix2 r k)) (fun k => x1 (ix2 0 k))) (funext fun k => ld5 x2 k d))

/-- The columns from 1024 on, as the kernel loads them. -/
theorem ld6 (k : Fin 1024) (d : Fin 512) : View.ld x2 r0_6 (ix2 k d) = x2 (ix2 k ⟨1024 + d.val, by have := d.isLt; omega⟩) := by
  refine View.ld_unit_apply_of x2 _ _ _ _ _ fun a => ?_
  match a with
  | ⟨0, _⟩ => show k.val = 0 + k.val; omega
  | ⟨1, _⟩ => show 1024 + d.val = 1024 + d.val; rfl

/-- The block's entry of those columns. -/
theorem pc6 (r : Fin 512) (d : Fin 512) : k0_pay7 x0 x1 (View.ld x2 r0_6) (ix2 r d) = colP x0 x1 x2 r ⟨1024 + d.val, by have := d.isLt; omega⟩ :=
  (pay_p x0 x1 (View.ld x2 r0_6) r d).trans (congrArg (projR (fun k => x0 (ix2 r k)) (fun k => x1 (ix2 0 k))) (funext fun k => ld6 x2 k d))

/-- The columns from 1536 on, as the kernel loads them. -/
theorem ld7 (k : Fin 1024) (d : Fin 512) : View.ld x2 r0_7 (ix2 k d) = x2 (ix2 k ⟨1536 + d.val, by have := d.isLt; omega⟩) := by
  refine View.ld_unit_apply_of x2 _ _ _ _ _ fun a => ?_
  match a with
  | ⟨0, _⟩ => show k.val = 0 + k.val; omega
  | ⟨1, _⟩ => show 1536 + d.val = 1536 + d.val; rfl

/-- The block's entry of those columns. -/
theorem pc7 (r : Fin 512) (d : Fin 512) : k0_pay7 x0 x1 (View.ld x2 r0_7) (ix2 r d) = colP x0 x1 x2 r ⟨1536 + d.val, by have := d.isLt; omega⟩ :=
  (pay_p x0 x1 (View.ld x2 r0_7) r d).trans (congrArg (projR (fun k => x0 (ix2 r k)) (fun k => x1 (ix2 0 k))) (funext fun k => ld7 x2 k d))

/-- The columns from 2048 on, as the kernel loads them. -/
theorem ld8 (k : Fin 1024) (d : Fin 512) : View.ld x2 r0_8 (ix2 k d) = x2 (ix2 k ⟨2048 + d.val, by have := d.isLt; omega⟩) := by
  refine View.ld_unit_apply_of x2 _ _ _ _ _ fun a => ?_
  match a with
  | ⟨0, _⟩ => show k.val = 0 + k.val; omega
  | ⟨1, _⟩ => show 2048 + d.val = 2048 + d.val; rfl

/-- The block's entry of those columns. -/
theorem pc8 (r : Fin 512) (d : Fin 512) : k0_pay7 x0 x1 (View.ld x2 r0_8) (ix2 r d) = colP x0 x1 x2 r ⟨2048 + d.val, by have := d.isLt; omega⟩ :=
  (pay_p x0 x1 (View.ld x2 r0_8) r d).trans (congrArg (projR (fun k => x0 (ix2 r k)) (fun k => x1 (ix2 0 k))) (funext fun k => ld8 x2 k d))

/-- The columns from 2560 on, as the kernel loads them. -/
theorem ld9 (k : Fin 1024) (d : Fin 128) : View.ld x2 r0_9 (ix2 k d) = x2 (ix2 k ⟨2560 + d.val, by have := d.isLt; omega⟩) := by
  refine View.ld_unit_apply_of x2 _ _ _ _ _ fun a => ?_
  match a with
  | ⟨0, _⟩ => show k.val = 0 + k.val; omega
  | ⟨1, _⟩ => show 2560 + d.val = 2560 + d.val; rfl

/-- The block's entry of those columns. -/
theorem pc9 (r : Fin 512) (d : Fin 128) : k0_pay29 (k0_pay4 x0 x1) (View.ld x2 r0_9) (ix2 r d) = colP x0 x1 x2 r ⟨2560 + d.val, by have := d.isLt; omega⟩ :=
  (pay_s x0 x1 (View.ld x2 r0_9) r d).trans (congrArg (projR (fun k => x0 (ix2 r k)) (fun k => x1 (ix2 0 k))) (funext fun k => ld9 x2 k d))

/-- The columns from 2688 on, as the kernel loads them. -/
theorem ld10 (k : Fin 1024) (d : Fin 1024) : View.ld x2 r0_10 (ix2 k d) = x2 (ix2 k ⟨2688 + d.val, by have := d.isLt; omega⟩) := by
  refine View.ld_unit_apply_of x2 _ _ _ _ _ fun a => ?_
  match a with
  | ⟨0, _⟩ => show k.val = 0 + k.val; omega
  | ⟨1, _⟩ => show 2688 + d.val = 2688 + d.val; rfl

/-- The block's entry of those columns. -/
theorem pc10 (r : Fin 512) (d : Fin 1024) : k0_pay2 (k0_pay4 x0 x1) (View.ld x2 r0_10) (ix2 r d) = Ideal.logistic (colP x0 x1 x2 r ⟨2688 + d.val, by have := d.isLt; omega⟩) :=
  (pay_gl x0 x1 (View.ld x2 r0_10) r d).trans (congrArg (fun z => Ideal.logistic (projR (fun k => x0 (ix2 r k)) (fun k => x1 (ix2 0 k)) z)) (funext fun k => ld10 x2 k d))

/-- The columns from 3712 on, as the kernel loads them. -/
theorem ld11 (k : Fin 1024) (d : Fin 1024) : View.ld x2 r0_11 (ix2 k d) = x2 (ix2 k ⟨3712 + d.val, by have := d.isLt; omega⟩) := by
  refine View.ld_unit_apply_of x2 _ _ _ _ _ fun a => ?_
  match a with
  | ⟨0, _⟩ => show k.val = 0 + k.val; omega
  | ⟨1, _⟩ => show 3712 + d.val = 3712 + d.val; rfl

/-- The block's entry of those columns. -/
theorem pc11 (r : Fin 512) (d : Fin 1024) : k0_pay3 (k0_pay4 x0 x1) (View.ld x2 r0_11) (ix2 r d) = Ideal.logistic (colP x0 x1 x2 r ⟨3712 + d.val, by have := d.isLt; omega⟩) :=
  (pay_ga x0 x1 (View.ld x2 r0_11) r d).trans (congrArg (fun z => Ideal.logistic (projR (fun k => x0 (ix2 r k)) (fun k => x1 (ix2 0 k)) z)) (funext fun k => ld11 x2 k d))

/-- The stored block of window 5 at an index. -/
theorem out_5 (r d : Fin 512) : out0_5 x0 x1 x2 x3 x4 (ix2 r d) = colP x0 x1 x2 r ⟨0 + d.val, by have := d.isLt; omega⟩ := by
  unfold_out out0_5
  rw [View.canon_unit_zero off2]
  simp only [View.ld_unit_zero (S := S512x1024) off2, View.ld_unit_zero (S := S1x1024) off2, View.ld_unit_zero (S := S512x128) off2]
  exact pc3 x0 x1 x2 r d

/-- The stored block of window 8 at an index. -/
theorem out_8 (r d : Fin 512) : out0_8 x0 x1 x2 x3 x4 (ix2 r d) = colP x0 x1 x2 r ⟨1536 + d.val, by have := d.isLt; omega⟩ := by
  unfold_out out0_8
  rw [View.canon_unit_zero off2]
  simp only [View.ld_unit_zero (S := S512x1024) off2, View.ld_unit_zero (S := S1x1024) off2, View.ld_unit_zero (S := S512x128) off2]
  exact pc7 x0 x1 x2 r d

/-- The stored block of window 6 at an index. -/
theorem out_6 (r d : Fin 512) :
    out0_6 x0 x1 x2 x3 x4 (ix2 r d)
      = (colP x0 x1 x2 r ⟨512 + d.val, by have := d.isLt; omega⟩ * x3 (ix2 r (tcol d)) + colP x0 x1 x2 r ⟨512 + (pair d).val, by have := (pair d).isLt; omega⟩ * x4 (ix2 r (tcol d))) * Ideal.ofBits FTy.f32 1040187392#32 := by
  unfold_out out0_6
  rw [View.canon_unit_zero off2]
  simp only [View.ld_unit_zero (S := S512x1024) off2, View.ld_unit_zero (S := S1x1024) off2, View.ld_unit_zero (S := S512x128) off2]
  rw [pay_t, pay_t']
  refine (pay_q x3 x4 (k0_pay7 x0 x1 (View.ld x2 r0_5)) r d).trans ?_
  rw [pc5, pc5]

/-- The stored block of window 7 at an index. -/
theorem out_7 (r d : Fin 512) :
    out0_7 x0 x1 x2 x3 x4 (ix2 r d)
      = colP x0 x1 x2 r ⟨1024 + d.val, by have := d.isLt; omega⟩ * x3 (ix2 r (tcol d)) + colP x0 x1 x2 r ⟨1024 + (pair d).val, by have := (pair d).isLt; omega⟩ * x4 (ix2 r (tcol d)) := by
  unfold_out out0_7
  rw [View.canon_unit_zero off2]
  simp only [View.ld_unit_zero (S := S512x1024) off2, View.ld_unit_zero (S := S1x1024) off2, View.ld_unit_zero (S := S512x128) off2]
  rw [pay_t, pay_t']
  refine (pay_k x3 x4 (k0_pay7 x0 x1 (View.ld x2 r0_6)) r d).trans ?_
  rw [pc6, pc6]

/-- The stored block of window 9 at an index. -/
theorem out_9 (r d : Fin 512) :
    out0_9 x0 x1 x2 x3 x4 (ix2 r d)
      = (colP x0 x1 x2 r ⟨2048 + d.val, by have := d.isLt; omega⟩ * x3 (ix2 r (tcol d)) + colP x0 x1 x2 r ⟨2048 + (pair d).val, by have := (pair d).isLt; omega⟩ * x4 (ix2 r (tcol d))) * Ideal.ofBits FTy.f32 1040187392#32 := by
  unfold_out out0_9
  rw [View.canon_unit_zero off2]
  simp only [View.ld_unit_zero (S := S512x1024) off2, View.ld_unit_zero (S := S1x1024) off2, View.ld_unit_zero (S := S512x128) off2]
  rw [pay_t, pay_t']
  refine (pay_qi x3 x4 (k0_pay7 x0 x1 (View.ld x2 r0_8)) r d).trans ?_
  rw [pc8, pc8]

/-- The stored block of window 10 at an index. -/
theorem out_10 (r : Fin 512) (d : Fin 128) :
    out0_10 x0 x1 x2 x3 x4 (ix2 r d)
      = if d.val < 64 then colP x0 x1 x2 r ⟨2560 + d.val, by have := d.isLt; omega⟩ * x3 (ix2 r d) + colP x0 x1 x2 r ⟨2560 + (pair2 d).val, by have := (pair2 d).isLt; omega⟩ * x4 (ix2 r d)
        else colP x0 x1 x2 r ⟨2560 + d.val, by have := d.isLt; omega⟩ * Ideal.ofBits FTy.f32 1052050675#32 := by
  unfold_out out0_10
  rw [View.canon_unit_zero off2]
  simp only [View.ld_unit_zero (S := S512x1024) off2, View.ld_unit_zero (S := S1x1024) off2, View.ld_unit_zero (S := S512x128) off2]
  rw [pay_t, pay_t']
  refine (pay_kw x3 x4 (k0_pay29 (k0_pay4 x0 x1) (View.ld x2 r0_9)) (k0_pay31 (k0_pay4 x0 x1) (View.ld x2 r0_9)) r d).trans ?_
  rw [pay_roll, pc9, pc9]

/-- The stored block of window 11 at an index. -/
theorem out_11 (r : Fin 512) (d : Fin 1024) : out0_11 x0 x1 x2 x3 x4 (ix2 r d) = Ideal.logistic (colP x0 x1 x2 r ⟨2688 + d.val, by have := d.isLt; omega⟩) := by
  unfold_out out0_11
  rw [View.canon_unit_zero off2]
  simp only [View.ld_unit_zero (S := S512x1024) off2, View.ld_unit_zero (S := S1x1024) off2, View.ld_unit_zero (S := S512x128) off2]
  exact pc10 x0 x1 x2 r d

/-- The stored block of window 12 at an index. -/
theorem out_12 (r : Fin 512) (d : Fin 1024) : out0_12 x0 x1 x2 x3 x4 (ix2 r d) = Ideal.logistic (colP x0 x1 x2 r ⟨3712 + d.val, by have := d.isLt; omega⟩) := by
  unfold_out out0_12
  rw [View.canon_unit_zero off2]
  simp only [View.ld_unit_zero (S := S512x1024) off2, View.ld_unit_zero (S := S1x1024) off2, View.ld_unit_zero (S := S512x128) off2]
  exact pc11 x0 x1 x2 r d

end Block

end Cert.Kernel2Ideal.InProjValue

end
-- ==== Proof.InProjHost.lean ====
module

public import proofs.«01_k».proof.Proof.InProjBlock
public import Idealize.ShloMosaic.Lib.StableHlo.RunRead

@[expose] public section

set_option maxRecDepth 16384

noncomputable section

/- What the host lays out for the input projection's kernel: the packed weights, the tables of the angles, the gains and the flat rows. -/

namespace Cert.Kernel2Ideal.InProjValue

open Cert.Kernel2Ideal Cert.Kernel2Ideal.Gen Idealize.ShloMosaic Idealize.ShloMosaic.TcCoe Idealize.ShloMosaic.Tactic Idealize.SL.Sem Idealize.ShloMosaic.StableHlo
open Idealize.ShloMosaic.Pipeline (Dat)
open Cert.Dense

/-- The packed weights' host form. -/
def form_pack (w : FVec Ideal S1x1024x4680 .f32) : FVec Ideal S1024x4736 .bf16 :=
  truncf (F := Ideal) .bf16 (concatenate S1024x4736 1 [⟨S1024x2560, extractStridedSlice S1024x2560 ![0, 0] (shapeCast S1024x4680 w shapeCasts_S1x1024x4680_S1024x4680) slices_S1024x4680_S1024x2560_0_0⟩,
    ⟨S1024x72, extractStridedSlice S1024x72 ![0, 2560] (shapeCast S1024x4680 w shapeCasts_S1x1024x4680_S1024x4680) slices_S1024x4680_S1024x72_0_2560⟩,
    ⟨S1024x56, broadcastInDim S1024x56 ![] bcast_S_S1024x56 (constant (F := Ideal) S_ .f32 0x00000000#32)⟩,
    ⟨S1024x2048, extractStridedSlice S1024x2048 ![0, 2632] (shapeCast S1024x4680 w shapeCasts_S1x1024x4680_S1024x4680) slices_S1024x4680_S1024x2048_0_2632⟩] concatenates_S1024x2560_S1024x72_S1024x56_S1024x2048_S1024x4736_d1) bitsLt_bf16_f32

/-- The packed weights at an index. -/
theorem form_pack_at (w : FVec Ideal S1x1024x4680 .f32) (k : Fin 1024) (n : Fin 4736) :
    form_pack w (ix2 k n)
      = if h : n.val < 2560 then w (ix3 0 k ⟨n.val, by omega⟩)
        else if h : n.val - 2560 < 72 then w (ix3 0 k ⟨2560 + (n.val - 2560), by omega⟩)
        else if h : n.val - 2560 - 72 < 56 then 0 else w (ix3 0 k ⟨2632 + (n.val - 2560 - 72 - 56), by omega⟩) := by
  unfold form_pack
  pointwise

/-- The packed columns before the gap. -/
theorem pack_lo (w : FVec Ideal S1x1024x4680 .f32) (k : Fin 1024) (n : Fin 4736) (h : n.val < 2632) :
    form_pack w (ix2 k n) = w (ix3 0 k ⟨n.val, by omega⟩) := by
  rw [form_pack_at]
  by_cases h1 : n.val < 2560
  · rw [dif_pos h1]
  · rw [dif_neg h1, dif_pos (by omega)]
    exact congrArg (fun j => w (ix3 0 k j)) (Fin.ext (by dsimp only; omega))

/-- The packed columns of the gap. -/
theorem pack_gap (w : FVec Ideal S1x1024x4680 .f32) (k : Fin 1024) (n : Fin 4736) (h : ¬ n.val < 2632) (h' : n.val < 2688) :
    form_pack w (ix2 k n) = (0 : EReal) := by
  rw [form_pack_at, dif_neg (by omega), dif_neg (by omega), dif_pos (by omega)]

/-- The packed columns after the gap. -/
theorem pack_hi (w : FVec Ideal S1x1024x4680 .f32) (k : Fin 1024) (n : Fin 4736) (h : ¬ n.val < 2688) :
    form_pack w (ix2 k n) = w (ix3 0 k ⟨n.val - 56, by omega⟩) := by
  rw [form_pack_at, dif_neg (by omega), dif_neg (by omega), dif_neg (by omega)]
  exact congrArg (fun j => w (ix3 0 k j)) (Fin.ext (by dsimp only; omega))

/-- The angles' host form. -/
def form_ang : FVec Ideal S2048x32 .f32 := (mulf (broadcastInDim S2048x32 ![0, 1] bcast_S2048x1_S2048x32_0_1 (broadcastInDim S2048x1 ![0] bcast_S2048_S2048x1_0 (sitofp (F := Ideal) .f32 (iotaInDim S2048 32 0)))) (broadcastInDim S2048x32 ![0, 1] bcast_S1x32_S2048x32_0_1 (broadcastInDim S1x32 ![1] bcast_S32_S1x32_1 (Host.powf (broadcastInDim S32 ![] bcast_S_S32 (constant (F := Ideal) S_ .f32 0x461C4000#32)) (Host.divf (Host.negf (addf (broadcastInDim S32 ![] bcast_S_S32 (constant (F := Ideal) S_ .f32 0x00000000#32)) (mulf (broadcastInDim S32 ![] bcast_S_S32 (constant (F := Ideal) S_ .f32 0x40000000#32)) (sitofp (F := Ideal) .f32 (iotaInDim S32 32 0))))) (broadcastInDim S32 ![] bcast_S_S32 (constant (F := Ideal) S_ .f32 0x42800000#32)))))))

/-- The angles at an index. -/
theorem form_ang_at (p : Fin 2048) (j : Fin 32) : form_ang (ix2 p j) = angR p.val j.val := by
  unfold form_ang angR
  pointwise

/-- A table's host form: four parts along the lanes. -/
def form_tab (a b e f : FVec Ideal S2048x32 .f32) : FVec Ideal S2048x128 .f32 :=
  concatenate S2048x128 1 [⟨S2048x32, a⟩, ⟨S2048x32, b⟩, ⟨S2048x32, e⟩, ⟨S2048x32, f⟩] concatenates_S2048x32_S2048x32_S2048x32_S2048x32_S2048x128_d1

/-- A table at an index. -/
theorem form_tab_at (a b e f : FVec Ideal S2048x32 .f32) (p : Fin 2048) (j : Fin 128) :
    form_tab a b e f (ix2 p j)
      = if h : j.val < 32 then a (ix2 p ⟨j.val, h⟩)
        else if h : j.val - 32 < 32 then b (ix2 p ⟨j.val - 32, h⟩)
        else if h : j.val - 32 - 32 < 32 then e (ix2 p ⟨j.val - 32 - 32, h⟩)
        else f (ix2 p ⟨j.val - 32 - 32 - 32, by omega⟩) := by
  unfold form_tab
  pointwise

/-- The cosines' host form. -/
def form_c : FVec Ideal S2048x32 .f32 := Host.cos form_ang
/-- The sines' host form. -/
def form_s : FVec Ideal S2048x32 .f32 := Host.sin form_ang
/-- The host form of the sines' opposites. -/
def form_n : FVec Ideal S2048x32 .f32 := Host.negf form_s

/-- The cosines at an index. -/
theorem form_c_at (p : Fin 2048) (j : Fin 32) : form_c (ix2 p j) = Ideal.cos (angR p.val j.val) := by
  have e : form_c (ix2 p j) = Ideal.cos (form_ang (ix2 p j)) := by unfold form_c; pointwise
  rw [e, form_ang_at]

/-- The sines at an index. -/
theorem form_s_at (p : Fin 2048) (j : Fin 32) : form_s (ix2 p j) = Ideal.sin (angR p.val j.val) := by
  have e : form_s (ix2 p j) = Ideal.sin (form_ang (ix2 p j)) := by unfold form_s; pointwise
  rw [e, form_ang_at]

/-- The sines' opposites at an index. -/
theorem form_n_at (p : Fin 2048) (j : Fin 32) : form_n (ix2 p j) = -Ideal.sin (angR p.val j.val) := by
  have e : form_n (ix2 p j) = -(form_s (ix2 p j)) := by unfold form_n; pointwise
  rw [e, form_s_at]

/-- The cosines' table at an index. -/
theorem cos_at (p : Fin 2048) (j : Fin 128) : form_tab form_c form_c form_c form_c (ix2 p j) = Ideal.cos (angR p.val (j.val % 32)) := by
  rw [form_tab_at]
  split_ifs <;> rw [form_c_at] <;> exact congrArg (fun l => Ideal.cos (angR p.val l)) (by dsimp only; omega)

/-- The signed sines' table at an index. -/
theorem sin_at (p : Fin 2048) (j : Fin 128) :
    form_tab form_n form_s form_n form_s (ix2 p j) = if j.val % 64 < 32 then -Ideal.sin (angR p.val (j.val % 32)) else Ideal.sin (angR p.val (j.val % 32)) := by
  rw [form_tab_at]
  have hj := j.isLt
  split_ifs <;> first
    | omega
    | (rw [form_n_at]; exact congrArg (fun l => -Ideal.sin (angR p.val l)) (by dsimp only; omega))
    | (rw [form_s_at]; exact congrArg (fun l => Ideal.sin (angR p.val l)) (by dsimp only; omega))

/-- The gains' host form. -/
def form_gain (x : (⟨S1x1024, .f32⟩ : BufTy).Contents (Elt Ideal)) : (⟨S1x1024, .f32⟩ : BufTy).Contents (Elt Ideal) :=
  shapeCast S1x1024 (shapeCast S1024 x shapeCasts_S1x1024_S1024) shapeCasts_S1024_S1x1024

/-- The gains at an index. -/
theorem form_gain_at (x : (⟨S1x1024, .f32⟩ : BufTy).Contents (Elt Ideal)) (d : Fin 1024) : form_gain x (ix2 0 d) = (x (ix2 0 d) : EReal) := by
  unfold form_gain
  pointwise

/-- The flat rows' host form. -/
def form_x (x : (⟨S32x2048x1024, .f32⟩ : BufTy).Contents (Elt Ideal)) : (⟨S65536x1024, .f32⟩ : BufTy).Contents (Elt Ideal) :=
  shapeCast S65536x1024 x shapeCasts_S32x2048x1024_S65536x1024

/-- The flat rows at an index. -/
theorem form_x_at (x : (⟨S32x2048x1024, .f32⟩ : BufTy).Contents (Elt Ideal)) (r : Fin 65536) (d : Fin 1024) :
    form_x x (ix2 r d) = (x (ix3 ⟨r.val / 2048, by omega⟩ ⟨r.val % 2048, by omega⟩ d) : EReal) := by
  unfold form_x
  pointwise

variable (m : (ℓ : Loc nD τ sig) → Buf (Elt Ideal) ℓ) (c : Dev nD)

set_option maxRecDepth 65536 in
set_option maxHeartbeats 1000000 in
/-- What the host leaves in the array `main_v0`. -/
theorem host_v0 : V m c main_v0 = form_x (m ((c : Thread nD τ).loc main_arg0)) := by
  show StableHlo.after hostOps0 (fun b => m (c, b)) (Proc.devRef .tc main_v0) = _
  simp only [hostOps0]
  after_reads_simp
  try rfl

set_option maxRecDepth 65536 in
set_option maxHeartbeats 1000000 in
/-- What the host leaves in the array `main_v32`. -/
theorem host_v32 : V m c main_v32 = form_gain (m ((c : Thread nD τ).loc main_arg1)) := by
  show StableHlo.after hostOps0 (fun b => m (c, b)) (Proc.devRef .tc main_v32) = _
  simp only [hostOps0]
  after_reads_simp
  try rfl

set_option maxRecDepth 65536 in
set_option maxHeartbeats 1000000 in
/-- What the host leaves in the array `main_v8`. -/
theorem host_v8 : V m c main_v8 = form_pack (m ((c : Thread nD τ).loc main_arg2)) := by
  show StableHlo.after hostOps0 (fun b => m (c, b)) (Proc.devRef .tc main_v8) = _
  simp only [hostOps0]
  after_reads_simp
  try rfl

set_option maxRecDepth 65536 in
set_option maxHeartbeats 1000000 in
/-- What the host leaves in the array `main_v28`. -/
theorem host_v28 : V m c main_v28 = form_tab form_c form_c form_c form_c := by
  show StableHlo.after hostOps0 (fun b => m (c, b)) (Proc.devRef .tc main_v28) = _
  simp only [hostOps0]
  after_reads_simp
  try rfl

set_option maxRecDepth 65536 in
set_option maxHeartbeats 1000000 in
/-- What the host leaves in the array `main_v31`. -/
theorem host_v31 : V m c main_v31 = form_tab form_n form_s form_n form_s := by
  show StableHlo.after hostOps0 (fun b => m (c, b)) (Proc.devRef .tc main_v31) = _
  simp only [hostOps0]
  after_reads_simp
  try rfl

end Cert.Kernel2Ideal.InProjValue

end
-- ==== Proof.InProjPoint.lean ====
module

public import proofs.«01_k».proof.Proof.InProjHost

@[expose] public section

set_option maxRecDepth 16384

noncomputable section

/- What a grid point of the input projection leaves in its eight windows, for any rows, weights and positions. The prompt batch and the
   sample batch both take their values from here. -/

namespace Cert.Dense

open Idealize.ShloMosaic

/-- The channels of the recurrence, from a row's projection. -/
def xlS (y : Fin 4680 → EReal) (d : Fin 512) : EReal := y ⟨0 + d.val, by omega⟩

/-- The attention queries, from a row's projection and its position. -/
def qS (y : Fin 4680 → EReal) (p : ℕ) (d : Fin 512) : EReal :=
  turnR (y ⟨512 + d.val, by omega⟩) (y ⟨512 + partner d.val, by have := partner_lt (n := 512) (by decide) d.isLt; omega⟩) p d.val * Ideal.ofBits FTy.f32 1040187392#32

/-- The attention keys, from a row's projection and its position. -/
def kS (y : Fin 4680 → EReal) (p : ℕ) (d : Fin 512) : EReal :=
  turnR (y ⟨1024 + d.val, by omega⟩) (y ⟨1024 + partner d.val, by have := partner_lt (n := 512) (by decide) d.isLt; omega⟩) p d.val

/-- The attention values, from a row's projection. -/
def vS (y : Fin 4680 → EReal) (d : Fin 512) : EReal := y ⟨1536 + d.val, by omega⟩

/-- The index queries, from a row's projection and its position. -/
def qiS (y : Fin 4680 → EReal) (p : ℕ) (d : Fin 512) : EReal :=
  turnR (y ⟨2048 + d.val, by omega⟩) (y ⟨2048 + partner d.val, by have := partner_lt (n := 512) (by decide) d.isLt; omega⟩) p d.val * Ideal.ofBits FTy.f32 1040187392#32

/-- The index keys and weights, from a row's projection and its position: turned keys, scaled weights, then zeros. -/
def kwS (y : Fin 4680 → EReal) (p : ℕ) (d : Fin 128) : EReal :=
  if h : d.val < 64 then turnR (y ⟨2560 + d.val, by omega⟩) (y ⟨2560 + partner d.val, by have := partner_lt (n := 64) (by decide) h; omega⟩) p d.val
  else if h : d.val < 72 then y ⟨2560 + d.val, by omega⟩ * Ideal.ofBits FTy.f32 1052050675#32
  else 0

/-- The gate of the recurrence, from a row's projection. -/
def glS (y : Fin 4680 → EReal) (d : Fin 1024) : EReal := Ideal.logistic (y ⟨2632 + d.val, by omega⟩)

/-- The gate of the attention, from a row's projection. -/
def gaS (y : Fin 4680 → EReal) (d : Fin 1024) : EReal := Ideal.logistic (y ⟨3656 + d.val, by omega⟩)

/-- A turned lane, from a lane, its partner and the table's entries. -/
theorem turned (a b cs sn : EReal) (p l j : ℕ) (hj : j % 32 = l % 32) (hj' : j % 64 = l % 64)
    (hc : cs = Ideal.cos (angR p (j % 32))) (hs : sn = if j % 64 < 32 then -Ideal.sin (angR p (j % 32)) else Ideal.sin (angR p (j % 32))) :
    a * cs + b * sn = turnR a b p l := by
  rw [turnR_signed, hc, hs, hj, hj']

end Cert.Dense

namespace Cert.Kernel2Ideal.InProjValue

open Cert.Kernel2Ideal Cert.Kernel2Ideal.Gen Idealize.ShloMosaic Idealize.ShloMosaic.TcCoe Idealize.ShloMosaic.Tactic Idealize.SL.Sem Idealize.ShloMosaic.StableHlo
open Cert.Dense

/-- The blocks hold the rows `x`, the gains `g`, the packed weights `w` and the tables of the positions `p`. -/
structure Holds (x0 : Vec Ideal S512x1024 .f32) (x1 : Vec Ideal S1x1024 .f32) (x2 : Vec Ideal S1024x4736 .bf16) (x3 x4 : Vec Ideal S512x128 .f32)
    (x : Fin 512 → Fin 1024 → EReal) (g : Fin 1024 → EReal) (w : FVec Ideal S1x1024x4680 .f32) (p : Fin 512 → ℕ) : Prop where
  rows : ∀ r k, (x0 (ix2 r k) : EReal) = x r k
  gains : ∀ k, (x1 (ix2 0 k) : EReal) = g k
  weights : ∀ k n, (x2 (ix2 k n) : EReal) = form_pack w (ix2 k n)
  cosines : ∀ r (j : Fin 128), (x3 (ix2 r j) : EReal) = Ideal.cos (angR (p r) (j.val % 32))
  sines : ∀ r (j : Fin 128), (x4 (ix2 r j) : EReal) = if j.val % 64 < 32 then -Ideal.sin (angR (p r) (j.val % 32)) else Ideal.sin (angR (p r) (j.val % 32))

/-- The projection of a row: its products with the columns of the weights. -/
def rowP (x : Fin 1024 → EReal) (g : Fin 1024 → EReal) (w : FVec Ideal S1x1024x4680 .f32) (n : Fin 4680) : EReal :=
  projR x g (fun k => w (ix3 0 k n))

namespace Holds

variable {x0 : Vec Ideal S512x1024 .f32} {x1 : Vec Ideal S1x1024 .f32} {x2 : Vec Ideal S1024x4736 .bf16} {x3 x4 : Vec Ideal S512x128 .f32}
  {x : Fin 512 → Fin 1024 → EReal} {g : Fin 1024 → EReal} {w : FVec Ideal S1x1024x4680 .f32} {p : Fin 512 → ℕ} (H : Holds x0 x1 x2 x3 x4 x g w p)
include H

/-- A block's entry of a packed column before the gap. -/
theorem lo (r : Fin 512) (n : Fin 4736) (h : n.val < 2632) : colP x0 x1 x2 r n = rowP (x r) g w ⟨n.val, by omega⟩ := by
  unfold colP rowP
  congr 1
  · exact funext fun k => H.rows r k
  · exact funext fun k => H.gains k
  · exact funext fun k => (H.weights k n).trans (pack_lo _ k n h)

/-- A block's entry of a packed column of the gap. -/
theorem gap (r : Fin 512) (n : Fin 4736) (h : ¬ n.val < 2632) (h' : n.val < 2688) : colP x0 x1 x2 r n = 0 := by
  unfold colP projR dotR
  refine Finset.sum_eq_zero fun k _ => ?_
  exact (congrArg (fun z : EReal => _ * z) ((H.weights k n).trans (pack_gap _ k n h h'))).trans (mul_zero _)

/-- A block's entry of a packed column after the gap. -/
theorem hi (r : Fin 512) (n : Fin 4736) (h : ¬ n.val < 2688) : colP x0 x1 x2 r n = rowP (x r) g w ⟨n.val - 56, by omega⟩ := by
  unfold colP rowP
  congr 1
  · exact funext fun k => H.rows r k
  · exact funext fun k => H.gains k
  · exact funext fun k => (H.weights k n).trans (pack_hi _ k n h)

/-- A turned lane of a block, from two of its columns before the gap. -/
theorem lane (r : Fin 512) (n n' : Fin 4736) (h : n.val < 2632) (h' : n'.val < 2632) (j : Fin 128) (l : ℕ) (hj : j.val % 32 = l % 32) (hj' : j.val % 64 = l % 64) :
    (colP x0 x1 x2 r n * x3 (ix2 r j) + colP x0 x1 x2 r n' * x4 (ix2 r j) : EReal) = turnR (rowP (x r) g w ⟨n.val, by omega⟩) (rowP (x r) g w ⟨n'.val, by omega⟩) (p r) l := by
  rw [H.lo r n h, H.lo r n' h']
  exact turned _ _ _ _ _ l j.val hj hj' (H.cosines r j) (H.sines r j)

/-- What a grid point leaves in window 5. -/
theorem point5 (r d : Fin 512) : out0_5 x0 x1 x2 x3 x4 (ix2 r d) = xlS (rowP (x r) g w) d :=
  (out_5 x0 x1 x2 x3 x4 r d).trans (H.lo r ⟨0 + d.val, by omega⟩ (by show 0 + d.val < 2632; omega))

/-- What a grid point leaves in window 6. -/
theorem point6 (r d : Fin 512) : out0_6 x0 x1 x2 x3 x4 (ix2 r d) = qS (rowP (x r) g w) (p r) d :=
  (out_6 x0 x1 x2 x3 x4 r d).trans (congrArg (fun z : EReal => z * Ideal.ofBits FTy.f32 1040187392#32)
    (H.lane r _ _ (by show 512 + d.val < 2632; omega) (by show 512 + (pair d).val < 2632; omega) (tcol d) d.val
      (by show d.val % 128 % 32 = d.val % 32; omega) (by show d.val % 128 % 64 = d.val % 64; omega)))

/-- What a grid point leaves in window 7. -/
theorem point7 (r d : Fin 512) : out0_7 x0 x1 x2 x3 x4 (ix2 r d) = kS (rowP (x r) g w) (p r) d :=
  (out_7 x0 x1 x2 x3 x4 r d).trans
    (H.lane r _ _ (by show 1024 + d.val < 2632; omega) (by show 1024 + (pair d).val < 2632; omega) (tcol d) d.val
      (by show d.val % 128 % 32 = d.val % 32; omega) (by show d.val % 128 % 64 = d.val % 64; omega))

/-- What a grid point leaves in window 8. -/
theorem point8 (r d : Fin 512) : out0_8 x0 x1 x2 x3 x4 (ix2 r d) = vS (rowP (x r) g w) d :=
  (out_8 x0 x1 x2 x3 x4 r d).trans (H.lo r ⟨1536 + d.val, by omega⟩ (by show 1536 + d.val < 2632; omega))

/-- What a grid point leaves in window 9. -/
theorem point9 (r d : Fin 512) : out0_9 x0 x1 x2 x3 x4 (ix2 r d) = qiS (rowP (x r) g w) (p r) d :=
  (out_9 x0 x1 x2 x3 x4 r d).trans (congrArg (fun z : EReal => z * Ideal.ofBits FTy.f32 1040187392#32)
    (H.lane r _ _ (by show 2048 + d.val < 2632; omega) (by show 2048 + (pair d).val < 2632; omega) (tcol d) d.val
      (by show d.val % 128 % 32 = d.val % 32; omega) (by show d.val % 128 % 64 = d.val % 64; omega)))

/-- What a grid point leaves in window 10. -/
theorem point10 (r : Fin 512) (d : Fin 128) : out0_10 x0 x1 x2 x3 x4 (ix2 r d) = kwS (rowP (x r) g w) (p r) d := by
  refine (out_10 x0 x1 x2 x3 x4 r d).trans ?_
  have hd := d.isLt
  unfold kwS
  by_cases h : d.val < 64
  · have hp : partner d.val < 64 := partner_lt (n := 64) (by decide) h
    rw [if_pos h, dif_pos h]
    exact H.lane r _ _ (by show 2560 + d.val < 2632; omega) (by show 2560 + partner d.val < 2632; omega) d d.val rfl rfl
  · rw [if_neg h, dif_neg h]
    by_cases h' : d.val < 72
    · rw [dif_pos h', H.lo r ⟨2560 + d.val, by omega⟩ (by show 2560 + d.val < 2632; omega)]
    · rw [dif_neg h', H.gap r ⟨2560 + d.val, by omega⟩ (by show ¬ 2560 + d.val < 2632; omega) (by show 2560 + d.val < 2688; omega), zero_mul]

/-- What a grid point leaves in window 11. -/
theorem point11 (r : Fin 512) (d : Fin 1024) : out0_11 x0 x1 x2 x3 x4 (ix2 r d) = glS (rowP (x r) g w) d := by
  refine (out_11 x0 x1 x2 x3 x4 r d).trans (congrArg Ideal.logistic ((H.hi r ⟨2688 + d.val, by omega⟩ (by show ¬ 2688 + d.val < 2688; omega)).trans ?_))
  exact congrArg (rowP (x r) g w) (Fin.ext (by show 2688 + d.val - 56 = 2632 + d.val; omega))

/-- What a grid point leaves in window 12. -/
theorem point12 (r : Fin 512) (d : Fin 1024) : out0_12 x0 x1 x2 x3 x4 (ix2 r d) = gaS (rowP (x r) g w) d := by
  refine (out_12 x0 x1 x2 x3 x4 r d).trans (congrArg Ideal.logistic ((H.hi r ⟨3712 + d.val, by omega⟩ (by show ¬ 3712 + d.val < 2688; omega)).trans ?_))
  exact congrArg (rowP (x r) g w) (Fin.ext (by show 3712 + d.val - 56 = 3656 + d.val; omega))

end Holds

end Cert.Kernel2Ideal.InProjValue

end
-- ==== Proof.SProjHost.lean ====
module

public import proofs.«01_k».proof.Proof.InProjPoint
public import proofs.«01_k».proof.Proof.Gen.Kernel5Ideal.Value
public import Idealize.ShloMosaic.Lib.StableHlo.RunRead

@[expose] public section

set_option maxRecDepth 16384

noncomputable section

/- What the host lays out for the input projection of the sample batch: the flat rows, and the tables of the angles of eight positions,
   repeated for the sequences of a block. The packed weights and the gains are laid out as for the prompt batch. -/

namespace Cert.Kernel5Ideal.SProjValue

open Cert.Kernel5Ideal Cert.Kernel5Ideal.Gen Idealize.ShloMosaic Idealize.ShloMosaic.TcCoe Idealize.ShloMosaic.Tactic Idealize.SL.Sem Idealize.ShloMosaic.StableHlo
open Idealize.ShloMosaic.Pipeline (Dat)
open Cert.Dense
open Cert.Kernel2Ideal.InProjValue (form_pack pack_lo pack_gap pack_hi form_gain form_gain_at)

/-- The position of the `p`-th token of a sequence of the sample batch, as the host's integer addition forms it. -/
theorem past_add (p : ℕ) : IntOp.addi 8192#32 (BitVec.ofNat 32 p) = BitVec.ofNat 32 (8192 + p) := (BitVec.ofNat_add ..).symm

/-- The angles' host form. -/
def form_ang : FVec Ideal S8x32 .f32 := (mulf (broadcastInDim S8x32 ![0, 1] bcast_S8x1_S8x32_0_1 (broadcastInDim S8x1 ![0] bcast_S8_S8x1_0 (sitofp (F := Ideal) .f32 (addi (broadcastInDim S8 ![] bcast_S_S8 (constantI S_ 32 8192#32)) (iotaInDim S8 32 0))))) (broadcastInDim S8x32 ![0, 1] bcast_S1x32_S8x32_0_1 (broadcastInDim S1x32 ![1] bcast_S32_S1x32_1 (Host.powf (broadcastInDim S32 ![] bcast_S_S32 (constant (F := Ideal) S_ .f32 0x461C4000#32)) (Host.divf (Host.negf (addf (broadcastInDim S32 ![] bcast_S_S32 (constant (F := Ideal) S_ .f32 0x00000000#32)) (mulf (broadcastInDim S32 ![] bcast_S_S32 (constant (F := Ideal) S_ .f32 0x40000000#32)) (sitofp (F := Ideal) .f32 (iotaInDim S32 32 0))))) (broadcastInDim S32 ![] bcast_S_S32 (constant (F := Ideal) S_ .f32 0x42800000#32)))))))

/-- The angles at an index. -/
theorem form_ang_at (p : Fin 8) (j : Fin 32) : form_ang (ix2 p j) = angR (8192 + p.val) j.val := by
  unfold form_ang angR
  rw [← past_add]
  pointwise

/-- A table's host form: four parts along the lanes. -/
def form_tab (a b e f : FVec Ideal S8x32 .f32) : FVec Ideal S8x128 .f32 :=
  concatenate S8x128 1 [⟨S8x32, a⟩, ⟨S8x32, b⟩, ⟨S8x32, e⟩, ⟨S8x32, f⟩] concatenates_S8x32_S8x32_S8x32_S8x32_S8x128_d1

/-- A table at an index. -/
theorem form_tab_at (a b e f : FVec Ideal S8x32 .f32) (p : Fin 8) (j : Fin 128) :
    form_tab a b e f (ix2 p j)
      = if h : j.val < 32 then a (ix2 p ⟨j.val, h⟩)
        else if h : j.val - 32 < 32 then b (ix2 p ⟨j.val - 32, h⟩)
        else if h : j.val - 32 - 32 < 32 then e (ix2 p ⟨j.val - 32 - 32, h⟩)
        else f (ix2 p ⟨j.val - 32 - 32 - 32, by omega⟩) := by
  unfold form_tab
  pointwise

/-- The cosines' host form. -/
def form_c : FVec Ideal S8x32 .f32 := Host.cos form_ang
/-- The sines' host form. -/
def form_s : FVec Ideal S8x32 .f32 := Host.sin form_ang
/-- The host form of the sines' opposites. -/
def form_n : FVec Ideal S8x32 .f32 := Host.negf form_s

/-- The cosines at an index. -/
theorem form_c_at (p : Fin 8) (j : Fin 32) : form_c (ix2 p j) = Ideal.cos (angR (8192 + p.val) j.val) := by
  have e : form_c (ix2 p j) = Ideal.cos (form_ang (ix2 p j)) := by unfold form_c; pointwise
  rw [e, form_ang_at]

/-- The sines at an index. -/
theorem form_s_at (p : Fin 8) (j : Fin 32) : form_s (ix2 p j) = Ideal.sin (angR (8192 + p.val) j.val) := by
  have e : form_s (ix2 p j) = Ideal.sin (form_ang (ix2 p j)) := by unfold form_s; pointwise
  rw [e, form_ang_at]

/-- The sines' opposites at an index. -/
theorem form_n_at (p : Fin 8) (j : Fin 32) : form_n (ix2 p j) = -Ideal.sin (angR (8192 + p.val) j.val) := by
  have e : form_n (ix2 p j) = -(form_s (ix2 p j)) := by unfold form_n; pointwise
  rw [e, form_s_at]

/-- The cosines' table at an index. -/
theorem cos_at (p : Fin 8) (j : Fin 128) : form_tab form_c form_c form_c form_c (ix2 p j) = Ideal.cos (angR (8192 + p.val) (j.val % 32)) := by
  rw [form_tab_at]
  split_ifs <;> rw [form_c_at] <;> exact congrArg (fun l => Ideal.cos (angR (8192 + p.val) l)) (by dsimp only; omega)

/-- The signed sines' table at an index. -/
theorem sin_at (p : Fin 8) (j : Fin 128) :
    form_tab form_n form_s form_n form_s (ix2 p j) = if j.val % 64 < 32 then -Ideal.sin (angR (8192 + p.val) (j.val % 32)) else Ideal.sin (angR (8192 + p.val) (j.val % 32)) := by
  rw [form_tab_at]
  have hj := j.isLt
  split_ifs <;> first
    | omega
    | (rw [form_n_at]; exact congrArg (fun l => -Ideal.sin (angR (8192 + p.val) l)) (by dsimp only; omega))
    | (rw [form_s_at]; exact congrArg (fun l => Ideal.sin (angR (8192 + p.val) l)) (by dsimp only; omega))

/-- A table repeated for the 64 sequences of a block. -/
def form_tile (v : FVec Ideal S8x128 .f32) : FVec Ideal S512x128 .f32 :=
  shapeCast S512x128 (broadcastInDim S64x8x1x128 ![0, 1, 2, 3] bcast_S1x8x1x128_S64x8x1x128_0_1_2_3 (shapeCast S1x8x1x128 v shapeCasts_S8x128_S1x8x1x128)) shapeCasts_S64x8x1x128_S512x128

/-- The repeated table at an index. -/
theorem form_tile_at (v : FVec Ideal S8x128 .f32) (r : Fin 512) (j : Fin 128) : form_tile v (ix2 r j) = v (ix2 ⟨r.val % 8, by omega⟩ j) := by
  unfold form_tile
  pointwise

/-- The flat rows' host form. -/
def form_x (x : (⟨S128x8x1024, .f32⟩ : BufTy).Contents (Elt Ideal)) : (⟨S1024x1024, .f32⟩ : BufTy).Contents (Elt Ideal) :=
  shapeCast S1024x1024 x shapeCasts_S128x8x1024_S1024x1024

/-- The flat rows at an index. -/
theorem form_x_at (x : (⟨S128x8x1024, .f32⟩ : BufTy).Contents (Elt Ideal)) (r : Fin 1024) (d : Fin 1024) :
    form_x x (ix2 r d) = (x (ix3 ⟨r.val / 8, by omega⟩ ⟨r.val % 8, by omega⟩ d) : EReal) := by
  unfold form_x
  pointwise

variable (m : (ℓ : Loc nD τ sig) → Buf (Elt Ideal) ℓ) (c : Dev nD)

set_option maxRecDepth 65536 in
set_option maxHeartbeats 1000000 in
/-- What the host leaves in the array `main_v0`. -/
theorem host_v0 : V m c main_v0 = form_x (m ((c : Thread nD τ).loc main_arg0)) := by
  show StableHlo.after hostOps0 (fun b => m (c, b)) (Proc.devRef .tc main_v0) = _
  simp only [hostOps0]
  after_reads_simp
  try rfl

set_option maxRecDepth 65536 in
set_option maxHeartbeats 1000000 in
/-- What the host leaves in the array `main_v40`. -/
theorem host_v40 : V m c main_v40 = form_gain (m ((c : Thread nD τ).loc main_arg1)) := by
  show StableHlo.after hostOps0 (fun b => m (c, b)) (Proc.devRef .tc main_v40) = _
  simp only [hostOps0]
  after_reads_simp
  try rfl

set_option maxRecDepth 65536 in
set_option maxHeartbeats 1000000 in
/-- What the host leaves in the array `main_v8`. -/
theorem host_v8 : V m c main_v8 = form_pack (m ((c : Thread nD τ).loc main_arg2)) := by
  show StableHlo.after hostOps0 (fun b => m (c, b)) (Proc.devRef .tc main_v8) = _
  simp only [hostOps0]
  after_reads_simp
  try rfl

set_option maxRecDepth 65536 in
set_option maxHeartbeats 1000000 in
/-- What the host leaves in the array `main_v36`. -/
theorem host_v36 : V m c main_v36 = form_tile (form_tab form_c form_c form_c form_c) := by
  show StableHlo.after hostOps0 (fun b => m (c, b)) (Proc.devRef .tc main_v36) = _
  simp only [hostOps0]
  after_reads_simp
  try rfl

set_option maxRecDepth 65536 in
set_option maxHeartbeats 1000000 in
/-- What the host leaves in the array `main_v39`. -/
theorem host_v39 : V m c main_v39 = form_tile (form_tab form_n form_s form_n form_s) := by
  show StableHlo.after hostOps0 (fun b => m (c, b)) (Proc.devRef .tc main_v39) = _
  simp only [hostOps0]
  after_reads_simp
  try rfl

end Cert.Kernel5Ideal.SProjValue

end
-- ==== Proof.SProjValue.lean ====
module

public import proofs.«01_k».proof.Proof.SProjHost

@[expose] public section

set_option maxRecDepth 16384

noncomputable section

/- What the eight result arrays of the sample batch's input projection hold, as numbers of the program's arguments. The kernel's blocks are
   those of the prompt batch, so what it leaves in a block is taken from there. -/

namespace Cert.Kernel5Ideal.SProjValue

open Cert.Kernel5Ideal Cert.Kernel5Ideal.Gen Idealize.ShloMosaic Idealize.ShloMosaic.TcCoe Idealize.ShloMosaic.Tactic Idealize.SL.Sem Idealize.ShloMosaic.StableHlo
open Idealize.ShloMosaic.Pipeline (Dat)
open Cert.Dense
open Cert.Kernel2Ideal.InProjValue (form_pack pack_lo pack_gap pack_hi form_gain form_gain_at Holds rowP)

variable (m : (ℓ : Loc nD τ sig) → Buf (Elt Ideal) ℓ) (c : Dev nD)

/-- The array's row that is row `r` of block `t`. -/
def row (t : Fin cfg0.N) (r : Fin 512) : Fin 1024 := ⟨512 * t.val + r.val, by have h : t.val < 2 := t.isLt; have := r.isLt; omega⟩

/-- The place of row `r` of a block in its sequence. -/
def pos (r : Fin 512) : Fin 8 := ⟨r.val % 8, by omega⟩

/-- The place is the row's place among the rows of its sequence. -/
theorem pos_eq (t : Fin cfg0.N) (r : Fin 512) : 8192 + (pos r).val = 8192 + (row t r).val % 8 := by
  show 8192 + r.val % 8 = 8192 + (512 * t.val + r.val) % 8
  omega

/-- The block of window 0 at an index. -/
theorem blk0 (t : Fin cfg0.N) (r : Fin 512) (k : Fin 1024) : iblk m c 0 t (ix2 r k) = m ((c : Thread nD τ).loc main_arg0) (ix3 ⟨(row t r).val / 8, by have := (row t r).isLt; omega⟩ ⟨(row t r).val % 8, by omega⟩ k) := by
  have hi := (by decide +kernel : ∀ t : Fin grid0.N, win0_0.index t 0 = t.val ∧ win0_0.index t 1 = 0) t
  unfold iblk
  rw [View.read_apply]
  refine Eq.trans ?_ ((congrFun (host_v0 m c) (ix2 (row t r) k)).trans (form_x_at _ (row t r) k))
  show V m c main_v0 _ = V m c main_v0 _
  refine congrArg (V m c main_v0) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- The block of window 1 at an index. -/
theorem blk1 (t : Fin cfg0.N) (k : Fin 1024) : iblk m c 1 t (ix2 0 k) = m ((c : Thread nD τ).loc main_arg1) (ix2 0 k) := by
  have hi := (by decide +kernel : ∀ t : Fin grid0.N, win0_1.index t 0 = 0 ∧ win0_1.index t 1 = 0) t
  unfold iblk
  rw [View.read_apply]
  refine Eq.trans ?_ ((congrFun (host_v40 m c) (ix2 0 k)).trans (form_gain_at _ k))
  show V m c main_v40 _ = V m c main_v40 _
  refine congrArg (V m c main_v40) (funext fun a => Fin.ext ?_)
  match a with
  | ⟨0, _⟩ => show win0_1.index t 0 * 1 + 1 * 0 = 0; rw [hi.1]
  | ⟨1, _⟩ => show win0_1.index t 1 * 1024 + 1 * k.val = k.val; rw [hi.2]; omega

/-- The block of window 2 at an index. -/
theorem blk2 (t : Fin cfg0.N) (k : Fin 1024) (n : Fin 4736) : iblk m c 2 t (ix2 k n) = form_pack (m ((c : Thread nD τ).loc main_arg2)) (ix2 k n) := by
  have hi := (by decide +kernel : ∀ t : Fin grid0.N, win0_2.index t 0 = 0 ∧ win0_2.index t 1 = 0) t
  unfold iblk
  rw [View.read_apply]
  refine Eq.trans ?_ (congrFun (host_v8 m c) (ix2 k n))
  show V m c main_v8 _ = V m c main_v8 _
  refine congrArg (V m c main_v8) (funext fun a => Fin.ext ?_)
  match a with
  | ⟨0, _⟩ => show win0_2.index t 0 * 1024 + 1 * k.val = k.val; rw [hi.1]; omega
  | ⟨1, _⟩ => show win0_2.index t 1 * 4736 + 1 * n.val = n.val; rw [hi.2]; omega

/-- The block of window 3 at an index. -/
theorem blk3 (t : Fin cfg0.N) (r : Fin 512) (j : Fin 128) : iblk m c 3 t (ix2 r j) = (Ideal.cos (angR (8192 + (pos r).val) (j.val % 32)) : EReal) := by
  have hi := (by decide +kernel : ∀ t : Fin grid0.N, win0_3.index t 0 = 0 ∧ win0_3.index t 1 = 0) t
  unfold iblk
  rw [View.read_apply]
  refine Eq.trans ?_ ((congrFun (host_v36 m c) (ix2 r j)).trans ((form_tile_at _ r j).trans (cos_at (pos r) j)))
  show V m c main_v36 _ = V m c main_v36 _
  refine congrArg (V m c main_v36) (funext fun a => Fin.ext ?_)
  match a with
  | ⟨0, _⟩ => show win0_3.index t 0 * 512 + 1 * r.val = r.val; rw [hi.1]; omega
  | ⟨1, _⟩ => show win0_3.index t 1 * 128 + 1 * j.val = j.val; rw [hi.2]; omega

/-- The block of window 4 at an index. -/
theorem blk4 (t : Fin cfg0.N) (r : Fin 512) (j : Fin 128) : iblk m c 4 t (ix2 r j) = (if j.val % 64 < 32 then -Ideal.sin (angR (8192 + (pos r).val) (j.val % 32)) else Ideal.sin (angR (8192 + (pos r).val) (j.val % 32)) : EReal) := by
  have hi := (by decide +kernel : ∀ t : Fin grid0.N, win0_4.index t 0 = 0 ∧ win0_4.index t 1 = 0) t
  unfold iblk
  rw [View.read_apply]
  refine Eq.trans ?_ ((congrFun (host_v39 m c) (ix2 r j)).trans ((form_tile_at _ r j).trans (sin_at (pos r) j)))
  show V m c main_v39 _ = V m c main_v39 _
  refine congrArg (V m c main_v39) (funext fun a => Fin.ext ?_)
  match a with
  | ⟨0, _⟩ => show win0_4.index t 0 * 512 + 1 * r.val = r.val; rw [hi.1]; omega
  | ⟨1, _⟩ => show win0_4.index t 1 * 128 + 1 * j.val = j.val; rw [hi.2]; omega

/-- The rows of the argument, as one array. -/
def rowX (r : Fin 1024) (k : Fin 1024) : EReal := m ((c : Thread nD τ).loc main_arg0) (ix3 ⟨r.val / 8, by omega⟩ ⟨r.val % 8, by omega⟩ k)

/-- One entry of a normalised row's product with a column of the weights. -/
def projE (r : Fin 1024) : Fin 4680 → EReal :=
  rowP (rowX m c r) (fun k => m ((c : Thread nD τ).loc main_arg1) (ix2 0 k)) (m ((c : Thread nD τ).loc main_arg2))

/-- A grid point's blocks hold its rows, the gains, the packed weights and the tables of its positions. -/
theorem holds (t : Fin cfg0.N) : Holds (iblk m c 0 t) (iblk m c 1 t) (iblk m c 2 t) (iblk m c 3 t) (iblk m c 4 t)
    (fun r => rowX m c (row t r)) (fun k => m ((c : Thread nD τ).loc main_arg1) (ix2 0 k)) (m ((c : Thread nD τ).loc main_arg2)) (fun r => 8192 + (row t r).val % 8) where
  rows r k := blk0 m c t r k
  gains k := blk1 m c t k
  weights k n := blk2 m c t k n
  cosines r j := by
    rw [← pos_eq t r]
    exact blk3 m c t r j
  sines r j := by
    rw [← pos_eq t r]
    exact blk4 m c t r j

/-- Result xl at a token and a column. -/
def xlE (r : Fin 1024) (d : Fin 512) : EReal := xlS (projE m c r) d

/-- Result q at a token and a column. -/
def qE (r : Fin 1024) (d : Fin 512) : EReal := qS (projE m c r) (8192 + r.val % 8) d

/-- Result k at a token and a column. -/
def kE (r : Fin 1024) (d : Fin 512) : EReal := kS (projE m c r) (8192 + r.val % 8) d

/-- Result v at a token and a column. -/
def vE (r : Fin 1024) (d : Fin 512) : EReal := vS (projE m c r) d

/-- Result qi at a token and a column. -/
def qiE (r : Fin 1024) (d : Fin 512) : EReal := qiS (projE m c r) (8192 + r.val % 8) d

/-- The index keys and weights at a token and a column. -/
def kwE (r : Fin 1024) (d : Fin 128) : EReal := kwS (projE m c r) (8192 + r.val % 8) d

/-- The gate gl at a token and a column. -/
def glE (r : Fin 1024) (d : Fin 1024) : EReal := glS (projE m c r) d

/-- The gate ga at a token and a column. -/
def gaE (r : Fin 1024) (d : Fin 1024) : EReal := gaS (projE m c r) d

/-- The result array xl. -/
def xlA : (⟨S1024x512, .f32⟩ : BufTy).Contents (Elt Ideal) := fun i => xlE m c (i 0) (i 1)

/-- What a grid point writes back to window 5 is its block of the result. -/
theorem flushed_eq5 (t : Fin cfg0.N) : (dats m 0 c).flushed 5 t = ((cfg0.win 5).blk t).view.read (Elt Ideal) (xlA m c) := by
  have hi := (by decide +kernel : ∀ t : Fin grid0.N, win0_5.index t 0 = t.val ∧ win0_5.index t 1 = 0) t
  rw [Value.flushed5]
  have key : ∀ y : S512x512.Idx, out0_5 (iblk m c 0 t) (iblk m c 1 t) (iblk m c 2 t) (iblk m c 3 t) (iblk m c 4 t) y = ((cfg0.win 5).blk t).view.read (Elt Ideal) (xlA m c) y := by
    intro y
    obtain ⟨r, d, rfl⟩ : ∃ (r : Fin 512) (d : Fin 512), y = ix2 r d := ⟨y 0, y 1, (ix2_eta y).symm⟩
    rw [View.read_apply]
    refine ((holds m c t).point5 r d).trans ?_
    show xlA m c (ix2 (row t r) d) = xlA m c _
    refine congrArg (xlA m c) (funext fun a => Fin.ext ?_)
    match a with
    | ⟨0, _⟩ => show 512 * t.val + r.val = win0_5.index t 0 * 512 + 1 * r.val; rw [hi.1]; omega
    | ⟨1, _⟩ => show d.val = win0_5.index t 1 * 512 + 1 * d.val; rw [hi.2]; omega
  exact funext key

/-- The result array xl after the run. -/
theorem final5 : (dats m 0 c).arrAt 5 cfg0.N = xlA m c :=
  (dats m 0 c).arrAt_eq_of_cover 5 (xlA m c) (fun t _ => flushed_eq5 m c t) fun i => by
    have h0 : (i 0 : ℕ) < 1024 := (i 0).isLt
    have h1 : (i 1 : ℕ) < 512 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_5.index t 0 = t.val ∧ win0_5.index t 1 = 0) t
    have hf := (by decide +kernel : ∀ t : Fin grid0.N, win0_5.flush t = true) t
    refine ⟨t, hf, ?_⟩
    show i ∈ ((View.whole main_v41_0).slice (win0_5.rect t)).set
    rw [View.set_slice_whole, Rect.mem_set_unit]
    intro a
    match a with
    | ⟨0, _⟩ => show win0_5.index t 0 * 512 ≤ (i 0 : ℕ) ∧ (i 0 : ℕ) < win0_5.index t 0 * 512 + 512; rw [hi.1]; omega
    | ⟨1, _⟩ => show win0_5.index t 1 * 512 ≤ (i 1 : ℕ) ∧ (i 1 : ℕ) < win0_5.index t 1 * 512 + 512; rw [hi.2]; omega

/-- The result array q. -/
def qA : (⟨S1024x512, .bf16⟩ : BufTy).Contents (Elt Ideal) := fun i => qE m c (i 0) (i 1)

/-- What a grid point writes back to window 6 is its block of the result. -/
theorem flushed_eq6 (t : Fin cfg0.N) : (dats m 0 c).flushed 6 t = ((cfg0.win 6).blk t).view.read (Elt Ideal) (qA m c) := by
  have hi := (by decide +kernel : ∀ t : Fin grid0.N, win0_6.index t 0 = t.val ∧ win0_6.index t 1 = 0) t
  rw [Value.flushed6]
  have key : ∀ y : S512x512.Idx, out0_6 (iblk m c 0 t) (iblk m c 1 t) (iblk m c 2 t) (iblk m c 3 t) (iblk m c 4 t) y = ((cfg0.win 6).blk t).view.read (Elt Ideal) (qA m c) y := by
    intro y
    obtain ⟨r, d, rfl⟩ : ∃ (r : Fin 512) (d : Fin 512), y = ix2 r d := ⟨y 0, y 1, (ix2_eta y).symm⟩
    rw [View.read_apply]
    refine ((holds m c t).point6 r d).trans ?_
    show qA m c (ix2 (row t r) d) = qA m c _
    refine congrArg (qA m c) (funext fun a => Fin.ext ?_)
    match a with
    | ⟨0, _⟩ => show 512 * t.val + r.val = win0_6.index t 0 * 512 + 1 * r.val; rw [hi.1]; omega
    | ⟨1, _⟩ => show d.val = win0_6.index t 1 * 512 + 1 * d.val; rw [hi.2]; omega
  exact funext key

/-- The result array q after the run. -/
theorem final6 : (dats m 0 c).arrAt 6 cfg0.N = qA m c :=
  (dats m 0 c).arrAt_eq_of_cover 6 (qA m c) (fun t _ => flushed_eq6 m c t) fun i => by
    have h0 : (i 0 : ℕ) < 1024 := (i 0).isLt
    have h1 : (i 1 : ℕ) < 512 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_6.index t 0 = t.val ∧ win0_6.index t 1 = 0) t
    have hf := (by decide +kernel : ∀ t : Fin grid0.N, win0_6.flush t = true) t
    refine ⟨t, hf, ?_⟩
    show i ∈ ((View.whole main_v41_1).slice (win0_6.rect t)).set
    rw [View.set_slice_whole, Rect.mem_set_unit]
    intro a
    match a with
    | ⟨0, _⟩ => show win0_6.index t 0 * 512 ≤ (i 0 : ℕ) ∧ (i 0 : ℕ) < win0_6.index t 0 * 512 + 512; rw [hi.1]; omega
    | ⟨1, _⟩ => show win0_6.index t 1 * 512 ≤ (i 1 : ℕ) ∧ (i 1 : ℕ) < win0_6.index t 1 * 512 + 512; rw [hi.2]; omega

/-- The result array k. -/
def kA : (⟨S1024x512, .f32⟩ : BufTy).Contents (Elt Ideal) := fun i => kE m c (i 0) (i 1)

/-- What a grid point writes back to window 7 is its block of the result. -/
theorem flushed_eq7 (t : Fin cfg0.N) : (dats m 0 c).flushed 7 t = ((cfg0.win 7).blk t).view.read (Elt Ideal) (kA m c) := by
  have hi := (by decide +kernel : ∀ t : Fin grid0.N, win0_7.index t 0 = t.val ∧ win0_7.index t 1 = 0) t
  rw [Value.flushed7]
  have key : ∀ y : S512x512.Idx, out0_7 (iblk m c 0 t) (iblk m c 1 t) (iblk m c 2 t) (iblk m c 3 t) (iblk m c 4 t) y = ((cfg0.win 7).blk t).view.read (Elt Ideal) (kA m c) y := by
    intro y
    obtain ⟨r, d, rfl⟩ : ∃ (r : Fin 512) (d : Fin 512), y = ix2 r d := ⟨y 0, y 1, (ix2_eta y).symm⟩
    rw [View.read_apply]
    refine ((holds m c t).point7 r d).trans ?_
    show kA m c (ix2 (row t r) d) = kA m c _
    refine congrArg (kA m c) (funext fun a => Fin.ext ?_)
    match a with
    | ⟨0, _⟩ => show 512 * t.val + r.val = win0_7.index t 0 * 512 + 1 * r.val; rw [hi.1]; omega
    | ⟨1, _⟩ => show d.val = win0_7.index t 1 * 512 + 1 * d.val; rw [hi.2]; omega
  exact funext key

/-- The result array k after the run. -/
theorem final7 : (dats m 0 c).arrAt 7 cfg0.N = kA m c :=
  (dats m 0 c).arrAt_eq_of_cover 7 (kA m c) (fun t _ => flushed_eq7 m c t) fun i => by
    have h0 : (i 0 : ℕ) < 1024 := (i 0).isLt
    have h1 : (i 1 : ℕ) < 512 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_7.index t 0 = t.val ∧ win0_7.index t 1 = 0) t
    have hf := (by decide +kernel : ∀ t : Fin grid0.N, win0_7.flush t = true) t
    refine ⟨t, hf, ?_⟩
    show i ∈ ((View.whole main_v41_2).slice (win0_7.rect t)).set
    rw [View.set_slice_whole, Rect.mem_set_unit]
    intro a
    match a with
    | ⟨0, _⟩ => show win0_7.index t 0 * 512 ≤ (i 0 : ℕ) ∧ (i 0 : ℕ) < win0_7.index t 0 * 512 + 512; rw [hi.1]; omega
    | ⟨1, _⟩ => show win0_7.index t 1 * 512 ≤ (i 1 : ℕ) ∧ (i 1 : ℕ) < win0_7.index t 1 * 512 + 512; rw [hi.2]; omega

/-- The result array v. -/
def vA : (⟨S1024x512, .f32⟩ : BufTy).Contents (Elt Ideal) := fun i => vE m c (i 0) (i 1)

/-- What a grid point writes back to window 8 is its block of the result. -/
theorem flushed_eq8 (t : Fin cfg0.N) : (dats m 0 c).flushed 8 t = ((cfg0.win 8).blk t).view.read (Elt Ideal) (vA m c) := by
  have hi := (by decide +kernel : ∀ t : Fin grid0.N, win0_8.index t 0 = t.val ∧ win0_8.index t 1 = 0) t
  rw [Value.flushed8]
  have key : ∀ y : S512x512.Idx, out0_8 (iblk m c 0 t) (iblk m c 1 t) (iblk m c 2 t) (iblk m c 3 t) (iblk m c 4 t) y = ((cfg0.win 8).blk t).view.read (Elt Ideal) (vA m c) y := by
    intro y
    obtain ⟨r, d, rfl⟩ : ∃ (r : Fin 512) (d : Fin 512), y = ix2 r d := ⟨y 0, y 1, (ix2_eta y).symm⟩
    rw [View.read_apply]
    refine ((holds m c t).point8 r d).trans ?_
    show vA m c (ix2 (row t r) d) = vA m c _
    refine congrArg (vA m c) (funext fun a => Fin.ext ?_)
    match a with
    | ⟨0, _⟩ => show 512 * t.val + r.val = win0_8.index t 0 * 512 + 1 * r.val; rw [hi.1]; omega
    | ⟨1, _⟩ => show d.val = win0_8.index t 1 * 512 + 1 * d.val; rw [hi.2]; omega
  exact funext key

/-- The result array v after the run. -/
theorem final8 : (dats m 0 c).arrAt 8 cfg0.N = vA m c :=
  (dats m 0 c).arrAt_eq_of_cover 8 (vA m c) (fun t _ => flushed_eq8 m c t) fun i => by
    have h0 : (i 0 : ℕ) < 1024 := (i 0).isLt
    have h1 : (i 1 : ℕ) < 512 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_8.index t 0 = t.val ∧ win0_8.index t 1 = 0) t
    have hf := (by decide +kernel : ∀ t : Fin grid0.N, win0_8.flush t = true) t
    refine ⟨t, hf, ?_⟩
    show i ∈ ((View.whole main_v41_3).slice (win0_8.rect t)).set
    rw [View.set_slice_whole, Rect.mem_set_unit]
    intro a
    match a with
    | ⟨0, _⟩ => show win0_8.index t 0 * 512 ≤ (i 0 : ℕ) ∧ (i 0 : ℕ) < win0_8.index t 0 * 512 + 512; rw [hi.1]; omega
    | ⟨1, _⟩ => show win0_8.index t 1 * 512 ≤ (i 1 : ℕ) ∧ (i 1 : ℕ) < win0_8.index t 1 * 512 + 512; rw [hi.2]; omega

/-- The result array qi. -/
def qiA : (⟨S1024x512, .bf16⟩ : BufTy).Contents (Elt Ideal) := fun i => qiE m c (i 0) (i 1)

/-- What a grid point writes back to window 9 is its block of the result. -/
theorem flushed_eq9 (t : Fin cfg0.N) : (dats m 0 c).flushed 9 t = ((cfg0.win 9).blk t).view.read (Elt Ideal) (qiA m c) := by
  have hi := (by decide +kernel : ∀ t : Fin grid0.N, win0_9.index t 0 = t.val ∧ win0_9.index t 1 = 0) t
  rw [Value.flushed9]
  have key : ∀ y : S512x512.Idx, out0_9 (iblk m c 0 t) (iblk m c 1 t) (iblk m c 2 t) (iblk m c 3 t) (iblk m c 4 t) y = ((cfg0.win 9).blk t).view.read (Elt Ideal) (qiA m c) y := by
    intro y
    obtain ⟨r, d, rfl⟩ : ∃ (r : Fin 512) (d : Fin 512), y = ix2 r d := ⟨y 0, y 1, (ix2_eta y).symm⟩
    rw [View.read_apply]
    refine ((holds m c t).point9 r d).trans ?_
    show qiA m c (ix2 (row t r) d) = qiA m c _
    refine congrArg (qiA m c) (funext fun a => Fin.ext ?_)
    match a with
    | ⟨0, _⟩ => show 512 * t.val + r.val = win0_9.index t 0 * 512 + 1 * r.val; rw [hi.1]; omega
    | ⟨1, _⟩ => show d.val = win0_9.index t 1 * 512 + 1 * d.val; rw [hi.2]; omega
  exact funext key

/-- The result array qi after the run. -/
theorem final9 : (dats m 0 c).arrAt 9 cfg0.N = qiA m c :=
  (dats m 0 c).arrAt_eq_of_cover 9 (qiA m c) (fun t _ => flushed_eq9 m c t) fun i => by
    have h0 : (i 0 : ℕ) < 1024 := (i 0).isLt
    have h1 : (i 1 : ℕ) < 512 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_9.index t 0 = t.val ∧ win0_9.index t 1 = 0) t
    have hf := (by decide +kernel : ∀ t : Fin grid0.N, win0_9.flush t = true) t
    refine ⟨t, hf, ?_⟩
    show i ∈ ((View.whole main_v41_4).slice (win0_9.rect t)).set
    rw [View.set_slice_whole, Rect.mem_set_unit]
    intro a
    match a with
    | ⟨0, _⟩ => show win0_9.index t 0 * 512 ≤ (i 0 : ℕ) ∧ (i 0 : ℕ) < win0_9.index t 0 * 512 + 512; rw [hi.1]; omega
    | ⟨1, _⟩ => show win0_9.index t 1 * 512 ≤ (i 1 : ℕ) ∧ (i 1 : ℕ) < win0_9.index t 1 * 512 + 512; rw [hi.2]; omega

/-- The result array kw. -/
def kwA : (⟨S1024x128, .f32⟩ : BufTy).Contents (Elt Ideal) := fun i => kwE m c (i 0) (i 1)

/-- What a grid point writes back to window 10 is its block of the result. -/
theorem flushed_eq10 (t : Fin cfg0.N) : (dats m 0 c).flushed 10 t = ((cfg0.win 10).blk t).view.read (Elt Ideal) (kwA m c) := by
  have hi := (by decide +kernel : ∀ t : Fin grid0.N, win0_10.index t 0 = t.val ∧ win0_10.index t 1 = 0) t
  rw [Value.flushed10]
  have key : ∀ y : S512x128.Idx, out0_10 (iblk m c 0 t) (iblk m c 1 t) (iblk m c 2 t) (iblk m c 3 t) (iblk m c 4 t) y = ((cfg0.win 10).blk t).view.read (Elt Ideal) (kwA m c) y := by
    intro y
    obtain ⟨r, d, rfl⟩ : ∃ (r : Fin 512) (d : Fin 128), y = ix2 r d := ⟨y 0, y 1, (ix2_eta y).symm⟩
    rw [View.read_apply]
    refine ((holds m c t).point10 r d).trans ?_
    show kwA m c (ix2 (row t r) d) = kwA m c _
    refine congrArg (kwA m c) (funext fun a => Fin.ext ?_)
    match a with
    | ⟨0, _⟩ => show 512 * t.val + r.val = win0_10.index t 0 * 512 + 1 * r.val; rw [hi.1]; omega
    | ⟨1, _⟩ => show d.val = win0_10.index t 1 * 128 + 1 * d.val; rw [hi.2]; omega
  exact funext key

/-- The result array kw after the run. -/
theorem final10 : (dats m 0 c).arrAt 10 cfg0.N = kwA m c :=
  (dats m 0 c).arrAt_eq_of_cover 10 (kwA m c) (fun t _ => flushed_eq10 m c t) fun i => by
    have h0 : (i 0 : ℕ) < 1024 := (i 0).isLt
    have h1 : (i 1 : ℕ) < 128 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_10.index t 0 = t.val ∧ win0_10.index t 1 = 0) t
    have hf := (by decide +kernel : ∀ t : Fin grid0.N, win0_10.flush t = true) t
    refine ⟨t, hf, ?_⟩
    show i ∈ ((View.whole main_v41_5).slice (win0_10.rect t)).set
    rw [View.set_slice_whole, Rect.mem_set_unit]
    intro a
    match a with
    | ⟨0, _⟩ => show win0_10.index t 0 * 512 ≤ (i 0 : ℕ) ∧ (i 0 : ℕ) < win0_10.index t 0 * 512 + 512; rw [hi.1]; omega
    | ⟨1, _⟩ => show win0_10.index t 1 * 128 ≤ (i 1 : ℕ) ∧ (i 1 : ℕ) < win0_10.index t 1 * 128 + 128; rw [hi.2]; omega

/-- The result array gl. -/
def glA : (⟨S1024x1024, .f32⟩ : BufTy).Contents (Elt Ideal) := fun i => glE m c (i 0) (i 1)

/-- What a grid point writes back to window 11 is its block of the result. -/
theorem flushed_eq11 (t : Fin cfg0.N) : (dats m 0 c).flushed 11 t = ((cfg0.win 11).blk t).view.read (Elt Ideal) (glA m c) := by
  have hi := (by decide +kernel : ∀ t : Fin grid0.N, win0_11.index t 0 = t.val ∧ win0_11.index t 1 = 0) t
  rw [Value.flushed11]
  have key : ∀ y : S512x1024.Idx, out0_11 (iblk m c 0 t) (iblk m c 1 t) (iblk m c 2 t) (iblk m c 3 t) (iblk m c 4 t) y = ((cfg0.win 11).blk t).view.read (Elt Ideal) (glA m c) y := by
    intro y
    obtain ⟨r, d, rfl⟩ : ∃ (r : Fin 512) (d : Fin 1024), y = ix2 r d := ⟨y 0, y 1, (ix2_eta y).symm⟩
    rw [View.read_apply]
    refine ((holds m c t).point11 r d).trans ?_
    show glA m c (ix2 (row t r) d) = glA m c _
    refine congrArg (glA m c) (funext fun a => Fin.ext ?_)
    match a with
    | ⟨0, _⟩ => show 512 * t.val + r.val = win0_11.index t 0 * 512 + 1 * r.val; rw [hi.1]; omega
    | ⟨1, _⟩ => show d.val = win0_11.index t 1 * 1024 + 1 * d.val; rw [hi.2]; omega
  exact funext key

/-- The result array gl after the run. -/
theorem final11 : (dats m 0 c).arrAt 11 cfg0.N = glA m c :=
  (dats m 0 c).arrAt_eq_of_cover 11 (glA m c) (fun t _ => flushed_eq11 m c t) fun i => by
    have h0 : (i 0 : ℕ) < 1024 := (i 0).isLt
    have h1 : (i 1 : ℕ) < 1024 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_11.index t 0 = t.val ∧ win0_11.index t 1 = 0) t
    have hf := (by decide +kernel : ∀ t : Fin grid0.N, win0_11.flush t = true) t
    refine ⟨t, hf, ?_⟩
    show i ∈ ((View.whole main_v41_6).slice (win0_11.rect t)).set
    rw [View.set_slice_whole, Rect.mem_set_unit]
    intro a
    match a with
    | ⟨0, _⟩ => show win0_11.index t 0 * 512 ≤ (i 0 : ℕ) ∧ (i 0 : ℕ) < win0_11.index t 0 * 512 + 512; rw [hi.1]; omega
    | ⟨1, _⟩ => show win0_11.index t 1 * 1024 ≤ (i 1 : ℕ) ∧ (i 1 : ℕ) < win0_11.index t 1 * 1024 + 1024; rw [hi.2]; omega

/-- The result array ga. -/
def gaA : (⟨S1024x1024, .f32⟩ : BufTy).Contents (Elt Ideal) := fun i => gaE m c (i 0) (i 1)

/-- What a grid point writes back to window 12 is its block of the result. -/
theorem flushed_eq12 (t : Fin cfg0.N) : (dats m 0 c).flushed 12 t = ((cfg0.win 12).blk t).view.read (Elt Ideal) (gaA m c) := by
  have hi := (by decide +kernel : ∀ t : Fin grid0.N, win0_12.index t 0 = t.val ∧ win0_12.index t 1 = 0) t
  rw [Value.flushed12]
  have key : ∀ y : S512x1024.Idx, out0_12 (iblk m c 0 t) (iblk m c 1 t) (iblk m c 2 t) (iblk m c 3 t) (iblk m c 4 t) y = ((cfg0.win 12).blk t).view.read (Elt Ideal) (gaA m c) y := by
    intro y
    obtain ⟨r, d, rfl⟩ : ∃ (r : Fin 512) (d : Fin 1024), y = ix2 r d := ⟨y 0, y 1, (ix2_eta y).symm⟩
    rw [View.read_apply]
    refine ((holds m c t).point12 r d).trans ?_
    show gaA m c (ix2 (row t r) d) = gaA m c _
    refine congrArg (gaA m c) (funext fun a => Fin.ext ?_)
    match a with
    | ⟨0, _⟩ => show 512 * t.val + r.val = win0_12.index t 0 * 512 + 1 * r.val; rw [hi.1]; omega
    | ⟨1, _⟩ => show d.val = win0_12.index t 1 * 1024 + 1 * d.val; rw [hi.2]; omega
  exact funext key

/-- The result array ga after the run. -/
theorem final12 : (dats m 0 c).arrAt 12 cfg0.N = gaA m c :=
  (dats m 0 c).arrAt_eq_of_cover 12 (gaA m c) (fun t _ => flushed_eq12 m c t) fun i => by
    have h0 : (i 0 : ℕ) < 1024 := (i 0).isLt
    have h1 : (i 1 : ℕ) < 1024 := (i 1).isLt
    let t : Fin cfg0.N := ⟨(i 0 : ℕ) / 512, by show (i 0 : ℕ) / 512 < 2; omega⟩
    have ht : t.val = (i 0 : ℕ) / 512 := rfl
    have hi := (by decide +kernel : ∀ t : Fin grid0.N, win0_12.index t 0 = t.val ∧ win0_12.index t 1 = 0) t
    have hf := (by decide +kernel : ∀ t : Fin grid0.N, win0_12.flush t = true) t
    refine ⟨t, hf, ?_⟩
    show i ∈ ((View.whole main_v41_7).slice (win0_12.rect t)).set
    rw [View.set_slice_whole, Rect.mem_set_unit]
    intro a
    match a with
    | ⟨0, _⟩ => show win0_12.index t 0 * 512 ≤ (i 0 : ℕ) ∧ (i 0 : ℕ) < win0_12.index t 0 * 512 + 512; rw [hi.1]; omega
    | ⟨1, _⟩ => show win0_12.index t 1 * 1024 ≤ (i 1 : ℕ) ∧ (i 1 : ℕ) < win0_12.index t 1 * 1024 + 1024; rw [hi.2]; omega

end Cert.Kernel5Ideal.SProjValue

end
-- ==== Proof.SProjJoin.lean ====
module

public import proofs.«01_k».proof.Proof.SProjValue
public import proofs.«01_k».proof.Proof.Gen.Reference5Ideal.Run

@[expose] public section

set_option maxRecDepth 16384

noncomputable section

/- The reference of the sample batch's input projection, and the equality of its results with the kernel's. -/

namespace Cert.Reference5Ideal.SProjRef

open Cert.Reference5Ideal Cert.Reference5Ideal.Gen Idealize.ShloMosaic Idealize.ShloMosaic.TcCoe Idealize.ShloMosaic.Tactic Idealize.SL.Sem Idealize.ShloMosaic.StableHlo
open Cert.Dense

/-- The projection of the normalised rows, as the reference's host operations write it. -/
def refP (x : FVec Ideal S128x8x1024 .f32) (g : FVec Ideal S1x1024 .f32) (w : FVec Ideal S1x1024x4680 .f32) : FVec Ideal S128x8x4680 .f32 :=
  Host.dotGeneral (F := Ideal) dot_S128x8x1024_S1024x4680_S128x8x4680_2_0_01_1_n_n none (mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast _ g shapeCasts_S1x1024_S1024)))) (shapeCast _ w shapeCasts_S1x1024x4680_S1024x4680)

/-- The projection at an index. -/
theorem refP_at (x : FVec Ideal S128x8x1024 .f32) (g : FVec Ideal S1x1024 .f32) (w : FVec Ideal S1x1024x4680 .f32) (b : Fin 128) (p : Fin 8) (n : Fin 4680) :
    refP x g w (ix3 b p n) = projR (fun k => x (ix3 b p k)) (fun k => g (ix2 0 k)) (fun k => w (ix3 0 k n)) := by
  unfold refP projR normR dotR
  pointwise

/-- The table of angles. -/
def ang : FVec Ideal S8x32 .f32 := (mulf (broadcastInDim S8x32 ![0, 1] bcast_S8x1_S8x32_0_1 (broadcastInDim S8x1 ![0] bcast_S8_S8x1_0 (sitofp .f32 (addi (broadcastInDim S8 ![] bcast_S_S8 (constantI S_ 32 8192#32)) (iotaInDim S8 32 0))))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))

/-- The angle of a position and a pair. -/
theorem ang_at (p : Fin 8) (j : Fin 32) : ang (ix2 p j) = angR (8192 + p.val) j.val := by
  unfold ang angR
  rw [← Cert.Kernel5Ideal.SProjValue.past_add]
  pointwise

/-- The heads' lanes that start at column 512. -/
def head512 (y : FVec Ideal S128x8x4680 .f32) : FVec Ideal S128x8x8x64 .f32 :=
  shapeCast _ (extractStridedSlice S128x8x512 ![0, 0, 512] y slices_S128x8x4680_S128x8x512_0_0_512) shapeCasts_S128x8x512_S128x8x8x64

/-- A head's lane. -/
theorem head512_at (y : FVec Ideal S128x8x4680 .f32) (b : Fin 128) (p : Fin 8) (h : Fin 8) (l : Fin 64) :
    head512 y (ix4 b p h l) = y (ix3 b p ⟨512 + (h.val * 64 + l.val), by omega⟩) := by
  unfold head512
  pointwise

/-- The heads' lanes that start at column 1024. -/
def head1024 (y : FVec Ideal S128x8x4680 .f32) : FVec Ideal S128x8x8x64 .f32 :=
  shapeCast _ (extractStridedSlice S128x8x512 ![0, 0, 1024] y slices_S128x8x4680_S128x8x512_0_0_1024) shapeCasts_S128x8x512_S128x8x8x64

/-- A head's lane. -/
theorem head1024_at (y : FVec Ideal S128x8x4680 .f32) (b : Fin 128) (p : Fin 8) (h : Fin 8) (l : Fin 64) :
    head1024 y (ix4 b p h l) = y (ix3 b p ⟨1024 + (h.val * 64 + l.val), by omega⟩) := by
  unfold head1024
  pointwise

/-- The heads' lanes that start at column 2048. -/
def head2048 (y : FVec Ideal S128x8x4680 .f32) : FVec Ideal S128x8x8x64 .f32 :=
  shapeCast _ (extractStridedSlice S128x8x512 ![0, 0, 2048] y slices_S128x8x4680_S128x8x512_0_0_2048) shapeCasts_S128x8x512_S128x8x8x64

/-- A head's lane. -/
theorem head2048_at (y : FVec Ideal S128x8x4680 .f32) (b : Fin 128) (p : Fin 8) (h : Fin 8) (l : Fin 64) :
    head2048 y (ix4 b p h l) = y (ix3 b p ⟨2048 + (h.val * 64 + l.val), by omega⟩) := by
  unfold head2048
  pointwise

/-- The heads turned by a table of angles. -/
def turn8 (t : FVec Ideal S8x32 .f32) (z : FVec Ideal S128x8x8x64 .f32) : FVec Ideal S128x8x8x64 .f32 :=
  concatenate S128x8x8x64 3 [⟨S128x8x8x32, (subf (mulf (extractStridedSlice S128x8x8x32 ![0, 0, 0, 0] z slices_S128x8x8x64_S128x8x8x32_0_0_0_0) (broadcastInDim S128x8x8x32 ![0, 1, 2, 3] bcast_S1x8x1x32_S128x8x8x32_0_1_2_3 (broadcastInDim S1x8x1x32 ![1, 2, 3] bcast_S8x1x32_S1x8x1x32_1_2_3 (broadcastInDim S8x1x32 ![0, 2] bcast_S8x32_S8x1x32_0_2 (Host.cos t))))) (mulf (extractStridedSlice S128x8x8x32 ![0, 0, 0, 32] z slices_S128x8x8x64_S128x8x8x32_0_0_0_32) (broadcastInDim S128x8x8x32 ![0, 1, 2, 3] bcast_S1x8x1x32_S128x8x8x32_0_1_2_3 (broadcastInDim S1x8x1x32 ![1, 2, 3] bcast_S8x1x32_S1x8x1x32_1_2_3 (broadcastInDim S8x1x32 ![0, 2] bcast_S8x32_S8x1x32_0_2 (Host.sin t))))))⟩, ⟨S128x8x8x32, (addf (mulf (extractStridedSlice S128x8x8x32 ![0, 0, 0, 32] z slices_S128x8x8x64_S128x8x8x32_0_0_0_32) (broadcastInDim S128x8x8x32 ![0, 1, 2, 3] bcast_S1x8x1x32_S128x8x8x32_0_1_2_3 (broadcastInDim S1x8x1x32 ![1, 2, 3] bcast_S8x1x32_S1x8x1x32_1_2_3 (broadcastInDim S8x1x32 ![0, 2] bcast_S8x32_S8x1x32_0_2 (Host.cos t))))) (mulf (extractStridedSlice S128x8x8x32 ![0, 0, 0, 0] z slices_S128x8x8x64_S128x8x8x32_0_0_0_0) (broadcastInDim S128x8x8x32 ![0, 1, 2, 3] bcast_S1x8x1x32_S128x8x8x32_0_1_2_3 (broadcastInDim S1x8x1x32 ![1, 2, 3] bcast_S8x1x32_S1x8x1x32_1_2_3 (broadcastInDim S8x1x32 ![0, 2] bcast_S8x32_S8x1x32_0_2 (Host.sin t))))))⟩] concatenates_S128x8x8x32_S128x8x8x32_S128x8x8x64_d3

/-- A turned head's lane. -/
theorem turn8_at (z : FVec Ideal S128x8x8x64 .f32) (b : Fin 128) (p : Fin 8) (h : Fin 8) (l : Fin 64) :
    turn8 ang z (ix4 b p h l) = turnR (z (ix4 b p h l)) (z (ix4 b p h ⟨partner l.val, partner_lt (n := 64) (by decide) l.isLt⟩)) (8192 + p.val) l.val := by
  have e := turn_halves (fun l => z (ix4 b p h l)) (8192 + p.val) l
  refine Eq.trans (b := if h' : l.val < 32 then z (ix4 b p h ⟨l.val, by omega⟩) * Ideal.cos (ang (ix2 p ⟨l.val, h'⟩)) - z (ix4 b p h ⟨32 + l.val, by omega⟩) * Ideal.sin (ang (ix2 p ⟨l.val, h'⟩))
    else z (ix4 b p h ⟨32 + (l.val - 32), by omega⟩) * Ideal.cos (ang (ix2 p ⟨l.val - 32, by omega⟩)) + z (ix4 b p h ⟨l.val - 32, by omega⟩) * Ideal.sin (ang (ix2 p ⟨l.val - 32, by omega⟩))) ?_ ?_
  · generalize ang = t
    unfold turn8
    pointwise
  · simp only [ang_at]
    exact e

/-- One head turned by a table of angles. -/
def turn1 (t : FVec Ideal S8x32 .f32) (z : FVec Ideal S128x8x1x64 .f32) : FVec Ideal S128x8x1x64 .f32 :=
  concatenate S128x8x1x64 3 [⟨S128x8x1x32, (subf (mulf (extractStridedSlice S128x8x1x32 ![0, 0, 0, 0] z slices_S128x8x1x64_S128x8x1x32_0_0_0_0) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 (Host.cos t))))) (mulf (extractStridedSlice S128x8x1x32 ![0, 0, 0, 32] z slices_S128x8x1x64_S128x8x1x32_0_0_0_32) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 (Host.sin t))))))⟩, ⟨S128x8x1x32, (addf (mulf (extractStridedSlice S128x8x1x32 ![0, 0, 0, 32] z slices_S128x8x1x64_S128x8x1x32_0_0_0_32) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 (Host.cos t))))) (mulf (extractStridedSlice S128x8x1x32 ![0, 0, 0, 0] z slices_S128x8x1x64_S128x8x1x32_0_0_0_0) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 (Host.sin t))))))⟩] concatenates_S128x8x1x32_S128x8x1x32_S128x8x1x64_d3

/-- The turned head's lane. -/
theorem turn1_at (z : FVec Ideal S128x8x1x64 .f32) (b : Fin 128) (p : Fin 8) (l : Fin 64) :
    turn1 ang z (ix4 b p 0 l) = turnR (z (ix4 b p 0 l)) (z (ix4 b p 0 ⟨partner l.val, partner_lt (n := 64) (by decide) l.isLt⟩)) (8192 + p.val) l.val := by
  have e := turn_halves (fun l => z (ix4 b p 0 l)) (8192 + p.val) l
  refine Eq.trans (b := if h' : l.val < 32 then z (ix4 b p 0 ⟨l.val, by omega⟩) * Ideal.cos (ang (ix2 p ⟨l.val, h'⟩)) - z (ix4 b p 0 ⟨32 + l.val, by omega⟩) * Ideal.sin (ang (ix2 p ⟨l.val, h'⟩))
    else z (ix4 b p 0 ⟨32 + (l.val - 32), by omega⟩) * Ideal.cos (ang (ix2 p ⟨l.val - 32, by omega⟩)) + z (ix4 b p 0 ⟨l.val - 32, by omega⟩) * Ideal.sin (ang (ix2 p ⟨l.val - 32, by omega⟩))) ?_ ?_
  · generalize ang = t
    unfold turn1
    pointwise
  · simp only [ang_at]
    exact e

/-- The scaled heads as the rows of an array. -/
def flat8 (z : FVec Ideal S128x8x8x64 .f32) : FVec Ideal S1024x512 .bf16 := truncf (F := Ideal) .bf16 (shapeCast _ (mulf z (broadcastInDim S128x8x8x64 ![] bcast_S_S128x8x8x64 (constant (F := Ideal) S_ .f32 0x3E000000#32))) shapeCasts_S128x8x8x64_S1024x512) bitsLt_bf16_f32

/-- The scaled heads' entry. -/
theorem flat8_at (z : FVec Ideal S128x8x8x64 .f32) (r : Fin 1024) (d : Fin 512) :
    flat8 z (ix2 r d) = z (ix4 ⟨r.val / 8, by omega⟩ ⟨r.val % 8, by omega⟩ ⟨d.val / 64, by omega⟩ ⟨d.val % 64, by omega⟩) * Ideal.ofBits FTy.f32 1040187392#32 := by
  unfold flat8
  pointwise

/-- The heads as the rows of an array. -/
def flatK (z : FVec Ideal S128x8x8x64 .f32) : FVec Ideal S1024x512 .f32 := shapeCast _ z shapeCasts_S128x8x8x64_S1024x512

/-- The heads' entry. -/
theorem flatK_at (z : FVec Ideal S128x8x8x64 .f32) (r : Fin 1024) (d : Fin 512) :
    flatK z (ix2 r d) = z (ix4 ⟨r.val / 8, by omega⟩ ⟨r.val % 8, by omega⟩ ⟨d.val / 64, by omega⟩ ⟨d.val % 64, by omega⟩) := by
  unfold flatK
  pointwise

/-- The columns that start at 0, as the rows of an array. -/
def colsXl (y : FVec Ideal S128x8x4680 .f32) : FVec Ideal S1024x512 .f32 :=
  shapeCast _ (extractStridedSlice S128x8x512 ![0, 0, 0] y slices_S128x8x4680_S128x8x512_0_0_0) shapeCasts_S128x8x512_S1024x512

/-- An entry of them. -/
theorem colsXl_at (y : FVec Ideal S128x8x4680 .f32) (r : Fin 1024) (d : Fin 512) :
    colsXl y (ix2 r d) = y (ix3 ⟨r.val / 8, by omega⟩ ⟨r.val % 8, by omega⟩ ⟨0 + d.val, by omega⟩) := by
  have e : (⟨0 + d.val, by omega⟩ : Fin 4680) = ⟨d.val, by omega⟩ := Fin.ext (Nat.zero_add d.val)
  rw [e]
  unfold colsXl
  pointwise

/-- The columns that start at 1536, as the rows of an array. -/
def colsV (y : FVec Ideal S128x8x4680 .f32) : FVec Ideal S1024x512 .f32 :=
  shapeCast _ (extractStridedSlice S128x8x512 ![0, 0, 1536] y slices_S128x8x4680_S128x8x512_0_0_1536) shapeCasts_S128x8x512_S1024x512

/-- An entry of them. -/
theorem colsV_at (y : FVec Ideal S128x8x4680 .f32) (r : Fin 1024) (d : Fin 512) :
    colsV y (ix2 r d) = y (ix3 ⟨r.val / 8, by omega⟩ ⟨r.val % 8, by omega⟩ ⟨1536 + d.val, by omega⟩) := by
  unfold colsV
  pointwise

/-- The logistic of the columns that start at 2632, as the rows of an array. -/
def gateGl (y : FVec Ideal S128x8x4680 .f32) : FVec Ideal S1024x1024 .f32 :=
  shapeCast _ (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (extractStridedSlice S128x8x1024 ![0, 0, 2632] y slices_S128x8x4680_S128x8x1024_0_0_2632))))) shapeCasts_S128x8x1024_S1024x1024

/-- An entry of them. -/
theorem gateGl_at (y : FVec Ideal S128x8x4680 .f32) (r : Fin 1024) (d : Fin 1024) :
    gateGl y (ix2 r d) = Ideal.logistic (y (ix3 ⟨r.val / 8, by omega⟩ ⟨r.val % 8, by omega⟩ ⟨2632 + d.val, by omega⟩)) := by
  unfold gateGl Ideal.logistic
  pointwise

/-- The logistic of the columns that start at 3656, as the rows of an array. -/
def gateGa (y : FVec Ideal S128x8x4680 .f32) : FVec Ideal S1024x1024 .f32 :=
  shapeCast _ (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (extractStridedSlice S128x8x1024 ![0, 0, 3656] y slices_S128x8x4680_S128x8x1024_0_0_3656))))) shapeCasts_S128x8x1024_S1024x1024

/-- An entry of them. -/
theorem gateGa_at (y : FVec Ideal S128x8x4680 .f32) (r : Fin 1024) (d : Fin 1024) :
    gateGa y (ix2 r d) = Ideal.logistic (y (ix3 ⟨r.val / 8, by omega⟩ ⟨r.val % 8, by omega⟩ ⟨3656 + d.val, by omega⟩)) := by
  unfold gateGa Ideal.logistic
  pointwise

/-- The index keys, not yet turned, as one head. -/
def keys (y : FVec Ideal S128x8x4680 .f32) : FVec Ideal S128x8x1x64 .f32 :=
  broadcastInDim S128x8x1x64 ![0, 1, 3] bcast_S128x8x64_S128x8x1x64_0_1_3 (extractStridedSlice S128x8x64 ![0, 0, 2560] y slices_S128x8x4680_S128x8x64_0_0_2560)

/-- A lane of an index key. -/
theorem keys_at (y : FVec Ideal S128x8x4680 .f32) (b : Fin 128) (p : Fin 8) (l : Fin 64) :
    keys y (ix4 b p 0 l) = y (ix3 b p ⟨2560 + l.val, by omega⟩) := by
  unfold keys
  pointwise

/-- The turned index keys, the scaled weights and the zeros beside each other, as the rows of an array. -/
def wide (z : FVec Ideal S128x8x1x64 .f32) (y : FVec Ideal S128x8x4680 .f32) : FVec Ideal S1024x128 .f32 :=
  shapeCast _ (concatenate S128x8x128 2 [⟨S128x8x64, (shapeCast _ z shapeCasts_S128x8x1x64_S128x8x64 : FVec Ideal S128x8x64 .f32)⟩, ⟨S128x8x8, (mulf (extractStridedSlice S128x8x8 ![0, 0, 2624] y slices_S128x8x4680_S128x8x8_0_0_2624) (broadcastInDim S128x8x8 ![] bcast_S_S128x8x8 (constant (F := Ideal) S_ .f32 0x3EB504F3#32)) : FVec Ideal S128x8x8 .f32)⟩, ⟨S128x8x56, (broadcastInDim S128x8x56 ![] bcast_S_S128x8x56 (constant (F := Ideal) S_ .f32 0x00000000#32) : FVec Ideal S128x8x56 .f32)⟩] concatenates_S128x8x64_S128x8x8_S128x8x56_S128x8x128_d2 : FVec Ideal S128x8x128 .f32) shapeCasts_S128x8x128_S1024x128

/-- An entry of them. -/
theorem wide_at (z : FVec Ideal S128x8x1x64 .f32) (y : FVec Ideal S128x8x4680 .f32) (r : Fin 1024) (d : Fin 128) :
    wide z y (ix2 r d) = if h : d.val < 64 then z (ix4 ⟨r.val / 8, by omega⟩ ⟨r.val % 8, by omega⟩ 0 ⟨d.val, h⟩)
      else if h : d.val < 72 then y (ix3 ⟨r.val / 8, by omega⟩ ⟨r.val % 8, by omega⟩ ⟨2560 + d.val, by omega⟩) * Ideal.ofBits FTy.f32 1052050675#32
      else (0 : EReal) := by
  have hd := d.isLt
  refine Eq.trans (b := if h : d.val < 64 then z (ix4 ⟨r.val / 8, by omega⟩ ⟨r.val % 8, by omega⟩ 0 ⟨d.val, h⟩)
    else if h : d.val - 64 < 8 then y (ix3 ⟨r.val / 8, by omega⟩ ⟨r.val % 8, by omega⟩ ⟨2624 + (d.val - 64), by omega⟩) * Ideal.ofBits FTy.f32 1052050675#32
    else (0 : EReal)) ?_ ?_
  · unfold wide
    pointwise
  · by_cases h : d.val < 64
    · rw [dif_pos h, dif_pos h]
    · rw [dif_neg h, dif_neg h]
      by_cases h' : d.val < 72
      · have e : (⟨2624 + (d.val - 64), by omega⟩ : Fin 4680) = ⟨2560 + d.val, by omega⟩ := Fin.ext (by show 2624 + (d.val - 64) = 2560 + d.val; omega)
        rw [dif_pos h', dif_pos (by omega : d.val - 64 < 8), e]
      · rw [dif_neg h', dif_neg (by omega : ¬ d.val - 64 < 8)]

end Cert.Reference5Ideal.SProjRef

namespace Cert.SProjJoin

open Idealize.ShloMosaic Idealize.ShloMosaic.TcCoe Idealize.ShloMosaic.Tactic Idealize.SL.Sem
open Cert.Kernel5Ideal.SProjValue Cert.Reference5Ideal.SProjRef Cert.Dense

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The two memories agree on the arguments of one device. -/
def Agree : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
  ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
  ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)

/-- The reference's projection is the kernel's. -/
theorem proj_eq (h : Agree m m' c) (r : Fin 1024) (n : Fin 4680) :
    (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) (ix3 ⟨r.val / 8, by omega⟩ ⟨r.val % 8, by omega⟩ n) = projE m c r n := by
  obtain ⟨h0, h1, h2⟩ := h
  rw [h0, h1, h2]
  exact refP_at _ _ _ _ _ n

/-- A turned head's lane of the reference that starts at column 512. -/
theorem turned512 (h : Agree m m' c) (r : Fin 1024) (d : Fin 512) :
    turn8 ang (head512 (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)))) (ix4 ⟨r.val / 8, by omega⟩ ⟨r.val % 8, by omega⟩ ⟨d.val / 64, by omega⟩ ⟨d.val % 64, by omega⟩)
      = turnR (projE m c r ⟨512 + d.val, by omega⟩) (projE m c r ⟨512 + partner d.val, by have := partner_lt (n := 512) (by decide) d.isLt; omega⟩) (8192 + r.val % 8) d.val := by
  rw [turn8_at, head512_at, head512_at]
  dsimp only
  rw [proj_eq m m' c h, proj_eq m m' c h]
  have hp := partner_lt (n := 512) (by decide) d.isLt
  have hq := partner_lt (n := 64) (l := d.val % 64) (by decide) (by omega)
  exact turn_cols (projE m c r) 512 (8192 + r.val % 8) d (by omega) (by omega) (by omega) (by omega)

/-- A turned head's lane of the reference that starts at column 1024. -/
theorem turned1024 (h : Agree m m' c) (r : Fin 1024) (d : Fin 512) :
    turn8 ang (head1024 (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)))) (ix4 ⟨r.val / 8, by omega⟩ ⟨r.val % 8, by omega⟩ ⟨d.val / 64, by omega⟩ ⟨d.val % 64, by omega⟩)
      = turnR (projE m c r ⟨1024 + d.val, by omega⟩) (projE m c r ⟨1024 + partner d.val, by have := partner_lt (n := 512) (by decide) d.isLt; omega⟩) (8192 + r.val % 8) d.val := by
  rw [turn8_at, head1024_at, head1024_at]
  dsimp only
  rw [proj_eq m m' c h, proj_eq m m' c h]
  have hp := partner_lt (n := 512) (by decide) d.isLt
  have hq := partner_lt (n := 64) (l := d.val % 64) (by decide) (by omega)
  exact turn_cols (projE m c r) 1024 (8192 + r.val % 8) d (by omega) (by omega) (by omega) (by omega)

/-- A turned head's lane of the reference that starts at column 2048. -/
theorem turned2048 (h : Agree m m' c) (r : Fin 1024) (d : Fin 512) :
    turn8 ang (head2048 (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)))) (ix4 ⟨r.val / 8, by omega⟩ ⟨r.val % 8, by omega⟩ ⟨d.val / 64, by omega⟩ ⟨d.val % 64, by omega⟩)
      = turnR (projE m c r ⟨2048 + d.val, by omega⟩) (projE m c r ⟨2048 + partner d.val, by have := partner_lt (n := 512) (by decide) d.isLt; omega⟩) (8192 + r.val % 8) d.val := by
  rw [turn8_at, head2048_at, head2048_at]
  dsimp only
  rw [proj_eq m m' c h, proj_eq m m' c h]
  have hp := partner_lt (n := 512) (by decide) d.isLt
  have hq := partner_lt (n := 64) (l := d.val % 64) (by decide) (by omega)
  exact turn_cols (projE m c r) 2048 (8192 + r.val % 8) d (by omega) (by omega) (by omega) (by omega)

/-- The reference's channels xl are the kernel's. -/
theorem xl_eq (h : Agree m m' c) : colsXl (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) = xlA m c := by
  funext y
  obtain ⟨r, d, rfl⟩ : ∃ (r : Fin 1024) (d : Fin 512), y = ix2 r d := ⟨y 0, y 1, (ix2_eta y).symm⟩
  exact (colsXl_at _ r d).trans (proj_eq m m' c h r _)

/-- The reference's values are the kernel's. -/
theorem v_eq (h : Agree m m' c) : colsV (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) = vA m c := by
  funext y
  obtain ⟨r, d, rfl⟩ : ∃ (r : Fin 1024) (d : Fin 512), y = ix2 r d := ⟨y 0, y 1, (ix2_eta y).symm⟩
  exact (colsV_at _ r d).trans (proj_eq m m' c h r _)

/-- The reference's gate gl is the kernel's. -/
theorem gl_eq (h : Agree m m' c) : gateGl (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) = glA m c := by
  funext y
  obtain ⟨r, d, rfl⟩ : ∃ (r : Fin 1024) (d : Fin 1024), y = ix2 r d := ⟨y 0, y 1, (ix2_eta y).symm⟩
  exact (gateGl_at _ r d).trans (congrArg Ideal.logistic (proj_eq m m' c h r _))

/-- The reference's gate ga is the kernel's. -/
theorem ga_eq (h : Agree m m' c) : gateGa (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) = gaA m c := by
  funext y
  obtain ⟨r, d, rfl⟩ : ∃ (r : Fin 1024) (d : Fin 1024), y = ix2 r d := ⟨y 0, y 1, (ix2_eta y).symm⟩
  exact (gateGa_at _ r d).trans (congrArg Ideal.logistic (proj_eq m m' c h r _))

/-- The reference's queries are the kernel's. -/
theorem q_eq (h : Agree m m' c) : Cert.Reference5Ideal.Value.res_main_v131 (F := Ideal) m' c = qA m c := by
  have e : Cert.Reference5Ideal.Value.res_main_v131 (F := Ideal) m' c = flat8 (turn8 ang (head512 (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))))) := rfl
  rw [e]
  funext y
  obtain ⟨r, d, rfl⟩ : ∃ (r : Fin 1024) (d : Fin 512), y = ix2 r d := ⟨y 0, y 1, (ix2_eta y).symm⟩
  exact (flat8_at _ r d).trans (congrArg (fun z : EReal => z * Ideal.ofBits FTy.f32 1040187392#32) (turned512 m m' c h r d))

/-- The reference's keys are the kernel's. -/
theorem k_eq (h : Agree m m' c) : Cert.Reference5Ideal.Value.res_main_v132 (F := Ideal) m' c = kA m c := by
  have e : Cert.Reference5Ideal.Value.res_main_v132 (F := Ideal) m' c = flatK (turn8 ang (head1024 (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))))) := rfl
  rw [e]
  funext y
  obtain ⟨r, d, rfl⟩ : ∃ (r : Fin 1024) (d : Fin 512), y = ix2 r d := ⟨y 0, y 1, (ix2_eta y).symm⟩
  exact (flatK_at _ r d).trans (turned1024 m m' c h r d)

/-- The reference's index queries are the kernel's. -/
theorem qi_eq (h : Agree m m' c) : Cert.Reference5Ideal.Value.res_main_v135 (F := Ideal) m' c = qiA m c := by
  have e : Cert.Reference5Ideal.Value.res_main_v135 (F := Ideal) m' c = flat8 (turn8 ang (head2048 (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))))) := rfl
  rw [e]
  funext y
  obtain ⟨r, d, rfl⟩ : ∃ (r : Fin 1024) (d : Fin 512), y = ix2 r d := ⟨y 0, y 1, (ix2_eta y).symm⟩
  exact (flat8_at _ r d).trans (congrArg (fun z : EReal => z * Ideal.ofBits FTy.f32 1040187392#32) (turned2048 m m' c h r d))

/-- The reference's index keys and weights are the kernel's. -/
theorem kw_eq (h : Agree m m' c) : Cert.Reference5Ideal.Value.res_main_v136 (F := Ideal) m' c = kwA m c := by
  have e : Cert.Reference5Ideal.Value.res_main_v136 (F := Ideal) m' c = wide (turn1 ang (keys (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))))) (refP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) := rfl
  rw [e]
  funext y
  obtain ⟨r, d, rfl⟩ : ∃ (r : Fin 1024) (d : Fin 128), y = ix2 r d := ⟨y 0, y 1, (ix2_eta y).symm⟩
  refine (wide_at _ _ r d).trans ?_
  show _ = kwE m c r d
  unfold kwE kwS
  by_cases hd : d.val < 64
  · rw [dif_pos hd, dif_pos hd, turn1_at, keys_at, keys_at]
    exact congrArg₂ (fun a b => turnR a b (8192 + r.val % 8) d.val) (proj_eq m m' c h r _) (proj_eq m m' c h r _)
  · rw [dif_neg hd, dif_neg hd]
    by_cases hd' : d.val < 72
    · rw [dif_pos hd', dif_pos hd', proj_eq m m' c h]
    · rw [dif_neg hd', dif_neg hd']

end Cert.SProjJoin

end
-- ==== Proof.MixValue.lean ====
module

public import proofs.«01_k».proof.Proof.Dense
public import proofs.«01_k».proof.Proof.Gen.Kernel4Ideal.Value
public import Idealize.ShloMosaic.Lib.Pointwise
public import Idealize.ShloMosaic.Lib.StableHlo.RunRead

@[expose] public section

set_option maxRecDepth 16384

noncomputable section

/- What the mixing kernel's two result arrays hold, as numbers of the program's arguments. -/

namespace Cert.Kernel4Ideal.MixValue

open Cert.Kernel4Ideal Cert.Kernel4Ideal.Gen Idealize.ShloMosaic Idealize.ShloMosaic.TcCoe Idealize.ShloMosaic.Tactic Idealize.SL.Sem Idealize.ShloMosaic.StableHlo
open Idealize.ShloMosaic.Pipeline (Dat)
open Cert.Dense

/-- The zero offset of a two-dimensional block. -/
theorem off2 : (![0, 0] : Fin 2 → ℕ) = fun _ => 0 := funext fun a => by fin_cases a <;> rfl

section Block

variable (x1 x2 : Vec Ideal S512x512 .bf16) (x5 x6 : Vec Ideal S512x1024 .bf16) (x3 x4 x0 : Vec Ideal S512x1024 .f32) (x7 : Vec Ideal S1024x1024 .bf16)
  (x8 : Vec Ideal S1x1024 .f32) (x9 : Vec Ideal S1024x512 .bf16)

/-- A row of the block after the gated sum. -/
theorem pay_x1 (r : Fin 512) (d : Fin 1024) :
    k0_pay2 x1 x5 x2 x6 x3 x4 x0 x7 (ix2 r d)
      = mixR (fun k => x0 (ix2 r k)) (fun k => x3 (ix2 r k)) (fun k => x4 (ix2 r k)) (fun j => x1 (ix2 r j)) (fun j => x2 (ix2 r j))
          (fun j k => x5 (ix2 j k)) (fun j k => x6 (ix2 j k)) (fun k => x7 (ix2 k d)) d := by
  unfold_payloads
  unfold mixR dotR
  pointwise

/-- A row of the block's cross-attention queries, from the block after the gated sum. -/
theorem pay_q (q : FVec Ideal S512x1024 .f32) (hq : k0_pay2 x1 x5 x2 x6 x3 x4 x0 x7 = q) (r d : Fin 512) :
    k0_pay1 (k0_pay3 x8) (k0_pay4 x1 x5 x2 x6 x3 x4 x0 x7) x9 (ix2 r d)
      = projR (fun k => q (ix2 r k)) (fun k => x8 (ix2 0 k)) (fun k => x9 (ix2 k d)) := by
  unfold k0_pay1 k0_pay3 k0_pay4
  rw [hq]
  unfold projR normR dotR
  pointwise

/-- The stored block of the first result. -/
theorem out_x1 : out0_10 x0 x1 x2 x3 x4 x5 x6 x7 x8 x9 = k0_pay2 x1 x5 x2 x6 x3 x4 x0 x7 := by
  unfold out0_10
  rw [View.canon_unit_zero off2]
  simp only [View.ld_unit_zero (S := S512x512) off2, View.ld_unit_zero (S := S512x1024) off2, View.ld_unit_zero (S := S1024x1024) off2, View.ld_unit_zero (S := S1x1024) off2, View.ld_unit_zero (S := S1024x512) off2]

/-- The stored block of the second result. -/
theorem out_q : out0_11 x0 x1 x2 x3 x4 x5 x6 x7 x8 x9 = k0_pay1 (k0_pay3 x8) (k0_pay4 x1 x5 x2 x6 x3 x4 x0 x7) x9 := by
  unfold out0_11
  rw [View.canon_unit_zero off2]
  simp only [View.ld_unit_zero (S := S512x512) off2, View.ld_unit_zero (S := S512x1024) off2, View.ld_unit_zero (S := S1024x1024) off2, View.ld_unit_zero (S := S1x1024) off2, View.ld_unit_zero (S := S1024x512) off2]

end Block

variable (m : (ℓ : Loc nD τ sig) → Buf (Elt Ideal) ℓ) (c : Dev nD)

/-- A weight's host form: its layer axis dropped, cast to the narrow type. -/
def form_wide (x : FVec Ideal S1x512x1024 .f32) : FVec Ideal S512x1024 .bf16 :=
  truncf .bf16 (shapeCast S512x1024 x shapeCasts_S1x512x1024_S512x1024) bitsLt_bf16_f32

/-- The form at an index. -/
theorem form_wide_at (x : FVec Ideal S1x512x1024 .f32) (k : Fin 512) (d : Fin 1024) : form_wide x (ix2 k d) = (x (ix3 0 k d) : EReal) := by
  unfold form_wide
  pointwise

/-- A weight's host form: its layer axis dropped, cast to the narrow type. -/
def form_square (x : FVec Ideal S1x1024x1024 .f32) : FVec Ideal S1024x1024 .bf16 :=
  truncf .bf16 (shapeCast S1024x1024 x shapeCasts_S1x1024x1024_S1024x1024) bitsLt_bf16_f32

/-- The form at an index. -/
theorem form_square_at (x : FVec Ideal S1x1024x1024 .f32) (k : Fin 1024) (d : Fin 1024) : form_square x (ix2 k d) = (x (ix3 0 k d) : EReal) := by
  unfold form_square
  pointwise

/-- A weight's host form: its layer axis dropped, cast to the narrow type. -/
def form_query (x : FVec Ideal S1x1024x512 .f32) : FVec Ideal S1024x512 .bf16 :=
  truncf .bf16 (shapeCast S1024x512 x shapeCasts_S1x1024x512_S1024x512) bitsLt_bf16_f32

/-- The form at an index. -/
theorem form_query_at (x : FVec Ideal S1x1024x512 .f32) (k : Fin 1024) (d : Fin 512) : form_query x (ix2 k d) = (x (ix3 0 k d) : EReal) := by
  unfold form_query
  pointwise

/-- The gains' host form. -/
def form_gain (x : (⟨S1x1024, .f32⟩ : BufTy).Contents (Elt Ideal)) : (⟨S1x1024, .f32⟩ : BufTy).Contents (Elt Ideal) :=
  shapeCast S1x1024 (shapeCast S1024 x shapeCasts_S1x1024_S1024) shapeCasts_S1024_S1x1024

/-- The form at an index. -/
theorem form_gain_at (x : (⟨S1x1024, .f32⟩ : BufTy).Contents (Elt Ideal)) (d : Fin 1024) : form_gain x (ix2 0 d) = (x (ix2 0 d) : EReal) := by
  unfold form_gain
  pointwise

set_option maxRecDepth 65536 in
set_option maxHeartbeats 1000000 in
/-- What the host leaves in the array `main_v5`. -/
theorem host_v5 : V m c main_v5 = form_wide (m ((c : Thread nD τ).loc main_arg5)) := by
  show StableHlo.after hostOps0 (fun b => m (c, b)) (Proc.devRef .tc main_v5) = _
  simp only [hostOps0]
  after_reads_simp
  try rfl

set_option maxRecDepth 65536 in
set_option maxHeartbeats 1000000 in
/-- What the host leaves in the array `main_v6`. -/
theorem host_v6 : V m c main_v6 = form_wide (m ((c : Thread nD τ).loc main_arg6)) := by
  show StableHlo.after hostOps0 (fun b => m (c, b)) (Proc.devRef .tc main_v6) = _
  simp only [hostOps0]
  after_reads_simp
  try rfl

set_option maxRecDepth 65536 in
set_option maxHeartbeats 1000000 in
/-- What the host leaves in the array `main_v7`. -/
theorem host_v7 : V m c main_v7 = form_square (m ((c : Thread nD τ).loc main_arg7)) := by
  show StableHlo.after hostOps0 (fun b => m (c, b)) (Proc.devRef .tc main_v7) = _
  simp only [hostOps0]
  after_reads_simp
  try rfl

set_option maxRecDepth 65536 in
set_option maxHeartbeats 1000000 in
/-- What the host leaves in the array `main_v8`. -/
theorem host_v8 : V m c main_v8 = form_gain (m ((c : Thread nD τ).loc main_arg8)) := by
  show StableHlo.after hostOps0 (fun b => m (c, b)) (Proc.devRef .tc main_v8) = _
  simp only [hostOps0]
  after_reads_simp
  try rfl

set_option maxRecDepth 65536 in
set_option maxHeartbeats 1000000 in
/-- What the host leaves in the array `main_v9`. -/
theorem host_v9 : V m c main_v9 = form_query (m ((c : Thread nD τ).loc main_arg9)) := by
  show StableHlo.after hostOps0 (fun b => m (c, b)) (Proc.devRef .tc main_v9) = _
  simp only [hostOps0]
  after_reads_simp
  try rfl

/-- The array's row that is row `r` of block `t`. -/
def row (t : Fin cfg0.N) (r : Fin 512) : Fin 65536 := ⟨512 * t.val + r.val, by have h : t.val < 128 := t.isLt; have := r.isLt; omega⟩

/-- The block of window 0 at an index. -/
theorem blk0 (t : Fin cfg0.N) (r : Fin 512) (k : Fin 1024) : iblk m c 0 t (ix2 r k) = m ((c : Thread nD τ).loc main_arg0) (ix2 (row t r) k) := by
  have hi := (by decide +kernel : ∀ t : Fin grid0.N, win0_0.index t 0 = t.val ∧ win0_0.index t 1 = 0) t
  unfold iblk
  rw [View.read_apply]
  refine Eq.trans ?_ (congrFun (V_main_arg0 m c) (ix2 (row t r) k))
  show V m c main_arg0 _ = V m c main_arg0 _
  refine congrArg (V m c main_arg0) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- The block of window 1 at an index. -/
theorem blk1 (t : Fin cfg0.N) (r : Fin 512) (k : Fin 512) : iblk m c 1 t (ix2 r k) = m ((c : Thread nD τ).loc main_arg1) (ix2 (row t r) k) := by
  have hi := (by decide +kernel : ∀ t : Fin grid0.N, win0_1.index t 0 = t.val ∧ win0_1.index t 1 = 0) t
  unfold iblk
  rw [View.read_apply]
  refine Eq.trans ?_ (congrFun (V_main_arg1 m c) (ix2 (row t r) k))
  show V m c main_arg1 _ = V m c main_arg1 _
  refine congrArg (V m c main_arg1) (funext fun a => Fin.ext ?_)
  match a with
  | ⟨0, _⟩ => show win0_1.index t 0 * 512 + 1 * r.val = 512 * t.val + r.val; rw [hi.1]; omega
  | ⟨1, _⟩ => show win0_1.index t 1 * 512 + 1 * k.val = k.val; rw [hi.2]; omega

/-- The block of window 2 at an index. -/
theorem blk2 (t : Fin cfg0.N) (r : Fin 512) (k : Fin 512) : iblk m c 2 t (ix2 r k) = m ((c : Thread nD τ).loc main_arg2) (ix2 (row t r) k) := by
  have hi := (by decide +kernel : ∀ t : Fin grid0.N, win0_2.index t 0 = t.val ∧ win0_2.index t 1 = 0) t
  unfold iblk
  rw [View.read_apply]
  refine Eq.trans ?_ (congrFun (V_main_arg2 m c) (ix2 (row t r) k))
  show V m c main_arg2 _ = V m c main_arg2 _
  refine congrArg (V m c main_arg2) (funext fun a => Fin.ext ?_)
  match a with
  | ⟨0, _⟩ => show win0_2.index t 0 * 512 + 1 * r.val = 512 * t.val + r.val; rw [hi.1]; omega
  | ⟨1, _⟩ => show win0_2.index t 1 * 512 + 1 * k.val = k.val; rw [hi.2]; omega

/-- The block of window 3 at an index. -/
theorem blk3 (t : Fin cfg0.N) (r : Fin 512) (k : Fin 1024) : iblk m c 3 t (ix2 r k) = m ((c : Thread nD τ).loc main_arg3) (ix2 (row t r) k) := by
  have hi := (by decide +kernel : ∀ t : Fin grid0.N, win0_3.index t 0 = t.val ∧ win0_3.index t 1 = 0) t
  unfold iblk
  rw [View.read_apply]
  refine Eq.trans ?_ (congrFun (V_main_arg3 m c) (ix2 (row t r) k))
  show V m c main_arg3 _ = V m c main_arg3 _
  refine congrArg (V m c main_arg3) (funext fun a => Fin.ext ?_)
  match a with
  | ⟨0, _⟩ => show win0_3.index t 0 * 512 + 1 * r.val = 512 * t.val + r.val; rw [hi.1]; omega
  | ⟨1, _⟩ => show win0_3.index t 1 * 1024 + 1 * k.val = k.val; rw [hi.2]; omega

/-- The block of window 4 at an index. -/
theorem blk4 (t : Fin cfg0.N) (r : Fin 512) (k : Fin 1024) : iblk m c 4 t (ix2 r k) = m ((c : Thread nD τ).loc main_arg4) (ix2 (row t r) k) := by
  have hi := (by decide +kernel : ∀ t : Fin grid0.N, win0_4.index t 0 = t.val ∧ win0_4.index t 1 = 0) t
  unfold iblk
  rw [View.read_apply]
  refine Eq.trans ?_ (congrFun (V_main_arg4 m c) (ix2 (row t r) k))
  show V m c main_arg4 _ = V m c main_arg4 _
  refine congrArg (V m c main_arg4) (funext fun a => Fin.ext ?_)
  match a with
  | ⟨0, _⟩ => show win0_4.index t 0 * 512 + 1 * r.val = 512 * t.val + r.val; rw [hi.1]; omega
  | ⟨1, _⟩ => show win0_4.index t 1 * 1024 + 1 * k.val = k.val; rw [hi.2]; omega

/-- The block of window 5 at an index. -/
theorem blk5 (t : Fin cfg0.N) (k : Fin 512) (d : Fin 1024) : iblk m c 5 t (ix2 k d) = m ((c : Thread nD τ).loc main_arg5) (ix3 0 k d) := by
  have hi := (by decide +kernel : ∀ t : Fin grid0.N, win0_5.index t 0 = 0 ∧ win0_5.index t 1 = 0) t
  unfold iblk
  rw [View.read_apply]
  refine Eq.trans ?_ ((congrFun (host_v5 m c) (ix2 k d)).trans (form_wide_at _ k d))
  show V m c main_v5 _ = V m c main_v5 _
  refine congrArg (V m c main_v5) (funext fun a => Fin.ext ?_)
  match a with
  | ⟨0, _⟩ => show win0_5.index t 0 * 512 + 1 * k.val = k.val; rw [hi.1]; omega
  | ⟨1, _⟩ => show win0_5.index t 1 * 1024 + 1 * d.val = d.val; rw [hi.2]; omega

/-- The block of window 6 at an index. -/
theorem blk6 (t : Fin cfg0.N) (k : Fin 512) (d : Fin 1024) : iblk m c 6 t (ix2 k d) = m ((c : Thread nD τ).loc main_arg6) (ix3 0 k d) := by
  have hi := (by decide +kernel : ∀ t : Fin grid0.N, win0_6.index t 0 = 0 ∧ win0_6.index t 1 = 0) t
  unfold iblk
  rw [View.read_apply]
  refine Eq.trans ?_ ((congrFun (host_v6 m c) (ix2 k d)).trans (form_wide_at _ k d))
  show V m c main_v6 _ = V m c main_v6 _
  refine congrArg (V m c main_v6) (funext fun a => Fin.ext ?_)
  match a with
  | ⟨0, _⟩ => show win0_6.index t 0 * 512 + 1 * k.val = k.val; rw [hi.1]; omega
  | ⟨1, _⟩ => show win0_6.index t 1 * 1024 + 1 * d.val = d.val; rw [hi.2]; omega

/-- The block of window 7 at an index. -/
theorem blk7 (t : Fin cfg0.N) (k : Fin 1024) (d : Fin 1024) : iblk m c 7 t (ix2 k d) = m ((c : Thread nD τ).loc main_arg7) (ix3 0 k d) := by
  have hi := (by decide +kernel : ∀ t : Fin grid0.N, win0_7.index t 0 = 0 ∧ win0_7.index t 1 = 0) t
  unfold iblk
  rw [View.read_apply]
  refine Eq.trans ?_ ((congrFun (host_v7 m c) (ix2 k d)).trans (form_square_at _ k d))
  show V m c main_v7 _ = V m c main_v7 _
  refine congrArg (V m c main_v7) (funext fun a => Fin.ext ?_)
  match a with
  | ⟨0, _⟩ => show win0_7.index t 0 * 1024 + 1 * k.val = k.val; rw [hi.1]; omega
  | ⟨1, _⟩ => show win0_7.index t 1 * 1024 + 1 * d.val = d.val; rw [hi.2]; omega

/-- The block of window 9 at an index. -/
theorem blk9 (t : Fin cfg0.N) (k : Fin 1024) (d : Fin 512) : iblk m c 9 t (ix2 k d) = m ((c : Thread nD τ).loc main_arg9) (ix3 0 k d) := by
  have hi := (by decide +kernel : ∀ t : Fin grid0.N, win0_9.index t 0 = 0 ∧ win0_9.index t 1 = 0) t
  unfold iblk
  rw [View.read_apply]
  refine Eq.trans ?_ ((congrFun (host_v9 m c) (ix2 k d)).trans (form_query_at _ k d))
  show V m c main_v9 _ = V m c main_v9 _
  refine congrArg (V m c main_v9) (funext fun a => Fin.ext ?_)
  match a with
  | ⟨0, _⟩ => show win0_9.index t 0 * 1024 + 1 * k.val = k.val; rw [hi.1]; omega
  | ⟨1, _⟩ => show win0_9.index t 1 * 512 + 1 * d.val = d.val; rw [hi.2]; omega

/-- The block of window 8 at an index. -/
theorem blk8 (t : Fin cfg0.N) (d : Fin 1024) : iblk m c 8 t (ix2 0 d) = m ((c : Thread nD τ).loc main_arg8) (ix2 0 d) := by
  have hi := (by decide +kernel : ∀ t : Fin grid0.N, win0_8.index t 0 = 0 ∧ win0_8.index t 1 = 0) t
  unfold iblk
  rw [View.read_apply]
  refine Eq.trans ?_ ((congrFun (host_v8 m c) (ix2 0 d)).trans (form_gain_at _ d))
  show V m c main_v8 _ = V m c main_v8 _
  refine congrArg (V m c main_v8) (funext fun a => Fin.ext ?_)
  match a with
  | ⟨0, _⟩ => show win0_8.index t 0 * 1 + 1 * 0 = 0; rw [hi.1]
  | ⟨1, _⟩ => show win0_8.index t 1 * 1024 + 1 * d.val = d.val; rw [hi.2]; omega

/-- The residual row after the mixers, at a token and a channel. -/
def x1E (r : Fin 65536) (d : Fin 1024) : EReal :=
  mixR (fun k => m ((c : Thread nD τ).loc main_arg0) (ix2 r k)) (fun k => m ((c : Thread nD τ).loc main_arg3) (ix2 r k)) (fun k => m ((c : Thread nD τ).loc main_arg4) (ix2 r k))
    (fun j => m ((c : Thread nD τ).loc main_arg1) (ix2 r j)) (fun j => m ((c : Thread nD τ).loc main_arg2) (ix2 r j))
    (fun j k => m ((c : Thread nD τ).loc main_arg5) (ix3 0 j k)) (fun j k => m ((c : Thread nD τ).loc main_arg6) (ix3 0 j k)) (fun k => m ((c : Thread nD τ).loc main_arg7) (ix3 0 k d)) d

/-- The cross-attention query, at a token and a column. -/
def qE (r : Fin 65536) (d : Fin 512) : EReal :=
  projR (x1E m c r) (fun k => m ((c : Thread nD τ).loc main_arg8) (ix2 0 k)) (fun k => m ((c : Thread nD τ).loc main_arg9) (ix3 0 k d))

/-- The first result array. -/
def x1A : (⟨S65536x1024, .f32⟩ : BufTy).Contents (Elt Ideal) := fun i => x1E m c (i 0) (i 1)
/-- The second result array. -/
def qA : (⟨S65536x512, .f32⟩ : BufTy).Contents (Elt Ideal) := fun i => qE m c (i 0) (i 1)

/-- A grid point's block of the gated sum is the array's rows. -/
theorem x1_at (t : Fin cfg0.N) (r : Fin 512) (d : Fin 1024) :
    k0_pay2 (iblk m c 1 t) (iblk m c 5 t) (iblk m c 2 t) (iblk m c 6 t) (iblk m c 3 t) (iblk m c 4 t) (iblk m c 0 t) (iblk m c 7 t) (ix2 r d) = x1E m c (row t r) d := by
  refine (pay_x1 _ _ _ _ _ _ _ _ r d).trans ?_
  unfold x1E
  congr 1
  · exact funext fun k => blk0 m c t r k
  · exact funext fun k => blk3 m c t r k
  · exact funext fun k => blk4 m c t r k
  · exact funext fun k => blk1 m c t r k
  · exact funext fun k => blk2 m c t r k
  · exact funext fun j => funext fun k => blk5 m c t j k
  · exact funext fun j => funext fun k => blk6 m c t j k
  · exact funext fun k => blk7 m c t k d

/-- What a grid point leaves in the first result, at an index. -/
theorem point10 (t : Fin cfg0.N) (r : Fin 512) (d : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r d) = x1A m c (ix2 (row t r) d) := by
  rw [out_x1]
  exact x1_at m c t r d

/-- What a grid point leaves in the second result, at an index. -/
theorem point11 (t : Fin cfg0.N) (r d : Fin 512) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r d) = qA m c (ix2 (row t r) d) := by
  rw [out_q]
  refine (pay_q _ _ _ _ _ _ _ _ _ _ _ rfl r d).trans ?_
  show _ = qE m c (row t r) d
  unfold qE
  congr 1
  · exact funext fun k => x1_at m c t r k
  · exact funext fun k => blk8 m c t k
  · exact funext fun k => blk9 m c t k d

/-- What a grid point writes back is its block of the result. -/
theorem flushed_eq10 (t : Fin cfg0.N) : (dats m 0 c).flushed 10 t = ((cfg0.win 10).blk t).view.read (Elt Ideal) (x1A m c) := by
  have hi := (by decide +kernel : ∀ t : Fin grid0.N, win0_10.index t 0 = t.val ∧ win0_10.index t 1 = 0) t
  rw [Value.flushed10]
  have key : ∀ y : S512x1024.Idx, out0_10 (iblk m c 0 t) (iblk m c 1 t) (iblk m c 2 t) (iblk m c 3 t) (iblk m c 4 t) (iblk m c 5 t) (iblk m c 6 t) (iblk m c 7 t) (iblk m c 8 t) (iblk m c 9 t) y
      = ((cfg0.win 10).blk t).view.read (Elt Ideal) (x1A m c) y := by
    intro y
    obtain ⟨r, d, rfl⟩ : ∃ (r : Fin 512) (d : Fin 1024), y = ix2 r d := ⟨y 0, y 1, (ix2_eta y).symm⟩
    rw [point10, View.read_apply]
    show x1A m c _ = x1A m c _
    refine congrArg (x1A m c) (funext fun a => Fin.ext ?_)
    match a with
    | ⟨0, _⟩ => show 512 * t.val + r.val = win0_10.index t 0 * 512 + 1 * r.val; rw [hi.1]; omega
    | ⟨1, _⟩ => show d.val = win0_10.index t 1 * 1024 + 1 * d.val; rw [hi.2]; omega
  exact funext key

/-- The result array after the run. -/
theorem final10 : (dats m 0 c).arrAt 10 cfg0.N = x1A m c :=
  (dats m 0 c).arrAt_eq_of_cover 10 (x1A m c) (fun t _ => flushed_eq10 m c t) fun i => by
    have h0 : (i 0 : ℕ) < 65536 := (i 0).isLt
    have h1 : (i 1 : ℕ) < 1024 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_10.index t 0 = t.val ∧ win0_10.index t 1 = 0) t
    have hf := (by decide +kernel : ∀ t : Fin grid0.N, win0_10.flush t = true) t
    refine ⟨t, hf, ?_⟩
    show i ∈ ((View.whole main_v10_0).slice (win0_10.rect t)).set
    rw [View.set_slice_whole, Rect.mem_set_unit]
    intro a
    match a with
    | ⟨0, _⟩ => show win0_10.index t 0 * 512 ≤ (i 0 : ℕ) ∧ (i 0 : ℕ) < win0_10.index t 0 * 512 + 512; rw [hi.1]; omega
    | ⟨1, _⟩ => show win0_10.index t 1 * 1024 ≤ (i 1 : ℕ) ∧ (i 1 : ℕ) < win0_10.index t 1 * 1024 + 1024; rw [hi.2]; omega

/-- What a grid point writes back is its block of the result. -/
theorem flushed_eq11 (t : Fin cfg0.N) : (dats m 0 c).flushed 11 t = ((cfg0.win 11).blk t).view.read (Elt Ideal) (qA m c) := by
  have hi := (by decide +kernel : ∀ t : Fin grid0.N, win0_11.index t 0 = t.val ∧ win0_11.index t 1 = 0) t
  rw [Value.flushed11]
  have key : ∀ y : S512x512.Idx, out0_11 (iblk m c 0 t) (iblk m c 1 t) (iblk m c 2 t) (iblk m c 3 t) (iblk m c 4 t) (iblk m c 5 t) (iblk m c 6 t) (iblk m c 7 t) (iblk m c 8 t) (iblk m c 9 t) y
      = ((cfg0.win 11).blk t).view.read (Elt Ideal) (qA m c) y := by
    intro y
    obtain ⟨r, d, rfl⟩ : ∃ (r : Fin 512) (d : Fin 512), y = ix2 r d := ⟨y 0, y 1, (ix2_eta y).symm⟩
    rw [point11, View.read_apply]
    show qA m c _ = qA m c _
    refine congrArg (qA m c) (funext fun a => Fin.ext ?_)
    match a with
    | ⟨0, _⟩ => show 512 * t.val + r.val = win0_11.index t 0 * 512 + 1 * r.val; rw [hi.1]; omega
    | ⟨1, _⟩ => show d.val = win0_11.index t 1 * 512 + 1 * d.val; rw [hi.2]; omega
  exact funext key

/-- The result array after the run. -/
theorem final11 : (dats m 0 c).arrAt 11 cfg0.N = qA m c :=
  (dats m 0 c).arrAt_eq_of_cover 11 (qA m c) (fun t _ => flushed_eq11 m c t) fun i => by
    have h0 : (i 0 : ℕ) < 65536 := (i 0).isLt
    have h1 : (i 1 : ℕ) < 512 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_11.index t 0 = t.val ∧ win0_11.index t 1 = 0) t
    have hf := (by decide +kernel : ∀ t : Fin grid0.N, win0_11.flush t = true) t
    refine ⟨t, hf, ?_⟩
    show i ∈ ((View.whole main_v10_1).slice (win0_11.rect t)).set
    rw [View.set_slice_whole, Rect.mem_set_unit]
    intro a
    match a with
    | ⟨0, _⟩ => show win0_11.index t 0 * 512 ≤ (i 0 : ℕ) ∧ (i 0 : ℕ) < win0_11.index t 0 * 512 + 512; rw [hi.1]; omega
    | ⟨1, _⟩ => show win0_11.index t 1 * 512 ≤ (i 1 : ℕ) ∧ (i 1 : ℕ) < win0_11.index t 1 * 512 + 512; rw [hi.2]; omega

end Cert.Kernel4Ideal.MixValue

end
-- ==== Proof.MixJoin.lean ====
module

public import proofs.«01_k».proof.Proof.MixValue
public import proofs.«01_k».proof.Proof.Gen.Reference4Ideal.Run

@[expose] public section

set_option maxRecDepth 16384

noncomputable section

/- The reference of the mixing call, and the equality of its results with the kernel's. -/

namespace Cert.Reference4Ideal.MixRef

open Cert.Reference4Ideal Cert.Reference4Ideal.Gen Idealize.ShloMosaic Idealize.ShloMosaic.TcCoe Idealize.ShloMosaic.Tactic Idealize.SL.Sem Idealize.ShloMosaic.StableHlo
open Cert.Dense

/-- The reference's first result, as its host operations write it. -/
def formX1 (x : FVec Ideal S65536x1024 .f32) (hs att : FVec Ideal S65536x512 .bf16) (gl ga : FVec Ideal S65536x1024 .f32) (wl wa : FVec Ideal S1x512x1024 .f32) (wm : FVec Ideal S1x1024x1024 .f32) : FVec Ideal S65536x1024 .f32 :=
  addf x (Host.dotGeneral dot_S65536x1024_S1024x1024_S65536x1024_1_0_0_1_n_n none (addf (mulf gl (Host.dotGeneral dot_S65536x512_S512x1024_S65536x1024_1_0_0_1_n_n none (extf .f32 hs bitsLt_bf16_f32) (shapeCast _ wl shapeCasts_S1x512x1024_S512x1024))) (mulf ga (Host.dotGeneral dot_S65536x512_S512x1024_S65536x1024_1_0_0_1_n_n none (extf .f32 att bitsLt_bf16_f32) (shapeCast _ wa shapeCasts_S1x512x1024_S512x1024)))) (shapeCast _ wm shapeCasts_S1x1024x1024_S1024x1024))

/-- The first result at an index. -/
theorem formX1_at (x : FVec Ideal S65536x1024 .f32) (hs att : FVec Ideal S65536x512 .bf16) (gl ga : FVec Ideal S65536x1024 .f32) (wl wa : FVec Ideal S1x512x1024 .f32) (wm : FVec Ideal S1x1024x1024 .f32) (r : Fin 65536) (d : Fin 1024) :
    formX1 x hs att gl ga wl wa wm (ix2 r d)
      = mixR (fun k => x (ix2 r k)) (fun k => gl (ix2 r k)) (fun k => ga (ix2 r k)) (fun j => hs (ix2 r j)) (fun j => att (ix2 r j))
          (fun j k => wl (ix3 0 j k)) (fun j k => wa (ix3 0 j k)) (fun k => wm (ix3 0 k d)) d := by
  unfold formX1 mixR dotR
  pointwise

/-- The reference's second result from its first, as its host operations write it. -/
def formQ (x : FVec Ideal S65536x1024 .f32) (g : FVec Ideal S1x1024 .f32) (w : FVec Ideal S1x1024x512 .f32) : FVec Ideal S65536x512 .f32 :=
  Host.dotGeneral dot_S65536x1024_S1024x512_S65536x512_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ g shapeCasts_S1x1024_S1024)))) (shapeCast _ w shapeCasts_S1x1024x512_S1024x512)
/-- The second result at an index. -/
theorem formQ_at (x : FVec Ideal S65536x1024 .f32) (g : FVec Ideal S1x1024 .f32) (w : FVec Ideal S1x1024x512 .f32) (r : Fin 65536) (d : Fin 512) :
    formQ x g w (ix2 r d) = projR (fun k => x (ix2 r k)) (fun k => g (ix2 0 k)) (fun k => w (ix3 0 k d)) := by
  unfold formQ projR normR dotR
  pointwise

end Cert.Reference4Ideal.MixRef

namespace Cert.MixJoin

open Idealize.ShloMosaic Idealize.ShloMosaic.TcCoe Idealize.ShloMosaic.Tactic Idealize.SL.Sem
open Cert.Kernel4Ideal.MixValue Cert.Reference4Ideal.MixRef Cert.Dense

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The two memories agree on the arguments of one device. -/
def Agree : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
  ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
  ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
  ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
  ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
  ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
  ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
  ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
  ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
  ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)

/-- The reference's first result is the kernel's. -/
theorem x1_eq (h : Agree m m' c) : formX1 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) = x1A m c := by
  obtain ⟨h0, h1, h2, h3, h4, h5, h6, h7, h8, h9⟩ := h
  rw [h0, h1, h2, h3, h4, h5, h6, h7]
  funext y
  obtain ⟨r, d, rfl⟩ : ∃ (r : Fin 65536) (d : Fin 1024), y = ix2 r d := ⟨y 0, y 1, (ix2_eta y).symm⟩
  exact formX1_at _ _ _ _ _ _ _ _ r d

/-- The reference's second result is the kernel's. -/
theorem q_eq (h : Agree m m' c) : formQ (formX1 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7))) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) = qA m c := by
  rw [x1_eq m m' c h]
  obtain ⟨h0, h1, h2, h3, h4, h5, h6, h7, h8, h9⟩ := h
  rw [h8, h9]
  funext y
  obtain ⟨r, d, rfl⟩ : ∃ (r : Fin 65536) (d : Fin 512), y = ix2 r d := ⟨y 0, y 1, (ix2_eta y).symm⟩
  exact formQ_at _ _ _ r d

end Cert.MixJoin

end
-- ==== Proof.MemValue.lean ====
module

public import proofs.«01_k».proof.Proof.Dense
public import proofs.«01_k».proof.Proof.Gen.Kernel3Ideal.Value
public import Idealize.ShloMosaic.Lib.Pointwise
public import Idealize.ShloMosaic.Lib.StableHlo.RunRead

@[expose] public section

set_option maxRecDepth 16384

noncomputable section

/- What the memory kernel's two result arrays hold, as numbers of the program's arguments. -/

namespace Cert.Kernel3Ideal.MemValue

open Cert.Kernel3Ideal Cert.Kernel3Ideal.Gen Idealize.ShloMosaic Idealize.ShloMosaic.TcCoe Idealize.ShloMosaic.Tactic Idealize.SL.Sem Idealize.ShloMosaic.StableHlo
open Idealize.ShloMosaic.Pipeline (Dat)
open Cert.Dense

/-- The zero offset of a two-dimensional block. -/
theorem off2 : (![0, 0] : Fin 2 → ℕ) = fun _ => 0 := funext fun a => by fin_cases a <;> rfl

/-- The zero offset of a three-dimensional block. -/
theorem off3 : (![0, 0, 0] : Fin 3 → ℕ) = fun _ => 0 := funext fun a => by fin_cases a <;> rfl

/-- The column of the flat row that head `h` and lane `l` name. -/
def colOf (h : Fin 4) (l : Fin 128) : Fin 512 := ⟨h.val * 128 + l.val, by have := h.isLt; have := l.isLt; omega⟩

section Block

variable (x0 : Vec Ideal S1x256x1024 .f32) (x1 : Vec Ideal S1x1024 .f32) (x2 x3 : Vec Ideal S1024x512 .bf16)

/-- One entry of a block's first projection. -/
theorem pay_k (r : Fin 256) (d : Fin 512) :
    k0_pay8 x0 x1 x2 (ix2 r d) = projR (fun k => x0 (ix3 0 r k)) (fun k => x1 (ix2 0 k)) (fun k => x2 (ix2 k d)) := by
  unfold_payloads
  unfold projR normR dotR
  pointwise

/-- One entry of a block's second projection. -/
theorem pay_v (r : Fin 256) (d : Fin 512) :
    k0_pay9 x0 x1 x3 (ix2 r d) = projR (fun k => x0 (ix3 0 r k)) (fun k => x1 (ix2 0 k)) (fun k => x3 (ix2 k d)) := by
  unfold_payloads
  unfold projR normR dotR
  pointwise

/-- The stored block of window 4 at an index. -/
theorem out_4 (r : Fin 256) (h : Fin 4) (l : Fin 128) :
    out0_4 x0 x1 x2 x3 (ix4 0 r h l) = projR (fun k => x0 (ix3 0 r k)) (fun k => x1 (ix2 0 k)) (fun k => x2 (ix2 k (colOf h l))) := by
  unfold_out out0_4
  simp only [View.ld_unit_zero (S := S1x256x1024) off3, View.ld_unit_zero (S := S1024x512) off2, View.ld_unit_zero (S := S1x1024) off2]
  refine (Value.canon4_eq x0 x1 x2 (ix4 0 r h l)).trans ?_
  have e : Value.ix4_0 (ix4 0 r h l) = ix2 r (colOf h l) := funext fun a => Fin.ext (match a with
    | ⟨0, _⟩ => rfl
    | ⟨1, _⟩ => rfl)
  exact (congrArg (k0_pay8 x0 x1 x2) e).trans (pay_k x0 x1 x2 r (colOf h l))

/-- The stored block of window 5 at an index. -/
theorem out_5 (r : Fin 256) (h : Fin 4) (l : Fin 128) :
    out0_5 x0 x1 x2 x3 (ix4 0 r h l) = projR (fun k => x0 (ix3 0 r k)) (fun k => x1 (ix2 0 k)) (fun k => x3 (ix2 k (colOf h l))) := by
  unfold_out out0_5
  simp only [View.ld_unit_zero (S := S1x256x1024) off3, View.ld_unit_zero (S := S1024x512) off2, View.ld_unit_zero (S := S1x1024) off2]
  refine (Value.canon5_eq x0 x1 x3 (ix4 0 r h l)).trans ?_
  have e : Value.ix5_0 (ix4 0 r h l) = ix2 r (colOf h l) := funext fun a => Fin.ext (match a with
    | ⟨0, _⟩ => rfl
    | ⟨1, _⟩ => rfl)
  exact (congrArg (k0_pay9 x0 x1 x3) e).trans (pay_v x0 x1 x3 r (colOf h l))

end Block

variable (m : (ℓ : Loc nD τ sig) → Buf (Elt Ideal) ℓ) (c : Dev nD)

/-- A weight's host form: its layer axis dropped, cast to the narrow type. -/
def form_w (x : FVec Ideal S1x1024x512 .f32) : FVec Ideal S1024x512 .bf16 :=
  truncf .bf16 (shapeCast S1024x512 x shapeCasts_S1x1024x512_S1024x512) bitsLt_bf16_f32

/-- The form at an index. -/
theorem form_w_at (x : FVec Ideal S1x1024x512 .f32) (k : Fin 1024) (d : Fin 512) : form_w x (ix2 k d) = (x (ix3 0 k d) : EReal) := by
  unfold form_w
  pointwise

/-- The gains' host form. -/
def form_gain (x : (⟨S1x1024, .f32⟩ : BufTy).Contents (Elt Ideal)) : (⟨S1x1024, .f32⟩ : BufTy).Contents (Elt Ideal) :=
  shapeCast S1x1024 (shapeCast S1024 x shapeCasts_S1x1024_S1024) shapeCasts_S1024_S1x1024

/-- The form at an index. -/
theorem form_gain_at (x : (⟨S1x1024, .f32⟩ : BufTy).Contents (Elt Ideal)) (d : Fin 1024) : form_gain x (ix2 0 d) = (x (ix2 0 d) : EReal) := by
  unfold form_gain
  pointwise

set_option maxRecDepth 65536 in
set_option maxHeartbeats 1000000 in
/-- What the host leaves in the array `main_v3`. -/
theorem host_v3 : V m c main_v3 = form_gain (m ((c : Thread nD τ).loc main_arg1)) := by
  show StableHlo.after hostOps0 (fun b => m (c, b)) (Proc.devRef .tc main_v3) = _
  simp only [hostOps0]
  after_reads_simp
  try rfl

set_option maxRecDepth 65536 in
set_option maxHeartbeats 1000000 in
/-- What the host leaves in the array `main_v4`. -/
theorem host_v4 : V m c main_v4 = form_w (m ((c : Thread nD τ).loc main_arg2)) := by
  show StableHlo.after hostOps0 (fun b => m (c, b)) (Proc.devRef .tc main_v4) = _
  simp only [hostOps0]
  after_reads_simp
  try rfl

set_option maxRecDepth 65536 in
set_option maxHeartbeats 1000000 in
/-- What the host leaves in the array `main_v5`. -/
theorem host_v5 : V m c main_v5 = form_w (m ((c : Thread nD τ).loc main_arg3)) := by
  show StableHlo.after hostOps0 (fun b => m (c, b)) (Proc.devRef .tc main_v5) = _
  simp only [hostOps0]
  after_reads_simp
  try rfl

/-- The batch entry of grid point `t`. -/
def row (t : Fin cfg0.N) : Fin 32 := ⟨t.val, t.isLt⟩

/-- The block of window 0 at an index. -/
theorem blk0 (t : Fin cfg0.N) (r : Fin 256) (k : Fin 1024) : iblk m c 0 t (ix3 0 r k) = m ((c : Thread nD τ).loc main_arg0) (ix3 (row t) r k) := by
  have hi := (by decide +kernel : ∀ t : Fin grid0.N, win0_0.index t 0 = t.val ∧ win0_0.index t 1 = 0 ∧ win0_0.index t 2 = 0) t
  unfold iblk
  rw [View.read_apply]
  refine Eq.trans ?_ (congrFun (V_main_arg0 m c) (ix3 (row t) r k))
  show V m c main_arg0 _ = V m c main_arg0 _
  refine congrArg (V m c main_arg0) (funext fun a => Fin.ext ?_)
  match a with
  | ⟨0, _⟩ => show win0_0.index t 0 * 1 + 1 * 0 = t.val; rw [hi.1]; omega
  | ⟨1, _⟩ => show win0_0.index t 1 * 256 + 1 * r.val = r.val; rw [hi.2.1]; omega
  | ⟨2, _⟩ => show win0_0.index t 2 * 1024 + 1 * k.val = k.val; rw [hi.2.2]; omega

/-- The block of window 1 at an index. -/
theorem blk1 (t : Fin cfg0.N) (d : Fin 1024) : iblk m c 1 t (ix2 0 d) = m ((c : Thread nD τ).loc main_arg1) (ix2 0 d) := by
  have hi := (by decide +kernel : ∀ t : Fin grid0.N, win0_1.index t 0 = 0 ∧ win0_1.index t 1 = 0) t
  unfold iblk
  rw [View.read_apply]
  refine Eq.trans ?_ ((congrFun (host_v3 m c) (ix2 0 d)).trans (form_gain_at _ d))
  show V m c main_v3 _ = V m c main_v3 _
  refine congrArg (V m c main_v3) (funext fun a => Fin.ext ?_)
  match a with
  | ⟨0, _⟩ => show win0_1.index t 0 * 1 + 1 * 0 = 0; rw [hi.1]
  | ⟨1, _⟩ => show win0_1.index t 1 * 1024 + 1 * d.val = d.val; rw [hi.2]; omega

/-- The block of window 2 at an index. -/
theorem blk2 (t : Fin cfg0.N) (k : Fin 1024) (d : Fin 512) : iblk m c 2 t (ix2 k d) = m ((c : Thread nD τ).loc main_arg2) (ix3 0 k d) := by
  have hi := (by decide +kernel : ∀ t : Fin grid0.N, win0_2.index t 0 = 0 ∧ win0_2.index t 1 = 0) t
  unfold iblk
  rw [View.read_apply]
  refine Eq.trans ?_ ((congrFun (host_v4 m c) (ix2 k d)).trans (form_w_at _ k d))
  show V m c main_v4 _ = V m c main_v4 _
  refine congrArg (V m c main_v4) (funext fun a => Fin.ext ?_)
  match a with
  | ⟨0, _⟩ => show win0_2.index t 0 * 1024 + 1 * k.val = k.val; rw [hi.1]; omega
  | ⟨1, _⟩ => show win0_2.index t 1 * 512 + 1 * d.val = d.val; rw [hi.2]; omega

/-- The block of window 3 at an index. -/
theorem blk3 (t : Fin cfg0.N) (k : Fin 1024) (d : Fin 512) : iblk m c 3 t (ix2 k d) = m ((c : Thread nD τ).loc main_arg3) (ix3 0 k d) := by
  have hi := (by decide +kernel : ∀ t : Fin grid0.N, win0_3.index t 0 = 0 ∧ win0_3.index t 1 = 0) t
  unfold iblk
  rw [View.read_apply]
  refine Eq.trans ?_ ((congrFun (host_v5 m c) (ix2 k d)).trans (form_w_at _ k d))
  show V m c main_v5 _ = V m c main_v5 _
  refine congrArg (V m c main_v5) (funext fun a => Fin.ext ?_)
  match a with
  | ⟨0, _⟩ => show win0_3.index t 0 * 1024 + 1 * k.val = k.val; rw [hi.1]; omega
  | ⟨1, _⟩ => show win0_3.index t 1 * 512 + 1 * d.val = d.val; rw [hi.2]; omega

/-- One entry of result k: batch entry, token, head, lane. -/
def kE (b : Fin 32) (r : Fin 256) (h : Fin 4) (l : Fin 128) : EReal :=
  projR (fun k => m ((c : Thread nD τ).loc main_arg0) (ix3 b r k)) (fun k => m ((c : Thread nD τ).loc main_arg1) (ix2 0 k)) (fun k => m ((c : Thread nD τ).loc main_arg2) (ix3 0 k (colOf h l)))

/-- The result array k. -/
def kA : (⟨S32x256x4x128, .f32⟩ : BufTy).Contents (Elt Ideal) := fun i => kE m c (i 0) (i 1) (i 2) (i 3)

/-- What a grid point leaves in window 4, at an index. -/
theorem point4 (t : Fin cfg0.N) (r : Fin 256) (h : Fin 4) (l : Fin 128) :
    out0_4 (iblk m c 0 t) (iblk m c 1 t) (iblk m c 2 t) (iblk m c 3 t) (ix4 0 r h l) = kA m c (ix4 (row t) r h l) := by
  refine (out_4 _ _ _ _ r h l).trans ?_
  show _ = kE m c (row t) r h l
  unfold kE
  congr 1
  · exact funext fun k => blk0 m c t r k
  · exact funext fun k => blk1 m c t k
  · exact funext fun k => blk2 m c t k (colOf h l)

/-- What a grid point writes back is its block of the result. -/
theorem flushed_eq4 (t : Fin cfg0.N) : (dats m 0 c).flushed 4 t = ((cfg0.win 4).blk t).view.read (Elt Ideal) (kA m c) := by
  have hi := (by decide +kernel : ∀ t : Fin grid0.N, win0_4.index t 0 = t.val ∧ win0_4.index t 1 = 0 ∧ win0_4.index t 2 = 0 ∧ win0_4.index t 3 = 0) t
  rw [Value.flushed4]
  have key : ∀ y : S1x256x4x128.Idx, out0_4 (iblk m c 0 t) (iblk m c 1 t) (iblk m c 2 t) (iblk m c 3 t) y
      = ((cfg0.win 4).blk t).view.read (Elt Ideal) (kA m c) y := by
    intro y
    obtain ⟨z, r, h, l, rfl⟩ : ∃ (z : Fin 1) (r : Fin 256) (h : Fin 4) (l : Fin 128), y = ix4 z r h l := ⟨y 0, y 1, y 2, y 3, (ix4_eta y).symm⟩
    obtain rfl : z = 0 := Subsingleton.elim _ _
    rw [point4, View.read_apply]
    show kA m c _ = kA m c _
    refine congrArg (kA m c) (funext fun a => Fin.ext ?_)
    match a with
    | ⟨0, _⟩ => show t.val = win0_4.index t 0 * 1 + 1 * 0; rw [hi.1]; omega
    | ⟨1, _⟩ => show r.val = win0_4.index t 1 * 256 + 1 * r.val; rw [hi.2.1]; omega
    | ⟨2, _⟩ => show h.val = win0_4.index t 2 * 4 + 1 * h.val; rw [hi.2.2.1]; omega
    | ⟨3, _⟩ => show l.val = win0_4.index t 3 * 128 + 1 * l.val; rw [hi.2.2.2]; omega
  exact funext key

/-- The result array after the run. -/
theorem final4 : (dats m 0 c).arrAt 4 cfg0.N = kA m c :=
  (dats m 0 c).arrAt_eq_of_cover 4 (kA m c) (fun t _ => flushed_eq4 m c t) fun i => by
    have h0 : (i 0 : ℕ) < 32 := (i 0).isLt
    have h1 : (i 1 : ℕ) < 256 := (i 1).isLt
    have h2 : (i 2 : ℕ) < 4 := (i 2).isLt
    have h3 : (i 3 : ℕ) < 128 := (i 3).isLt
    let t : Fin cfg0.N := ⟨(i 0 : ℕ), by show (i 0 : ℕ) < 32; omega⟩
    have ht : t.val = (i 0 : ℕ) := rfl
    have hi := (by decide +kernel : ∀ t : Fin grid0.N, win0_4.index t 0 = t.val ∧ win0_4.index t 1 = 0 ∧ win0_4.index t 2 = 0 ∧ win0_4.index t 3 = 0) t
    have hf := (by decide +kernel : ∀ t : Fin grid0.N, win0_4.flush t = true) t
    refine ⟨t, hf, ?_⟩
    show i ∈ ((View.whole main_v6_0).slice (win0_4.rect t)).set
    rw [View.set_slice_whole, Rect.mem_set_unit]
    intro a
    match a with
    | ⟨0, _⟩ => show win0_4.index t 0 * 1 ≤ (i 0 : ℕ) ∧ (i 0 : ℕ) < win0_4.index t 0 * 1 + 1; rw [hi.1]; omega
    | ⟨1, _⟩ => show win0_4.index t 1 * 256 ≤ (i 1 : ℕ) ∧ (i 1 : ℕ) < win0_4.index t 1 * 256 + 256; rw [hi.2.1]; omega
    | ⟨2, _⟩ => show win0_4.index t 2 * 4 ≤ (i 2 : ℕ) ∧ (i 2 : ℕ) < win0_4.index t 2 * 4 + 4; rw [hi.2.2.1]; omega
    | ⟨3, _⟩ => show win0_4.index t 3 * 128 ≤ (i 3 : ℕ) ∧ (i 3 : ℕ) < win0_4.index t 3 * 128 + 128; rw [hi.2.2.2]; omega

/-- One entry of result v: batch entry, token, head, lane. -/
def vE (b : Fin 32) (r : Fin 256) (h : Fin 4) (l : Fin 128) : EReal :=
  projR (fun k => m ((c : Thread nD τ).loc main_arg0) (ix3 b r k)) (fun k => m ((c : Thread nD τ).loc main_arg1) (ix2 0 k)) (fun k => m ((c : Thread nD τ).loc main_arg3) (ix3 0 k (colOf h l)))

/-- The result array v. -/
def vA : (⟨S32x256x4x128, .f32⟩ : BufTy).Contents (Elt Ideal) := fun i => vE m c (i 0) (i 1) (i 2) (i 3)

/-- What a grid point leaves in window 5, at an index. -/
theorem point5 (t : Fin cfg0.N) (r : Fin 256) (h : Fin 4) (l : Fin 128) :
    out0_5 (iblk m c 0 t) (iblk m c 1 t) (iblk m c 2 t) (iblk m c 3 t) (ix4 0 r h l) = vA m c (ix4 (row t) r h l) := by
  refine (out_5 _ _ _ _ r h l).trans ?_
  show _ = vE m c (row t) r h l
  unfold vE
  congr 1
  · exact funext fun k => blk0 m c t r k
  · exact funext fun k => blk1 m c t k
  · exact funext fun k => blk3 m c t k (colOf h l)

/-- What a grid point writes back is its block of the result. -/
theorem flushed_eq5 (t : Fin cfg0.N) : (dats m 0 c).flushed 5 t = ((cfg0.win 5).blk t).view.read (Elt Ideal) (vA m c) := by
  have hi := (by decide +kernel : ∀ t : Fin grid0.N, win0_5.index t 0 = t.val ∧ win0_5.index t 1 = 0 ∧ win0_5.index t 2 = 0 ∧ win0_5.index t 3 = 0) t
  rw [Value.flushed5]
  have key : ∀ y : S1x256x4x128.Idx, out0_5 (iblk m c 0 t) (iblk m c 1 t) (iblk m c 2 t) (iblk m c 3 t) y
      = ((cfg0.win 5).blk t).view.read (Elt Ideal) (vA m c) y := by
    intro y
    obtain ⟨z, r, h, l, rfl⟩ : ∃ (z : Fin 1) (r : Fin 256) (h : Fin 4) (l : Fin 128), y = ix4 z r h l := ⟨y 0, y 1, y 2, y 3, (ix4_eta y).symm⟩
    obtain rfl : z = 0 := Subsingleton.elim _ _
    rw [point5, View.read_apply]
    show vA m c _ = vA m c _
    refine congrArg (vA m c) (funext fun a => Fin.ext ?_)
    match a with
    | ⟨0, _⟩ => show t.val = win0_5.index t 0 * 1 + 1 * 0; rw [hi.1]; omega
    | ⟨1, _⟩ => show r.val = win0_5.index t 1 * 256 + 1 * r.val; rw [hi.2.1]; omega
    | ⟨2, _⟩ => show h.val = win0_5.index t 2 * 4 + 1 * h.val; rw [hi.2.2.1]; omega
    | ⟨3, _⟩ => show l.val = win0_5.index t 3 * 128 + 1 * l.val; rw [hi.2.2.2]; omega
  exact funext key

/-- The result array after the run. -/
theorem final5 : (dats m 0 c).arrAt 5 cfg0.N = vA m c :=
  (dats m 0 c).arrAt_eq_of_cover 5 (vA m c) (fun t _ => flushed_eq5 m c t) fun i => by
    have h0 : (i 0 : ℕ) < 32 := (i 0).isLt
    have h1 : (i 1 : ℕ) < 256 := (i 1).isLt
    have h2 : (i 2 : ℕ) < 4 := (i 2).isLt
    have h3 : (i 3 : ℕ) < 128 := (i 3).isLt
    let t : Fin cfg0.N := ⟨(i 0 : ℕ), by show (i 0 : ℕ) < 32; omega⟩
    have ht : t.val = (i 0 : ℕ) := rfl
    have hi := (by decide +kernel : ∀ t : Fin grid0.N, win0_5.index t 0 = t.val ∧ win0_5.index t 1 = 0 ∧ win0_5.index t 2 = 0 ∧ win0_5.index t 3 = 0) t
    have hf := (by decide +kernel : ∀ t : Fin grid0.N, win0_5.flush t = true) t
    refine ⟨t, hf, ?_⟩
    show i ∈ ((View.whole main_v6_1).slice (win0_5.rect t)).set
    rw [View.set_slice_whole, Rect.mem_set_unit]
    intro a
    match a with
    | ⟨0, _⟩ => show win0_5.index t 0 * 1 ≤ (i 0 : ℕ) ∧ (i 0 : ℕ) < win0_5.index t 0 * 1 + 1; rw [hi.1]; omega
    | ⟨1, _⟩ => show win0_5.index t 1 * 256 ≤ (i 1 : ℕ) ∧ (i 1 : ℕ) < win0_5.index t 1 * 256 + 256; rw [hi.2.1]; omega
    | ⟨2, _⟩ => show win0_5.index t 2 * 4 ≤ (i 2 : ℕ) ∧ (i 2 : ℕ) < win0_5.index t 2 * 4 + 4; rw [hi.2.2.1]; omega
    | ⟨3, _⟩ => show win0_5.index t 3 * 128 ≤ (i 3 : ℕ) ∧ (i 3 : ℕ) < win0_5.index t 3 * 128 + 128; rw [hi.2.2.2]; omega

end Cert.Kernel3Ideal.MemValue

end
-- ==== Proof.MemJoin.lean ====
module

public import proofs.«01_k».proof.Proof.MemValue
public import proofs.«01_k».proof.Proof.Gen.Reference3Ideal.Run

@[expose] public section

set_option maxRecDepth 16384

noncomputable section

/- The reference of the memory call, and the equality of its results with the kernel's. -/

namespace Cert.Reference3Ideal.MemRef

open Cert.Reference3Ideal Cert.Reference3Ideal.Gen Idealize.ShloMosaic Idealize.ShloMosaic.TcCoe Idealize.ShloMosaic.Tactic Idealize.SL.Sem Idealize.ShloMosaic.StableHlo
open Cert.Dense

/-- A result of the reference, as its host operations write it. -/
def formM (x : FVec Ideal S32x256x1024 .f32) (g : FVec Ideal S1x1024 .f32) (w : FVec Ideal S1x1024x512 .f32) : FVec Ideal S32x256x4x128 .f32 :=
  shapeCast _ (Host.dotGeneral (F := Ideal) dot_S32x256x1024_S1024x512_S32x256x512_2_0_01_1_n_n none (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ g shapeCasts_S1x1024_S1024)))) (shapeCast _ w shapeCasts_S1x1024x512_S1024x512)) shapeCasts_S32x256x512_S32x256x4x128

/-- The result at an index. -/
theorem formM_at (x : FVec Ideal S32x256x1024 .f32) (g : FVec Ideal S1x1024 .f32) (w : FVec Ideal S1x1024x512 .f32) (b : Fin 32) (r : Fin 256) (h : Fin 4) (l : Fin 128) :
    formM x g w (ix4 b r h l) = projR (fun k => x (ix3 b r k)) (fun k => g (ix2 0 k)) (fun k => w (ix3 0 k (Cert.Kernel3Ideal.MemValue.colOf h l))) := by
  unfold formM projR normR dotR Cert.Kernel3Ideal.MemValue.colOf
  pointwise

end Cert.Reference3Ideal.MemRef

namespace Cert.MemJoin

open Idealize.ShloMosaic Idealize.ShloMosaic.TcCoe Idealize.ShloMosaic.Tactic Idealize.SL.Sem
open Cert.Kernel3Ideal.MemValue Cert.Reference3Ideal.MemRef Cert.Dense

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The two memories agree on the arguments of one device. -/
def Agree : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)

/-- The reference's result k is the kernel's. -/
theorem k_eq (h : Agree m m' c) : formM (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = kA m c := by
  obtain ⟨h0, h1, h2, h3⟩ := h
  rw [h0, h1, h2]
  funext y
  obtain ⟨b, r, h, l, rfl⟩ : ∃ (b : Fin 32) (r : Fin 256) (h : Fin 4) (l : Fin 128), y = ix4 b r h l := ⟨y 0, y 1, y 2, y 3, (ix4_eta y).symm⟩
  exact formM_at _ _ _ b r h l

/-- The reference's result v is the kernel's. -/
theorem v_eq (h : Agree m m' c) : formM (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) = vA m c := by
  obtain ⟨h0, h1, h2, h3⟩ := h
  rw [h0, h1, h3]
  funext y
  obtain ⟨b, r, h, l, rfl⟩ : ∃ (b : Fin 32) (r : Fin 256) (h : Fin 4) (l : Fin 128), y = ix4 b r h l := ⟨y 0, y 1, y 2, y 3, (ix4_eta y).symm⟩
  exact formM_at _ _ _ b r h l

end Cert.MemJoin

end
-- ==== Proof.InProjValue.lean ====
module

public import proofs.«01_k».proof.Proof.InProjPoint

@[expose] public section

set_option maxRecDepth 16384

noncomputable section

/- What the input projection's eight result arrays hold, as numbers of the program's arguments. -/

namespace Cert.Kernel2Ideal.InProjValue

open Cert.Kernel2Ideal Cert.Kernel2Ideal.Gen Idealize.ShloMosaic Idealize.ShloMosaic.TcCoe Idealize.ShloMosaic.Tactic Idealize.SL.Sem Idealize.ShloMosaic.StableHlo
open Idealize.ShloMosaic.Pipeline (Dat)
open Cert.Dense

variable (m : (ℓ : Loc nD τ sig) → Buf (Elt Ideal) ℓ) (c : Dev nD)

/-- The array's row that is row `r` of block `t`. -/
def row (t : Fin cfg0.N) (r : Fin 512) : Fin 65536 := ⟨512 * t.val + r.val, by have h : t.val < 128 := t.isLt; have := r.isLt; omega⟩

/-- The position of row `r` of block `t` in its sequence. -/
def pos (t : Fin cfg0.N) (r : Fin 512) : Fin 2048 := ⟨t.val % 4 * 512 + r.val, by have := r.isLt; omega⟩

/-- The position is the row's place among the rows of its sequence. -/
theorem pos_eq (t : Fin cfg0.N) (r : Fin 512) : (pos t r).val = (row t r).val % 2048 := by
  show t.val % 4 * 512 + r.val = (512 * t.val + r.val) % 2048
  have := r.isLt
  omega

/-- The block of window 0 at an index. -/
theorem blk0 (t : Fin cfg0.N) (r : Fin 512) (k : Fin 1024) : iblk m c 0 t (ix2 r k) = m ((c : Thread nD τ).loc main_arg0) (ix3 ⟨(row t r).val / 2048, by have := (row t r).isLt; omega⟩ ⟨(row t r).val % 2048, by omega⟩ k) := by
  have hi := (by decide +kernel : ∀ t : Fin grid0.N, win0_0.index t 0 = t.val ∧ win0_0.index t 1 = 0) t
  unfold iblk
  rw [View.read_apply]
  refine Eq.trans ?_ ((congrFun (host_v0 m c) (ix2 (row t r) k)).trans (form_x_at _ (row t r) k))
  show V m c main_v0 _ = V m c main_v0 _
  refine congrArg (V m c main_v0) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- The block of window 1 at an index. -/
theorem blk1 (t : Fin cfg0.N) (k : Fin 1024) : iblk m c 1 t (ix2 0 k) = m ((c : Thread nD τ).loc main_arg1) (ix2 0 k) := by
  have hi := (by decide +kernel : ∀ t : Fin grid0.N, win0_1.index t 0 = 0 ∧ win0_1.index t 1 = 0) t
  unfold iblk
  rw [View.read_apply]
  refine Eq.trans ?_ ((congrFun (host_v32 m c) (ix2 0 k)).trans (form_gain_at _ k))
  show V m c main_v32 _ = V m c main_v32 _
  refine congrArg (V m c main_v32) (funext fun a => Fin.ext ?_)
  match a with
  | ⟨0, _⟩ => show win0_1.index t 0 * 1 + 1 * 0 = 0; rw [hi.1]
  | ⟨1, _⟩ => show win0_1.index t 1 * 1024 + 1 * k.val = k.val; rw [hi.2]; omega

/-- The block of window 2 at an index. -/
theorem blk2 (t : Fin cfg0.N) (k : Fin 1024) (n : Fin 4736) : iblk m c 2 t (ix2 k n) = form_pack (m ((c : Thread nD τ).loc main_arg2)) (ix2 k n) := by
  have hi := (by decide +kernel : ∀ t : Fin grid0.N, win0_2.index t 0 = 0 ∧ win0_2.index t 1 = 0) t
  unfold iblk
  rw [View.read_apply]
  refine Eq.trans ?_ (congrFun (host_v8 m c) (ix2 k n))
  show V m c main_v8 _ = V m c main_v8 _
  refine congrArg (V m c main_v8) (funext fun a => Fin.ext ?_)
  match a with
  | ⟨0, _⟩ => show win0_2.index t 0 * 1024 + 1 * k.val = k.val; rw [hi.1]; omega
  | ⟨1, _⟩ => show win0_2.index t 1 * 4736 + 1 * n.val = n.val; rw [hi.2]; omega

/-- The block of window 3 at an index. -/
theorem blk3 (t : Fin cfg0.N) (r : Fin 512) (j : Fin 128) : iblk m c 3 t (ix2 r j) = (Ideal.cos (angR (pos t r).val (j.val % 32)) : EReal) := by
  have hi := (by decide +kernel : ∀ t : Fin grid0.N, win0_3.index t 0 = t.val % 4 ∧ win0_3.index t 1 = 0) t
  unfold iblk
  rw [View.read_apply]
  refine Eq.trans ?_ ((congrFun (host_v28 m c) (ix2 (pos t r) j)).trans (cos_at (pos t r) j))
  show V m c main_v28 _ = V m c main_v28 _
  refine congrArg (V m c main_v28) (funext fun a => Fin.ext ?_)
  match a with
  | ⟨0, _⟩ => show win0_3.index t 0 * 512 + 1 * r.val = t.val % 4 * 512 + r.val; rw [hi.1]; omega
  | ⟨1, _⟩ => show win0_3.index t 1 * 128 + 1 * j.val = j.val; rw [hi.2]; omega

/-- The block of window 4 at an index. -/
theorem blk4 (t : Fin cfg0.N) (r : Fin 512) (j : Fin 128) : iblk m c 4 t (ix2 r j) = (if j.val % 64 < 32 then -Ideal.sin (angR (pos t r).val (j.val % 32)) else Ideal.sin (angR (pos t r).val (j.val % 32)) : EReal) := by
  have hi := (by decide +kernel : ∀ t : Fin grid0.N, win0_4.index t 0 = t.val % 4 ∧ win0_4.index t 1 = 0) t
  unfold iblk
  rw [View.read_apply]
  refine Eq.trans ?_ ((congrFun (host_v31 m c) (ix2 (pos t r) j)).trans (sin_at (pos t r) j))
  show V m c main_v31 _ = V m c main_v31 _
  refine congrArg (V m c main_v31) (funext fun a => Fin.ext ?_)
  match a with
  | ⟨0, _⟩ => show win0_4.index t 0 * 512 + 1 * r.val = t.val % 4 * 512 + r.val; rw [hi.1]; omega
  | ⟨1, _⟩ => show win0_4.index t 1 * 128 + 1 * j.val = j.val; rw [hi.2]; omega

/-- The rows of the argument, as one array. -/
def rowX (r : Fin 65536) (k : Fin 1024) : EReal := m ((c : Thread nD τ).loc main_arg0) (ix3 ⟨r.val / 2048, by omega⟩ ⟨r.val % 2048, by omega⟩ k)

/-- One entry of a normalised row's product with a column of the weights. -/
def projE (r : Fin 65536) : Fin 4680 → EReal :=
  rowP (rowX m c r) (fun k => m ((c : Thread nD τ).loc main_arg1) (ix2 0 k)) (m ((c : Thread nD τ).loc main_arg2))

/-- A grid point's blocks hold its rows, the gains, the packed weights and the tables of its positions. -/
theorem holds (t : Fin cfg0.N) : Holds (iblk m c 0 t) (iblk m c 1 t) (iblk m c 2 t) (iblk m c 3 t) (iblk m c 4 t)
    (fun r => rowX m c (row t r)) (fun k => m ((c : Thread nD τ).loc main_arg1) (ix2 0 k)) (m ((c : Thread nD τ).loc main_arg2)) (fun r => (row t r).val % 2048) where
  rows r k := blk0 m c t r k
  gains k := blk1 m c t k
  weights k n := blk2 m c t k n
  cosines r j := by
    rw [← pos_eq t r]
    exact blk3 m c t r j
  sines r j := by
    rw [← pos_eq t r]
    exact blk4 m c t r j

/-- Result xl at a token and a column. -/
def xlE (r : Fin 65536) (d : Fin 512) : EReal := xlS (projE m c r) d

/-- Result q at a token and a column. -/
def qE (r : Fin 65536) (d : Fin 512) : EReal := qS (projE m c r) (r.val % 2048) d

/-- Result k at a token and a column. -/
def kE (r : Fin 65536) (d : Fin 512) : EReal := kS (projE m c r) (r.val % 2048) d

/-- Result v at a token and a column. -/
def vE (r : Fin 65536) (d : Fin 512) : EReal := vS (projE m c r) d

/-- Result qi at a token and a column. -/
def qiE (r : Fin 65536) (d : Fin 512) : EReal := qiS (projE m c r) (r.val % 2048) d

/-- The index keys and weights at a token and a column. -/
def kwE (r : Fin 65536) (d : Fin 128) : EReal := kwS (projE m c r) (r.val % 2048) d

/-- The gate gl at a token and a column. -/
def glE (r : Fin 65536) (d : Fin 1024) : EReal := glS (projE m c r) d

/-- The gate ga at a token and a column. -/
def gaE (r : Fin 65536) (d : Fin 1024) : EReal := gaS (projE m c r) d

/-- The result array xl. -/
def xlA : (⟨S65536x512, .f32⟩ : BufTy).Contents (Elt Ideal) := fun i => xlE m c (i 0) (i 1)

/-- What a grid point writes back to window 5 is its block of the result. -/
theorem flushed_eq5 (t : Fin cfg0.N) : (dats m 0 c).flushed 5 t = ((cfg0.win 5).blk t).view.read (Elt Ideal) (xlA m c) := by
  have hi := (by decide +kernel : ∀ t : Fin grid0.N, win0_5.index t 0 = t.val ∧ win0_5.index t 1 = 0) t
  rw [Value.flushed5]
  have key : ∀ y : S512x512.Idx, out0_5 (iblk m c 0 t) (iblk m c 1 t) (iblk m c 2 t) (iblk m c 3 t) (iblk m c 4 t) y = ((cfg0.win 5).blk t).view.read (Elt Ideal) (xlA m c) y := by
    intro y
    obtain ⟨r, d, rfl⟩ : ∃ (r : Fin 512) (d : Fin 512), y = ix2 r d := ⟨y 0, y 1, (ix2_eta y).symm⟩
    rw [(holds m c t).point5 r d, View.read_apply]
    show xlA m c (ix2 (row t r) d) = xlA m c _
    refine congrArg (xlA m c) (funext fun a => Fin.ext ?_)
    match a with
    | ⟨0, _⟩ => show 512 * t.val + r.val = win0_5.index t 0 * 512 + 1 * r.val; rw [hi.1]; omega
    | ⟨1, _⟩ => show d.val = win0_5.index t 1 * 512 + 1 * d.val; rw [hi.2]; omega
  exact funext key

/-- The result array xl after the run. -/
theorem final5 : (dats m 0 c).arrAt 5 cfg0.N = xlA m c :=
  (dats m 0 c).arrAt_eq_of_cover 5 (xlA m c) (fun t _ => flushed_eq5 m c t) fun i => by
    have h0 : (i 0 : ℕ) < 65536 := (i 0).isLt
    have h1 : (i 1 : ℕ) < 512 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_5.index t 0 = t.val ∧ win0_5.index t 1 = 0) t
    have hf := (by decide +kernel : ∀ t : Fin grid0.N, win0_5.flush t = true) t
    refine ⟨t, hf, ?_⟩
    show i ∈ ((View.whole main_v33_0).slice (win0_5.rect t)).set
    rw [View.set_slice_whole, Rect.mem_set_unit]
    intro a
    match a with
    | ⟨0, _⟩ => show win0_5.index t 0 * 512 ≤ (i 0 : ℕ) ∧ (i 0 : ℕ) < win0_5.index t 0 * 512 + 512; rw [hi.1]; omega
    | ⟨1, _⟩ => show win0_5.index t 1 * 512 ≤ (i 1 : ℕ) ∧ (i 1 : ℕ) < win0_5.index t 1 * 512 + 512; rw [hi.2]; omega

/-- The result array q. -/
def qA : (⟨S65536x512, .bf16⟩ : BufTy).Contents (Elt Ideal) := fun i => qE m c (i 0) (i 1)

/-- What a grid point writes back to window 6 is its block of the result. -/
theorem flushed_eq6 (t : Fin cfg0.N) : (dats m 0 c).flushed 6 t = ((cfg0.win 6).blk t).view.read (Elt Ideal) (qA m c) := by
  have hi := (by decide +kernel : ∀ t : Fin grid0.N, win0_6.index t 0 = t.val ∧ win0_6.index t 1 = 0) t
  rw [Value.flushed6]
  have key : ∀ y : S512x512.Idx, out0_6 (iblk m c 0 t) (iblk m c 1 t) (iblk m c 2 t) (iblk m c 3 t) (iblk m c 4 t) y = ((cfg0.win 6).blk t).view.read (Elt Ideal) (qA m c) y := by
    intro y
    obtain ⟨r, d, rfl⟩ : ∃ (r : Fin 512) (d : Fin 512), y = ix2 r d := ⟨y 0, y 1, (ix2_eta y).symm⟩
    rw [(holds m c t).point6 r d, View.read_apply]
    show qA m c (ix2 (row t r) d) = qA m c _
    refine congrArg (qA m c) (funext fun a => Fin.ext ?_)
    match a with
    | ⟨0, _⟩ => show 512 * t.val + r.val = win0_6.index t 0 * 512 + 1 * r.val; rw [hi.1]; omega
    | ⟨1, _⟩ => show d.val = win0_6.index t 1 * 512 + 1 * d.val; rw [hi.2]; omega
  exact funext key

/-- The result array q after the run. -/
theorem final6 : (dats m 0 c).arrAt 6 cfg0.N = qA m c :=
  (dats m 0 c).arrAt_eq_of_cover 6 (qA m c) (fun t _ => flushed_eq6 m c t) fun i => by
    have h0 : (i 0 : ℕ) < 65536 := (i 0).isLt
    have h1 : (i 1 : ℕ) < 512 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_6.index t 0 = t.val ∧ win0_6.index t 1 = 0) t
    have hf := (by decide +kernel : ∀ t : Fin grid0.N, win0_6.flush t = true) t
    refine ⟨t, hf, ?_⟩
    show i ∈ ((View.whole main_v33_1).slice (win0_6.rect t)).set
    rw [View.set_slice_whole, Rect.mem_set_unit]
    intro a
    match a with
    | ⟨0, _⟩ => show win0_6.index t 0 * 512 ≤ (i 0 : ℕ) ∧ (i 0 : ℕ) < win0_6.index t 0 * 512 + 512; rw [hi.1]; omega
    | ⟨1, _⟩ => show win0_6.index t 1 * 512 ≤ (i 1 : ℕ) ∧ (i 1 : ℕ) < win0_6.index t 1 * 512 + 512; rw [hi.2]; omega

/-- The result array k. -/
def kA : (⟨S65536x512, .f32⟩ : BufTy).Contents (Elt Ideal) := fun i => kE m c (i 0) (i 1)

/-- What a grid point writes back to window 7 is its block of the result. -/
theorem flushed_eq7 (t : Fin cfg0.N) : (dats m 0 c).flushed 7 t = ((cfg0.win 7).blk t).view.read (Elt Ideal) (kA m c) := by
  have hi := (by decide +kernel : ∀ t : Fin grid0.N, win0_7.index t 0 = t.val ∧ win0_7.index t 1 = 0) t
  rw [Value.flushed7]
  have key : ∀ y : S512x512.Idx, out0_7 (iblk m c 0 t) (iblk m c 1 t) (iblk m c 2 t) (iblk m c 3 t) (iblk m c 4 t) y = ((cfg0.win 7).blk t).view.read (Elt Ideal) (kA m c) y := by
    intro y
    obtain ⟨r, d, rfl⟩ : ∃ (r : Fin 512) (d : Fin 512), y = ix2 r d := ⟨y 0, y 1, (ix2_eta y).symm⟩
    rw [(holds m c t).point7 r d, View.read_apply]
    show kA m c (ix2 (row t r) d) = kA m c _
    refine congrArg (kA m c) (funext fun a => Fin.ext ?_)
    match a with
    | ⟨0, _⟩ => show 512 * t.val + r.val = win0_7.index t 0 * 512 + 1 * r.val; rw [hi.1]; omega
    | ⟨1, _⟩ => show d.val = win0_7.index t 1 * 512 + 1 * d.val; rw [hi.2]; omega
  exact funext key

/-- The result array k after the run. -/
theorem final7 : (dats m 0 c).arrAt 7 cfg0.N = kA m c :=
  (dats m 0 c).arrAt_eq_of_cover 7 (kA m c) (fun t _ => flushed_eq7 m c t) fun i => by
    have h0 : (i 0 : ℕ) < 65536 := (i 0).isLt
    have h1 : (i 1 : ℕ) < 512 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_7.index t 0 = t.val ∧ win0_7.index t 1 = 0) t
    have hf := (by decide +kernel : ∀ t : Fin grid0.N, win0_7.flush t = true) t
    refine ⟨t, hf, ?_⟩
    show i ∈ ((View.whole main_v33_2).slice (win0_7.rect t)).set
    rw [View.set_slice_whole, Rect.mem_set_unit]
    intro a
    match a with
    | ⟨0, _⟩ => show win0_7.index t 0 * 512 ≤ (i 0 : ℕ) ∧ (i 0 : ℕ) < win0_7.index t 0 * 512 + 512; rw [hi.1]; omega
    | ⟨1, _⟩ => show win0_7.index t 1 * 512 ≤ (i 1 : ℕ) ∧ (i 1 : ℕ) < win0_7.index t 1 * 512 + 512; rw [hi.2]; omega

/-- The result array v. -/
def vA : (⟨S65536x512, .f32⟩ : BufTy).Contents (Elt Ideal) := fun i => vE m c (i 0) (i 1)

/-- What a grid point writes back to window 8 is its block of the result. -/
theorem flushed_eq8 (t : Fin cfg0.N) : (dats m 0 c).flushed 8 t = ((cfg0.win 8).blk t).view.read (Elt Ideal) (vA m c) := by
  have hi := (by decide +kernel : ∀ t : Fin grid0.N, win0_8.index t 0 = t.val ∧ win0_8.index t 1 = 0) t
  rw [Value.flushed8]
  have key : ∀ y : S512x512.Idx, out0_8 (iblk m c 0 t) (iblk m c 1 t) (iblk m c 2 t) (iblk m c 3 t) (iblk m c 4 t) y = ((cfg0.win 8).blk t).view.read (Elt Ideal) (vA m c) y := by
    intro y
    obtain ⟨r, d, rfl⟩ : ∃ (r : Fin 512) (d : Fin 512), y = ix2 r d := ⟨y 0, y 1, (ix2_eta y).symm⟩
    rw [(holds m c t).point8 r d, View.read_apply]
    show vA m c (ix2 (row t r) d) = vA m c _
    refine congrArg (vA m c) (funext fun a => Fin.ext ?_)
    match a with
    | ⟨0, _⟩ => show 512 * t.val + r.val = win0_8.index t 0 * 512 + 1 * r.val; rw [hi.1]; omega
    | ⟨1, _⟩ => show d.val = win0_8.index t 1 * 512 + 1 * d.val; rw [hi.2]; omega
  exact funext key

/-- The result array v after the run. -/
theorem final8 : (dats m 0 c).arrAt 8 cfg0.N = vA m c :=
  (dats m 0 c).arrAt_eq_of_cover 8 (vA m c) (fun t _ => flushed_eq8 m c t) fun i => by
    have h0 : (i 0 : ℕ) < 65536 := (i 0).isLt
    have h1 : (i 1 : ℕ) < 512 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_8.index t 0 = t.val ∧ win0_8.index t 1 = 0) t
    have hf := (by decide +kernel : ∀ t : Fin grid0.N, win0_8.flush t = true) t
    refine ⟨t, hf, ?_⟩
    show i ∈ ((View.whole main_v33_3).slice (win0_8.rect t)).set
    rw [View.set_slice_whole, Rect.mem_set_unit]
    intro a
    match a with
    | ⟨0, _⟩ => show win0_8.index t 0 * 512 ≤ (i 0 : ℕ) ∧ (i 0 : ℕ) < win0_8.index t 0 * 512 + 512; rw [hi.1]; omega
    | ⟨1, _⟩ => show win0_8.index t 1 * 512 ≤ (i 1 : ℕ) ∧ (i 1 : ℕ) < win0_8.index t 1 * 512 + 512; rw [hi.2]; omega

/-- The result array qi. -/
def qiA : (⟨S65536x512, .bf16⟩ : BufTy).Contents (Elt Ideal) := fun i => qiE m c (i 0) (i 1)

/-- What a grid point writes back to window 9 is its block of the result. -/
theorem flushed_eq9 (t : Fin cfg0.N) : (dats m 0 c).flushed 9 t = ((cfg0.win 9).blk t).view.read (Elt Ideal) (qiA m c) := by
  have hi := (by decide +kernel : ∀ t : Fin grid0.N, win0_9.index t 0 = t.val ∧ win0_9.index t 1 = 0) t
  rw [Value.flushed9]
  have key : ∀ y : S512x512.Idx, out0_9 (iblk m c 0 t) (iblk m c 1 t) (iblk m c 2 t) (iblk m c 3 t) (iblk m c 4 t) y = ((cfg0.win 9).blk t).view.read (Elt Ideal) (qiA m c) y := by
    intro y
    obtain ⟨r, d, rfl⟩ : ∃ (r : Fin 512) (d : Fin 512), y = ix2 r d := ⟨y 0, y 1, (ix2_eta y).symm⟩
    rw [(holds m c t).point9 r d, View.read_apply]
    show qiA m c (ix2 (row t r) d) = qiA m c _
    refine congrArg (qiA m c) (funext fun a => Fin.ext ?_)
    match a with
    | ⟨0, _⟩ => show 512 * t.val + r.val = win0_9.index t 0 * 512 + 1 * r.val; rw [hi.1]; omega
    | ⟨1, _⟩ => show d.val = win0_9.index t 1 * 512 + 1 * d.val; rw [hi.2]; omega
  exact funext key

/-- The result array qi after the run. -/
theorem final9 : (dats m 0 c).arrAt 9 cfg0.N = qiA m c :=
  (dats m 0 c).arrAt_eq_of_cover 9 (qiA m c) (fun t _ => flushed_eq9 m c t) fun i => by
    have h0 : (i 0 : ℕ) < 65536 := (i 0).isLt
    have h1 : (i 1 : ℕ) < 512 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_9.index t 0 = t.val ∧ win0_9.index t 1 = 0) t
    have hf := (by decide +kernel : ∀ t : Fin grid0.N, win0_9.flush t = true) t
    refine ⟨t, hf, ?_⟩
    show i ∈ ((View.whole main_v33_4).slice (win0_9.rect t)).set
    rw [View.set_slice_whole, Rect.mem_set_unit]
    intro a
    match a with
    | ⟨0, _⟩ => show win0_9.index t 0 * 512 ≤ (i 0 : ℕ) ∧ (i 0 : ℕ) < win0_9.index t 0 * 512 + 512; rw [hi.1]; omega
    | ⟨1, _⟩ => show win0_9.index t 1 * 512 ≤ (i 1 : ℕ) ∧ (i 1 : ℕ) < win0_9.index t 1 * 512 + 512; rw [hi.2]; omega

/-- The result array kw. -/
def kwA : (⟨S65536x128, .f32⟩ : BufTy).Contents (Elt Ideal) := fun i => kwE m c (i 0) (i 1)

/-- What a grid point writes back to window 10 is its block of the result. -/
theorem flushed_eq10 (t : Fin cfg0.N) : (dats m 0 c).flushed 10 t = ((cfg0.win 10).blk t).view.read (Elt Ideal) (kwA m c) := by
  have hi := (by decide +kernel : ∀ t : Fin grid0.N, win0_10.index t 0 = t.val ∧ win0_10.index t 1 = 0) t
  rw [Value.flushed10]
  have key : ∀ y : S512x128.Idx, out0_10 (iblk m c 0 t) (iblk m c 1 t) (iblk m c 2 t) (iblk m c 3 t) (iblk m c 4 t) y = ((cfg0.win 10).blk t).view.read (Elt Ideal) (kwA m c) y := by
    intro y
    obtain ⟨r, d, rfl⟩ : ∃ (r : Fin 512) (d : Fin 128), y = ix2 r d := ⟨y 0, y 1, (ix2_eta y).symm⟩
    rw [(holds m c t).point10 r d, View.read_apply]
    show kwA m c (ix2 (row t r) d) = kwA m c _
    refine congrArg (kwA m c) (funext fun a => Fin.ext ?_)
    match a with
    | ⟨0, _⟩ => show 512 * t.val + r.val = win0_10.index t 0 * 512 + 1 * r.val; rw [hi.1]; omega
    | ⟨1, _⟩ => show d.val = win0_10.index t 1 * 128 + 1 * d.val; rw [hi.2]; omega
  exact funext key

/-- The result array kw after the run. -/
theorem final10 : (dats m 0 c).arrAt 10 cfg0.N = kwA m c :=
  (dats m 0 c).arrAt_eq_of_cover 10 (kwA m c) (fun t _ => flushed_eq10 m c t) fun i => by
    have h0 : (i 0 : ℕ) < 65536 := (i 0).isLt
    have h1 : (i 1 : ℕ) < 128 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_10.index t 0 = t.val ∧ win0_10.index t 1 = 0) t
    have hf := (by decide +kernel : ∀ t : Fin grid0.N, win0_10.flush t = true) t
    refine ⟨t, hf, ?_⟩
    show i ∈ ((View.whole main_v33_5).slice (win0_10.rect t)).set
    rw [View.set_slice_whole, Rect.mem_set_unit]
    intro a
    match a with
    | ⟨0, _⟩ => show win0_10.index t 0 * 512 ≤ (i 0 : ℕ) ∧ (i 0 : ℕ) < win0_10.index t 0 * 512 + 512; rw [hi.1]; omega
    | ⟨1, _⟩ => show win0_10.index t 1 * 128 ≤ (i 1 : ℕ) ∧ (i 1 : ℕ) < win0_10.index t 1 * 128 + 128; rw [hi.2]; omega

/-- The result array gl. -/
def glA : (⟨S65536x1024, .f32⟩ : BufTy).Contents (Elt Ideal) := fun i => glE m c (i 0) (i 1)

/-- What a grid point writes back to window 11 is its block of the result. -/
theorem flushed_eq11 (t : Fin cfg0.N) : (dats m 0 c).flushed 11 t = ((cfg0.win 11).blk t).view.read (Elt Ideal) (glA m c) := by
  have hi := (by decide +kernel : ∀ t : Fin grid0.N, win0_11.index t 0 = t.val ∧ win0_11.index t 1 = 0) t
  rw [Value.flushed11]
  have key : ∀ y : S512x1024.Idx, out0_11 (iblk m c 0 t) (iblk m c 1 t) (iblk m c 2 t) (iblk m c 3 t) (iblk m c 4 t) y = ((cfg0.win 11).blk t).view.read (Elt Ideal) (glA m c) y := by
    intro y
    obtain ⟨r, d, rfl⟩ : ∃ (r : Fin 512) (d : Fin 1024), y = ix2 r d := ⟨y 0, y 1, (ix2_eta y).symm⟩
    rw [(holds m c t).point11 r d, View.read_apply]
    show glA m c (ix2 (row t r) d) = glA m c _
    refine congrArg (glA m c) (funext fun a => Fin.ext ?_)
    match a with
    | ⟨0, _⟩ => show 512 * t.val + r.val = win0_11.index t 0 * 512 + 1 * r.val; rw [hi.1]; omega
    | ⟨1, _⟩ => show d.val = win0_11.index t 1 * 1024 + 1 * d.val; rw [hi.2]; omega
  exact funext key

/-- The result array gl after the run. -/
theorem final11 : (dats m 0 c).arrAt 11 cfg0.N = glA m c :=
  (dats m 0 c).arrAt_eq_of_cover 11 (glA m c) (fun t _ => flushed_eq11 m c t) fun i => by
    have h0 : (i 0 : ℕ) < 65536 := (i 0).isLt
    have h1 : (i 1 : ℕ) < 1024 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_11.index t 0 = t.val ∧ win0_11.index t 1 = 0) t
    have hf := (by decide +kernel : ∀ t : Fin grid0.N, win0_11.flush t = true) t
    refine ⟨t, hf, ?_⟩
    show i ∈ ((View.whole main_v33_6).slice (win0_11.rect t)).set
    rw [View.set_slice_whole, Rect.mem_set_unit]
    intro a
    match a with
    | ⟨0, _⟩ => show win0_11.index t 0 * 512 ≤ (i 0 : ℕ) ∧ (i 0 : ℕ) < win0_11.index t 0 * 512 + 512; rw [hi.1]; omega
    | ⟨1, _⟩ => show win0_11.index t 1 * 1024 ≤ (i 1 : ℕ) ∧ (i 1 : ℕ) < win0_11.index t 1 * 1024 + 1024; rw [hi.2]; omega

/-- The result array ga. -/
def gaA : (⟨S65536x1024, .f32⟩ : BufTy).Contents (Elt Ideal) := fun i => gaE m c (i 0) (i 1)

/-- What a grid point writes back to window 12 is its block of the result. -/
theorem flushed_eq12 (t : Fin cfg0.N) : (dats m 0 c).flushed 12 t = ((cfg0.win 12).blk t).view.read (Elt Ideal) (gaA m c) := by
  have hi := (by decide +kernel : ∀ t : Fin grid0.N, win0_12.index t 0 = t.val ∧ win0_12.index t 1 = 0) t
  rw [Value.flushed12]
  have key : ∀ y : S512x1024.Idx, out0_12 (iblk m c 0 t) (iblk m c 1 t) (iblk m c 2 t) (iblk m c 3 t) (iblk m c 4 t) y = ((cfg0.win 12).blk t).view.read (Elt Ideal) (gaA m c) y := by
    intro y
    obtain ⟨r, d, rfl⟩ : ∃ (r : Fin 512) (d : Fin 1024), y = ix2 r d := ⟨y 0, y 1, (ix2_eta y).symm⟩
    rw [(holds m c t).point12 r d, View.read_apply]
    show gaA m c (ix2 (row t r) d) = gaA m c _
    refine congrArg (gaA m c) (funext fun a => Fin.ext ?_)
    match a with
    | ⟨0, _⟩ => show 512 * t.val + r.val = win0_12.index t 0 * 512 + 1 * r.val; rw [hi.1]; omega
    | ⟨1, _⟩ => show d.val = win0_12.index t 1 * 1024 + 1 * d.val; rw [hi.2]; omega
  exact funext key

/-- The result array ga after the run. -/
theorem final12 : (dats m 0 c).arrAt 12 cfg0.N = gaA m c :=
  (dats m 0 c).arrAt_eq_of_cover 12 (gaA m c) (fun t _ => flushed_eq12 m c t) fun i => by
    have h0 : (i 0 : ℕ) < 65536 := (i 0).isLt
    have h1 : (i 1 : ℕ) < 1024 := (i 1).isLt
    let t : Fin cfg0.N := ⟨(i 0 : ℕ) / 512, by show (i 0 : ℕ) / 512 < 128; omega⟩
    have ht : t.val = (i 0 : ℕ) / 512 := rfl
    have hi := (by decide +kernel : ∀ t : Fin grid0.N, win0_12.index t 0 = t.val ∧ win0_12.index t 1 = 0) t
    have hf := (by decide +kernel : ∀ t : Fin grid0.N, win0_12.flush t = true) t
    refine ⟨t, hf, ?_⟩
    show i ∈ ((View.whole main_v33_7).slice (win0_12.rect t)).set
    rw [View.set_slice_whole, Rect.mem_set_unit]
    intro a
    match a with
    | ⟨0, _⟩ => show win0_12.index t 0 * 512 ≤ (i 0 : ℕ) ∧ (i 0 : ℕ) < win0_12.index t 0 * 512 + 512; rw [hi.1]; omega
    | ⟨1, _⟩ => show win0_12.index t 1 * 1024 ≤ (i 1 : ℕ) ∧ (i 1 : ℕ) < win0_12.index t 1 * 1024 + 1024; rw [hi.2]; omega

end Cert.Kernel2Ideal.InProjValue

end
-- ==== Proof.InProjJoin.lean ====
module

public import proofs.«01_k».proof.Proof.InProjValue
public import proofs.«01_k».proof.Proof.Gen.Reference2Ideal.Run

@[expose] public section

set_option maxRecDepth 16384

noncomputable section

/- The reference of the input projection, and the equality of its results with the kernel's. -/

namespace Cert.Reference2Ideal.InProjRef

open Cert.Reference2Ideal Cert.Reference2Ideal.Gen Idealize.ShloMosaic Idealize.ShloMosaic.TcCoe Idealize.ShloMosaic.Tactic Idealize.SL.Sem Idealize.ShloMosaic.StableHlo
open Cert.Dense

/-- The projection of the normalised rows, as the reference's host operations write it. -/
def refP (x : FVec Ideal S32x2048x1024 .f32) (g : FVec Ideal S1x1024 .f32) (w : FVec Ideal S1x1024x4680 .f32) : FVec Ideal S32x2048x4680 .f32 :=
  Host.dotGeneral (F := Ideal) dot_S32x2048x1024_S1024x4680_S32x2048x4680_2_0_01_1_n_n none (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))) (shapeCast _ w shapeCasts_S1x1024x4680_S1024x4680)

/-- The projection at an index. -/
theorem refP_at (x : FVec Ideal S32x2048x1024 .f32) (g : FVec Ideal S1x1024 .f32) (w : FVec Ideal S1x1024x4680 .f32) (b : Fin 32) (p : Fin 2048) (n : Fin 4680) :
    refP x g w (ix3 b p n) = projR (fun k => x (ix3 b p k)) (fun k => g (ix2 0 k)) (fun k => w (ix3 0 k n)) := by
  unfold refP projR normR dotR
  pointwise

/-- The table of angles. -/
def ang : FVec Ideal S2048x32 .f32 := (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))

/-- The angle of a position and a pair. -/
theorem ang_at (p : Fin 2048) (j : Fin 32) : ang (ix2 p j) = angR p.val j.val := by
  unfold ang angR
  pointwise

/-- The heads' lanes that start at column 512. -/
def head512 (y : FVec Ideal S32x2048x4680 .f32) : FVec Ideal S32x2048x8x64 .f32 :=
  shapeCast _ (extractStridedSlice S32x2048x512 ![0, 0, 512] y slices_S32x2048x4680_S32x2048x512_0_0_512) shapeCasts_S32x2048x512_S32x2048x8x64

/-- A head's lane. -/
theorem head512_at (y : FVec Ideal S32x2048x4680 .f32) (b : Fin 32) (p : Fin 2048) (h : Fin 8) (l : Fin 64) :
    head512 y (ix4 b p h l) = y (ix3 b p ⟨512 + (h.val * 64 + l.val), by omega⟩) := by
  unfold head512
  pointwise

/-- The heads' lanes that start at column 1024. -/
def head1024 (y : FVec Ideal S32x2048x4680 .f32) : FVec Ideal S32x2048x8x64 .f32 :=
  shapeCast _ (extractStridedSlice S32x2048x512 ![0, 0, 1024] y slices_S32x2048x4680_S32x2048x512_0_0_1024) shapeCasts_S32x2048x512_S32x2048x8x64

/-- A head's lane. -/
theorem head1024_at (y : FVec Ideal S32x2048x4680 .f32) (b : Fin 32) (p : Fin 2048) (h : Fin 8) (l : Fin 64) :
    head1024 y (ix4 b p h l) = y (ix3 b p ⟨1024 + (h.val * 64 + l.val), by omega⟩) := by
  unfold head1024
  pointwise

/-- The heads' lanes that start at column 2048. -/
def head2048 (y : FVec Ideal S32x2048x4680 .f32) : FVec Ideal S32x2048x8x64 .f32 :=
  shapeCast _ (extractStridedSlice S32x2048x512 ![0, 0, 2048] y slices_S32x2048x4680_S32x2048x512_0_0_2048) shapeCasts_S32x2048x512_S32x2048x8x64

/-- A head's lane. -/
theorem head2048_at (y : FVec Ideal S32x2048x4680 .f32) (b : Fin 32) (p : Fin 2048) (h : Fin 8) (l : Fin 64) :
    head2048 y (ix4 b p h l) = y (ix3 b p ⟨2048 + (h.val * 64 + l.val), by omega⟩) := by
  unfold head2048
  pointwise

/-- The heads turned by a table of angles. -/
def turn8 (t : FVec Ideal S2048x32 .f32) (z : FVec Ideal S32x2048x8x64 .f32) : FVec Ideal S32x2048x8x64 .f32 :=
  concatenate S32x2048x8x64 3 [⟨S32x2048x8x32, (subf (mulf (extractStridedSlice S32x2048x8x32 ![0, 0, 0, 0] z slices_S32x2048x8x64_S32x2048x8x32_0_0_0_0) (broadcastInDim S32x2048x8x32 ![0, 1, 2, 3] bcast_S1x2048x1x32_S32x2048x8x32_0_1_2_3 (broadcastInDim S1x2048x1x32 ![1, 2, 3] bcast_S2048x1x32_S1x2048x1x32_1_2_3 (broadcastInDim S2048x1x32 ![0, 2] bcast_S2048x32_S2048x1x32_0_2 (Host.cos t))))) (mulf (extractStridedSlice S32x2048x8x32 ![0, 0, 0, 32] z slices_S32x2048x8x64_S32x2048x8x32_0_0_0_32) (broadcastInDim S32x2048x8x32 ![0, 1, 2, 3] bcast_S1x2048x1x32_S32x2048x8x32_0_1_2_3 (broadcastInDim S1x2048x1x32 ![1, 2, 3] bcast_S2048x1x32_S1x2048x1x32_1_2_3 (broadcastInDim S2048x1x32 ![0, 2] bcast_S2048x32_S2048x1x32_0_2 (Host.sin t))))))⟩, ⟨S32x2048x8x32, (addf (mulf (extractStridedSlice S32x2048x8x32 ![0, 0, 0, 32] z slices_S32x2048x8x64_S32x2048x8x32_0_0_0_32) (broadcastInDim S32x2048x8x32 ![0, 1, 2, 3] bcast_S1x2048x1x32_S32x2048x8x32_0_1_2_3 (broadcastInDim S1x2048x1x32 ![1, 2, 3] bcast_S2048x1x32_S1x2048x1x32_1_2_3 (broadcastInDim S2048x1x32 ![0, 2] bcast_S2048x32_S2048x1x32_0_2 (Host.cos t))))) (mulf (extractStridedSlice S32x2048x8x32 ![0, 0, 0, 0] z slices_S32x2048x8x64_S32x2048x8x32_0_0_0_0) (broadcastInDim S32x2048x8x32 ![0, 1, 2, 3] bcast_S1x2048x1x32_S32x2048x8x32_0_1_2_3 (broadcastInDim S1x2048x1x32 ![1, 2, 3] bcast_S2048x1x32_S1x2048x1x32_1_2_3 (broadcastInDim S2048x1x32 ![0, 2] bcast_S2048x32_S2048x1x32_0_2 (Host.sin t))))))⟩] concatenates_S32x2048x8x32_S32x2048x8x32_S32x2048x8x64_d3

/-- A turned head's lane. -/
theorem turn8_at (z : FVec Ideal S32x2048x8x64 .f32) (b : Fin 32) (p : Fin 2048) (h : Fin 8) (l : Fin 64) :
    turn8 ang z (ix4 b p h l) = turnR (z (ix4 b p h l)) (z (ix4 b p h ⟨partner l.val, partner_lt (n := 64) (by decide) l.isLt⟩)) p.val l.val := by
  have e := turn_halves (fun l => z (ix4 b p h l)) (p.val) l
  refine Eq.trans (b := if h' : l.val < 32 then z (ix4 b p h ⟨l.val, by omega⟩) * Ideal.cos (ang (ix2 p ⟨l.val, h'⟩)) - z (ix4 b p h ⟨32 + l.val, by omega⟩) * Ideal.sin (ang (ix2 p ⟨l.val, h'⟩))
    else z (ix4 b p h ⟨32 + (l.val - 32), by omega⟩) * Ideal.cos (ang (ix2 p ⟨l.val - 32, by omega⟩)) + z (ix4 b p h ⟨l.val - 32, by omega⟩) * Ideal.sin (ang (ix2 p ⟨l.val - 32, by omega⟩))) ?_ ?_
  · generalize ang = t
    unfold turn8
    pointwise
  · simp only [ang_at]
    exact e

/-- One head turned by a table of angles. -/
def turn1 (t : FVec Ideal S2048x32 .f32) (z : FVec Ideal S32x2048x1x64 .f32) : FVec Ideal S32x2048x1x64 .f32 :=
  concatenate S32x2048x1x64 3 [⟨S32x2048x1x32, (subf (mulf (extractStridedSlice S32x2048x1x32 ![0, 0, 0, 0] z slices_S32x2048x1x64_S32x2048x1x32_0_0_0_0) (broadcastInDim S32x2048x1x32 ![0, 1, 2, 3] bcast_S1x2048x1x32_S32x2048x1x32_0_1_2_3 (broadcastInDim S1x2048x1x32 ![1, 2, 3] bcast_S2048x1x32_S1x2048x1x32_1_2_3 (broadcastInDim S2048x1x32 ![0, 2] bcast_S2048x32_S2048x1x32_0_2 (Host.cos t))))) (mulf (extractStridedSlice S32x2048x1x32 ![0, 0, 0, 32] z slices_S32x2048x1x64_S32x2048x1x32_0_0_0_32) (broadcastInDim S32x2048x1x32 ![0, 1, 2, 3] bcast_S1x2048x1x32_S32x2048x1x32_0_1_2_3 (broadcastInDim S1x2048x1x32 ![1, 2, 3] bcast_S2048x1x32_S1x2048x1x32_1_2_3 (broadcastInDim S2048x1x32 ![0, 2] bcast_S2048x32_S2048x1x32_0_2 (Host.sin t))))))⟩, ⟨S32x2048x1x32, (addf (mulf (extractStridedSlice S32x2048x1x32 ![0, 0, 0, 32] z slices_S32x2048x1x64_S32x2048x1x32_0_0_0_32) (broadcastInDim S32x2048x1x32 ![0, 1, 2, 3] bcast_S1x2048x1x32_S32x2048x1x32_0_1_2_3 (broadcastInDim S1x2048x1x32 ![1, 2, 3] bcast_S2048x1x32_S1x2048x1x32_1_2_3 (broadcastInDim S2048x1x32 ![0, 2] bcast_S2048x32_S2048x1x32_0_2 (Host.cos t))))) (mulf (extractStridedSlice S32x2048x1x32 ![0, 0, 0, 0] z slices_S32x2048x1x64_S32x2048x1x32_0_0_0_0) (broadcastInDim S32x2048x1x32 ![0, 1, 2, 3] bcast_S1x2048x1x32_S32x2048x1x32_0_1_2_3 (broadcastInDim S1x2048x1x32 ![1, 2, 3] bcast_S2048x1x32_S1x2048x1x32_1_2_3 (broadcastInDim S2048x1x32 ![0, 2] bcast_S2048x32_S2048x1x32_0_2 (Host.sin t))))))⟩] concatenates_S32x2048x1x32_S32x2048x1x32_S32x2048x1x64_d3

/-- The turned head's lane. -/
theorem turn1_at (z : FVec Ideal S32x2048x1x64 .f32) (b : Fin 32) (p : Fin 2048) (l : Fin 64) :
    turn1 ang z (ix4 b p 0 l) = turnR (z (ix4 b p 0 l)) (z (ix4 b p 0 ⟨partner l.val, partner_lt (n := 64) (by decide) l.isLt⟩)) p.val l.val := by
  have e := turn_halves (fun l => z (ix4 b p 0 l)) (p.val) l
  refine Eq.trans (b := if h' : l.val < 32 then z (ix4 b p 0 ⟨l.val, by omega⟩) * Ideal.cos (ang (ix2 p ⟨l.val, h'⟩)) - z (ix4 b p 0 ⟨32 + l.val, by omega⟩) * Ideal.sin (ang (ix2 p ⟨l.val, h'⟩))
    else z (ix4 b p 0 ⟨32 + (l.val - 32), by omega⟩) * Ideal.cos (ang (ix2 p ⟨l.val - 32, by omega⟩)) + z (ix4 b p 0 ⟨l.val - 32, by omega⟩) * Ideal.sin (ang (ix2 p ⟨l.val - 32, by omega⟩))) ?_ ?_
  · generalize ang = t
    unfold turn1
    pointwise
  · simp only [ang_at]
    exact e

/-- The scaled heads as the rows of an array. -/
def flat8 (z : FVec Ideal S32x2048x8x64 .f32) : FVec Ideal S65536x512 .bf16 := truncf (F := Ideal) .bf16 (shapeCast _ (mulf z (broadcastInDim S32x2048x8x64 ![] bcast_S_S32x2048x8x64 (constant (F := Ideal) S_ .f32 0x3E000000#32))) shapeCasts_S32x2048x8x64_S65536x512) bitsLt_bf16_f32

/-- The scaled heads' entry. -/
theorem flat8_at (z : FVec Ideal S32x2048x8x64 .f32) (r : Fin 65536) (d : Fin 512) :
    flat8 z (ix2 r d) = z (ix4 ⟨r.val / 2048, by omega⟩ ⟨r.val % 2048, by omega⟩ ⟨d.val / 64, by omega⟩ ⟨d.val % 64, by omega⟩) * Ideal.ofBits FTy.f32 1040187392#32 := by
  unfold flat8
  pointwise

/-- The heads as the rows of an array. -/
def flatK (z : FVec Ideal S32x2048x8x64 .f32) : FVec Ideal S65536x512 .f32 := shapeCast _ z shapeCasts_S32x2048x8x64_S65536x512

/-- The heads' entry. -/
theorem flatK_at (z : FVec Ideal S32x2048x8x64 .f32) (r : Fin 65536) (d : Fin 512) :
    flatK z (ix2 r d) = z (ix4 ⟨r.val / 2048, by omega⟩ ⟨r.val % 2048, by omega⟩ ⟨d.val / 64, by omega⟩ ⟨d.val % 64, by omega⟩) := by
  unfold flatK
  pointwise

/-- The columns that start at 0, as the rows of an array. -/
def colsXl (y : FVec Ideal S32x2048x4680 .f32) : FVec Ideal S65536x512 .f32 :=
  shapeCast _ (extractStridedSlice S32x2048x512 ![0, 0, 0] y slices_S32x2048x4680_S32x2048x512_0_0_0) shapeCasts_S32x2048x512_S65536x512

/-- An entry of them. -/
theorem colsXl_at (y : FVec Ideal S32x2048x4680 .f32) (r : Fin 65536) (d : Fin 512) :
    colsXl y (ix2 r d) = y (ix3 ⟨r.val / 2048, by omega⟩ ⟨r.val % 2048, by omega⟩ ⟨0 + d.val, by omega⟩) := by
  have e : (⟨0 + d.val, by omega⟩ : Fin 4680) = ⟨d.val, by omega⟩ := Fin.ext (Nat.zero_add d.val)
  rw [e]
  unfold colsXl
  pointwise

/-- The columns that start at 1536, as the rows of an array. -/
def colsV (y : FVec Ideal S32x2048x4680 .f32) : FVec Ideal S65536x512 .f32 :=
  shapeCast _ (extractStridedSlice S32x2048x512 ![0, 0, 1536] y slices_S32x2048x4680_S32x2048x512_0_0_1536) shapeCasts_S32x2048x512_S65536x512

/-- An entry of them. -/
theorem colsV_at (y : FVec Ideal S32x2048x4680 .f32) (r : Fin 65536) (d : Fin 512) :
    colsV y (ix2 r d) = y (ix3 ⟨r.val / 2048, by omega⟩ ⟨r.val % 2048, by omega⟩ ⟨1536 + d.val, by omega⟩) := by
  unfold colsV
  pointwise

/-- The logistic of the columns that start at 2632, as the rows of an array. -/
def gateGl (y : FVec Ideal S32x2048x4680 .f32) : FVec Ideal S65536x1024 .f32 :=
  shapeCast _ (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extractStridedSlice S32x2048x1024 ![0, 0, 2632] y slices_S32x2048x4680_S32x2048x1024_0_0_2632))))) shapeCasts_S32x2048x1024_S65536x1024

/-- An entry of them. -/
theorem gateGl_at (y : FVec Ideal S32x2048x4680 .f32) (r : Fin 65536) (d : Fin 1024) :
    gateGl y (ix2 r d) = Ideal.logistic (y (ix3 ⟨r.val / 2048, by omega⟩ ⟨r.val % 2048, by omega⟩ ⟨2632 + d.val, by omega⟩)) := by
  unfold gateGl Ideal.logistic
  pointwise

/-- The logistic of the columns that start at 3656, as the rows of an array. -/
def gateGa (y : FVec Ideal S32x2048x4680 .f32) : FVec Ideal S65536x1024 .f32 :=
  shapeCast _ (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extractStridedSlice S32x2048x1024 ![0, 0, 3656] y slices_S32x2048x4680_S32x2048x1024_0_0_3656))))) shapeCasts_S32x2048x1024_S65536x1024

/-- An entry of them. -/
theorem gateGa_at (y : FVec Ideal S32x2048x4680 .f32) (r : Fin 65536) (d : Fin 1024) :
    gateGa y (ix2 r d) = Ideal.logistic (y (ix3 ⟨r.val / 2048, by omega⟩ ⟨r.val % 2048, by omega⟩ ⟨3656 + d.val, by omega⟩)) := by
  unfold gateGa Ideal.logistic
  pointwise

/-- The index keys, not yet turned, as one head. -/
def keys (y : FVec Ideal S32x2048x4680 .f32) : FVec Ideal S32x2048x1x64 .f32 :=
  broadcastInDim S32x2048x1x64 ![0, 1, 3] bcast_S32x2048x64_S32x2048x1x64_0_1_3 (extractStridedSlice S32x2048x64 ![0, 0, 2560] y slices_S32x2048x4680_S32x2048x64_0_0_2560)

/-- A lane of an index key. -/
theorem keys_at (y : FVec Ideal S32x2048x4680 .f32) (b : Fin 32) (p : Fin 2048) (l : Fin 64) :
    keys y (ix4 b p 0 l) = y (ix3 b p ⟨2560 + l.val, by omega⟩) := by
  unfold keys
  pointwise

/-- The turned index keys, the scaled weights and the zeros beside each other, as the rows of an array. -/
def wide (z : FVec Ideal S32x2048x1x64 .f32) (y : FVec Ideal S32x2048x4680 .f32) : FVec Ideal S65536x128 .f32 :=
  shapeCast _ (concatenate S32x2048x128 2 [⟨S32x2048x64, (shapeCast _ z shapeCasts_S32x2048x1x64_S32x2048x64 : FVec Ideal S32x2048x64 .f32)⟩, ⟨S32x2048x8, (mulf (extractStridedSlice S32x2048x8 ![0, 0, 2624] y slices_S32x2048x4680_S32x2048x8_0_0_2624) (broadcastInDim S32x2048x8 ![] bcast_S_S32x2048x8 (constant (F := Ideal) S_ .f32 0x3EB504F3#32)) : FVec Ideal S32x2048x8 .f32)⟩, ⟨S32x2048x56, (broadcastInDim S32x2048x56 ![] bcast_S_S32x2048x56 (constant (F := Ideal) S_ .f32 0x00000000#32) : FVec Ideal S32x2048x56 .f32)⟩] concatenates_S32x2048x64_S32x2048x8_S32x2048x56_S32x2048x128_d2 : FVec Ideal S32x2048x128 .f32) shapeCasts_S32x2048x128_S65536x128

/-- An entry of them. -/
theorem wide_at (z : FVec Ideal S32x2048x1x64 .f32) (y : FVec Ideal S32x2048x4680 .f32) (r : Fin 65536) (d : Fin 128) :
    wide z y (ix2 r d) = if h : d.val < 64 then z (ix4 ⟨r.val / 2048, by omega⟩ ⟨r.val % 2048, by omega⟩ 0 ⟨d.val, h⟩)
      else if h : d.val < 72 then y (ix3 ⟨r.val / 2048, by omega⟩ ⟨r.val % 2048, by omega⟩ ⟨2560 + d.val, by omega⟩) * Ideal.ofBits FTy.f32 1052050675#32
      else (0 : EReal) := by
  have hd := d.isLt
  refine Eq.trans (b := if h : d.val < 64 then z (ix4 ⟨r.val / 2048, by omega⟩ ⟨r.val % 2048, by omega⟩ 0 ⟨d.val, h⟩)
    else if h : d.val - 64 < 8 then y (ix3 ⟨r.val / 2048, by omega⟩ ⟨r.val % 2048, by omega⟩ ⟨2624 + (d.val - 64), by omega⟩) * Ideal.ofBits FTy.f32 1052050675#32
    else (0 : EReal)) ?_ ?_
  · unfold wide
    pointwise
  · by_cases h : d.val < 64
    · rw [dif_pos h, dif_pos h]
    · rw [dif_neg h, dif_neg h]
      by_cases h' : d.val < 72
      · have e : (⟨2624 + (d.val - 64), by omega⟩ : Fin 4680) = ⟨2560 + d.val, by omega⟩ := Fin.ext (by show 2624 + (d.val - 64) = 2560 + d.val; omega)
        rw [dif_pos h', dif_pos (by omega : d.val - 64 < 8), e]
      · rw [dif_neg h', dif_neg (by omega : ¬ d.val - 64 < 8)]

end Cert.Reference2Ideal.InProjRef

namespace Cert.InProjJoin

open Idealize.ShloMosaic Idealize.ShloMosaic.TcCoe Idealize.ShloMosaic.Tactic Idealize.SL.Sem
open Cert.Kernel2Ideal.InProjValue Cert.Reference2Ideal.InProjRef Cert.Dense

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The two memories agree on the arguments of one device. -/
def Agree : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)

/-- The reference's projection is the kernel's. -/
theorem proj_eq (h : Agree m m' c) (r : Fin 65536) (n : Fin 4680) :
    (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (ix3 ⟨r.val / 2048, by omega⟩ ⟨r.val % 2048, by omega⟩ n) = projE m c r n := by
  obtain ⟨h0, h1, h2⟩ := h
  rw [h0, h1, h2]
  exact refP_at _ _ _ _ _ n

/-- A turned head's lane of the reference that starts at column 512. -/
theorem turned512 (h : Agree m m' c) (r : Fin 65536) (d : Fin 512) :
    turn8 ang (head512 (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))) (ix4 ⟨r.val / 2048, by omega⟩ ⟨r.val % 2048, by omega⟩ ⟨d.val / 64, by omega⟩ ⟨d.val % 64, by omega⟩)
      = turnR (projE m c r ⟨512 + d.val, by omega⟩) (projE m c r ⟨512 + partner d.val, by have := partner_lt (n := 512) (by decide) d.isLt; omega⟩) (r.val % 2048) d.val := by
  rw [turn8_at, head512_at, head512_at]
  dsimp only
  rw [proj_eq m m' c h, proj_eq m m' c h]
  have hp := partner_lt (n := 512) (by decide) d.isLt
  have hq := partner_lt (n := 64) (l := d.val % 64) (by decide) (by omega)
  exact turn_cols (projE m c r) 512 (r.val % 2048) d (by omega) (by omega) (by omega) (by omega)

/-- A turned head's lane of the reference that starts at column 1024. -/
theorem turned1024 (h : Agree m m' c) (r : Fin 65536) (d : Fin 512) :
    turn8 ang (head1024 (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))) (ix4 ⟨r.val / 2048, by omega⟩ ⟨r.val % 2048, by omega⟩ ⟨d.val / 64, by omega⟩ ⟨d.val % 64, by omega⟩)
      = turnR (projE m c r ⟨1024 + d.val, by omega⟩) (projE m c r ⟨1024 + partner d.val, by have := partner_lt (n := 512) (by decide) d.isLt; omega⟩) (r.val % 2048) d.val := by
  rw [turn8_at, head1024_at, head1024_at]
  dsimp only
  rw [proj_eq m m' c h, proj_eq m m' c h]
  have hp := partner_lt (n := 512) (by decide) d.isLt
  have hq := partner_lt (n := 64) (l := d.val % 64) (by decide) (by omega)
  exact turn_cols (projE m c r) 1024 (r.val % 2048) d (by omega) (by omega) (by omega) (by omega)

/-- A turned head's lane of the reference that starts at column 2048. -/
theorem turned2048 (h : Agree m m' c) (r : Fin 65536) (d : Fin 512) :
    turn8 ang (head2048 (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))) (ix4 ⟨r.val / 2048, by omega⟩ ⟨r.val % 2048, by omega⟩ ⟨d.val / 64, by omega⟩ ⟨d.val % 64, by omega⟩)
      = turnR (projE m c r ⟨2048 + d.val, by omega⟩) (projE m c r ⟨2048 + partner d.val, by have := partner_lt (n := 512) (by decide) d.isLt; omega⟩) (r.val % 2048) d.val := by
  rw [turn8_at, head2048_at, head2048_at]
  dsimp only
  rw [proj_eq m m' c h, proj_eq m m' c h]
  have hp := partner_lt (n := 512) (by decide) d.isLt
  have hq := partner_lt (n := 64) (l := d.val % 64) (by decide) (by omega)
  exact turn_cols (projE m c r) 2048 (r.val % 2048) d (by omega) (by omega) (by omega) (by omega)

/-- The reference's channels xl are the kernel's. -/
theorem xl_eq (h : Agree m m' c) : colsXl (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) = xlA m c := by
  funext y
  obtain ⟨r, d, rfl⟩ : ∃ (r : Fin 65536) (d : Fin 512), y = ix2 r d := ⟨y 0, y 1, (ix2_eta y).symm⟩
  exact (colsXl_at _ r d).trans (proj_eq m m' c h r _)

/-- The reference's values are the kernel's. -/
theorem v_eq (h : Agree m m' c) : colsV (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) = vA m c := by
  funext y
  obtain ⟨r, d, rfl⟩ : ∃ (r : Fin 65536) (d : Fin 512), y = ix2 r d := ⟨y 0, y 1, (ix2_eta y).symm⟩
  exact (colsV_at _ r d).trans (proj_eq m m' c h r _)

/-- The reference's gate gl is the kernel's. -/
theorem gl_eq (h : Agree m m' c) : gateGl (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) = glA m c := by
  funext y
  obtain ⟨r, d, rfl⟩ : ∃ (r : Fin 65536) (d : Fin 1024), y = ix2 r d := ⟨y 0, y 1, (ix2_eta y).symm⟩
  exact (gateGl_at _ r d).trans (congrArg Ideal.logistic (proj_eq m m' c h r _))

/-- The reference's gate ga is the kernel's. -/
theorem ga_eq (h : Agree m m' c) : gateGa (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) = gaA m c := by
  funext y
  obtain ⟨r, d, rfl⟩ : ∃ (r : Fin 65536) (d : Fin 1024), y = ix2 r d := ⟨y 0, y 1, (ix2_eta y).symm⟩
  exact (gateGa_at _ r d).trans (congrArg Ideal.logistic (proj_eq m m' c h r _))

/-- The reference's queries are the kernel's. -/
theorem q_eq (h : Agree m m' c) : Cert.Reference2Ideal.Value.res_main_v129 (F := Ideal) m' c = qA m c := by
  have e : Cert.Reference2Ideal.Value.res_main_v129 (F := Ideal) m' c = flat8 (turn8 ang (head512 (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))))) := rfl
  rw [e]
  funext y
  obtain ⟨r, d, rfl⟩ : ∃ (r : Fin 65536) (d : Fin 512), y = ix2 r d := ⟨y 0, y 1, (ix2_eta y).symm⟩
  exact (flat8_at _ r d).trans (congrArg (fun z : EReal => z * Ideal.ofBits FTy.f32 1040187392#32) (turned512 m m' c h r d))

/-- The reference's keys are the kernel's. -/
theorem k_eq (h : Agree m m' c) : Cert.Reference2Ideal.Value.res_main_v130 (F := Ideal) m' c = kA m c := by
  have e : Cert.Reference2Ideal.Value.res_main_v130 (F := Ideal) m' c = flatK (turn8 ang (head1024 (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))))) := rfl
  rw [e]
  funext y
  obtain ⟨r, d, rfl⟩ : ∃ (r : Fin 65536) (d : Fin 512), y = ix2 r d := ⟨y 0, y 1, (ix2_eta y).symm⟩
  exact (flatK_at _ r d).trans (turned1024 m m' c h r d)

/-- The reference's index queries are the kernel's. -/
theorem qi_eq (h : Agree m m' c) : Cert.Reference2Ideal.Value.res_main_v133 (F := Ideal) m' c = qiA m c := by
  have e : Cert.Reference2Ideal.Value.res_main_v133 (F := Ideal) m' c = flat8 (turn8 ang (head2048 (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))))) := rfl
  rw [e]
  funext y
  obtain ⟨r, d, rfl⟩ : ∃ (r : Fin 65536) (d : Fin 512), y = ix2 r d := ⟨y 0, y 1, (ix2_eta y).symm⟩
  exact (flat8_at _ r d).trans (congrArg (fun z : EReal => z * Ideal.ofBits FTy.f32 1040187392#32) (turned2048 m m' c h r d))

/-- The reference's index keys and weights are the kernel's. -/
theorem kw_eq (h : Agree m m' c) : Cert.Reference2Ideal.Value.res_main_v134 (F := Ideal) m' c = kwA m c := by
  have e : Cert.Reference2Ideal.Value.res_main_v134 (F := Ideal) m' c = wide (turn1 ang (keys (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))))) (refP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) := rfl
  rw [e]
  funext y
  obtain ⟨r, d, rfl⟩ : ∃ (r : Fin 65536) (d : Fin 128), y = ix2 r d := ⟨y 0, y 1, (ix2_eta y).symm⟩
  refine (wide_at _ _ r d).trans ?_
  show _ = kwE m c r d
  unfold kwE kwS
  by_cases hd : d.val < 64
  · rw [dif_pos hd, dif_pos hd, turn1_at, keys_at, keys_at]
    exact congrArg₂ (fun a b => turnR a b (r.val % 2048) d.val) (proj_eq m m' c h r _) (proj_eq m m' c h r _)
  · rw [dif_neg hd, dif_neg hd]
    by_cases hd' : d.val < 72
    · rw [dif_pos hd', dif_pos hd', proj_eq m m' c h]
    · rw [dif_neg hd', dif_neg hd']

end Cert.InProjJoin

end
-- ==== Proof.RgpPoints.lean ====
module

public import proofs.«01_k».proof.Proof.Gen.Kernel7Ideal
public import Idealize.ShloMosaic.Lib.Pipeline.Kit

@[expose] public section

noncomputable section

namespace Cert.Kernel7Ideal.Gen

open Idealize.ShloMosaic Idealize.ShloMosaic.TcCoe
open Idealize.SL Idealize.SL.Sem

variable {F : FTy → Type} [FloatOps F]
/-- When this input window is fetched. -/
theorem fetch0_0 : ∀ t : Fin cfg0.N, (cfg0.win 0).fetch t = true :=
  (fun t => (Pipeline.Window.fetch_reads win0_0 rfl 1 (by decide) (by decide) (Pipeline.Window.sep_of_coord cc0_transform_0 1 1 (fun _ => rfl) (by decide)) (P := 1) (by decide) t).mpr (Nat.mod_one _) : ∀ t : Fin grid0.N, win0_0.fetch t = true)
/-- When this input window is fetched. -/
theorem fetch0_1 : ∀ t : Fin cfg0.N, (cfg0.win 1).fetch t = true ↔ t.val % 16 = 0 :=
  (fun t => Pipeline.Window.fetch_reads win0_1 rfl 0 (by decide) (by decide) (Pipeline.Window.sep_of_coord cc0_transform_1 0 0 (fun _ => rfl) (by decide)) (P := 16) (by decide) t : ∀ t : Fin grid0.N, win0_1.fetch t = true ↔ t.val % 16 = 0)
/-- When this input window is fetched. -/
theorem fetch0_2 : ∀ t : Fin cfg0.N, (cfg0.win 2).fetch t = true ↔ t.val % 16 = 0 :=
  (fun t => Pipeline.Window.fetch_reads win0_2 rfl 0 (by decide) (by decide) (Pipeline.Window.sep_of_coord cc0_transform_2 0 0 (fun _ => rfl) (by decide)) (P := 16) (by decide) t : ∀ t : Fin grid0.N, win0_2.fetch t = true ↔ t.val % 16 = 0)
/-- When this input window is fetched. -/
theorem fetch0_3 : ∀ t : Fin cfg0.N, (cfg0.win 3).fetch t = true ↔ t.val % 64 = 0 :=
  (fun t => Pipeline.Window.fetch_const win0_3 rfl (fun _ _ => rfl) (n := 64) (by decide) t : ∀ t : Fin grid0.N, win0_3.fetch t = true ↔ t.val % 64 = 0)
/-- When this input window is fetched. -/
theorem fetch0_4 : ∀ t : Fin cfg0.N, (cfg0.win 4).fetch t = true ↔ t.val % 64 = 0 :=
  (fun t => Pipeline.Window.fetch_const win0_4 rfl (fun _ _ => rfl) (n := 64) (by decide) t : ∀ t : Fin grid0.N, win0_4.fetch t = true ↔ t.val % 64 = 0)
/-- When this input window is fetched. -/
theorem fetch0_5 : ∀ t : Fin cfg0.N, (cfg0.win 5).fetch t = true ↔ t.val % 64 = 0 :=
  (fun t => Pipeline.Window.fetch_const win0_5 rfl (fun _ _ => rfl) (n := 64) (by decide) t : ∀ t : Fin grid0.N, win0_5.fetch t = true ↔ t.val % 64 = 0)
/-- When this input window is fetched. -/
theorem fetch0_6 : ∀ t : Fin cfg0.N, (cfg0.win 6).fetch t = true ↔ t.val % 64 = 0 :=
  (fun t => Pipeline.Window.fetch_const win0_6 rfl (fun _ _ => rfl) (n := 64) (by decide) t : ∀ t : Fin grid0.N, win0_6.fetch t = true ↔ t.val % 64 = 0)
/-- When this input window is fetched. -/
theorem fetch0_7 : ∀ t : Fin cfg0.N, (cfg0.win 7).fetch t = true ↔ t.val % 64 = 0 :=
  (fun t => Pipeline.Window.fetch_const win0_7 rfl (fun _ _ => rfl) (n := 64) (by decide) t : ∀ t : Fin grid0.N, win0_7.fetch t = true ↔ t.val % 64 = 0)
/-- When this input window is fetched. -/
theorem fetch0_8 : ∀ t : Fin cfg0.N, (cfg0.win 8).fetch t = true ↔ t.val % 64 = 0 :=
  (fun t => Pipeline.Window.fetch_const win0_8 rfl (fun _ _ => rfl) (n := 64) (by decide) t : ∀ t : Fin grid0.N, win0_8.fetch t = true ↔ t.val % 64 = 0)
/-- When this input window is fetched. -/
theorem fetch0_9 : ∀ t : Fin cfg0.N, (cfg0.win 9).fetch t = true ↔ t.val % 64 = 0 :=
  (fun t => Pipeline.Window.fetch_const win0_9 rfl (fun _ _ => rfl) (n := 64) (by decide) t : ∀ t : Fin grid0.N, win0_9.fetch t = true ↔ t.val % 64 = 0)
/-- When this output window is written back. -/
theorem flush0_10 : ∀ t : Fin cfg0.N, (cfg0.win 10).flush t = true :=
  (fun t => (Pipeline.Window.flush_reads win0_10 rfl 1 (by decide) (by decide) (Pipeline.Window.sep_of_coord cc0_transform_10 1 1 (fun _ => rfl) (by decide)) (P := 1) (m := 0) (by decide) rfl t).mpr (Nat.mod_one _) : ∀ t : Fin grid0.N, win0_10.flush t = true)
/-- When this output window is written back. -/
theorem flush0_11 : ∀ t : Fin cfg0.N, (cfg0.win 11).flush t = true ↔ t.val % 16 = 15 :=
  (fun t => Pipeline.Window.flush_reads win0_11 rfl 0 (by decide) (by decide) (Pipeline.Window.sep_of_coord cc0_transform_11 0 0 (fun _ => rfl) (by decide)) (P := 16) (m := 15) (by decide) rfl t : ∀ t : Fin grid0.N, win0_11.flush t = true ↔ t.val % 16 = 15)
/-- When this output window is written back. -/
theorem flush0_12 : ∀ t : Fin cfg0.N, (cfg0.win 12).flush t = true ↔ t.val % 16 = 15 :=
  (fun t => Pipeline.Window.flush_reads win0_12 rfl 0 (by decide) (by decide) (Pipeline.Window.sep_of_coord cc0_transform_12 0 0 (fun _ => rfl) (by decide)) (P := 16) (m := 15) (by decide) rfl t : ∀ t : Fin grid0.N, win0_12.flush t = true ↔ t.val % 16 = 15)

/-- The buffer a window is on at a point. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)

/-- The body at a point. -/
abbrev bodyAt0 (t : Fin cfg0.N) : Prog (TpuEff nD τ sig (Elt F) Λ₀ .tc) PUnit :=
  cc0_rglru (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel7Ideal.Gen

end
-- ==== Proof.RgpRuns.lean ====
module

public import proofs.«01_k».proof.Proof.Gen.Kernel7Ideal.Launch
public import proofs.«01_k».proof.Proof.Gen.Kernel7Ideal.Skeleton
public import proofs.«01_k».proof.Proof.Gen.Kernel7Ideal.Loops
public import proofs.«01_k».proof.Proof.RgpPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What a core's arrays hold when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function runs its host operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument. -/
theorem V_args (c : Dev nD) :
    V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7) := by
  refine ⟨?_, ?_, ?_, ?_, ?_, ?_, ?_, ?_⟩ <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg0 (c : Dev nD) : V m c main_arg0 = m ((c : Thread nD τ).loc main_arg0) := (V_args m c).1
/-- No host operation writes this argument. -/
theorem V_main_arg1 (c : Dev nD) : V m c main_arg1 = m ((c : Thread nD τ).loc main_arg1) := (V_args m c).2.1
/-- No host operation writes this argument. -/
theorem V_main_arg2 (c : Dev nD) : V m c main_arg2 = m ((c : Thread nD τ).loc main_arg2) := (V_args m c).2.2.1
/-- No host operation writes this argument. -/
theorem V_main_arg3 (c : Dev nD) : V m c main_arg3 = m ((c : Thread nD τ).loc main_arg3) := (V_args m c).2.2.2.1
/-- No host operation writes this argument. -/
theorem V_main_arg4 (c : Dev nD) : V m c main_arg4 = m ((c : Thread nD τ).loc main_arg4) := (V_args m c).2.2.2.2.1
/-- No host operation writes this argument. -/
theorem V_main_arg5 (c : Dev nD) : V m c main_arg5 = m ((c : Thread nD τ).loc main_arg5) := (V_args m c).2.2.2.2.2.1
/-- No host operation writes this argument. -/
theorem V_main_arg6 (c : Dev nD) : V m c main_arg6 = m ((c : Thread nD τ).loc main_arg6) := (V_args m c).2.2.2.2.2.2.1
/-- No host operation writes this argument. -/
theorem V_main_arg7 (c : Dev nD) : V m c main_arg7 = m ((c : Thread nD τ).loc main_arg7) := (V_args m c).2.2.2.2.2.2.2

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window holds its block at every point, fetched there or kept. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input window holds its block at every point, fetched there or kept. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- From a run to the end: the argument arrays end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The condition of the branch: the point is the first of its group. -/
abbrev cond0_0 (i : grid0.Coords) : Prop := (Scalar.cmpi .ne (Scalar.extui (Scalar.cmpi .eq (BitVec.ofNat 32 (i 1).val) 0#32)) 0#32) = 1#1
/-- The branch is taken at every sixteenth point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- One buffer of an output window, to state its contents through. -/
abbrev VO0_10 : View sig .tc .vmem S8x128x512 .bf16 := (Memref.whole cc0_stg10_0 : Memref sig .tc .vmem S8x128x512 .bf16).view
/-- One buffer of an output window, to state its contents through. -/
abbrev VO0_11 : View sig .tc .vmem S8x1x512 .f32 := (Memref.whole cc0_stg11_0 : Memref sig .tc .vmem S8x1x512 .f32).view
/-- One buffer of an output window, to state its contents through. -/
abbrev VO0_12 : View sig .tc .vmem S8x3x512 .f32 := (Memref.whole cc0_stg12_0 : Memref sig .tc .vmem S8x3x512 .f32).view
/-- The buffer a window is on at a point. -/
abbrev ms0_0 (t : Fin cfg0.N) : Memref sig .tc .vmem S8x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x3x512 .f32 := win0_12.stage (cfg0.slots t 12)
abbrev hs0_12 (t : Fin cfg0.N) : (ms0_12 t).IsWhole := hstage0_12 ((cfg0.slots t 12).cast nbuf0_12)
/-- A scratch array of the kernel's own. -/
abbrev scM0_0 : Memref sig .tc .vmem S8x136x512 .f32 := Memref.whole cc0_scratch0
abbrev scM0_1 : Memref sig .tc .vmem S8x128x512 .f32 := Memref.whole cc0_scratch1
abbrev scM0_2 : Memref sig .tc .vmem S8x128x512 .f32 := Memref.whole cc0_scratch2
abbrev scM0_3 : Memref sig .tc .vmem S8x1x512 .f32 := Memref.whole cc0_scratch3
/-- A carried scratch array, to state its contents through. -/
abbrev VS0_0 : View sig .tc .vmem S8x136x512 .f32 := scM0_0.view
/-- A carried scratch array, to state its contents through. -/
abbrev VS0_3 : View sig .tc .vmem S8x1x512 .f32 := scM0_3.view

/-- The scratch arrays at anything, one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel7Ideal.Gen

end
-- ==== Proof.RgpRunA.lean ====
module

public import proofs.«01_k».proof.Proof.RgpRuns

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What a first point stores, and that the body run there stores it. -/
noncomputable def kernelRun0_A (c : Dev nD) (i : grid0.Coords) (a2 : Memref sig .tc .vmem S8x128x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x128x512 .bf16) (z12 : a12.IsWhole) (a13 : Memref sig .tc .vmem S8x1x512 .f32) (z13 : a13.IsWhole) (a14 : Memref sig .tc .vmem S8x3x512 .f32) (z14 : a14.IsWhole) (a15 : Memref sig .tc .vmem S8x136x512 .f32) (z15 : a15.IsWhole) (a16 : Memref sig .tc .vmem S8x128x512 .f32) (z16 : a16.IsWhole) (a17 : Memref sig .tc .vmem S8x128x512 .f32) (z17 : a17.IsWhole) (a18 : Memref sig .tc .vmem S8x1x512 .f32) (z18 : a18.IsWhole) (hc0 : cond0_0 i)
    (x0 : Vec F S8x128x512 .f32) (x1 : Vec F S8x3x512 .f32) (x2 : Vec F S8x1x512 .f32) (x3 : Vec F S4x512 .f32) (x4 : Vec F S1x512 .f32) (x5 : Vec F S512x512 .bf16) (x6 : Vec F S1x512 .f32) (x7 : Vec F S512x512 .bf16) (x8 : Vec F S1x512 .f32) (x9 : Vec F S1x512 .f32) :
    Σ' (L10 : List (View.Piece (Elt F) S8x128x512 .bf16)), Σ' (L11 : List (View.Piece (Elt F) S8x1x512 .f32)), Σ' (L12 : List (View.Piece (Elt F) S8x3x512 .f32)), Σ' (LS0 : List (View.Piece (Elt F) S8x136x512 .f32)), { LS3 : List (View.Piece (Elt F) S8x1x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ f, a12.view.loc (c : Thread nD τ) ↦[a12.view.set]{fullShare} a12.view.writes (Elt F) f L10) ∗ (∃ f, a13.view.loc (c : Thread nD τ) ↦[a13.view.set]{fullShare} a13.view.writes (Elt F) f L11) ∗ (∃ f, a14.view.loc (c : Thread nD τ) ↦[a14.view.set]{fullShare} a14.view.writes (Elt F) f L12) ∗ (∃ f, a15.view.loc (c : Thread nD τ) ↦[a15.view.set]{fullShare} a15.view.writes (Elt F) f LS0) ∗ (∃ d, owns (c : Thread nD τ) a16 fullShare d) ∗ (∃ d, owns (c : Thread nD τ) a17 fullShare d) ∗ (∃ f, a18.view.loc (c : Thread nD τ) ↦[a18.view.set]{fullShare} a18.view.writes (Elt F) f LS3)) -∗ K ⟨⟩))
          ⊢ wp frame (wpE (defs₀ (F := F)) Variants.none c none) E (cc0_rglru i a2 z2 a3 z3 a4 z4 a5 z5 a6 z6 a7 z7 a8 z8 a9 z9 a10 z10 a11 z11 a12 z12 a13 z13 a14 z14 a15 z15 a16 z16 a17 z17 a18 z18) K } := by
  refine ⟨?_, ?_, ?_, ?_, ?_, fun E K => ?run⟩
  case run =>
    simp only [cc0_rglru_eq_skeleton]; unfold cc0_rglru_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := z2.eq_unread hf0; obtain rfl := z3.eq_unread hf1; obtain rfl := z4.eq_unread hf2; obtain rfl := z5.eq_unread hf3; obtain rfl := z6.eq_unread hf4; obtain rfl := z7.eq_unread hf5; obtain rfl := z8.eq_unread hf6; obtain rfl := z9.eq_unread hf7; obtain rfl := z10.eq_unread hf8; obtain rfl := z11.eq_unread hf9
    sl_exec (disch := first | sl_exact hc0)
    sl_step
    iapply Hk
    isplitl [H0]
    · iexists _; isplitr; · ipureintro; exact z2.read_unread _
      iexact H0
    isplitl [H1]
    · iexists _; isplitr; · ipureintro; exact z3.read_unread _
      iexact H1
    isplitl [H2]
    · iexists _; isplitr; · ipureintro; exact z4.read_unread _
      iexact H2
    isplitl [H3]
    · iexists _; isplitr; · ipureintro; exact z5.read_unread _
      iexact H3
    isplitl [H4]
    · iexists _; isplitr; · ipureintro; exact z6.read_unread _
      iexact H4
    isplitl [H5]
    · iexists _; isplitr; · ipureintro; exact z7.read_unread _
      iexact H5
    isplitl [H6]
    · iexists _; isplitr; · ipureintro; exact z8.read_unread _
      iexact H6
    isplitl [H7]
    · iexists _; isplitr; · ipureintro; exact z9.read_unread _
      iexact H7
    isplitl [H8]
    · iexists _; isplitr; · ipureintro; exact z10.read_unread _
      iexact H8
    isplitl [H9]
    · iexists _; isplitr; · ipureintro; exact z11.read_unread _
      iexact H9
    isplitl [H10]; · iexists _; iexact H10
    isplitl [H11]; · iexists _; iexact H11
    isplitl [H12]; · iexists _; iexact H12
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.Kernel7Ideal.Gen

end
-- ==== Proof.RgpRunB.lean ====
module

public import proofs.«01_k».proof.Proof.RgpRunA

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What a later point stores, and that the body run there stores it. -/
noncomputable def kernelRun0_B (c : Dev nD) (i : grid0.Coords) (a2 : Memref sig .tc .vmem S8x128x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x128x512 .bf16) (z12 : a12.IsWhole) (a13 : Memref sig .tc .vmem S8x1x512 .f32) (z13 : a13.IsWhole) (a14 : Memref sig .tc .vmem S8x3x512 .f32) (z14 : a14.IsWhole) (a15 : Memref sig .tc .vmem S8x136x512 .f32) (z15 : a15.IsWhole) (a16 : Memref sig .tc .vmem S8x128x512 .f32) (z16 : a16.IsWhole) (a17 : Memref sig .tc .vmem S8x128x512 .f32) (z17 : a17.IsWhole) (a18 : Memref sig .tc .vmem S8x1x512 .f32) (z18 : a18.IsWhole) (hc0 : ¬cond0_0 i)
    (x0 : Vec F S8x128x512 .f32) (x1 : Vec F S8x3x512 .f32) (x2 : Vec F S8x1x512 .f32) (x3 : Vec F S4x512 .f32) (x4 : Vec F S1x512 .f32) (x5 : Vec F S512x512 .bf16) (x6 : Vec F S1x512 .f32) (x7 : Vec F S512x512 .bf16) (x8 : Vec F S1x512 .f32) (x9 : Vec F S1x512 .f32) (xs0 : Vec F S8x136x512 .f32) (xs3 : Vec F S8x1x512 .f32) :
    Σ' (L10 : List (View.Piece (Elt F) S8x128x512 .bf16)), Σ' (L11 : List (View.Piece (Elt F) S8x1x512 .f32)), Σ' (L12 : List (View.Piece (Elt F) S8x3x512 .f32)), Σ' (LS0 : List (View.Piece (Elt F) S8x136x512 .f32)), { LS3 : List (View.Piece (Elt F) S8x1x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ d, owns (c : Thread nD τ) a12 fullShare d) ∗ (∃ d, owns (c : Thread nD τ) a13 fullShare d) ∗ (∃ d, owns (c : Thread nD τ) a14 fullShare d) ∗ owns (c : Thread nD τ) a15 fullShare xs0 ∗ (∃ d, owns (c : Thread nD τ) a16 fullShare d) ∗ (∃ d, owns (c : Thread nD τ) a17 fullShare d) ∗ owns (c : Thread nD τ) a18 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ f, a12.view.loc (c : Thread nD τ) ↦[a12.view.set]{fullShare} a12.view.writes (Elt F) f L10) ∗ (∃ f, a13.view.loc (c : Thread nD τ) ↦[a13.view.set]{fullShare} a13.view.writes (Elt F) f L11) ∗ (∃ f, a14.view.loc (c : Thread nD τ) ↦[a14.view.set]{fullShare} a14.view.writes (Elt F) f L12) ∗ (∃ f, a15.view.loc (c : Thread nD τ) ↦[a15.view.set]{fullShare} a15.view.writes (Elt F) f LS0) ∗ (∃ d, owns (c : Thread nD τ) a16 fullShare d) ∗ (∃ d, owns (c : Thread nD τ) a17 fullShare d) ∗ (∃ f, a18.view.loc (c : Thread nD τ) ↦[a18.view.set]{fullShare} a18.view.writes (Elt F) f LS3)) -∗ K ⟨⟩))
          ⊢ wp frame (wpE (defs₀ (F := F)) Variants.none c none) E (cc0_rglru i a2 z2 a3 z3 a4 z4 a5 z5 a6 z6 a7 z7 a8 z8 a9 z9 a10 z10 a11 z11 a12 z12 a13 z13 a14 z14 a15 z15 a16 z16 a17 z17 a18 z18) K } := by
  refine ⟨?_, ?_, ?_, ?_, ?_, fun E K => ?run⟩
  case run =>
    simp only [cc0_rglru_eq_skeleton]; unfold cc0_rglru_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, ⟨%fs3, %hfs3, HS3⟩, Hk⟩
    obtain rfl := z2.eq_unread hf0; obtain rfl := z3.eq_unread hf1; obtain rfl := z4.eq_unread hf2; obtain rfl := z5.eq_unread hf3; obtain rfl := z6.eq_unread hf4; obtain rfl := z7.eq_unread hf5; obtain rfl := z8.eq_unread hf6; obtain rfl := z9.eq_unread hf7; obtain rfl := z10.eq_unread hf8; obtain rfl := z11.eq_unread hf9; obtain rfl := z15.eq_unread hfs0; obtain rfl := z18.eq_unread hfs3
    sl_exec (disch := first | sl_exact hc0)
    sl_step
    iapply Hk
    isplitl [H0]
    · iexists _; isplitr; · ipureintro; exact z2.read_unread _
      iexact H0
    isplitl [H1]
    · iexists _; isplitr; · ipureintro; exact z3.read_unread _
      iexact H1
    isplitl [H2]
    · iexists _; isplitr; · ipureintro; exact z4.read_unread _
      iexact H2
    isplitl [H3]
    · iexists _; isplitr; · ipureintro; exact z5.read_unread _
      iexact H3
    isplitl [H4]
    · iexists _; isplitr; · ipureintro; exact z6.read_unread _
      iexact H4
    isplitl [H5]
    · iexists _; isplitr; · ipureintro; exact z7.read_unread _
      iexact H5
    isplitl [H6]
    · iexists _; isplitr; · ipureintro; exact z8.read_unread _
      iexact H6
    isplitl [H7]
    · iexists _; isplitr; · ipureintro; exact z9.read_unread _
      iexact H7
    isplitl [H8]
    · iexists _; isplitr; · ipureintro; exact z10.read_unread _
      iexact H8
    isplitl [H9]
    · iexists _; isplitr; · ipureintro; exact z11.read_unread _
      iexact H9
    isplitl [H10]; · iexists _; iexact H10
    isplitl [H11]; · iexists _; iexact H11
    isplitl [H12]; · iexists _; iexact H12
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.Kernel7Ideal.Gen

end
-- ==== Proof.RgpFrame.lean ====
module

public import proofs.«01_k».proof.Proof.RgpRunB
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (a2 : Memref sig .tc .vmem S8x128x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x128x512 .bf16) (z12 : a12.IsWhole) (a13 : Memref sig .tc .vmem S8x1x512 .f32) (z13 : a13.IsWhole) (a14 : Memref sig .tc .vmem S8x3x512 .f32) (z14 : a14.IsWhole) (a15 : Memref sig .tc .vmem S8x136x512 .f32) (z15 : a15.IsWhole) (a16 : Memref sig .tc .vmem S8x128x512 .f32) (z16 : a16.IsWhole) (a17 : Memref sig .tc .vmem S8x128x512 .f32) (z17 : a17.IsWhole) (a18 : Memref sig .tc .vmem S8x1x512 .f32) (z18 : a18.IsWhole)
  (hc0 : cond0_0 i)
  (x0 : Vec F S8x128x512 .f32) (x1 : Vec F S8x3x512 .f32) (x2 : Vec F S8x1x512 .f32) (x3 : Vec F S4x512 .f32) (x4 : Vec F S1x512 .f32) (x5 : Vec F S512x512 .bf16) (x6 : Vec F S1x512 .f32) (x7 : Vec F S512x512 .bf16) (x8 : Vec F S1x512 .f32) (x9 : Vec F S1x512 .f32)

/-- The pieces a first point stores cover the array. -/
theorem cover0_A_10 (y : S8x128x512.Idx) :
    ∃ pc ∈ (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).1, y ∈ pc.1.set :=
  View.cover_of_tiledL _ S8x128x512.size (by sl_kernel_rfl) y

/-- What a first point leaves: its pieces read back. -/
def out0_A_10 : Vec F S8x128x512 .bf16 :=
  VO0_10.read (Elt F) (VO0_10.writes (Elt F) VO0_10.junk (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).1)

/-- The pieces a first point stores cover the array. -/
theorem cover0_A_11 (y : S8x1x512.Idx) :
    ∃ pc ∈ (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.1, y ∈ pc.1.set :=
  View.cover_of_tiledL _ ![1, 1, 512] (by sl_kernel_rfl) y

/-- What a first point leaves: its pieces read back. -/
def out0_A_11 : Vec F S8x1x512 .f32 :=
  VO0_11.read (Elt F) (VO0_11.writes (Elt F) VO0_11.junk (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.1)

/-- The pieces a first point stores cover the array. -/
theorem cover0_A_12 (y : S8x3x512.Idx) :
    ∃ pc ∈ (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.2.1, y ∈ pc.1.set :=
  View.cover_of_tiledL _ S8x3x512.size (by sl_kernel_rfl) y

/-- What a first point leaves: its pieces read back. -/
def out0_A_12 : Vec F S8x3x512 .f32 :=
  VO0_12.read (Elt F) (VO0_12.writes (Elt F) VO0_12.junk (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.2.1)

/-- The pieces a first point stores cover the array. -/
theorem scover0_A_0 (y : S8x136x512.Idx) :
    ∃ pc ∈ (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.2.2.1, y ∈ pc.1.set :=
  View.cover_of_tiledBy _ ![8, 1, 512] (by sl_kernel_rfl) y

/-- What a first point leaves: its pieces read back. -/
def sout0_A_0 : Vec F S8x136x512 .f32 :=
  VS0_0.read (Elt F) (VS0_0.writes (Elt F) VS0_0.junk (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.2.2.1)

/-- The pieces a first point stores cover the array. -/
theorem scover0_A_3 (y : S8x1x512.Idx) :
    ∃ pc ∈ (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.2.2.2.1, y ∈ pc.1.set :=
  View.cover_of_wholeMem (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.2.2.2.1 (by sl_whole_mem) y

/-- What a first point leaves: its pieces read back. -/
def sout0_A_3 : Vec F S8x1x512 .f32 :=
  VS0_3.read (Elt F) (VS0_3.writes (Elt F) VS0_3.junk (kernelRun0_A c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9).2.2.2.2.1)

end

section

variable (c : Dev nD) (i : grid0.Coords) (a2 : Memref sig .tc .vmem S8x128x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x128x512 .bf16) (z12 : a12.IsWhole) (a13 : Memref sig .tc .vmem S8x1x512 .f32) (z13 : a13.IsWhole) (a14 : Memref sig .tc .vmem S8x3x512 .f32) (z14 : a14.IsWhole) (a15 : Memref sig .tc .vmem S8x136x512 .f32) (z15 : a15.IsWhole) (a16 : Memref sig .tc .vmem S8x128x512 .f32) (z16 : a16.IsWhole) (a17 : Memref sig .tc .vmem S8x128x512 .f32) (z17 : a17.IsWhole) (a18 : Memref sig .tc .vmem S8x1x512 .f32) (z18 : a18.IsWhole)
  (hc0 : ¬cond0_0 i)
  (x0 : Vec F S8x128x512 .f32) (x1 : Vec F S8x3x512 .f32) (x2 : Vec F S8x1x512 .f32) (x3 : Vec F S4x512 .f32) (x4 : Vec F S1x512 .f32) (x5 : Vec F S512x512 .bf16) (x6 : Vec F S1x512 .f32) (x7 : Vec F S512x512 .bf16) (x8 : Vec F S1x512 .f32) (x9 : Vec F S1x512 .f32) (xs0 : Vec F S8x136x512 .f32) (xs3 : Vec F S8x1x512 .f32)

/-- The pieces a later point stores cover the array. -/
theorem cover0_B_10 (y : S8x128x512.Idx) :
    ∃ pc ∈ (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).1, y ∈ pc.1.set :=
  View.cover_of_tiledL _ S8x128x512.size (by sl_kernel_rfl) y

/-- What a later point leaves: its pieces read back. -/
def out0_B_10 : Vec F S8x128x512 .bf16 :=
  VO0_10.read (Elt F) (VO0_10.writes (Elt F) VO0_10.junk (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).1)

/-- The pieces a later point stores cover the array. -/
theorem cover0_B_11 (y : S8x1x512.Idx) :
    ∃ pc ∈ (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.1, y ∈ pc.1.set :=
  View.cover_of_tiledL _ ![1, 1, 512] (by sl_kernel_rfl) y

/-- What a later point leaves: its pieces read back. -/
def out0_B_11 : Vec F S8x1x512 .f32 :=
  VO0_11.read (Elt F) (VO0_11.writes (Elt F) VO0_11.junk (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.1)

/-- The pieces a later point stores cover the array. -/
theorem cover0_B_12 (y : S8x3x512.Idx) :
    ∃ pc ∈ (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.2.1, y ∈ pc.1.set :=
  View.cover_of_tiledL _ S8x3x512.size (by sl_kernel_rfl) y

/-- What a later point leaves: its pieces read back. -/
def out0_B_12 : Vec F S8x3x512 .f32 :=
  VO0_12.read (Elt F) (VO0_12.writes (Elt F) VO0_12.junk (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.2.1)

/-- The pieces a later point stores cover the array. -/
theorem scover0_B_0 (y : S8x136x512.Idx) :
    ∃ pc ∈ (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.2.2.1, y ∈ pc.1.set :=
  View.cover_of_tiledBy _ ![8, 8, 512] (by sl_kernel_rfl) y

/-- What a later point leaves: its pieces read back. -/
def sout0_B_0 : Vec F S8x136x512 .f32 :=
  VS0_0.read (Elt F) (VS0_0.writes (Elt F) VS0_0.junk (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.2.2.1)

/-- The pieces a later point stores cover the array. -/
theorem scover0_B_3 (y : S8x1x512.Idx) :
    ∃ pc ∈ (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.2.2.2.1, y ∈ pc.1.set :=
  View.cover_of_tiledL _ ![1, 1, 512] (by sl_kernel_rfl) y

/-- What a later point leaves: its pieces read back. -/
def sout0_B_3 : Vec F S8x1x512 .f32 :=
  VS0_3.read (Elt F) (VS0_3.writes (Elt F) VS0_3.junk (kernelRun0_B c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3).2.2.2.2.1)

end

/-- What a first point of a group leaves: the three outputs' blocks and the two scratch arrays carried on. -/
def ptA (c : Dev nD) (t : Fin cfg0.N) (h0 : t.val % 16 = 0) : Vec F S8x128x512 .bf16 × Vec F S8x1x512 .f32 × Vec F S8x3x512 .f32 × Vec F S8x136x512 .f32 × Vec F S8x1x512 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t))

/-- What a later point of a group leaves, over what the point before it left in the carried scratch arrays. -/
def ptB (c : Dev nD) (t : Fin cfg0.N) (h0 : ¬t.val % 16 = 0) (xs0 : Vec F S8x136x512 .f32) (xs3 : Vec F S8x1x512 .f32) : Vec F S8x128x512 .bf16 × Vec F S8x1x512 .f32 × Vec F S8x3x512 .f32 × Vec F S8x136x512 .f32 × Vec F S8x1x512 .f32 :=
  (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs3, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs3, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs3, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs3, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) xs0 xs3)

/-- What the points leave, point by point. -/
def outsAt0 (c : Dev nD) : (n : ℕ) → n < cfg0.N → Vec F S8x128x512 .bf16 × Vec F S8x1x512 .f32 × Vec F S8x3x512 .f32 × Vec F S8x136x512 .f32 × Vec F S8x1x512 .f32
  | 0, hn => ptA m c ⟨0, hn⟩ (Nat.zero_mod _)
  | n + 1, hn =>
    if h0 : (n + 1) % 16 = 0 then ptA m c ⟨n + 1, hn⟩ h0
    else ptB m c ⟨n + 1, hn⟩ h0 (outsAt0 c n (Nat.lt_of_succ_lt hn)).2.2.2.1 (outsAt0 c n (Nat.lt_of_succ_lt hn)).2.2.2.2

/-- What a first point leaves. -/
theorem outsAt0_A (c : Dev nD) (t : Fin cfg0.N) (h0 : t.val % 16 = 0) : outsAt0 m c t.val t.isLt = ptA m c t h0 := by
  obtain ⟨n, hn⟩ := t
  cases n with
  | zero => exact rfl
  | succ n => exact (dif_pos h0).trans rfl

/-- What a later point leaves. -/
theorem outsAt0_B (c : Dev nD) (t : Fin cfg0.N) (h0 : ¬t.val % 16 = 0) :
    outsAt0 m c t.val t.isLt = ptB m c t h0 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans rfl

/-- Before a point, the carried scratch holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After a point, the carried scratch holds what it left. -/
theorem PhiS_succ (c : Dev nD) (n : ℕ) (hn : n < cfg0.N) :
    PhiS m c (n + 1) hn = iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ owns (c : Thread nD τ) scM0_3 fullShare ((outsAt0 m c n hn).2.2.2.2)) ∗ (∃ r, prngReg c r)) := rfl

/-- Before a point other than the first, the carried scratch holds what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2.2.2)) ∗ (∃ r, prngReg c r)) := by
  cases n with
  | zero => exact absurd rfl hz
  | succ n => rfl

/-- The arrays, the blocks after each point, and the carried scratch, for the whole grid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
  Φ t := PhiS m c t.val (Nat.le_of_lt_succ t.isLt)
  q _ := fullShare
  owed _ := 0

/-- The arrays are the ones the kernel starts from. -/
theorem A_eq (c : Dev nD) (w : Fin cfg0.W) : (dats m 0 c).A w = V m c (Pipeline.arrRef spec0 w) := by
  dsimp only [dats]

/-- The same, at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in a window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]

/-- An input window holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

/-- At the launch the scratch holds anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point what the carried scratch holds may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

set_option maxHeartbeats 12800000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · have hΦ : (dats m 0 c).Φ t.castSucc ⊢ Pipeline.ΦA spec0 c := by
      by_cases hz : t.val = 0
      · rw [PhiS_castSucc m c t, PhiS_zero m c _ _ hz]
      · exact Phi_out m c t.castSucc hz
    refine (Idealize.SL.BI.Laws.sep_mono_left hΦ).trans ?_
    show (Pipeline.ΦA spec0 c ∗ _ : sProp 𝕄) ⊢ _
    rw [PhiA0_eq]
    rw [outsAt0_A m c t h0]
    unfold ptA out0_A_10 out0_A_11 out0_A_12 sout0_A_0 sout0_A_3; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, ⟨%e10, H10⟩, ⟨%e11, H11⟩, ⟨%e12, H12⟩, ⟨%es0, HS0⟩, HS1, HS2, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (fun _ => scover0_A_0 ..)
        isplitl [HS1]
        · iexact HS1
        isplitl [HS2]
        · iexact HS2
        unfold owns; iexists _; isplitr
        swap; · iexact HS3
        ipureintro; exact View.read_writes_of_cover _ _ _ _ _ (fun _ => scover0_A_3 ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (fun _ => cover0_A_10 ..)
    isplitl [H11]
    · unfold owns; iexists _; isplitr
      swap; · iexact H11
      ipureintro; exact View.read_writes_of_cover _ _ _ _ _ (fun _ => cover0_A_11 ..)
    unfold owns; iexists _; isplitr
    swap; · iexact H12
    ipureintro; exact View.read_writes_of_cover _ _ _ _ _ (fun _ => cover0_A_12 ..)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold ptB out0_B_10 out0_B_11 out0_B_12 sout0_B_0 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, ⟨%e12, H12⟩, ⟨%es0, HS0⟩, HS1, HS2, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (fun _ => scover0_B_0 ..)
          isplitl [HS1]
          · iexact HS1
          isplitl [HS2]
          · iexact HS2
          unfold owns; iexists _; isplitr
          swap; · iexact HS3
          ipureintro; exact View.read_writes_of_cover _ _ _ _ _ (fun _ => scover0_B_3 ..)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (fun _ => cover0_B_10 ..)
      isplitl [H11]
      · unfold owns; iexists _; isplitr
        swap; · iexact H11
        ipureintro; exact View.read_writes_of_cover _ _ _ _ _ (fun _ => cover0_B_11 ..)
      unfold owns; iexists _; isplitr
      swap; · iexact H12
      ipureintro; exact View.read_writes_of_cover _ _ _ _ _ (fun _ => cover0_B_12 ..)

/-- The body the grid calls at a point. -/
theorem defs₀_row (t : Fin cfg0.N) :
    defs₀ (F := F) .tc cfg0.body (cfg0.bodyArgs t (cfg0.slots t)) = bodyAt0 t := by
  unfold defs₀; rw [Defs.onTc_tc]

/-- The body is right at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The same after the last point. -/
theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every run ends with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with every array at what the points leave. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- Every run ends, the counters at zero and the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel7Ideal.Gen

end
-- ==== Proof.RgpBits.lean ====
module
public import proofs.«01_k».proof.Proof.RgpFrame
public import proofs.«01_k».proof.Proof.Gen.Kernel7.Launch
public import proofs.«01_k».proof.Defs
public section

/- The program with machine words is the program with real numbers, read with other numbers: so it ends as that one does. -/

namespace Cert.RgpBits

open Idealize.ShloMosaic
set_option maxHeartbeats 0
set_option maxRecDepth 100000
/-- The kernel's body is the same program in both sets. -/
theorem body_same : @Cert.Kernel7.cc0_rglru (Bits) _ Cert.Kernel7.Gen.facts = @Cert.Kernel7Ideal.cc0_rglru (Bits) _ Cert.Kernel7Ideal.Gen.facts := rfl
/-- The device's procedures are the same. -/
theorem procs_same : @Cert.Kernel7.defs₀ (Bits) _ Cert.Kernel7.Gen.facts = @Cert.Kernel7Ideal.defs₀ (Bits) _ Cert.Kernel7Ideal.Gen.facts := by
  funext p
  match p with
  | .scScalar _ => rfl
  | .scVector _ _ => rfl
  | .tc =>
    funext l a
    match l, a with
    | ⟨0, _⟩, (t, s) =>
      show @Cert.Kernel7.cc0_rglru (Bits) _ Cert.Kernel7.Gen.facts _ _ _ _ _ _ _ _ _ _ _ _ _ _ _ _ _ _ _ _ _ _ _ _ _ _ _ _ _ _ _ _ _ _ _ = _
      rw [body_same]
      rfl
/-- The host programs are the same. -/
theorem main_same : @Cert.Kernel7.main (Bits) _ Cert.Kernel7.Gen.facts = @Cert.Kernel7Ideal.main (Bits) _ Cert.Kernel7Ideal.Gen.facts := rfl
/-- The definitions the two programs run with are the same. -/
theorem defs_same : @Cert.Kernel7.defs (Bits) _ Cert.Kernel7.Gen.facts = @Cert.Kernel7Ideal.defs (Bits) _ Cert.Kernel7Ideal.Gen.facts :=
  letI := Cert.Kernel7Ideal.Gen.facts; congrArg (Pipeline.defs (Cert.Kernel7Ideal.pcfgs (F := Bits))) procs_same
/-- The kernel terminates, keeps its arguments and leaves every semaphore at zero. -/
theorem frame : Cert.quiescent_Kernel7 (hKernel7 := Cert.Kernel7.Gen.facts) := fun m ρ _ =>
  (congrArg (fun D => θ_run D (onTc (τ := Cert.Kernel7.τ) (@Cert.Kernel7.main (Bits) _ Cert.Kernel7.Gen.facts)) ⟨m, fun _ => 0, ρ⟩ _) defs_same).mpr
   ((congrArg (fun M => θ_run (@Cert.Kernel7Ideal.defs (Bits) _ Cert.Kernel7Ideal.Gen.facts) (onTc (τ := Cert.Kernel7Ideal.τ) M) ⟨m, fun _ => 0, ρ⟩ _) main_same).mpr (Cert.Kernel7Ideal.Gen.frame (F := Bits) m ρ))

end Cert.RgpBits

end
-- ==== Proof.RgpLoop.lean ====
module

public import proofs.«01_k».proof.Proof.RgpFrame
public import Idealize.ShloMosaic.Lib.Tactic
public import Idealize.ShloMosaic.Lib.Pointwise
public import Idealize.ShloMosaic.Lib.WordArith.Masks
public import Idealize.ShloMosaic.Lib.Pipeline.ReadBack
public import Idealize.ShloMosaic.Lib.Pipeline.ValueKit.Tiles

@[expose] public section

set_option maxRecDepth 16384

noncomputable section

/- The kernel's time loop on one block of eight batch rows: what the loop carries and what it stores,
   as the recurrence `h (t+1) = a t * h t + u t` of each row. -/

namespace Cert.Kernel7Ideal.RgpLoop

open Cert.Kernel7Ideal Cert.Kernel7Ideal.Gen Idealize.ShloMosaic Idealize.ShloMosaic.TcCoe Idealize.ShloMosaic.Tactic Idealize.SL.Sem
open Idealize.ShloMosaic.Pipeline (Dat)

/-- The eight rows the loop carries. -/
abbrev C8 := FVec Ideal S1x512 .f32 × FVec Ideal S1x512 .f32 × FVec Ideal S1x512 .f32 × FVec Ideal S1x512 .f32 × FVec Ideal S1x512 .f32 × FVec Ideal S1x512 .f32 × FVec Ideal S1x512 .f32 × FVec Ideal S1x512 .f32

/-- Row `b` of what the loop carries. -/
def comp (a : C8) : Fin 8 → S1x512.Idx → EReal :=
  ![a.1, a.2.1, a.2.2.1, a.2.2.2.1, a.2.2.2.2.1, a.2.2.2.2.2.1, a.2.2.2.2.2.2.1, a.2.2.2.2.2.2.2]

/-- The recurrence of a block: `h 0` given, `h (t+1) = a t * h t + u t` at every row and lane. -/
def hRec (A U : S8x128x512.Idx → EReal) (h0 : Fin 8 → Fin 512 → EReal) : ℕ → Fin 8 → Fin 512 → EReal
  | 0 => h0
  | t + 1 => fun b d => if ht : t < 128 then A (ix3 b ⟨t, ht⟩ d) * hRec A U h0 t b d + U (ix3 b ⟨t, ht⟩ d) else 0

theorem hRec_succ (A U : S8x128x512.Idx → EReal) (h0 : Fin 8 → Fin 512 → EReal) (t : ℕ) (ht : t < 128) (b : Fin 8) (d : Fin 512) :
    hRec A U h0 (t + 1) b d = A (ix3 b ⟨t, ht⟩ d) * hRec A U h0 t b d + U (ix3 b ⟨t, ht⟩ d) := dif_pos ht

/-- The state after step `t`, as an array of the block. -/
def hAll (A U : S8x128x512.Idx → EReal) (h0 : Fin 8 → Fin 512 → EReal) : S8x128x512.Idx → EReal :=
  fun y => hRec A U h0 ((y 1).val + 1) (y 0) (y 2)

/-- The row rectangle's corner: the loop's word is the trip's number. -/
theorem off_row (r : ℕ) (k : Fin k0_t1_loop.trips) :
    (![r, BitVec.toNat (Scalar.indexCast (Scf.iv 0#32 1#32 k.val)), 0] : Fin 3 → ℕ) = ![r, k.val, 0] := by
  have hk : k.val < 128 := Nat.lt_of_lt_of_le k.isLt k0_t1_abs.2.1
  have := WordArith.toNat_iv_zero_one k.val (by omega)
  rw [show BitVec.toNat (Scalar.indexCast (Scf.iv 0#32 1#32 k.val)) = k.val from this]

/-- A row rectangle at the corner `(r, k, 0)` places lane `d` at `(r, k, d)`. -/
theorem idx_row {off : Fin 3 → ℕ} (inb : ∀ a, off a + (![1, 1, 512] : Fin 3 → ℕ) a ≤ S8x128x512.size a) (r : Fin 8) (k : Fin 128)
    (hoff : off = ![r.val, k.val, 0]) (x : (Rect.unit (s := S8x128x512) off ![1, 1, 512] inb).shape.Idx) :
    (Rect.unit (s := S8x128x512) off ![1, 1, 512] inb).idx x = ix3 r k (x 2) := by
  have h0 : (x 0).val < 1 := (x 0).isLt
  have h1 : (x 1).val < 1 := (x 1).isLt
  have e0 : off 0 = r.val := by rw [hoff]; rfl
  have e1 : off 1 = k.val := by rw [hoff]; rfl
  have e2 : off 2 = 0 := by rw [hoff]; rfl
  funext a
  apply Fin.ext
  refine (Rect.idx_unit_val off ![1, 1, 512] inb x a).trans ?_
  fin_cases a
  · show off 0 + (x 0).val = r.val; omega
  · show off 1 + (x 1).val = k.val; omega
  · show off 2 + (x 2).val = (x 2).val; omega

/-- A trip stays inside the block. -/
theorem k_lt (k : Fin k0_t1_loop.trips) : k.val < 128 := Nat.lt_of_lt_of_le k.isLt k0_t1_abs.2.1

/-- One trip's row: the loaded row of `a` times the carried row plus the loaded row of `u`. -/
theorem row_val (pay : FVec Ideal S1x512 .f32 → Vec Ideal S1x1x512 .f32 → Vec Ideal S1x1x512 .f32 → FVec Ideal S1x512 .f32)
    (hpay : ∀ h w u (d : Fin 512), pay h w u (ix2 0 d) = w (ix3 0 0 d) * h (ix2 0 d) + u (ix3 0 0 d))
    (h : FVec Ideal S1x512 .f32) {off off' : Fin 3 → ℕ}
    (inb : ∀ a, off a + (![1, 1, 512] : Fin 3 → ℕ) a ≤ S8x128x512.size a) (inb' : ∀ a, off' a + (![1, 1, 512] : Fin 3 → ℕ) a ≤ S8x128x512.size a)
    (r : Fin 8) (k : Fin 128) (hoff : off = ![r.val, k.val, 0]) (hoff' : off' = ![r.val, k.val, 0])
    (m m' : Memref sig .tc .vmem S8x128x512 .f32)
    (X : BufTy.Contents (Elt Ideal) m.view.ty) (f : BufTy.Contents (Elt Ideal) m'.view.ty) (d : Fin 512) :
    pay h (m.view.readAt (Elt Ideal) (Rect.unit (s := S8x128x512) off ![1, 1, 512] inb).toLoadRect X)
      (m'.view.readAt (Elt Ideal) (Rect.unit (s := S8x128x512) off' ![1, 1, 512] inb').toLoadRect f) (ix2 0 d)
      = m.view.read (Elt Ideal) X (ix3 r k d) * h (ix2 0 d) + m'.view.read (Elt Ideal) f (ix3 r k d) := by
  rw [hpay, View.readAt_eq_ld, View.readAt_eq_ld, View.ld, View.ld, idx_row inb r k hoff, idx_row inb' r k hoff']
  rfl

theorem pay7_at (h : FVec Ideal S1x512 .f32) (w u : Vec Ideal S1x1x512 .f32) (d : Fin 512) :
    k0_pay7 h w u (ix2 0 d) = w (ix3 0 0 d) * h (ix2 0 d) + u (ix3 0 0 d) := by
  unfold_payloads; pointwise

theorem pay9_at (h : FVec Ideal S1x512 .f32) (w u : Vec Ideal S1x1x512 .f32) (d : Fin 512) :
    k0_pay9 h w u (ix2 0 d) = w (ix3 0 0 d) * h (ix2 0 d) + u (ix3 0 0 d) := by
  unfold_payloads; pointwise

theorem pay11_at (h : FVec Ideal S1x512 .f32) (w u : Vec Ideal S1x1x512 .f32) (d : Fin 512) :
    k0_pay11 h w u (ix2 0 d) = w (ix3 0 0 d) * h (ix2 0 d) + u (ix3 0 0 d) := by
  unfold_payloads; pointwise

theorem pay13_at (h : FVec Ideal S1x512 .f32) (w u : Vec Ideal S1x1x512 .f32) (d : Fin 512) :
    k0_pay13 h w u (ix2 0 d) = w (ix3 0 0 d) * h (ix2 0 d) + u (ix3 0 0 d) := by
  unfold_payloads; pointwise

theorem pay15_at (h : FVec Ideal S1x512 .f32) (w u : Vec Ideal S1x1x512 .f32) (d : Fin 512) :
    k0_pay15 h w u (ix2 0 d) = w (ix3 0 0 d) * h (ix2 0 d) + u (ix3 0 0 d) := by
  unfold_payloads; pointwise

theorem pay17_at (h : FVec Ideal S1x512 .f32) (w u : Vec Ideal S1x1x512 .f32) (d : Fin 512) :
    k0_pay17 h w u (ix2 0 d) = w (ix3 0 0 d) * h (ix2 0 d) + u (ix3 0 0 d) := by
  unfold_payloads; pointwise

theorem pay43_at (h : FVec Ideal S1x512 .f32) (w u : Vec Ideal S1x1x512 .f32) (d : Fin 512) :
    k0_pay43 h (k0_pay19 w) u (ix2 0 d) = w (ix3 0 0 d) * h (ix2 0 d) + u (ix3 0 0 d) := by
  unfold_payloads; pointwise

theorem pay45_at (h : FVec Ideal S1x512 .f32) (w u : Vec Ideal S1x1x512 .f32) (d : Fin 512) :
    k0_pay45 h w u (ix2 0 d) = w (ix3 0 0 d) * h (ix2 0 d) + u (ix3 0 0 d) := by
  unfold_payloads; pointwise

theorem pay8_at (h : FVec Ideal S1x512 .f32) (w u : Vec Ideal S1x1x512 .f32) (d : Fin 512) :
    k0_pay8 h w u (ix3 0 0 d) = w (ix3 0 0 d) * h (ix2 0 d) + u (ix3 0 0 d) := by
  unfold_payloads; pointwise

theorem pay10_at (h : FVec Ideal S1x512 .f32) (w u : Vec Ideal S1x1x512 .f32) (d : Fin 512) :
    k0_pay10 h w u (ix3 0 0 d) = w (ix3 0 0 d) * h (ix2 0 d) + u (ix3 0 0 d) := by
  unfold_payloads; pointwise

theorem pay12_at (h : FVec Ideal S1x512 .f32) (w u : Vec Ideal S1x1x512 .f32) (d : Fin 512) :
    k0_pay12 h w u (ix3 0 0 d) = w (ix3 0 0 d) * h (ix2 0 d) + u (ix3 0 0 d) := by
  unfold_payloads; pointwise

theorem pay14_at (h : FVec Ideal S1x512 .f32) (w u : Vec Ideal S1x1x512 .f32) (d : Fin 512) :
    k0_pay14 h w u (ix3 0 0 d) = w (ix3 0 0 d) * h (ix2 0 d) + u (ix3 0 0 d) := by
  unfold_payloads; pointwise

theorem pay16_at (h : FVec Ideal S1x512 .f32) (w u : Vec Ideal S1x1x512 .f32) (d : Fin 512) :
    k0_pay16 h w u (ix3 0 0 d) = w (ix3 0 0 d) * h (ix2 0 d) + u (ix3 0 0 d) := by
  unfold_payloads; pointwise

theorem pay18_at (h : FVec Ideal S1x512 .f32) (w u : Vec Ideal S1x1x512 .f32) (d : Fin 512) :
    k0_pay18 h w u (ix3 0 0 d) = w (ix3 0 0 d) * h (ix2 0 d) + u (ix3 0 0 d) := by
  unfold_payloads; pointwise

theorem pay46_at (h : FVec Ideal S1x512 .f32) (w u : Vec Ideal S1x1x512 .f32) (d : Fin 512) :
    k0_pay46 h w u (ix3 0 0 d) = w (ix3 0 0 d) * h (ix2 0 d) + u (ix3 0 0 d) := by
  unfold_payloads; pointwise

theorem pay44_at (h : FVec Ideal S1x512 .f32) (w u : Vec Ideal S1x1x512 .f32) (d : Fin 512) :
    k0_pay44 h (k0_pay19 w) u (ix3 0 0 d) = w (ix3 0 0 d) * h (ix2 0 d) + u (ix3 0 0 d) := by
  unfold_payloads; pointwise

/-- A row of a stored piece, likewise. -/
theorem row_piece (pay : FVec Ideal S1x512 .f32 → Vec Ideal S1x1x512 .f32 → Vec Ideal S1x1x512 .f32 → FVec Ideal S1x1x512 .f32)
    (hpay : ∀ h w u (d : Fin 512), pay h w u (ix3 0 0 d) = w (ix3 0 0 d) * h (ix2 0 d) + u (ix3 0 0 d))
    (h : FVec Ideal S1x512 .f32) {off off' off'' : Fin 3 → ℕ}
    (inb : ∀ a, off a + (![1, 1, 512] : Fin 3 → ℕ) a ≤ S8x128x512.size a) (inb' : ∀ a, off' a + (![1, 1, 512] : Fin 3 → ℕ) a ≤ S8x128x512.size a)
    (inb'' : ∀ a, off'' a + (![1, 1, 512] : Fin 3 → ℕ) a ≤ S8x128x512.size a)
    (r : Fin 8) (k : Fin 128) (hoff : off = ![r.val, k.val, 0]) (hoff' : off' = ![r.val, k.val, 0]) (hoff'' : off'' = ![r.val, k.val, 0])
    (m m' : Memref sig .tc .vmem S8x128x512 .f32)
    (X : BufTy.Contents (Elt Ideal) m.view.ty) (f : BufTy.Contents (Elt Ideal) m'.view.ty) (G : S8x128x512.Idx → EReal)
    (hG : ∀ d, m.view.read (Elt Ideal) X (ix3 r k d) * h (ix2 0 d) + m'.view.read (Elt Ideal) f (ix3 r k d) = G (ix3 r k d))
    (x : (Rect.unit (s := S8x128x512) off'' ![1, 1, 512] inb'').shape.Idx) :
    pay h (m.view.readAt (Elt Ideal) (Rect.unit (s := S8x128x512) off ![1, 1, 512] inb).toLoadRect X)
      (m'.view.readAt (Elt Ideal) (Rect.unit (s := S8x128x512) off' ![1, 1, 512] inb').toLoadRect f) x
      = G ((Rect.unit (s := S8x128x512) off'' ![1, 1, 512] inb'').emb x) := by
  have hx : x = ix3 (n0 := 1) (n1 := 1) (n2 := 512) 0 0 (x 2) := by
    have h0 : (x 0).val < 1 := (x 0).isLt
    have h1 : (x 1).val < 1 := (x 1).isLt
    funext a; apply Fin.ext; fin_cases a
    · show (x 0).val = 0; omega
    · show (x 1).val = 0; omega
    · rfl
  refine Eq.trans ?_ ((hG (x 2)).trans (congrArg G (idx_row inb'' r k hoff'' x).symm))
  obtain ⟨d, hd⟩ : ∃ d : Fin 512, x = ix3 (n0 := 1) (n1 := 1) (n2 := 512) 0 0 d := ⟨x 2, hx⟩
  subst hd
  refine (hpay _ _ _ d).trans ?_
  rw [View.readAt_eq_ld, View.readAt_eq_ld, View.ld, View.ld, idx_row inb r k hoff, idx_row inb' r k hoff']
  rfl

/-- A row rectangle lies in the block. -/
theorem inb_row {off : Fin 3 → ℕ} (r : Fin 8) (k : Fin k0_t1_loop.trips) (hoff : off = ![r.val, k.val, 0]) :
    ∀ a, off a + (![1, 1, 512] : Fin 3 → ℕ) a ≤ S8x128x512.size a := by
  have hk := k_lt k
  have hr := r.isLt
  have e0 : off 0 = r.val := by rw [hoff]; rfl
  have e1 : off 1 = k.val := by rw [hoff]; rfl
  have e2 : off 2 = 0 := by rw [hoff]; rfl
  intro a
  fin_cases a
  · show off 0 + 1 ≤ 8; omega
  · show off 1 + 1 ≤ 128; omega
  · show off 2 + 512 ≤ 512; omega

/-- Membership in a row rectangle. -/
theorem mem_row {off : Fin 3 → ℕ} (inb : ∀ a, off a + (![1, 1, 512] : Fin 3 → ℕ) a ≤ S8x128x512.size a) (r k : ℕ)
    (hoff : off = ![r, k, 0]) (y : S8x128x512.Idx) :
    y ∈ (Rect.unit (s := S8x128x512) off ![1, 1, 512] inb).set ↔ (y 0).val = r ∧ (y 1).val = k := by
  have e0 : off 0 = r := by rw [hoff]; rfl
  have e1 : off 1 = k := by rw [hoff]; rfl
  have e2 : off 2 = 0 := by rw [hoff]; rfl
  have h2 : (y 2).val < 512 := (y 2).isLt
  rw [Rect.mem_set_unit]
  constructor
  · intro h
    have h0 := h 0; have h1 := h 1
    simp only [e0, e1] at h0 h1
    have : (![1, 1, 512] : Fin 3 → ℕ) 0 = 1 := rfl
    have : (![1, 1, 512] : Fin 3 → ℕ) 1 = 1 := rfl
    exact ⟨by omega, by omega⟩
  · rintro ⟨h0, h1⟩ a
    fin_cases a
    · show off 0 ≤ (y 0).val ∧ (y 0).val < off 0 + 1; omega
    · show off 1 ≤ (y 1).val ∧ (y 1).val < off 1 + 1; omega
    · show off 2 ≤ (y 2).val ∧ (y 2).val < off 2 + 512; omega

variable (c : Dev nD) (i : grid0.Coords) (a2 : Memref sig .tc .vmem S8x128x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x128x512 .bf16) (z12 : a12.IsWhole) (a13 : Memref sig .tc .vmem S8x1x512 .f32) (z13 : a13.IsWhole) (a14 : Memref sig .tc .vmem S8x3x512 .f32) (z14 : a14.IsWhole) (a15 : Memref sig .tc .vmem S8x136x512 .f32) (z15 : a15.IsWhole) (a16 : Memref sig .tc .vmem S8x128x512 .f32) (z16 : a16.IsWhole) (a17 : Memref sig .tc .vmem S8x128x512 .f32) (z17 : a17.IsWhole) (a18 : Memref sig .tc .vmem S8x1x512 .f32) (z18 : a18.IsWhole)

/-- One trip: the carried rows after it. -/
theorem trip_comp (v101 : FVec Ideal S1x512 .f32) (X : BufTy.Contents (Elt Ideal) a16.view.ty) (k : Fin k0_t1_loop.trips) (acc : C8) (f : BufTy.Contents (Elt Ideal) a17.view.ty)
    (b : Fin 8) (d : Fin 512) :
    comp (tripR_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X k acc f) b (ix2 0 d)
      = a16.view.read (Elt Ideal) X (ix3 b ⟨k.val, k_lt k⟩ d) * comp acc b (ix2 0 d) + a17.view.read (Elt Ideal) f (ix3 b ⟨k.val, k_lt k⟩ d) := by
  unfold tripR_k0_t1 trip_k0_t1
  dsimp only
  sl_unfold_words
  fin_cases b
  · exact row_val k0_pay7 pay7_at _ _ _ 0 ⟨k.val, k_lt k⟩ (off_row 0 k) (off_row 0 k) _ _ X f d
  · exact row_val k0_pay9 pay9_at _ _ _ 1 ⟨k.val, k_lt k⟩ (off_row 1 k) (off_row 1 k) _ _ X f d
  · exact row_val k0_pay11 pay11_at _ _ _ 2 ⟨k.val, k_lt k⟩ (off_row 2 k) (off_row 2 k) _ _ X f d
  · exact row_val k0_pay13 pay13_at _ _ _ 3 ⟨k.val, k_lt k⟩ (off_row 3 k) (off_row 3 k) _ _ X f d
  · exact row_val k0_pay15 pay15_at _ _ _ 4 ⟨k.val, k_lt k⟩ (off_row 4 k) (off_row 4 k) _ _ X f d
  · exact row_val k0_pay17 pay17_at _ _ _ 5 ⟨k.val, k_lt k⟩ (off_row 5 k) (off_row 5 k) _ _ X f d
  · exact row_val (fun h w u => k0_pay43 h (k0_pay19 w) u) pay43_at _ _ _ 6 ⟨k.val, k_lt k⟩ (off_row 6 k) (off_row 6 k) _ _ X f d
  · exact row_val k0_pay45 pay45_at _ _ _ 7 ⟨k.val, k_lt k⟩ (off_row 7 k) (off_row 7 k) _ _ X f d

/-- One trip's stores: row `k` of every batch row, blocks of any array that holds the new rows there. -/
theorem trip_pieces (v101 : FVec Ideal S1x512 .f32) (X : BufTy.Contents (Elt Ideal) a16.view.ty) (k : Fin k0_t1_loop.trips) (acc : C8) (f : BufTy.Contents (Elt Ideal) a17.view.ty)
    (G : S8x128x512.Idx → EReal)
    (hG : ∀ b d, a16.view.read (Elt Ideal) X (ix3 b ⟨k.val, k_lt k⟩ d) * comp acc b (ix2 0 d) + a17.view.read (Elt Ideal) f (ix3 b ⟨k.val, k_lt k⟩ d) = G (ix3 b ⟨k.val, k_lt k⟩ d)) :
    View.PiecesOf G (tripL_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X k acc f)
    ∧ ∀ y : S8x128x512.Idx, (∃ p ∈ tripL_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X k acc f, y ∈ p.1.set) ↔ (y 1).val = k.val := by
  unfold tripL_k0_t1 trip_k0_t1
  dsimp only
  sl_unfold_words
  refine ⟨⟨?_, ?_, ?_, ?_, ?_, ?_, ?_, ?_, trivial⟩, fun y => ?_⟩
  · exact row_piece k0_pay46 pay46_at _ (inb_row 7 k (off_row 7 k)) (inb_row 7 k (off_row 7 k)) (inb_row 7 k (off_row 7 k)) 7 ⟨k.val, k_lt k⟩ (off_row 7 k) (off_row 7 k) (off_row 7 k) _ _ X f G (hG 7)
  · exact row_piece (fun h w u => k0_pay44 h (k0_pay19 w) u) pay44_at _ (inb_row 6 k (off_row 6 k)) (inb_row 6 k (off_row 6 k)) (inb_row 6 k (off_row 6 k)) 6 ⟨k.val, k_lt k⟩ (off_row 6 k) (off_row 6 k) (off_row 6 k) _ _ X f G (hG 6)
  · exact row_piece k0_pay18 pay18_at _ (inb_row 5 k (off_row 5 k)) (inb_row 5 k (off_row 5 k)) (inb_row 5 k (off_row 5 k)) 5 ⟨k.val, k_lt k⟩ (off_row 5 k) (off_row 5 k) (off_row 5 k) _ _ X f G (hG 5)
  · exact row_piece k0_pay16 pay16_at _ (inb_row 4 k (off_row 4 k)) (inb_row 4 k (off_row 4 k)) (inb_row 4 k (off_row 4 k)) 4 ⟨k.val, k_lt k⟩ (off_row 4 k) (off_row 4 k) (off_row 4 k) _ _ X f G (hG 4)
  · exact row_piece k0_pay14 pay14_at _ (inb_row 3 k (off_row 3 k)) (inb_row 3 k (off_row 3 k)) (inb_row 3 k (off_row 3 k)) 3 ⟨k.val, k_lt k⟩ (off_row 3 k) (off_row 3 k) (off_row 3 k) _ _ X f G (hG 3)
  · exact row_piece k0_pay12 pay12_at _ (inb_row 2 k (off_row 2 k)) (inb_row 2 k (off_row 2 k)) (inb_row 2 k (off_row 2 k)) 2 ⟨k.val, k_lt k⟩ (off_row 2 k) (off_row 2 k) (off_row 2 k) _ _ X f G (hG 2)
  · exact row_piece k0_pay10 pay10_at _ (inb_row 1 k (off_row 1 k)) (inb_row 1 k (off_row 1 k)) (inb_row 1 k (off_row 1 k)) 1 ⟨k.val, k_lt k⟩ (off_row 1 k) (off_row 1 k) (off_row 1 k) _ _ X f G (hG 1)
  · exact row_piece k0_pay8 pay8_at _ (inb_row 0 k (off_row 0 k)) (inb_row 0 k (off_row 0 k)) (inb_row 0 k (off_row 0 k)) 0 ⟨k.val, k_lt k⟩ (off_row 0 k) (off_row 0 k) (off_row 0 k) _ _ X f G (hG 0)
  · have hy : (y 0).val < 8 := (y 0).isLt
    simp only [List.mem_cons, List.not_mem_nil, or_false, exists_eq_or_imp, exists_eq_left]
    refine (or_congr (mem_row (inb_row 7 k (off_row 7 k)) 7 k.val (off_row 7 k) y) (or_congr (mem_row (inb_row 6 k (off_row 6 k)) 6 k.val (off_row 6 k) y) (or_congr (mem_row (inb_row 5 k (off_row 5 k)) 5 k.val (off_row 5 k) y) (or_congr (mem_row (inb_row 4 k (off_row 4 k)) 4 k.val (off_row 4 k) y) (or_congr (mem_row (inb_row 3 k (off_row 3 k)) 3 k.val (off_row 3 k) y) (or_congr (mem_row (inb_row 2 k (off_row 2 k)) 2 k.val (off_row 2 k) y) (or_congr (mem_row (inb_row 1 k (off_row 1 k)) 1 k.val (off_row 1 k) y) (mem_row (inb_row 0 k (off_row 0 k)) 0 k.val (off_row 0 k) y)))))))).trans ?_
    omega

/-- A list of pieces none of which holds the index leaves the earlier contents there. -/
theorem read_off (v : View sig .tc .vmem S8x128x512 .f32) (f : v.ty.Contents (Elt Ideal)) (y : S8x128x512.Idx) :
    ∀ L : List (View.Piece (Elt Ideal) S8x128x512 .f32), (¬ ∃ p ∈ L, y ∈ p.1.set) → v.read (Elt Ideal) (v.writes (Elt Ideal) f L) y = v.read (Elt Ideal) f y
  | [], _ => rfl
  | p :: L, h => by
    have h1 : y ∉ Finset.univ.map p.1.emb := by
      rw [Rect.map_emb_univ]; exact fun hy => h ⟨p, List.mem_cons_self, hy⟩
    rw [View.writes_cons, View.read_slice_write_of_not_mem p.1 _ _ _ h1]
    exact read_off v f y L fun ⟨q, hq, hy⟩ => h ⟨q, List.mem_cons_of_mem _ hq, hy⟩

theorem piecesOf_append (G : S8x128x512.Idx → EReal) : ∀ L L' : List (View.Piece (Elt Ideal) S8x128x512 .f32),
    View.PiecesOf (Val := Elt Ideal) G L → View.PiecesOf (Val := Elt Ideal) G L' → View.PiecesOf (Val := Elt Ideal) G (L ++ L')
  | [], _, _, h' => h'
  | _ :: L, L', h, h' => ⟨h.1, piecesOf_append G L L' h.2 h'⟩

/-- Before trip `k`: the carried rows are the recurrence's, and the pieces stored so far are the rows before `k`. -/
theorem loop_inv (v101 : FVec Ideal S1x512 .f32) (X : BufTy.Contents (Elt Ideal) a16.view.ty) (g : BufTy.Contents (Elt Ideal) a17.view.ty) (init : C8)
    (A U : S8x128x512.Idx → EReal) (h0 : Fin 8 → Fin 512 → EReal)
    (hA : a16.view.read (Elt Ideal) X = A) (hU : a17.view.read (Elt Ideal) g = U) (hi : ∀ b d, comp init b (ix2 0 d) = h0 b d) :
    ∀ k : ℕ, k ≤ 128 →
      (∀ b d, comp (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).1 b (ix2 0 d) = hRec A U h0 k b d)
      ∧ View.PiecesOf (Val := Elt Ideal) (hAll A U h0) (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2
      ∧ ∀ y : S8x128x512.Idx, (∃ p ∈ (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2, y ∈ p.1.set) ↔ (y 1).val < k
  | 0, _ => ⟨hi, trivial, fun y => by
      constructor
      · rintro ⟨p, hp, _⟩; exact absurd hp List.not_mem_nil
      · intro h; omega⟩
  | k + 1, hk => by
    obtain ⟨ih1, ih2, ih3⟩ := loop_inv v101 X g init A U h0 hA hU hi k (by omega)
    have ht : k0_t1_loop.trips = 128 := by decide
    have hs := st_k0_t1_succ (F := Ideal) Variants.none c none i a2 z2 a3 z3 a4 z4 a5 z5 a6 z6 a7 z7 a8 z8 a9 z9 a10 z10 a11 z11 a12 z12 a13 z13 a14 z14 a15 z15 a16 z16 a17 z17 a18 z18 v101 X g init ⟨k, by omega⟩
    dsimp only at hs
    rw [hs]
    have hrow : ∀ b d, a17.view.read (Elt Ideal) (a17.view.writes (Elt Ideal) g (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2) (ix3 b ⟨k, by omega⟩ d) = U (ix3 b ⟨k, by omega⟩ d) := by
      intro b d
      rw [read_off _ _ _ _ (by rw [ih3]; exact Nat.lt_irrefl k), hU]
    have hnew : ∀ b d, a16.view.read (Elt Ideal) X (ix3 b ⟨k, by omega⟩ d) * comp (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).1 b (ix2 0 d)
        + a17.view.read (Elt Ideal) (a17.view.writes (Elt Ideal) g (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2) (ix3 b ⟨k, by omega⟩ d) = hRec A U h0 (k + 1) b d := by
      intro b d
      rw [hrow, ih1, hA]
      exact (hRec_succ A U h0 k (by omega) b d).symm
    have hp := trip_pieces c i a2 z2 a3 z3 a4 z4 a5 z5 a6 z6 a7 z7 a8 z8 a9 z9 a10 z10 a11 z11 a12 z12 a13 z13 a14 z14 a15 z15 a16 z16 a17 z17 a18 z18 v101 X ⟨k, by omega⟩ _ (a17.view.writes (Elt Ideal) g (st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 X g init k).2) (hAll A U h0) hnew
    refine ⟨fun b d => ?_, piecesOf_append _ _ _ hp.1 ih2, fun y => ?_⟩
    · rw [trip_comp]; exact hnew b d
    · have := hp.2 y
      have := ih3 y
      simp only [List.mem_append, or_and_right, exists_or]
      rw [hp.2 y, ih3 y]
      dsimp only
      omega

end Cert.Kernel7Ideal.RgpLoop

end
-- ==== Proof.RgpBlock.lean ====
module

public import proofs.«01_k».proof.Proof.RgpLoop
public import proofs.«01_k».proof.Proof.Spec

@[expose] public section

set_option maxRecDepth 16384

noncomputable section

/- The numbers one grid point of the prompt's recurrent unit computes, of the padded rows `P` it reads and the state `h0` it starts from. -/

namespace Cert.Kernel7Ideal.RgpBlock

open Cert.Kernel7Ideal Cert.Kernel7Ideal.Gen Idealize.ShloMosaic Idealize.ShloMosaic.TcCoe Idealize.ShloMosaic.Tactic Idealize.SL.Sem
open Cert.Kernel7Ideal.RgpLoop Cert.RgSpec

/-- The convolution of the block. -/
def cvB (P : Fin 8 → ℕ → Fin 512 → EReal) (x3 : Vec Ideal S4x512 .f32) (x4 : Vec Ideal S1x512 .f32)
    (b : Fin 8) (t : Fin 128) (d : Fin 512) : EReal :=
  cvE (x4 (ix2 0 d)) (P b t.val d) (x3 (ix2 0 d)) (P b (t.val + 1) d) (x3 (ix2 1 d))
    (P b (t.val + 2) d) (x3 (ix2 2 d)) (P b (t.val + 3) d) (x3 (ix2 3 d))

/-- A gate of a row: the logistic of the row's product with a matrix and a bias. -/
def gateE (c : Fin 512 → EReal) (m : Vec Ideal S512x512 .bf16) (b : Vec Ideal S1x512 .f32) (d : Fin 512) : EReal :=
  Ideal.logistic (∑ k : Fin 512, c k * m (ix2 k d) + b (ix2 0 d))

/-- The logarithm of the block's decay. -/
def laB (P : Fin 8 → ℕ → Fin 512 → EReal) (x3 : Vec Ideal S4x512 .f32) (x4 : Vec Ideal S1x512 .f32)
    (x5 : Vec Ideal S512x512 .bf16) (x6 x9 : Vec Ideal S1x512 .f32) (b : Fin 8) (t : Fin 128) (d : Fin 512) : EReal :=
  laE (gateE (cvB P x3 x4 b t) x5 x6 d) (x9 (ix2 0 d))

/-- The block's decay. -/
def aB (P : Fin 8 → ℕ → Fin 512 → EReal) (x3 : Vec Ideal S4x512 .f32) (x4 : Vec Ideal S1x512 .f32)
    (x5 : Vec Ideal S512x512 .bf16) (x6 x9 : Vec Ideal S1x512 .f32) : S8x128x512.Idx → EReal :=
  fun y => Ideal.exp (laB P x3 x4 x5 x6 x9 (y 0) (y 1) (y 2))

/-- The block's input to the recurrence. -/
def uB (P : Fin 8 → ℕ → Fin 512 → EReal) (x3 : Vec Ideal S4x512 .f32) (x4 : Vec Ideal S1x512 .f32)
    (x5 : Vec Ideal S512x512 .bf16) (x6 : Vec Ideal S1x512 .f32) (x7 : Vec Ideal S512x512 .bf16) (x8 x9 : Vec Ideal S1x512 .f32) : S8x128x512.Idx → EReal :=
  fun y => multE (laB P x3 x4 x5 x6 x9 (y 0) (y 1) (y 2))
    * (gateE (cvB P x3 x4 (y 0) (y 1)) x7 x8 (y 2) * cvB P x3 x4 (y 0) (y 1) (y 2))

/-- The recurrence of the block. -/
def hB (P : Fin 8 → ℕ → Fin 512 → EReal) (h0 : Fin 8 → Fin 512 → EReal) (x3 : Vec Ideal S4x512 .f32) (x4 : Vec Ideal S1x512 .f32)
    (x5 : Vec Ideal S512x512 .bf16) (x6 : Vec Ideal S1x512 .f32) (x7 : Vec Ideal S512x512 .bf16) (x8 x9 : Vec Ideal S1x512 .f32) : ℕ → Fin 8 → Fin 512 → EReal :=
  hRec (aB P x3 x4 x5 x6 x9) (uB P x3 x4 x5 x6 x7 x8 x9) h0

theorem hz3 : (![0, 0, 0] : Fin 3 → ℕ) = fun _ => 0 := funext fun a => by fin_cases a <;> rfl
theorem hz2 : (![0, 0] : Fin 2 → ℕ) = fun _ => 0 := funext fun a => by fin_cases a <;> rfl

/-- A row of the taps' weights. -/
theorem row_w (x3 : Vec Ideal S4x512 .f32) (r : Fin 4) (inb : ∀ a, (![r.val, 0] : Fin 2 → ℕ) a + (![1, 512] : Fin 2 → ℕ) a ≤ S4x512.size a) (d : Fin 512) :
    View.ld x3 (Rect.unit (s := S4x512) ![r.val, 0] ![1, 512] inb) (ix2 0 d) = x3 (ix2 r d) := by
  refine View.ld_unit_apply_of x3 _ _ _ _ _ fun a => ?_
  fin_cases a
  · show r.val = r.val + 0; omega
  · show d.val = 0 + d.val; omega

section Values

variable (P : Fin 8 → ℕ → Fin 512 → EReal) (x3 : Vec Ideal S4x512 .f32) (x4 : Vec Ideal S1x512 .f32)
  (x5 : Vec Ideal S512x512 .bf16) (x6 : Vec Ideal S1x512 .f32) (x7 : Vec Ideal S512x512 .bf16) (x8 x9 : Vec Ideal S1x512 .f32)
  (p0 p1 p2 p3 : Vec Ideal S8x128x512 .f32) (w0 w1 w2 w3 : Vec Ideal S1x512 .f32)
  (hp0 : ∀ b t d, p0 (ix3 b t d) = P b (t.val + 0) d) (hp1 : ∀ b t d, p1 (ix3 b t d) = P b (t.val + 1) d)
  (hp2 : ∀ b t d, p2 (ix3 b t d) = P b (t.val + 2) d) (hp3 : ∀ b t d, p3 (ix3 b t d) = P b (t.val + 3) d)
  (hw0 : ∀ d, w0 (ix2 0 d) = x3 (ix2 0 d)) (hw1 : ∀ d, w1 (ix2 0 d) = x3 (ix2 1 d)) (hw2 : ∀ d, w2 (ix2 0 d) = x3 (ix2 2 d)) (hw3 : ∀ d, w3 (ix2 0 d) = x3 (ix2 3 d))

include hp0 hp1 hp2 hp3 hw0 hw1 hw2 hw3

/-- The convolution the kernel computes, row-major over the block's batch rows and time steps. -/
theorem conv_at (j : Fin 1024) (b : Fin 8) (t : Fin 128) (hj : j.val = b.val * 128 + t.val) (d : Fin 512) :
    k0_pay27 (k0_pay24 x4 p0 w0 p1 w1) p2 (k0_pay25 w2) p3 w3 (ix2 j d)
      = cvB P x3 x4 b t d := by
  unfold_payloads
  pointwise [hp0, hp1, hp2, hp3, hw0, hw1, hw2, hw3]
  have ht := t.isLt
  have e1 : j.val / 128 = b.val := by omega
  have e2 : j.val % 128 = t.val := by omega
  simp only [e1, e2]
  rfl

/-- A gate's matrix product. -/
theorem gate_r (j : Fin 1024) (b : Fin 8) (t : Fin 128) (hj : j.val = b.val * 128 + t.val) (d : Fin 512) :
    k0_pay29 (k0_pay24 x4 p0 w0 p1 w1) p2 (k0_pay25 w2) p3 w3 x5 x6 (ix2 j d)
      = gateE (cvB P x3 x4 b t) x5 x6 d := by
  unfold k0_pay29 k0_pay28
  pointwise
  unfold gateE
  simp only [conv_at P x3 x4 p0 p1 p2 p3 w0 w1 w2 w3 hp0 hp1 hp2 hp3 hw0 hw1 hw2 hw3 j b t hj]

theorem dot_i (j : Fin 1024) (b : Fin 8) (t : Fin 128) (hj : j.val = b.val * 128 + t.val) (d : Fin 512) :
    k0_pay30 (k0_pay24 x4 p0 w0 p1 w1) p2 (k0_pay25 w2) p3 w3 x7 (ix2 j d)
      = ∑ k : Fin 512, cvB P x3 x4 b t k * x7 (ix2 k d) := by
  unfold k0_pay30 k0_pay28
  pointwise
  simp only [conv_at P x3 x4 p0 p1 p2 p3 w0 w1 w2 w3 hp0 hp1 hp2 hp3 hw0 hw1 hw2 hw3 j b t hj]

/-- The decay the kernel stores. -/
theorem a_eq :
    k0_pay33 (k0_pay29 (k0_pay24 x4 p0 w0 p1 w1) p2 (k0_pay25 w2) p3 w3 x5 x6) x9 = aB P x3 x4 x5 x6 x9 := by
  funext j
  idx_vars j
  unfold k0_pay33 k0_pay32 k0_pay31
  pointwise
  rw [gate_r P x3 x4 x5 x6 p0 p1 p2 p3 w0 w1 w2 w3 hp0 hp1 hp2 hp3 hw0 hw1 hw2 hw3 _ j0 j1 rfl]
  rfl

/-- The input the kernel stores. -/
theorem u_eq :
    k0_pay34 (k0_pay27 (k0_pay24 x4 p0 w0 p1 w1) p2 (k0_pay25 w2) p3 w3)
      (k0_pay29 (k0_pay24 x4 p0 w0 p1 w1) p2 (k0_pay25 w2) p3 w3 x5 x6)
      (k0_pay30 (k0_pay24 x4 p0 w0 p1 w1) p2 (k0_pay25 w2) p3 w3 x7) x8 x9 = uB P x3 x4 x5 x6 x7 x8 x9 := by
  funext j
  idx_vars j
  unfold k0_pay34 k0_pay32 k0_pay31
  pointwise
  rw [gate_r P x3 x4 x5 x6 p0 p1 p2 p3 w0 w1 w2 w3 hp0 hp1 hp2 hp3 hw0 hw1 hw2 hw3 _ j0 j1 rfl,
    dot_i P x3 x4 x7 p0 p1 p2 p3 w0 w1 w2 w3 hp0 hp1 hp2 hp3 hw0 hw1 hw2 hw3 _ j0 j1 rfl,
    conv_at P x3 x4 p0 p1 p2 p3 w0 w1 w2 w3 hp0 hp1 hp2 hp3 hw0 hw1 hw2 hw3 _ j0 j1 rfl]
  rfl

end Values

theorem pay35_at (w : Vec Ideal S1x1x512 .f32) (d : Fin 512) : k0_pay35 w (ix2 0 d) = w (ix3 0 0 d) := by
  unfold_payloads; pointwise

theorem pay36_at (w : Vec Ideal S1x1x512 .f32) (d : Fin 512) : k0_pay36 w (ix2 0 d) = w (ix3 0 0 d) := by
  unfold_payloads; pointwise

theorem pay37_at (w : Vec Ideal S1x1x512 .f32) (d : Fin 512) : k0_pay37 w (ix2 0 d) = w (ix3 0 0 d) := by
  unfold_payloads; pointwise

theorem pay38_at (w : Vec Ideal S1x1x512 .f32) (d : Fin 512) : k0_pay38 w (ix2 0 d) = w (ix3 0 0 d) := by
  unfold_payloads; pointwise

theorem pay39_at (w : Vec Ideal S1x1x512 .f32) (d : Fin 512) : k0_pay39 w (ix2 0 d) = w (ix3 0 0 d) := by
  unfold_payloads; pointwise

theorem pay40_at (w : Vec Ideal S1x1x512 .f32) (d : Fin 512) : k0_pay40 w (ix2 0 d) = w (ix3 0 0 d) := by
  unfold_payloads; pointwise

theorem pay41_at (w : Vec Ideal S1x1x512 .f32) (d : Fin 512) : k0_pay41 w (ix2 0 d) = w (ix3 0 0 d) := by
  unfold_payloads; pointwise

theorem pay42_at (w : Vec Ideal S1x1x512 .f32) (d : Fin 512) : k0_pay42 w (ix2 0 d) = w (ix3 0 0 d) := by
  unfold_payloads; pointwise

theorem pay47_at (h : FVec Ideal S1x512 .f32) (d : Fin 512) : k0_pay47 h (ix3 0 0 d) = h (ix2 0 d) := by
  unfold_payloads; pointwise

theorem pay49_at (h : FVec Ideal S1x512 .f32) (d : Fin 512) : k0_pay49 h (ix3 0 0 d) = h (ix2 0 d) := by
  unfold_payloads; pointwise

theorem pay51_at (h : FVec Ideal S1x512 .f32) (d : Fin 512) : k0_pay51 h (ix3 0 0 d) = h (ix2 0 d) := by
  unfold_payloads; pointwise

theorem pay53_at (h : FVec Ideal S1x512 .f32) (d : Fin 512) : k0_pay53 h (ix3 0 0 d) = h (ix2 0 d) := by
  unfold_payloads; pointwise

theorem pay55_at (h : FVec Ideal S1x512 .f32) (d : Fin 512) : k0_pay55 h (ix3 0 0 d) = h (ix2 0 d) := by
  unfold_payloads; pointwise

theorem pay1_at (h : FVec Ideal S1x512 .f32) (d : Fin 512) : k0_pay1 h (ix3 0 0 d) = h (ix2 0 d) := by
  unfold_payloads; pointwise

theorem pay3_at (h : FVec Ideal S1x512 .f32) (d : Fin 512) : k0_pay3 h (ix3 0 0 d) = h (ix2 0 d) := by
  unfold_payloads; pointwise

theorem pay5_at (h : FVec Ideal S1x512 .f32) (d : Fin 512) : k0_pay5 h (ix3 0 0 d) = h (ix2 0 d) := by
  unfold_payloads; pointwise

/-- A row read where the last store wrote it. -/
theorem row_hit (r : Fin 8) (inb : ∀ a, (![r.val, 0, 0] : Fin 3 → ℕ) a + (![1, 1, 512] : Fin 3 → ℕ) a ≤ S8x1x512.size a)
    (w : Vec Ideal S1x1x512 .f32) (L : List (View.Piece (Elt Ideal) S8x1x512 .f32)) (d : Fin 512) :
    View.canon ((⟨Rect.unit ![r.val, 0, 0] ![1, 1, 512] inb, w⟩ : View.Piece (Elt Ideal) S8x1x512 .f32) :: L) (ix3 r 0 d) = w (ix3 0 0 d) := by
  have e : (ix3 r 0 d : S8x1x512.Idx) = (Rect.unit (s := S8x1x512) ![r.val, 0, 0] ![1, 1, 512] inb).emb (ix3 0 0 d) := by
    refine funext fun a => Fin.ext (Eq.symm ?_)
    refine (Rect.idx_unit_val (s := S8x1x512) ![r.val, 0, 0] ![1, 1, 512] inb _ a).trans ?_
    fin_cases a
    · show r.val + 0 = r.val; omega
    · show 0 + 0 = 0; omega
    · show 0 + d.val = d.val; omega
  refine (congrArg (View.canon _) e).trans ?_
  exact View.canon_cons_emb (Rect.unit (s := S8x1x512) ![r.val, 0, 0] ![1, 1, 512] inb) w L (ix3 0 0 d : S1x1x512.Idx)

/-- A row another store wrote. -/
theorem row_miss (r b : Fin 8) (hne : b.val ≠ r.val) (inb : ∀ a, (![r.val, 0, 0] : Fin 3 → ℕ) a + (![1, 1, 512] : Fin 3 → ℕ) a ≤ S8x1x512.size a)
    (w : Vec Ideal S1x1x512 .f32) (L : List (View.Piece (Elt Ideal) S8x1x512 .f32)) (d : Fin 512) :
    View.canon ((⟨Rect.unit ![r.val, 0, 0] ![1, 1, 512] inb, w⟩ : View.Piece (Elt Ideal) S8x1x512 .f32) :: L) (ix3 b 0 d) = View.canon L (ix3 b 0 d) := by
  refine View.canon_cons_of_not_mem _ L ?_
  show (ix3 b 0 d : S8x1x512.Idx) ∉ (Rect.unit (s := S8x1x512) ![r.val, 0, 0] ![1, 1, 512] inb).set
  rw [Rect.mem_set_unit]
  intro h
  have h0 := h 0
  have h1 : r.val ≤ b.val := h0.1
  have h2 : b.val < r.val + 1 := h0.2
  omega

end Cert.Kernel7Ideal.RgpBlock

end
-- ==== Proof.RgpOut.lean ====
module

public import proofs.«01_k».proof.Proof.RgpBlock

@[expose] public section

set_option maxRecDepth 16384
set_option maxHeartbeats 1000000

noncomputable section

/-! What one block of the call leaves in its three results and in the rows and the state it carries to the next block,
in terms of the three rows and the state it starts from. -/

namespace Cert.Kernel7Ideal.RgpOut

open Cert.Kernel7Ideal Cert.Kernel7Ideal.Gen Idealize.ShloMosaic Idealize.ShloMosaic.TcCoe Idealize.ShloMosaic.Tactic Idealize.SL.Sem
open Cert.Kernel7Ideal.RgpLoop Cert.Kernel7Ideal.RgpBlock Cert.RgSpec

/-- The three rows before the block, then the block's rows. -/
def padP (hist : Fin 8 → Fin 3 → Fin 512 → EReal) (x0 : Vec Ideal S8x128x512 .f32) (b : Fin 8) (s : ℕ) (d : Fin 512) : EReal :=
  if h : s < 3 then hist b ⟨s, h⟩ d else if h' : s < 131 then x0 (ix3 b ⟨s - 3, by omega⟩ d) else 0

/-- The three rows given to a batch row's first block. -/
def histA (x1 : Vec Ideal S8x3x512 .f32) (b : Fin 8) (s : Fin 3) (d : Fin 512) : EReal := x1 (ix3 b s d)

/-- The three rows the block before left. -/
def histB (xs0 : Vec Ideal S8x136x512 .f32) (b : Fin 8) (s : Fin 3) (d : Fin 512) : EReal :=
  xs0 (ix3 b ⟨5 + s.val, by have := s.isLt; omega⟩ d)

/-- A state held as one row per batch row. -/
def row3 (x2 : Vec Ideal S8x1x512 .f32) (b : Fin 8) (d : Fin 512) : EReal := x2 (ix3 b 0 d)

theorem e23 (x0 : Vec Ideal S8x128x512 .f32) : k0_pay23 (F := Ideal) (View.ld x0 (Rect.unit ![0, 0, 0] ![8, 128, 512] inb_S8x128x512_S8x128x512_0_0_0)) = x0 := by
  rw [View.ld_unit_zero hz3]; funext j; unfold_payloads; idx_vars j; pointwise

theorem e21 (x1 : Vec Ideal S8x3x512 .f32) : k0_pay21 (F := Ideal) (View.ld x1 (Rect.unit ![0, 0, 0] ![8, 3, 512] inb_S8x3x512_S8x3x512_0_0_0)) = x1 := by
  rw [View.ld_unit_zero hz3]; funext j; unfold_payloads; idx_vars j; pointwise

theorem e22 (x2 : Vec Ideal S8x1x512 .f32) : k0_pay22 (F := Ideal) (View.ld x2 (Rect.unit ![0, 0, 0] ![8, 1, 512] inb_S8x1x512_S8x1x512_0_0_0)) = x2 := by
  rw [View.ld_unit_zero hz3]; funext j; unfold_payloads; idx_vars j; pointwise

theorem e26 (w : Vec Ideal S8x8x512 .f32) : k0_pay26 (F := Ideal) w = w := by
  funext j; unfold_payloads; idx_vars j; pointwise

theorem e6 (w : Vec Ideal S8x128x512 .f32) : k0_pay6 (F := Ideal) w = w := by
  funext j; unfold_payloads; idx_vars j; pointwise

/-- The block's own rows in the scratch. -/
abbrev pieceX (x0 : Vec Ideal S8x128x512 .f32) : View.Piece (Elt Ideal) S8x136x512 .f32 :=
  ⟨Rect.unit ![0, 8, 0] ![8, 128, 512] inb_S8x136x512_S8x128x512_0_8_0, k0_pay23 (View.ld x0 (Rect.unit ![0, 0, 0] ![8, 128, 512] inb_S8x128x512_S8x128x512_0_0_0))⟩

/-- The scratch of a batch row's first block. -/
abbrev padA (x0 : Vec Ideal S8x128x512 .f32) (x1 : Vec Ideal S8x3x512 .f32) : List (View.Piece (Elt Ideal) S8x136x512 .f32) :=
  [pieceX x0,
   ⟨Rect.unit ![0, 5, 0] ![8, 3, 512] inb_S8x136x512_S8x3x512_0_5_0, k0_pay21 (View.ld x1 (Rect.unit ![0, 0, 0] ![8, 3, 512] inb_S8x3x512_S8x3x512_0_0_0))⟩,
   ⟨Rect.unit ![0, 0, 0] ![8, 5, 512] inb_S8x136x512_S8x5x512_0_0_0, k0_pay20 (F := Ideal)⟩]

/-- The block's own rows, read where the last store put them. -/
theorem own_at (hist : Fin 8 → Fin 3 → Fin 512 → EReal) (x0 : Vec Ideal S8x128x512 .f32) (L : List (View.Piece (Elt Ideal) S8x136x512 .f32))
    (b : Fin 8) (s : ℕ) (h3 : 3 ≤ s) (hs : s < 131) (d : Fin 512)
    (y : S8x136x512.Idx) (hy0 : (y 0).val = b.val) (hy1 : (y 1).val = 5 + s) (hy2 : (y 2).val = d.val) :
    View.canon (pieceX x0 :: L) y = padP hist x0 b s d := by
  unfold padP pieceX
  rw [e23, dif_neg (by omega), dif_pos hs]
  have hy : y = (Rect.unit (s := S8x136x512) ![0, 8, 0] ![8, 128, 512] inb_S8x136x512_S8x128x512_0_8_0).emb (ix3 b ⟨s - 3, by omega⟩ d) := by
    funext a; apply Fin.ext
    refine Eq.trans ?_ (Rect.idx_unit_val ![0, 8, 0] ![8, 128, 512] _ _ a).symm
    fin_cases a
    · show (y 0).val = 0 + b.val; omega
    · show (y 1).val = 8 + (s - 3); omega
    · show (y 2).val = 0 + d.val; omega
  exact (congrArg (View.canon _) hy).trans (View.canon_cons_emb _ _ _ _)

/-- The first block's scratch at row `5 + s`. -/
theorem padA_at (x0 : Vec Ideal S8x128x512 .f32) (x1 : Vec Ideal S8x3x512 .f32) (b : Fin 8) (s : ℕ) (hs : s < 131) (d : Fin 512)
    (y : S8x136x512.Idx) (hy0 : (y 0).val = b.val) (hy1 : (y 1).val = 5 + s) (hy2 : (y 2).val = d.val) :
    View.canon (padA x0 x1) y = padP (histA x1) x0 b s d := by
  by_cases h : s < 3
  · unfold padP
    rw [dif_pos h, View.canon_cons_of_not_mem]
    · have hy : y = (Rect.unit (s := S8x136x512) ![0, 5, 0] ![8, 3, 512] inb_S8x136x512_S8x3x512_0_5_0).emb (ix3 b ⟨s, h⟩ d) := by
        funext a; apply Fin.ext
        refine Eq.trans ?_ (Rect.idx_unit_val ![0, 5, 0] ![8, 3, 512] _ _ a).symm
        fin_cases a
        · show (y 0).val = 0 + b.val; omega
        · show (y 1).val = 5 + s; omega
        · show (y 2).val = 0 + d.val; omega
      rw [hy, View.canon_cons_emb, e21]
      rfl
    · rw [Rect.mem_set_unit]
      intro hh
      have : 8 ≤ (y 1).val := (hh 1).1
      omega
  · exact own_at _ x0 _ b s (by omega) hs d y hy0 hy1 hy2

/-- A later block's scratch at row `5 + s`. -/
theorem padB_at (v : View sig .tc .vmem S8x136x512 .f32) (f : BufTy.Contents (Elt Ideal) v.ty) (xs0 : Vec Ideal S8x136x512 .f32) (hf : v.read (Elt Ideal) f = xs0)
    (x0 : Vec Ideal S8x128x512 .f32) (b : Fin 8) (s : ℕ) (hs : s < 131) (d : Fin 512)
    (y : S8x136x512.Idx) (hy0 : (y 0).val = b.val) (hy1 : (y 1).val = 5 + s) (hy2 : (y 2).val = d.val) :
    v.read (Elt Ideal) (v.writes (Elt Ideal) f [pieceX x0]) y = padP (histB xs0) x0 b s d := by
  by_cases h : s < 3
  · rw [View.writes_cons]
    refine (View.read_slice_write_of_not_mem _ _ _ _ ?_).trans ?_
    · rw [Rect.map_emb_univ, Rect.mem_set_unit]
      intro hh
      have : 8 ≤ (y 1).val := (hh 1).1
      omega
    · show v.read (Elt Ideal) f y = _
      rw [hf]
      unfold padP histB
      rw [dif_pos h]
      refine congrArg xs0 (funext fun a => Fin.ext ?_)
      fin_cases a
      · exact hy0
      · exact hy1
      · exact hy2
  · rw [View.read_writes_apply_eq_canon v f y [pieceX x0] ⟨_, List.mem_singleton.mpr rfl, ?_⟩]
    · exact own_at _ x0 _ b s (by omega) hs d y hy0 hy1 hy2
    · show y ∈ (Rect.unit (s := S8x136x512) ![0, 8, 0] ![8, 128, 512] inb_S8x136x512_S8x128x512_0_8_0).set
      rw [Rect.mem_set_unit]
      have hb := b.isLt
      have hd := d.isLt
      intro a
      fin_cases a
      · show 0 ≤ (y 0).val ∧ (y 0).val < 0 + 8; omega
      · show 8 ≤ (y 1).val ∧ (y 1).val < 8 + 128; omega
      · show 0 ≤ (y 2).val ∧ (y 2).val < 0 + 512; omega

/-- The coordinates of a run of the scratch's rows. -/
theorem idx_rows (n o : ℕ) (inb : ∀ a, (![0, o, 0] : Fin 3 → ℕ) a + (![8, n, 512] : Fin 3 → ℕ) a ≤ S8x136x512.size a) (b : Fin 8) (t : Fin n) (d : Fin 512) :
    (((Rect.unit (s := S8x136x512) ![0, o, 0] ![8, n, 512] inb).toLoadRect.idx (ix3 b t d)) 0).val = b.val
    ∧ (((Rect.unit (s := S8x136x512) ![0, o, 0] ![8, n, 512] inb).toLoadRect.idx (ix3 b t d)) 1).val = o + t.val
    ∧ (((Rect.unit (s := S8x136x512) ![0, o, 0] ![8, n, 512] inb).toLoadRect.idx (ix3 b t d)) 2).val = d.val := by
  refine ⟨?_, ?_, ?_⟩
  · refine (Rect.idx_unit_val (s := S8x136x512) ![0, o, 0] ![8, n, 512] _ _ 0).trans ?_
    show 0 + b.val = b.val; omega
  · exact Rect.idx_unit_val (s := S8x136x512) ![0, o, 0] ![8, n, 512] _ _ 1
  · refine (Rect.idx_unit_val (s := S8x136x512) ![0, o, 0] ![8, n, 512] _ _ 2).trans ?_
    show 0 + d.val = d.val; omega

/-- A run of the first block's scratch from row `5 + s`. -/
theorem tapA (n s : ℕ) (hs : s + n ≤ 131) (v : View sig .tc .vmem S8x136x512 .f32) (x0 : Vec Ideal S8x128x512 .f32) (x1 : Vec Ideal S8x3x512 .f32)
    (inb : ∀ a, (![0, 5 + s, 0] : Fin 3 → ℕ) a + (![8, n, 512] : Fin 3 → ℕ) a ≤ S8x136x512.size a) (b : Fin 8) (t : Fin n) (d : Fin 512) :
    v.readCov (padA x0 x1) (Rect.unit (s := S8x136x512) ![0, 5 + s, 0] ![8, n, 512] inb).toLoadRect (ix3 b t d) = padP (histA x1) x0 b (t.val + s) d := by
  have ht := t.isLt
  obtain ⟨h0, h1, h2⟩ := idx_rows n (5 + s) inb b t d
  rw [View.readCov_eq_canon']
  exact padA_at x0 x1 b (t.val + s) (by omega) d _ h0 (h1.trans (by omega)) h2

/-- A run of a later block's scratch from row `5 + s`. -/
theorem tapB (n s : ℕ) (hs : s + n ≤ 131) (v : View sig .tc .vmem S8x136x512 .f32) (f : BufTy.Contents (Elt Ideal) v.ty) (xs0 : Vec Ideal S8x136x512 .f32) (hf : v.read (Elt Ideal) f = xs0)
    (x0 : Vec Ideal S8x128x512 .f32)
    (inb : ∀ a, (![0, 5 + s, 0] : Fin 3 → ℕ) a + (![8, n, 512] : Fin 3 → ℕ) a ≤ S8x136x512.size a) (b : Fin 8) (t : Fin n) (d : Fin 512) :
    View.ld (v.read (Elt Ideal) (v.writes (Elt Ideal) f [pieceX x0])) (Rect.unit (s := S8x136x512) ![0, 5 + s, 0] ![8, n, 512] inb) (ix3 b t d) = padP (histB xs0) x0 b (t.val + s) d := by
  have ht := t.isLt
  obtain ⟨h0, h1, h2⟩ := idx_rows n (5 + s) inb b t d
  exact padB_at v f xs0 hf x0 b (t.val + s) (by omega) d _ h0 (h1.trans (by omega)) h2

/-- A run of the block's own rows. -/
theorem tapX (hist : Fin 8 → Fin 3 → Fin 512 → EReal) (n s : ℕ) (h3 : 3 ≤ s) (hs : s + n ≤ 131) (v : View sig .tc .vmem S8x136x512 .f32) (x0 : Vec Ideal S8x128x512 .f32)
    (inb : ∀ a, (![0, 5 + s, 0] : Fin 3 → ℕ) a + (![8, n, 512] : Fin 3 → ℕ) a ≤ S8x136x512.size a) (b : Fin 8) (t : Fin n) (d : Fin 512) :
    v.readCov [pieceX x0] (Rect.unit (s := S8x136x512) ![0, 5 + s, 0] ![8, n, 512] inb).toLoadRect (ix3 b t d) = padP hist x0 b (t.val + s) d := by
  have ht := t.isLt
  obtain ⟨h0, h1, h2⟩ := idx_rows n (5 + s) inb b t d
  rw [View.readCov_eq_canon']
  exact own_at hist x0 [] b (t.val + s) (by omega) (by omega) d _ h0 (h1.trans (by omega)) h2

/-- Rows five to seven, once the last eight rows are stored over the first eight. -/
theorem roll_at (P : Fin 8 → ℕ → Fin 512 → EReal) (w : Vec Ideal S8x8x512 .f32) (L : List (View.Piece (Elt Ideal) S8x136x512 .f32))
    (hw : ∀ (b t : Fin 8) (d : Fin 512), 5 ≤ t.val → w (ix3 b t d) = P b (t.val + 123) d) (b : Fin 8) (s : Fin 3) (d : Fin 512) :
    View.canon ((⟨Rect.unit ![0, 0, 0] ![8, 8, 512] inb_S8x136x512_S8x8x512_0_0_0, k0_pay26 w⟩ : View.Piece (Elt Ideal) S8x136x512 .f32) :: L)
      (ix3 b ⟨5 + s.val, by have := s.isLt; omega⟩ d) = P b (128 + s.val) d := by
  have hs := s.isLt
  have e : (ix3 b ⟨5 + s.val, by omega⟩ d : S8x136x512.Idx) = (Rect.unit (s := S8x136x512) ![0, 0, 0] ![8, 8, 512] inb_S8x136x512_S8x8x512_0_0_0).emb (ix3 b ⟨5 + s.val, by omega⟩ d) := by
    refine funext fun a => Fin.ext (Eq.symm ?_)
    refine (Rect.idx_unit_val (s := S8x136x512) ![0, 0, 0] ![8, 8, 512] _ _ a).trans ?_
    fin_cases a
    · show 0 + b.val = b.val; omega
    · show 0 + (5 + s.val) = 5 + s.val; omega
    · show 0 + d.val = d.val; omega
  refine (congrArg (View.canon _) e).trans ?_
  refine (View.canon_cons_emb (Rect.unit (s := S8x136x512) ![0, 0, 0] ![8, 8, 512] inb_S8x136x512_S8x8x512_0_0_0) _ L (ix3 b ⟨5 + s.val, by omega⟩ d : S8x8x512.Idx)).trans ?_
  rw [e26, hw b ⟨5 + s.val, by omega⟩ d (by show 5 ≤ 5 + s.val; omega)]
  exact congrArg (fun n => P b n d) (by show 5 + s.val + 123 = 128 + s.val; omega)

theorem pay48_at (h : FVec Ideal S1x512 .f32) (d : Fin 512) : k0_pay48 h (ix3 0 0 d) = h (ix2 0 d) := by
  unfold_payloads; pointwise

theorem pay50_at (h : FVec Ideal S1x512 .f32) (d : Fin 512) : k0_pay50 h (ix3 0 0 d) = h (ix2 0 d) := by
  unfold_payloads; pointwise

theorem pay52_at (h : FVec Ideal S1x512 .f32) (d : Fin 512) : k0_pay52 h (ix3 0 0 d) = h (ix2 0 d) := by
  unfold_payloads; pointwise

theorem pay54_at (h : FVec Ideal S1x512 .f32) (d : Fin 512) : k0_pay54 h (ix3 0 0 d) = h (ix2 0 d) := by
  unfold_payloads; pointwise

theorem pay56_at (h : FVec Ideal S1x512 .f32) (d : Fin 512) : k0_pay56 h (ix3 0 0 d) = h (ix2 0 d) := by
  unfold_payloads; pointwise

theorem pay57_at (h : FVec Ideal S1x512 .f32) (d : Fin 512) : k0_pay57 h (ix3 0 0 d) = h (ix2 0 d) := by
  unfold_payloads; pointwise

theorem pay2_at (h : FVec Ideal S1x512 .f32) (d : Fin 512) : k0_pay2 h (ix3 0 0 d) = h (ix2 0 d) := by
  unfold_payloads; pointwise

theorem pay4_at (h : FVec Ideal S1x512 .f32) (d : Fin 512) : k0_pay4 h (ix3 0 0 d) = h (ix2 0 d) := by
  unfold_payloads; pointwise

/-- Eight rows stored one by one. -/
theorem rows8 (w0 w1 w2 w3 w4 w5 w6 w7 : Vec Ideal S1x1x512 .f32) (f : Fin 8 → EReal) (b : Fin 8) (d : Fin 512)
    (h0 : w0 (ix3 0 0 d) = f 0) (h1 : w1 (ix3 0 0 d) = f 1) (h2 : w2 (ix3 0 0 d) = f 2) (h3 : w3 (ix3 0 0 d) = f 3)
    (h4 : w4 (ix3 0 0 d) = f 4) (h5 : w5 (ix3 0 0 d) = f 5) (h6 : w6 (ix3 0 0 d) = f 6) (h7 : w7 (ix3 0 0 d) = f 7) (L : List (View.Piece (Elt Ideal) S8x1x512 .f32)) :
    View.canon ((⟨Rect.unit ![7, 0, 0] ![1, 1, 512] inb_S8x1x512_S1x1x512_7_0_0, w7⟩ : View.Piece (Elt Ideal) S8x1x512 .f32) ::
      (⟨Rect.unit ![6, 0, 0] ![1, 1, 512] inb_S8x1x512_S1x1x512_6_0_0, w6⟩ : View.Piece (Elt Ideal) S8x1x512 .f32) ::
      (⟨Rect.unit ![5, 0, 0] ![1, 1, 512] inb_S8x1x512_S1x1x512_5_0_0, w5⟩ : View.Piece (Elt Ideal) S8x1x512 .f32) ::
      (⟨Rect.unit ![4, 0, 0] ![1, 1, 512] inb_S8x1x512_S1x1x512_4_0_0, w4⟩ : View.Piece (Elt Ideal) S8x1x512 .f32) ::
      (⟨Rect.unit ![3, 0, 0] ![1, 1, 512] inb_S8x1x512_S1x1x512_3_0_0, w3⟩ : View.Piece (Elt Ideal) S8x1x512 .f32) ::
      (⟨Rect.unit ![2, 0, 0] ![1, 1, 512] inb_S8x1x512_S1x1x512_2_0_0, w2⟩ : View.Piece (Elt Ideal) S8x1x512 .f32) ::
      (⟨Rect.unit ![1, 0, 0] ![1, 1, 512] inb_S8x1x512_S1x1x512_1_0_0, w1⟩ : View.Piece (Elt Ideal) S8x1x512 .f32) ::
      (⟨Rect.unit ![0, 0, 0] ![1, 1, 512] inb_S8x1x512_S1x1x512_0_0_0, w0⟩ : View.Piece (Elt Ideal) S8x1x512 .f32) ::
      L) (ix3 b 0 d) = f b := by
  fin_cases b
  · refine (row_miss 7 0 (by decide) inb_S8x1x512_S1x1x512_7_0_0 _ _ d).trans ?_
    refine (row_miss 6 0 (by decide) inb_S8x1x512_S1x1x512_6_0_0 _ _ d).trans ?_
    refine (row_miss 5 0 (by decide) inb_S8x1x512_S1x1x512_5_0_0 _ _ d).trans ?_
    refine (row_miss 4 0 (by decide) inb_S8x1x512_S1x1x512_4_0_0 _ _ d).trans ?_
    refine (row_miss 3 0 (by decide) inb_S8x1x512_S1x1x512_3_0_0 _ _ d).trans ?_
    refine (row_miss 2 0 (by decide) inb_S8x1x512_S1x1x512_2_0_0 _ _ d).trans ?_
    refine (row_miss 1 0 (by decide) inb_S8x1x512_S1x1x512_1_0_0 _ _ d).trans ?_
    exact (row_hit 0 inb_S8x1x512_S1x1x512_0_0_0 _ _ d).trans h0
  · refine (row_miss 7 1 (by decide) inb_S8x1x512_S1x1x512_7_0_0 _ _ d).trans ?_
    refine (row_miss 6 1 (by decide) inb_S8x1x512_S1x1x512_6_0_0 _ _ d).trans ?_
    refine (row_miss 5 1 (by decide) inb_S8x1x512_S1x1x512_5_0_0 _ _ d).trans ?_
    refine (row_miss 4 1 (by decide) inb_S8x1x512_S1x1x512_4_0_0 _ _ d).trans ?_
    refine (row_miss 3 1 (by decide) inb_S8x1x512_S1x1x512_3_0_0 _ _ d).trans ?_
    refine (row_miss 2 1 (by decide) inb_S8x1x512_S1x1x512_2_0_0 _ _ d).trans ?_
    exact (row_hit 1 inb_S8x1x512_S1x1x512_1_0_0 _ _ d).trans h1
  · refine (row_miss 7 2 (by decide) inb_S8x1x512_S1x1x512_7_0_0 _ _ d).trans ?_
    refine (row_miss 6 2 (by decide) inb_S8x1x512_S1x1x512_6_0_0 _ _ d).trans ?_
    refine (row_miss 5 2 (by decide) inb_S8x1x512_S1x1x512_5_0_0 _ _ d).trans ?_
    refine (row_miss 4 2 (by decide) inb_S8x1x512_S1x1x512_4_0_0 _ _ d).trans ?_
    refine (row_miss 3 2 (by decide) inb_S8x1x512_S1x1x512_3_0_0 _ _ d).trans ?_
    exact (row_hit 2 inb_S8x1x512_S1x1x512_2_0_0 _ _ d).trans h2
  · refine (row_miss 7 3 (by decide) inb_S8x1x512_S1x1x512_7_0_0 _ _ d).trans ?_
    refine (row_miss 6 3 (by decide) inb_S8x1x512_S1x1x512_6_0_0 _ _ d).trans ?_
    refine (row_miss 5 3 (by decide) inb_S8x1x512_S1x1x512_5_0_0 _ _ d).trans ?_
    refine (row_miss 4 3 (by decide) inb_S8x1x512_S1x1x512_4_0_0 _ _ d).trans ?_
    exact (row_hit 3 inb_S8x1x512_S1x1x512_3_0_0 _ _ d).trans h3
  · refine (row_miss 7 4 (by decide) inb_S8x1x512_S1x1x512_7_0_0 _ _ d).trans ?_
    refine (row_miss 6 4 (by decide) inb_S8x1x512_S1x1x512_6_0_0 _ _ d).trans ?_
    refine (row_miss 5 4 (by decide) inb_S8x1x512_S1x1x512_5_0_0 _ _ d).trans ?_
    exact (row_hit 4 inb_S8x1x512_S1x1x512_4_0_0 _ _ d).trans h4
  · refine (row_miss 7 5 (by decide) inb_S8x1x512_S1x1x512_7_0_0 _ _ d).trans ?_
    refine (row_miss 6 5 (by decide) inb_S8x1x512_S1x1x512_6_0_0 _ _ d).trans ?_
    exact (row_hit 5 inb_S8x1x512_S1x1x512_5_0_0 _ _ d).trans h5
  · refine (row_miss 7 6 (by decide) inb_S8x1x512_S1x1x512_7_0_0 _ _ d).trans ?_
    exact (row_hit 6 inb_S8x1x512_S1x1x512_6_0_0 _ _ d).trans h6
  · exact (row_hit 7 inb_S8x1x512_S1x1x512_7_0_0 _ _ d).trans h7

/-- A row of a state. -/
theorem init_ld (x : Vec Ideal S8x1x512 .f32) (r : Fin 8)
    (inb : ∀ a, (![r.val, 0, 0] : Fin 3 → ℕ) a + (![1, 1, 512] : Fin 3 → ℕ) a ≤ S8x1x512.size a) (d : Fin 512) :
    View.ld x (Rect.unit (s := S8x1x512) ![r.val, 0, 0] ![1, 1, 512] inb) (ix3 0 0 d) = row3 x r d := by
  refine View.ld_unit_apply_of x _ _ _ _ _ fun a => ?_
  fin_cases a
  · show r.val = r.val + 0; omega
  · show 0 = 0 + 0; omega
  · show d.val = 0 + d.val; omega

/-- A row of the state a first block starts from. -/
theorem init_cov (v : View sig .tc .vmem S8x1x512 .f32) (x2 : Vec Ideal S8x1x512 .f32) (r : Fin 8)
    (inb : ∀ a, (![r.val, 0, 0] : Fin 3 → ℕ) a + (![1, 1, 512] : Fin 3 → ℕ) a ≤ S8x1x512.size a) (d : Fin 512) :
    v.readCov [(⟨Rect.unit ![0, 0, 0] ![8, 1, 512] inb_S8x1x512_S8x1x512_0_0_0, k0_pay22 (View.ld x2 (Rect.unit ![0, 0, 0] ![8, 1, 512] inb_S8x1x512_S8x1x512_0_0_0))⟩ : View.Piece (Elt Ideal) S8x1x512 .f32)]
      (Rect.unit (s := S8x1x512) ![r.val, 0, 0] ![1, 1, 512] inb).toLoadRect (ix3 0 0 d) = row3 x2 r d := by
  rw [View.readCov_eq_canon', e22, View.canon_unit_zero hz3]
  refine congrArg x2 (funext fun a => Fin.ext ?_)
  refine (Rect.idx_unit_val (s := S8x1x512) ![r.val, 0, 0] ![1, 1, 512] _ _ a).trans ?_
  fin_cases a
  · show r.val + 0 = r.val; omega
  · show 0 + 0 = 0; omega
  · show 0 + d.val = d.val; omega

/-- The eight rows the loop starts from. -/
theorem init_rows (f : Fin 8 → Fin 512 → EReal) (w0 w1 w2 w3 w4 w5 w6 w7 : Vec Ideal S1x1x512 .f32)
    (h0 : ∀ d, w0 (ix3 0 0 d) = f 0 d) (h1 : ∀ d, w1 (ix3 0 0 d) = f 1 d) (h2 : ∀ d, w2 (ix3 0 0 d) = f 2 d) (h3 : ∀ d, w3 (ix3 0 0 d) = f 3 d)
    (h4 : ∀ d, w4 (ix3 0 0 d) = f 4 d) (h5 : ∀ d, w5 (ix3 0 0 d) = f 5 d) (h6 : ∀ d, w6 (ix3 0 0 d) = f 6 d) (h7 : ∀ d, w7 (ix3 0 0 d) = f 7 d)
    (b : Fin 8) (d : Fin 512) :
    comp (k0_pay35 w0, k0_pay36 w1, k0_pay37 w2, k0_pay38 w3, k0_pay39 w4, k0_pay40 w5, k0_pay41 w6, k0_pay42 w7) b (ix2 0 d) = f b d := by
  fin_cases b
  · exact (pay35_at _ d).trans (h0 d)
  · exact (pay36_at _ d).trans (h1 d)
  · exact (pay37_at _ d).trans (h2 d)
  · exact (pay38_at _ d).trans (h3 d)
  · exact (pay39_at _ d).trans (h4 d)
  · exact (pay40_at _ d).trans (h5 d)
  · exact (pay41_at _ d).trans (h6 d)
  · exact (pay42_at _ d).trans (h7 d)

/-- The loop runs over the block's hundred and twenty-eight steps. -/
theorem trips128 : Scf.trips (0#32) (Scalar.addi 0#32 128#32) 1#32 = 128 := by decide

variable (c : Dev nD) (i : grid0.Coords) (a2 : Memref sig .tc .vmem S8x128x512 .f32) (z2 : a2.IsWhole) (a3 : Memref sig .tc .vmem S8x3x512 .f32) (z3 : a3.IsWhole) (a4 : Memref sig .tc .vmem S8x1x512 .f32) (z4 : a4.IsWhole) (a5 : Memref sig .tc .vmem S4x512 .f32) (z5 : a5.IsWhole) (a6 : Memref sig .tc .vmem S1x512 .f32) (z6 : a6.IsWhole) (a7 : Memref sig .tc .vmem S512x512 .bf16) (z7 : a7.IsWhole) (a8 : Memref sig .tc .vmem S1x512 .f32) (z8 : a8.IsWhole) (a9 : Memref sig .tc .vmem S512x512 .bf16) (z9 : a9.IsWhole) (a10 : Memref sig .tc .vmem S1x512 .f32) (z10 : a10.IsWhole) (a11 : Memref sig .tc .vmem S1x512 .f32) (z11 : a11.IsWhole) (a12 : Memref sig .tc .vmem S8x128x512 .bf16) (z12 : a12.IsWhole) (a13 : Memref sig .tc .vmem S8x1x512 .f32) (z13 : a13.IsWhole) (a14 : Memref sig .tc .vmem S8x3x512 .f32) (z14 : a14.IsWhole) (a15 : Memref sig .tc .vmem S8x136x512 .f32) (z15 : a15.IsWhole) (a16 : Memref sig .tc .vmem S8x128x512 .f32) (z16 : a16.IsWhole) (a17 : Memref sig .tc .vmem S8x128x512 .f32) (z17 : a17.IsWhole) (a18 : Memref sig .tc .vmem S8x1x512 .f32) (z18 : a18.IsWhole)
  (x0 : Vec Ideal S8x128x512 .f32) (x1 : Vec Ideal S8x3x512 .f32) (x2 : Vec Ideal S8x1x512 .f32) (x3 : Vec Ideal S4x512 .f32) (x4 : Vec Ideal S1x512 .f32)
  (x5 : Vec Ideal S512x512 .bf16) (x6 : Vec Ideal S1x512 .f32) (x7 : Vec Ideal S512x512 .bf16) (x8 x9 : Vec Ideal S1x512 .f32)

/-- What the loop over the rows leaves, from a start, over a block and the taps around it. -/
abbrev endSt (v101 : FVec Ideal S1x512 .f32) (init : C8) (p0 p1 p2 p3 : Vec Ideal S8x128x512 .f32) :=
  st_k0_t1 (F := Ideal) Variants.none c none i a2 z2 a3 z3 a4 z4 a5 z5 a6 z6 a7 z7 a8 z8 a9 z9 a10 z10 a11 z11 a12 z12 a13 z13 a14 z14 a15 z15 a16 z16 a17 z17 a18 z18 v101 (a16.view.writes (Elt Ideal) a16.view.junk [⟨Rect.unit ![0, 0, 0] ![8, 128, 512] inb_S8x128x512_S8x128x512_0_0_0, k0_pay33 (k0_pay29 (k0_pay24 x4 p0 (View.ld x3 (Rect.unit (s := S4x512) ![0, 0] ![1, 512] inb_S4x512_S1x512_0_0)) p1 (View.ld x3 (Rect.unit (s := S4x512) ![1, 0] ![1, 512] inb_S4x512_S1x512_1_0))) p2 (k0_pay25 (View.ld x3 (Rect.unit (s := S4x512) ![2, 0] ![1, 512] inb_S4x512_S1x512_2_0))) p3 (View.ld x3 (Rect.unit (s := S4x512) ![3, 0] ![1, 512] inb_S4x512_S1x512_3_0)) x5 x6) x9⟩]) (a17.view.writes (Elt Ideal) a17.view.junk [⟨Rect.unit ![0, 0, 0] ![8, 128, 512] inb_S8x128x512_S8x128x512_0_0_0, k0_pay34 (k0_pay27 (k0_pay24 x4 p0 (View.ld x3 (Rect.unit (s := S4x512) ![0, 0] ![1, 512] inb_S4x512_S1x512_0_0)) p1 (View.ld x3 (Rect.unit (s := S4x512) ![1, 0] ![1, 512] inb_S4x512_S1x512_1_0))) p2 (k0_pay25 (View.ld x3 (Rect.unit (s := S4x512) ![2, 0] ![1, 512] inb_S4x512_S1x512_2_0))) p3 (View.ld x3 (Rect.unit (s := S4x512) ![3, 0] ![1, 512] inb_S4x512_S1x512_3_0))) (k0_pay29 (k0_pay24 x4 p0 (View.ld x3 (Rect.unit (s := S4x512) ![0, 0] ![1, 512] inb_S4x512_S1x512_0_0)) p1 (View.ld x3 (Rect.unit (s := S4x512) ![1, 0] ![1, 512] inb_S4x512_S1x512_1_0))) p2 (k0_pay25 (View.ld x3 (Rect.unit (s := S4x512) ![2, 0] ![1, 512] inb_S4x512_S1x512_2_0))) p3 (View.ld x3 (Rect.unit (s := S4x512) ![3, 0] ![1, 512] inb_S4x512_S1x512_3_0)) x5 x6) (k0_pay30 (k0_pay24 x4 p0 (View.ld x3 (Rect.unit (s := S4x512) ![0, 0] ![1, 512] inb_S4x512_S1x512_0_0)) p1 (View.ld x3 (Rect.unit (s := S4x512) ![1, 0] ![1, 512] inb_S4x512_S1x512_1_0))) p2 (k0_pay25 (View.ld x3 (Rect.unit (s := S4x512) ![2, 0] ![1, 512] inb_S4x512_S1x512_2_0))) p3 (View.ld x3 (Rect.unit (s := S4x512) ![3, 0] ![1, 512] inb_S4x512_S1x512_3_0)) x7) x8 x9⟩]) init (Scf.trips (0#32) (Scalar.addi 0#32 128#32) 1#32)

/-- What the loop carries and writes, over the rows `P` and from the state `h0`. -/
theorem loop_end (P : Fin 8 → ℕ → Fin 512 → EReal) (h0 : Fin 8 → Fin 512 → EReal) (v101 : FVec Ideal S1x512 .f32) (init : C8) (p0 p1 p2 p3 : Vec Ideal S8x128x512 .f32)
    (hp0 : ∀ b t d, p0 (ix3 b t d) = P b (t.val + 0) d) (hp1 : ∀ b t d, p1 (ix3 b t d) = P b (t.val + 1) d)
    (hp2 : ∀ b t d, p2 (ix3 b t d) = P b (t.val + 2) d) (hp3 : ∀ b t d, p3 (ix3 b t d) = P b (t.val + 3) d)
    (hi : ∀ b d, comp init b (ix2 0 d) = h0 b d) :
    (∀ b d, comp (endSt c i a2 z2 a3 z3 a4 z4 a5 z5 a6 z6 a7 z7 a8 z8 a9 z9 a10 z10 a11 z11 a12 z12 a13 z13 a14 z14 a15 z15 a16 z16 a17 z17 a18 z18 x3 x4 x5 x6 x7 x8 x9 v101 init p0 p1 p2 p3).1 b (ix2 0 d) = hB P h0 x3 x4 x5 x6 x7 x8 x9 128 b d)
    ∧ ∀ (L : List (View.Piece (Elt Ideal) S8x128x512 .f32)) (b : Fin 8) (t : Fin 128) (d : Fin 512), View.canon ((endSt c i a2 z2 a3 z3 a4 z4 a5 z5 a6 z6 a7 z7 a8 z8 a9 z9 a10 z10 a11 z11 a12 z12 a13 z13 a14 z14 a15 z15 a16 z16 a17 z17 a18 z18 x3 x4 x5 x6 x7 x8 x9 v101 init p0 p1 p2 p3).2 ++ L) (ix3 b t d) = hB P h0 x3 x4 x5 x6 x7 x8 x9 (t.val + 1) b d := by
  unfold endSt
  have hA := a_eq P x3 x4 x5 x6 x9 p0 p1 p2 p3 (View.ld x3 (Rect.unit (s := S4x512) ![0, 0] ![1, 512] inb_S4x512_S1x512_0_0)) (View.ld x3 (Rect.unit (s := S4x512) ![1, 0] ![1, 512] inb_S4x512_S1x512_1_0)) (View.ld x3 (Rect.unit (s := S4x512) ![2, 0] ![1, 512] inb_S4x512_S1x512_2_0)) (View.ld x3 (Rect.unit (s := S4x512) ![3, 0] ![1, 512] inb_S4x512_S1x512_3_0)) hp0 hp1 hp2 hp3 (row_w x3 0 inb_S4x512_S1x512_0_0) (row_w x3 1 inb_S4x512_S1x512_1_0) (row_w x3 2 inb_S4x512_S1x512_2_0) (row_w x3 3 inb_S4x512_S1x512_3_0)
  have hU := u_eq P x3 x4 x5 x6 x7 x8 x9 p0 p1 p2 p3 (View.ld x3 (Rect.unit (s := S4x512) ![0, 0] ![1, 512] inb_S4x512_S1x512_0_0)) (View.ld x3 (Rect.unit (s := S4x512) ![1, 0] ![1, 512] inb_S4x512_S1x512_1_0)) (View.ld x3 (Rect.unit (s := S4x512) ![2, 0] ![1, 512] inb_S4x512_S1x512_2_0)) (View.ld x3 (Rect.unit (s := S4x512) ![3, 0] ![1, 512] inb_S4x512_S1x512_3_0)) hp0 hp1 hp2 hp3 (row_w x3 0 inb_S4x512_S1x512_0_0) (row_w x3 1 inb_S4x512_S1x512_1_0) (row_w x3 2 inb_S4x512_S1x512_2_0) (row_w x3 3 inb_S4x512_S1x512_3_0)
  rw [hA, hU, trips128]
  have hinv := loop_inv c i a2 z2 a3 z3 a4 z4 a5 z5 a6 z6 a7 z7 a8 z8 a9 z9 a10 z10 a11 z11 a12 z12 a13 z13 a14 z14 a15 z15 a16 z16 a17 z17 a18 z18 v101 (a16.view.writes (Elt Ideal) a16.view.junk [⟨Rect.unit ![0, 0, 0] ![8, 128, 512] inb_S8x128x512_S8x128x512_0_0_0, aB P x3 x4 x5 x6 x9⟩]) (a17.view.writes (Elt Ideal) a17.view.junk [⟨Rect.unit ![0, 0, 0] ![8, 128, 512] inb_S8x128x512_S8x128x512_0_0_0, uB P x3 x4 x5 x6 x7 x8 x9⟩]) init (aB P x3 x4 x5 x6 x9) (uB P x3 x4 x5 x6 x7 x8 x9) h0
    (by rw [View.read_writes_junk_eq_canon, View.canon_unit_zero hz3]) (by rw [View.read_writes_junk_eq_canon, View.canon_unit_zero hz3]) hi 128 (le_refl 128)
  exact ⟨hinv.1, fun L b t d => View.canon_append_of_piecesOf (hAll _ _ _) _ _ hinv.2.1 (ix3 b t d) ((hinv.2.2 _).2 t.isLt)⟩

variable (xs0 : Vec Ideal S8x136x512 .f32) (xs3 : Vec Ideal S8x1x512 .f32)

/-- The block's last three rows. -/
theorem out12A (hc0 : cond0_0 i) (b : Fin 8) (s : Fin 3) (d : Fin 512) :
    out0_A_12 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b s d) = padP (histA x1) x0 b (128 + s.val) d := by
  unfold out0_A_12
  rw [View.read_writes_eq_canon _ _ _ (fun _ => cover0_A_12 ..)]
  unfold kernelRun0_A
  dsimp only
  sl_unfold_words
  simp only [View.readAt_eq_ld, z2.read_unread, z3.read_unread, z4.read_unread, z5.read_unread, z6.read_unread, z7.read_unread, z8.read_unread, z9.read_unread, z10.read_unread, z11.read_unread]
  rw [View.canon_unit_zero hz3]
  exact (tapA 3 128 (by omega) a15.view x0 x1 inb_S8x136x512_S8x3x512_0_133_0 b s d).trans (congrArg (fun n => padP (histA x1) x0 b n d) (Nat.add_comm _ _))

/-- The three rows the block leaves for the next. -/
theorem sout0A (hc0 : cond0_0 i) (b : Fin 8) (s : Fin 3) (d : Fin 512) :
    sout0_A_0 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b ⟨5 + s.val, by have := s.isLt; omega⟩ d) = padP (histA x1) x0 b (128 + s.val) d := by
  unfold sout0_A_0
  rw [View.read_writes_eq_canon _ _ _ (fun _ => scover0_A_0 ..)]
  unfold kernelRun0_A
  dsimp only
  sl_unfold_words
  simp only [View.readAt_eq_ld, z2.read_unread, z3.read_unread, z4.read_unread, z5.read_unread, z6.read_unread, z7.read_unread, z8.read_unread, z9.read_unread, z10.read_unread, z11.read_unread]
  exact roll_at (padP (histA x1) x0) _ _ (fun b t d _ => tapA 8 123 (by omega) a15.view x0 x1 inb_S8x136x512_S8x8x512_0_128_0 b t d) b s d

/-- What the block stores: its states, its last states, and the states it leaves for the next. -/
theorem outsA (hc0 : cond0_0 i) :
    (∀ (b : Fin 8) (t : Fin 128) (d : Fin 512), out0_A_10 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b t d) = hB (padP (histA x1) x0) (row3 x2) x3 x4 x5 x6 x7 x8 x9 (t.val + 1) b d)
    ∧ (∀ (b : Fin 8) (d : Fin 512), out0_A_11 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b 0 d) = hB (padP (histA x1) x0) (row3 x2) x3 x4 x5 x6 x7 x8 x9 128 b d)
    ∧ ∀ (b : Fin 8) (d : Fin 512), sout0_A_3 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 (ix3 b 0 d) = hB (padP (histA x1) x0) (row3 x2) x3 x4 x5 x6 x7 x8 x9 128 b d := by
  have LE := loop_end c i a2 z2 a3 z3 a4 z4 a5 z5 a6 z6 a7 z7 a8 z8 a9 z9 a10 z10 a11 z11 a12 z12 a13 z13 a14 z14 a15 z15 a16 z16 a17 z17 a18 z18 x3 x4 x5 x6 x7 x8 x9 (padP (histA x1) x0) (row3 x2) (k0_pay35 (a18.view.readCov [(⟨Rect.unit ![0, 0, 0] ![8, 1, 512] inb_S8x1x512_S8x1x512_0_0_0, k0_pay22 (View.ld x2 (Rect.unit ![0, 0, 0] ![8, 1, 512] inb_S8x1x512_S8x1x512_0_0_0))⟩ : View.Piece (Elt Ideal) S8x1x512 .f32)] (Rect.unit (s := S8x1x512) ![0, 0, 0] ![1, 1, 512] inb_S8x1x512_S1x1x512_0_0_0).toLoadRect)) _ (a15.view.readCov (padA x0 x1) (Rect.unit (s := S8x136x512) ![0, 5, 0] ![8, 128, 512] inb_S8x136x512_S8x128x512_0_5_0).toLoadRect) (a15.view.readCov (padA x0 x1) (Rect.unit (s := S8x136x512) ![0, 6, 0] ![8, 128, 512] inb_S8x136x512_S8x128x512_0_6_0).toLoadRect) (a15.view.readCov (padA x0 x1) (Rect.unit (s := S8x136x512) ![0, 7, 0] ![8, 128, 512] inb_S8x136x512_S8x128x512_0_7_0).toLoadRect) (a15.view.readCov (padA x0 x1) (Rect.unit (s := S8x136x512) ![0, 8, 0] ![8, 128, 512] inb_S8x136x512_S8x128x512_0_8_0).toLoadRect) (tapA 128 0 (by omega) a15.view x0 x1 inb_S8x136x512_S8x128x512_0_5_0) (tapA 128 1 (by omega) a15.view x0 x1 inb_S8x136x512_S8x128x512_0_6_0) (tapA 128 2 (by omega) a15.view x0 x1 inb_S8x136x512_S8x128x512_0_7_0) (tapA 128 3 (by omega) a15.view x0 x1 inb_S8x136x512_S8x128x512_0_8_0) (init_rows (row3 x2) _ _ _ _ _ _ _ _ (init_cov a18.view x2 0 inb_S8x1x512_S1x1x512_0_0_0) (init_cov a18.view x2 1 inb_S8x1x512_S1x1x512_1_0_0) (init_cov a18.view x2 2 inb_S8x1x512_S1x1x512_2_0_0) (init_cov a18.view x2 3 inb_S8x1x512_S1x1x512_3_0_0) (init_cov a18.view x2 4 inb_S8x1x512_S1x1x512_4_0_0) (init_cov a18.view x2 5 inb_S8x1x512_S1x1x512_5_0_0) (init_cov a18.view x2 6 inb_S8x1x512_S1x1x512_6_0_0) (init_cov a18.view x2 7 inb_S8x1x512_S1x1x512_7_0_0))
  refine ⟨fun b t d => ?_, fun b d => ?_, fun b d => ?_⟩
  · unfold out0_A_10
    rw [View.read_writes_eq_canon _ _ _ (fun _ => cover0_A_10 ..)]
    unfold kernelRun0_A
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    rw [View.canon_unit_zero hz3, e6, View.readCov_eq_canon']
    have hy : (Rect.unit (s := S8x128x512) ![0, 0, 0] ![8, 128, 512] inb_S8x128x512_S8x128x512_0_0_0).toLoadRect.idx (ix3 b t d) = ix3 b t d := by
      refine funext fun a => Fin.ext ?_
      refine (Rect.idx_unit_val (s := S8x128x512) ![0, 0, 0] ![8, 128, 512] _ _ a).trans ?_
      fin_cases a
      · show 0 + b.val = b.val; omega
      · show 0 + t.val = t.val; omega
      · show 0 + d.val = d.val; omega
    refine (congrArg (View.canon _) hy).trans ?_
    exact LE.2 _ b t d
  · unfold out0_A_11
    rw [View.read_writes_eq_canon _ _ _ (fun _ => cover0_A_11 ..)]
    unfold kernelRun0_A
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    have hfin := LE.1
    exact rows8 _ _ _ _ _ _ _ _ (fun b => hB (padP (histA x1) x0) (row3 x2) x3 x4 x5 x6 x7 x8 x9 128 b d) b d
      ((pay47_at _ d).trans (hfin 0 d)) ((pay49_at _ d).trans (hfin 1 d)) ((pay51_at _ d).trans (hfin 2 d)) ((pay53_at _ d).trans (hfin 3 d)) ((pay55_at _ d).trans (hfin 4 d)) ((pay57_at _ d).trans (hfin 5 d)) ((pay2_at _ d).trans (hfin 6 d)) ((pay4_at _ d).trans (hfin 7 d)) _
  · unfold sout0_A_3
    rw [View.read_writes_eq_canon _ _ _ (fun _ => scover0_A_3 ..)]
    unfold kernelRun0_A
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    have hfin := LE.1
    exact rows8 _ _ _ _ _ _ _ _ (fun b => hB (padP (histA x1) x0) (row3 x2) x3 x4 x5 x6 x7 x8 x9 128 b d) b d
      ((pay48_at _ d).trans (hfin 0 d)) ((pay50_at _ d).trans (hfin 1 d)) ((pay52_at _ d).trans (hfin 2 d)) ((pay54_at _ d).trans (hfin 3 d)) ((pay56_at _ d).trans (hfin 4 d)) ((pay1_at _ d).trans (hfin 5 d)) ((pay3_at _ d).trans (hfin 6 d)) ((pay5_at _ d).trans (hfin 7 d)) _

/-- The block's last three rows. -/
theorem out12B (hc0 : ¬cond0_0 i) (b : Fin 8) (s : Fin 3) (d : Fin 512) :
    out0_B_12 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3 (ix3 b s d) = padP (histB xs0) x0 b (128 + s.val) d := by
  unfold out0_B_12
  rw [View.read_writes_eq_canon _ _ _ (fun _ => cover0_B_12 ..)]
  unfold kernelRun0_B
  dsimp only
  sl_unfold_words
  simp only [View.readAt_eq_ld, z2.read_unread, z3.read_unread, z4.read_unread, z5.read_unread, z6.read_unread, z7.read_unread, z8.read_unread, z9.read_unread, z10.read_unread, z11.read_unread]
  rw [View.canon_unit_zero hz3]
  exact (tapX (histB xs0) 3 128 (by omega) (by omega) a15.view x0 inb_S8x136x512_S8x3x512_0_133_0 b s d).trans (congrArg (fun n => padP (histB xs0) x0 b n d) (Nat.add_comm _ _))

/-- The three rows the block leaves for the next. -/
theorem sout0B (hc0 : ¬cond0_0 i) (b : Fin 8) (s : Fin 3) (d : Fin 512) :
    sout0_B_0 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3 (ix3 b ⟨5 + s.val, by have := s.isLt; omega⟩ d) = padP (histB xs0) x0 b (128 + s.val) d := by
  unfold sout0_B_0
  rw [View.read_writes_eq_canon _ _ _ (fun _ => scover0_B_0 ..)]
  unfold kernelRun0_B
  dsimp only
  sl_unfold_words
  simp only [View.readAt_eq_ld, z2.read_unread, z3.read_unread, z4.read_unread, z5.read_unread, z6.read_unread, z7.read_unread, z8.read_unread, z9.read_unread, z10.read_unread, z11.read_unread]
  exact roll_at (padP (histB xs0) x0) _ _ (fun b t d _ => tapX (histB xs0) 8 123 (by omega) (by omega) a15.view x0 inb_S8x136x512_S8x8x512_0_128_0 b t d) b s d

/-- What the block stores: its states, its last states, and the states it leaves for the next. -/
theorem outsB (hc0 : ¬cond0_0 i) :
    (∀ (b : Fin 8) (t : Fin 128) (d : Fin 512), out0_B_10 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3 (ix3 b t d) = hB (padP (histB xs0) x0) (row3 xs3) x3 x4 x5 x6 x7 x8 x9 (t.val + 1) b d)
    ∧ (∀ (b : Fin 8) (d : Fin 512), out0_B_11 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3 (ix3 b 0 d) = hB (padP (histB xs0) x0) (row3 xs3) x3 x4 x5 x6 x7 x8 x9 128 b d)
    ∧ ∀ (b : Fin 8) (d : Fin 512), sout0_B_3 (F := Ideal) c i a2 z2 a3 z3 a4 z4 a5 z5 a6 z6 a7 z7 a8 z8 a9 z9 a10 z10 a11 z11 a12 z12 a13 z13 a14 z14 a15 z15 a16 z16 a17 z17 a18 z18 hc0 x0 x1 x2 x3 x4 x5 x6 x7 x8 x9 xs0 xs3 (ix3 b 0 d) = hB (padP (histB xs0) x0) (row3 xs3) x3 x4 x5 x6 x7 x8 x9 128 b d := by
  have LE := loop_end c i a2 z2 a3 z3 a4 z4 a5 z5 a6 z6 a7 z7 a8 z8 a9 z9 a10 z10 a11 z11 a12 z12 a13 z13 a14 z14 a15 z15 a16 z16 a17 z17 a18 z18 x3 x4 x5 x6 x7 x8 x9 (padP (histB xs0) x0) (row3 xs3) (k0_pay35 (View.ld xs3 (Rect.unit (s := S8x1x512) ![0, 0, 0] ![1, 1, 512] inb_S8x1x512_S1x1x512_0_0_0))) _ (View.ld (a15.view.read (Elt Ideal) (a15.view.writes (Elt Ideal) (z15.unread xs0) [pieceX x0])) (Rect.unit (s := S8x136x512) ![0, 5, 0] ![8, 128, 512] inb_S8x136x512_S8x128x512_0_5_0)) (View.ld (a15.view.read (Elt Ideal) (a15.view.writes (Elt Ideal) (z15.unread xs0) [pieceX x0])) (Rect.unit (s := S8x136x512) ![0, 6, 0] ![8, 128, 512] inb_S8x136x512_S8x128x512_0_6_0)) (View.ld (a15.view.read (Elt Ideal) (a15.view.writes (Elt Ideal) (z15.unread xs0) [pieceX x0])) (Rect.unit (s := S8x136x512) ![0, 7, 0] ![8, 128, 512] inb_S8x136x512_S8x128x512_0_7_0)) (a15.view.readCov [pieceX x0] (Rect.unit (s := S8x136x512) ![0, 8, 0] ![8, 128, 512] inb_S8x136x512_S8x128x512_0_8_0).toLoadRect) (tapB 128 0 (by omega) a15.view (z15.unread xs0) xs0 (z15.read_unread xs0) x0 inb_S8x136x512_S8x128x512_0_5_0) (tapB 128 1 (by omega) a15.view (z15.unread xs0) xs0 (z15.read_unread xs0) x0 inb_S8x136x512_S8x128x512_0_6_0) (tapB 128 2 (by omega) a15.view (z15.unread xs0) xs0 (z15.read_unread xs0) x0 inb_S8x136x512_S8x128x512_0_7_0) (tapX (histB xs0) 128 3 (by omega) (by omega) a15.view x0 inb_S8x136x512_S8x128x512_0_8_0) (init_rows (row3 xs3) _ _ _ _ _ _ _ _ (init_ld xs3 0 inb_S8x1x512_S1x1x512_0_0_0) (init_ld xs3 1 inb_S8x1x512_S1x1x512_1_0_0) (init_ld xs3 2 inb_S8x1x512_S1x1x512_2_0_0) (init_ld xs3 3 inb_S8x1x512_S1x1x512_3_0_0) (init_ld xs3 4 inb_S8x1x512_S1x1x512_4_0_0) (init_ld xs3 5 inb_S8x1x512_S1x1x512_5_0_0) (init_ld xs3 6 inb_S8x1x512_S1x1x512_6_0_0) (init_ld xs3 7 inb_S8x1x512_S1x1x512_7_0_0))
  refine ⟨fun b t d => ?_, fun b d => ?_, fun b d => ?_⟩
  · unfold out0_B_10
    rw [View.read_writes_eq_canon _ _ _ (fun _ => cover0_B_10 ..)]
    unfold kernelRun0_B
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    simp only [z18.read_unread]
    rw [View.canon_unit_zero hz3, e6, View.readCov_eq_canon']
    have hy : (Rect.unit (s := S8x128x512) ![0, 0, 0] ![8, 128, 512] inb_S8x128x512_S8x128x512_0_0_0).toLoadRect.idx (ix3 b t d) = ix3 b t d := by
      refine funext fun a => Fin.ext ?_
      refine (Rect.idx_unit_val (s := S8x128x512) ![0, 0, 0] ![8, 128, 512] _ _ a).trans ?_
      fin_cases a
      · show 0 + b.val = b.val; omega
      · show 0 + t.val = t.val; omega
      · show 0 + d.val = d.val; omega
    refine (congrArg (View.canon _) hy).trans ?_
    exact LE.2 _ b t d
  · unfold out0_B_11
    rw [View.read_writes_eq_canon _ _ _ (fun _ => cover0_B_11 ..)]
    unfold kernelRun0_B
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    simp only [z18.read_unread]
    have hfin := LE.1
    exact rows8 _ _ _ _ _ _ _ _ (fun b => hB (padP (histB xs0) x0) (row3 xs3) x3 x4 x5 x6 x7 x8 x9 128 b d) b d
      ((pay47_at _ d).trans (hfin 0 d)) ((pay49_at _ d).trans (hfin 1 d)) ((pay51_at _ d).trans (hfin 2 d)) ((pay53_at _ d).trans (hfin 3 d)) ((pay55_at _ d).trans (hfin 4 d)) ((pay57_at _ d).trans (hfin 5 d)) ((pay2_at _ d).trans (hfin 6 d)) ((pay4_at _ d).trans (hfin 7 d)) _
  · unfold sout0_B_3
    rw [View.read_writes_eq_canon _ _ _ (fun _ => scover0_B_3 ..)]
    unfold kernelRun0_B
    dsimp only
    sl_unfold_words
    simp only [View.readAt_eq_ld, z2.read_unread, z3.read_unread, z4.read_unread, z5.read_unread, z6.read_unread, z7.read_unread, z8.read_unread, z9.read_unread, z10.read_unread, z11.read_unread]
    simp only [View.ld_unit_zero (S := S1x512) hz2, View.ld_unit_zero (S := S512x512) hz2]
    simp only [z18.read_unread]
    have hfin := LE.1
    exact rows8 _ _ _ _ _ _ _ _ (fun b => hB (padP (histB xs0) x0) (row3 xs3) x3 x4 x5 x6 x7 x8 x9 128 b d) b d
      ((pay48_at _ d).trans (hfin 0 d)) ((pay50_at _ d).trans (hfin 1 d)) ((pay52_at _ d).trans (hfin 2 d)) ((pay54_at _ d).trans (hfin 3 d)) ((pay56_at _ d).trans (hfin 4 d)) ((pay1_at _ d).trans (hfin 5 d)) ((pay3_at _ d).trans (hfin 6 d)) ((pay5_at _ d).trans (hfin 7 d)) _

end Cert.Kernel7Ideal.RgpOut

end
-- ==== Proof.RgpHost.lean ====
module

public import proofs.«01_k».proof.Proof.RgpOut
public import proofs.«01_k».proof.Proof.RgpFrame
public import proofs.«01_k».proof.Proof.KHost
public import Idealize.ShloMosaic.Lib.Pointwise
public import Idealize.ShloMosaic.Lib.StableHlo.RunRead

@[expose] public section

set_option maxRecDepth 16384

noncomputable section

/- The blocks the kernel's grid points read, as numbers of the program's arguments. -/

namespace Cert.Kernel7Ideal.RgpHost

open Cert.Kernel7Ideal Cert.Kernel7Ideal.Gen Idealize.ShloMosaic Idealize.ShloMosaic.TcCoe Idealize.ShloMosaic.Tactic Idealize.SL.Sem Idealize.ShloMosaic.StableHlo
open Idealize.ShloMosaic.Pipeline (Dat)
open Cert.RgSpec

variable (m : (ℓ : Loc nD τ sig) → Buf (Elt Ideal) ℓ) (c : Dev nD)

/-- The zeros the host builds. -/
def form_v0 : (⟨S32x3x512, .f32⟩ : BufTy).Contents (Elt Ideal) :=
  broadcastInDim S32x3x512 ![] bcast_S_S32x3x512 (constant (F := Ideal) S_ .f32 0x00000000#32)

/-- The zeros at an index. -/
theorem form_v0_at (b : Fin 32) (s : Fin 3) (d : Fin 512) : form_v0 (ix3 b s d) = (0 : EReal) := by
  unfold form_v0
  pointwise

set_option maxRecDepth 65536 in
set_option maxHeartbeats 1000000 in
/-- What the host leaves in the array `main_v0`. -/
theorem host_v0 : V m c main_v0 = form_v0 := by
  show StableHlo.after hostOps0 (fun b => m (c, b)) (Proc.devRef .tc main_v0) = _
  simp only [hostOps0]
  after_reads_simp
  try rfl

/-- The zeros the host builds. -/
def form_v9 : (⟨S32x1x512, .f32⟩ : BufTy).Contents (Elt Ideal) :=
  shapeCast S32x1x512 (broadcastInDim S32x512 ![] bcast_S_S32x512 (constant (F := Ideal) S_ .f32 0x00000000#32)) shapeCasts_S32x512_S32x1x512

/-- The zeros at an index. -/
theorem form_v9_at (b : Fin 32) (d : Fin 512) : form_v9 (ix3 b 0 d) = (0 : EReal) := by
  unfold form_v9
  pointwise

set_option maxRecDepth 65536 in
set_option maxHeartbeats 1000000 in
/-- What the host leaves in the array `main_v9`. -/
theorem host_v9 : V m c main_v9 = form_v9 := by
  show StableHlo.after hostOps0 (fun b => m (c, b)) (Proc.devRef .tc main_v9) = _
  simp only [hostOps0]
  after_reads_simp
  try rfl

/-- The host's form of an argument. -/
def form_v2 (x : (⟨S1x4x512, .f32⟩ : BufTy).Contents (Elt Ideal)) : (⟨S4x512, .f32⟩ : BufTy).Contents (Elt Ideal) :=
  shapeCast S4x512 x shapeCasts_S1x4x512_S4x512

/-- The form at an index. -/
theorem form_v2_at (x : (⟨S1x4x512, .f32⟩ : BufTy).Contents (Elt Ideal)) (k : Fin 4) (d : Fin 512) : form_v2 x (ix2 k d) = (x (ix3 0 k d) : EReal) := by
  unfold form_v2
  pointwise

set_option maxRecDepth 65536 in
set_option maxHeartbeats 1000000 in
/-- What the host leaves in the array `main_v2`. -/
theorem host_v2 : V m c main_v2 = form_v2 (m ((c : Thread nD τ).loc main_arg1)) := by
  show StableHlo.after hostOps0 (fun b => m (c, b)) (Proc.devRef .tc main_v2) = _
  simp only [hostOps0]
  after_reads_simp
  try rfl

/-- The host's form of an argument. -/
def form_v10 (x : (⟨S1x512, .f32⟩ : BufTy).Contents (Elt Ideal)) : (⟨S1x512, .f32⟩ : BufTy).Contents (Elt Ideal) :=
  shapeCast S1x512 (shapeCast S512 x shapeCasts_S1x512_S512) shapeCasts_S512_S1x512

/-- The form at an index. -/
theorem form_v10_at (x : (⟨S1x512, .f32⟩ : BufTy).Contents (Elt Ideal)) (d : Fin 512) : form_v10 x (ix2 0 d) = (x (ix2 0 d) : EReal) := by
  unfold form_v10
  pointwise

set_option maxRecDepth 65536 in
set_option maxHeartbeats 1000000 in
/-- What the host leaves in the array `main_v10`. -/
theorem host_v10 : V m c main_v10 = form_v10 (m ((c : Thread nD τ).loc main_arg2)) := by
  show StableHlo.after hostOps0 (fun b => m (c, b)) (Proc.devRef .tc main_v10) = _
  simp only [hostOps0]
  after_reads_simp
  try rfl

set_option maxRecDepth 65536 in
set_option maxHeartbeats 1000000 in
/-- What the host leaves in the array `main_v24`. -/
theorem host_v24 : V m c main_v24 = form_v10 (m ((c : Thread nD τ).loc main_arg4)) := by
  show StableHlo.after hostOps0 (fun b => m (c, b)) (Proc.devRef .tc main_v24) = _
  simp only [hostOps0]
  after_reads_simp
  try rfl

set_option maxRecDepth 65536 in
set_option maxHeartbeats 1000000 in
/-- What the host leaves in the array `main_v38`. -/
theorem host_v38 : V m c main_v38 = form_v10 (m ((c : Thread nD τ).loc main_arg6)) := by
  show StableHlo.after hostOps0 (fun b => m (c, b)) (Proc.devRef .tc main_v38) = _
  simp only [hostOps0]
  after_reads_simp
  try rfl

set_option maxRecDepth 65536 in
set_option maxHeartbeats 1000000 in
/-- What the host leaves in the array `main_v39`. -/
theorem host_v39 : V m c main_v39 = form_v10 (m ((c : Thread nD τ).loc main_arg7)) := by
  show StableHlo.after hostOps0 (fun b => m (c, b)) (Proc.devRef .tc main_v39) = _
  simp only [hostOps0]
  after_reads_simp
  try rfl

/-- The host's form of an argument. -/
def form_v23 (x : (⟨S1x8x64x64, .f32⟩ : BufTy).Contents (Elt Ideal)) : (⟨S512x512, .bf16⟩ : BufTy).Contents (Elt Ideal) :=
  truncf (F := Ideal) .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 (uitofp (F := Ideal) .f32 (cmpi .eq (addi (iotaInDim S8x8 32 0) (broadcastInDim S8x8 ![] bcast_S_S8x8 (constantI S_ 32 0#32))) (iotaInDim S8x8 32 1))))) (broadcastInDim S8x64x8x64 ![0, 1, 2, 3] bcast_S8x64x1x64_S8x64x8x64_0_1_2_3 (broadcastInDim S8x64x1x64 ![0, 1, 3] bcast_S8x64x64_S8x64x1x64_0_1_3 (shapeCast S8x64x64 x shapeCasts_S1x8x64x64_S8x64x64)))) shapeCasts_S8x64x8x64_S512x512) bitsLt_bf16_f32

/-- The form at an index. -/
theorem form_v23_at (x : (⟨S1x8x64x64, .f32⟩ : BufTy).Contents (Elt Ideal)) (k d : Fin 512) : form_v23 x (ix2 k d) = ((if blk k = blk d then 1 else 0) * x (ix4 0 (blk k) (low k) (low d)) : EReal) := by
  unfold form_v23
  pointwise
  rw [Cert.KernelIdeal.RgHost.eye_at _ _ (by omega) (by omega)]
  have e : (blk k = blk d) = (k.val / 64 = d.val / 64) := propext ⟨fun h => congrArg Fin.val h, fun h => Fin.ext h⟩
  simp only [e]
  rfl

set_option maxRecDepth 65536 in
set_option maxHeartbeats 1000000 in
/-- What the host leaves in the array `main_v23`. -/
theorem host_v23 : V m c main_v23 = form_v23 (m ((c : Thread nD τ).loc main_arg3)) := by
  show StableHlo.after hostOps0 (fun b => m (c, b)) (Proc.devRef .tc main_v23) = _
  simp only [hostOps0]
  after_reads_simp
  try rfl

set_option maxRecDepth 65536 in
set_option maxHeartbeats 1000000 in
/-- What the host leaves in the array `main_v37`. -/
theorem host_v37 : V m c main_v37 = form_v23 (m ((c : Thread nD τ).loc main_arg5)) := by
  show StableHlo.after hostOps0 (fun b => m (c, b)) (Proc.devRef .tc main_v37) = _
  simp only [hostOps0]
  after_reads_simp
  try rfl

/-- Grid points and batch rows: point `16 i + j` works on the rows `8 i` to `8 i + 7`. -/
def row (t : Fin cfg0.N) (b : Fin 8) : Fin 32 := ⟨8 * (t.val / 16) + b.val, by have h : t.val < 64 := t.isLt; omega⟩

/-- Grid points and tokens: point `16 i + j` works on the tokens `128 j` to `128 j + 127`. -/
def tok (t : Fin cfg0.N) (s : Fin 128) : Fin 2048 := ⟨128 * (t.val % 16) + s.val, by omega⟩

/-- The block of window 0 at an index. -/
theorem blk0 (t : Fin cfg0.N) (b : Fin 8) (s : Fin 128) (d : Fin 512) : iblk m c 0 t (ix3 b s d) = m ((c : Thread nD τ).loc main_arg0) (ix3 (row t b) (tok t s) d) := by
  have hi := (by decide +kernel : ∀ t : Fin grid0.N, win0_0.index t 0 = t.val / 16 ∧ win0_0.index t 1 = t.val % 16 ∧ win0_0.index t 2 = 0) t
  unfold iblk
  rw [View.read_apply]
  have e : V m c main_arg0 (ix3 (row t b) (tok t s) (d)) = m ((c : Thread nD τ).loc main_arg0) (ix3 (row t b) (tok t s) d) := by
    rw [V_main_arg0]
  refine Eq.trans ?_ e
  show V m c main_arg0 _ = V m c main_arg0 _
  refine congrArg (V m c main_arg0) (funext fun a => Fin.ext ?_)
  match a with
  | ⟨0, _⟩ => show win0_0.index t 0 * 8 + 1 * b.val = 8 * (t.val / 16) + b.val; rw [hi.1]; try omega
  | ⟨1, _⟩ => show win0_0.index t 1 * 128 + 1 * s.val = 128 * (t.val % 16) + s.val; rw [hi.2.1]; try omega
  | ⟨2, _⟩ => show win0_0.index t 2 * 512 + 1 * d.val = d.val; rw [hi.2.2]; try omega

/-- The block of window 1 at an index. -/
theorem blk1 (t : Fin cfg0.N) (b : Fin 8) (s : Fin 3) (d : Fin 512) : iblk m c 1 t (ix3 b s d) = (0 : EReal) := by
  have hi := (by decide +kernel : ∀ t : Fin grid0.N, win0_1.index t 0 = t.val / 16 ∧ win0_1.index t 1 = 0 ∧ win0_1.index t 2 = 0) t
  unfold iblk
  rw [View.read_apply]
  have e : V m c main_v0 (ix3 (row t b) (s) (d)) = (0 : EReal) := by
    rw [host_v0]; exact form_v0_at _ _ _
  refine Eq.trans ?_ e
  show V m c main_v0 _ = V m c main_v0 _
  refine congrArg (V m c main_v0) (funext fun a => Fin.ext ?_)
  match a with
  | ⟨0, _⟩ => show win0_1.index t 0 * 8 + 1 * b.val = 8 * (t.val / 16) + b.val; rw [hi.1]; try omega
  | ⟨1, _⟩ => show win0_1.index t 1 * 3 + 1 * s.val = s.val; rw [hi.2.1]; try omega
  | ⟨2, _⟩ => show win0_1.index t 2 * 512 + 1 * d.val = d.val; rw [hi.2.2]; try omega

/-- The block of window 2 at an index. -/
theorem blk2 (t : Fin cfg0.N) (b : Fin 8) (d : Fin 512) : iblk m c 2 t (ix3 b 0 d) = (0 : EReal) := by
  have hi := (by decide +kernel : ∀ t : Fin grid0.N, win0_2.index t 0 = t.val / 16 ∧ win0_2.index t 1 = 0 ∧ win0_2.index t 2 = 0) t
  unfold iblk
  rw [View.read_apply]
  have e : V m c main_v9 (ix3 (row t b) (0) (d)) = (0 : EReal) := by
    rw [host_v9]; exact form_v9_at _ _
  refine Eq.trans ?_ e
  show V m c main_v9 _ = V m c main_v9 _
  refine congrArg (V m c main_v9) (funext fun a => Fin.ext ?_)
  match a with
  | ⟨0, _⟩ => show win0_2.index t 0 * 8 + 1 * b.val = 8 * (t.val / 16) + b.val; rw [hi.1]; try omega
  | ⟨1, _⟩ => show win0_2.index t 1 * 1 + 1 * 0 = 0; rw [hi.2.1]; try omega
  | ⟨2, _⟩ => show win0_2.index t 2 * 512 + 1 * d.val = d.val; rw [hi.2.2]; try omega

/-- The block of window 3 at an index. -/
theorem blk3 (t : Fin cfg0.N) (k : Fin 4) (d : Fin 512) : iblk m c 3 t (ix2 k d) = m ((c : Thread nD τ).loc main_arg1) (ix3 0 k d) := by
  have hi := (by decide +kernel : ∀ t : Fin grid0.N, win0_3.index t 0 = 0 ∧ win0_3.index t 1 = 0) t
  unfold iblk
  rw [View.read_apply]
  have e : V m c main_v2 (ix2 (k) (d)) = m ((c : Thread nD τ).loc main_arg1) (ix3 0 k d) := by
    rw [host_v2]; exact form_v2_at _ _ _
  refine Eq.trans ?_ e
  show V m c main_v2 _ = V m c main_v2 _
  refine congrArg (V m c main_v2) (funext fun a => Fin.ext ?_)
  match a with
  | ⟨0, _⟩ => show win0_3.index t 0 * 4 + 1 * k.val = k.val; rw [hi.1]; try omega
  | ⟨1, _⟩ => show win0_3.index t 1 * 512 + 1 * d.val = d.val; rw [hi.2]; try omega

/-- The block of window 4 at an index. -/
theorem blk4 (t : Fin cfg0.N) (d : Fin 512) : iblk m c 4 t (ix2 0 d) = m ((c : Thread nD τ).loc main_arg2) (ix2 0 d) := by
  have hi := (by decide +kernel : ∀ t : Fin grid0.N, win0_4.index t 0 = 0 ∧ win0_4.index t 1 = 0) t
  unfold iblk
  rw [View.read_apply]
  have e : V m c main_v10 (ix2 (0) (d)) = m ((c : Thread nD τ).loc main_arg2) (ix2 0 d) := by
    rw [host_v10]; exact form_v10_at _ _
  refine Eq.trans ?_ e
  show V m c main_v10 _ = V m c main_v10 _
  refine congrArg (V m c main_v10) (funext fun a => Fin.ext ?_)
  match a with
  | ⟨0, _⟩ => show win0_4.index t 0 * 1 + 1 * 0 = 0; rw [hi.1]; try omega
  | ⟨1, _⟩ => show win0_4.index t 1 * 512 + 1 * d.val = d.val; rw [hi.2]; try omega

/-- The block of window 6 at an index. -/
theorem blk6 (t : Fin cfg0.N) (d : Fin 512) : iblk m c 6 t (ix2 0 d) = m ((c : Thread nD τ).loc main_arg4) (ix2 0 d) := by
  have hi := (by decide +kernel : ∀ t : Fin grid0.N, win0_6.index t 0 = 0 ∧ win0_6.index t 1 = 0) t
  unfold iblk
  rw [View.read_apply]
  have e : V m c main_v24 (ix2 (0) (d)) = m ((c : Thread nD τ).loc main_arg4) (ix2 0 d) := by
    rw [host_v24]; exact form_v10_at _ _
  refine Eq.trans ?_ e
  show V m c main_v24 _ = V m c main_v24 _
  refine congrArg (V m c main_v24) (funext fun a => Fin.ext ?_)
  match a with
  | ⟨0, _⟩ => show win0_6.index t 0 * 1 + 1 * 0 = 0; rw [hi.1]; try omega
  | ⟨1, _⟩ => show win0_6.index t 1 * 512 + 1 * d.val = d.val; rw [hi.2]; try omega

/-- The block of window 8 at an index. -/
theorem blk8 (t : Fin cfg0.N) (d : Fin 512) : iblk m c 8 t (ix2 0 d) = m ((c : Thread nD τ).loc main_arg6) (ix2 0 d) := by
  have hi := (by decide +kernel : ∀ t : Fin grid0.N, win0_8.index t 0 = 0 ∧ win0_8.index t 1 = 0) t
  unfold iblk
  rw [View.read_apply]
  have e : V m c main_v38 (ix2 (0) (d)) = m ((c : Thread nD τ).loc main_arg6) (ix2 0 d) := by
    rw [host_v38]; exact form_v10_at _ _
  refine Eq.trans ?_ e
  show V m c main_v38 _ = V m c main_v38 _
  refine congrArg (V m c main_v38) (funext fun a => Fin.ext ?_)
  match a with
  | ⟨0, _⟩ => show win0_8.index t 0 * 1 + 1 * 0 = 0; rw [hi.1]; try omega
  | ⟨1, _⟩ => show win0_8.index t 1 * 512 + 1 * d.val = d.val; rw [hi.2]; try omega

/-- The block of window 9 at an index. -/
theorem blk9 (t : Fin cfg0.N) (d : Fin 512) : iblk m c 9 t (ix2 0 d) = m ((c : Thread nD τ).loc main_arg7) (ix2 0 d) := by
  have hi := (by decide +kernel : ∀ t : Fin grid0.N, win0_9.index t 0 = 0 ∧ win0_9.index t 1 = 0) t
  unfold iblk
  rw [View.read_apply]
  have e : V m c main_v39 (ix2 (0) (d)) = m ((c : Thread nD τ).loc main_arg7) (ix2 0 d) := by
    rw [host_v39]; exact form_v10_at _ _
  refine Eq.trans ?_ e
  show V m c main_v39 _ = V m c main_v39 _
  refine congrArg (V m c main_v39) (funext fun a => Fin.ext ?_)
  match a with
  | ⟨0, _⟩ => show win0_9.index t 0 * 1 + 1 * 0 = 0; rw [hi.1]; try omega
  | ⟨1, _⟩ => show win0_9.index t 1 * 512 + 1 * d.val = d.val; rw [hi.2]; try omega

/-- The block of window 5 at an index. -/
theorem blk5 (t : Fin cfg0.N) (k d : Fin 512) : iblk m c 5 t (ix2 k d) = ((if blk k = blk d then 1 else 0) * ((m ((c : Thread nD τ).loc main_arg3) (ix4 0 (blk k) (low k) (low d)) : EReal)) : EReal) := by
  have hi := (by decide +kernel : ∀ t : Fin grid0.N, win0_5.index t 0 = 0 ∧ win0_5.index t 1 = 0) t
  unfold iblk
  rw [View.read_apply]
  have e : V m c main_v23 (ix2 (k) (d)) = ((if blk k = blk d then 1 else 0) * ((m ((c : Thread nD τ).loc main_arg3) (ix4 0 (blk k) (low k) (low d)) : EReal)) : EReal) := by
    rw [host_v23]; exact form_v23_at _ _ _
  refine Eq.trans ?_ e
  show V m c main_v23 _ = V m c main_v23 _
  refine congrArg (V m c main_v23) (funext fun a => Fin.ext ?_)
  match a with
  | ⟨0, _⟩ => show win0_5.index t 0 * 512 + 1 * k.val = k.val; rw [hi.1]; try omega
  | ⟨1, _⟩ => show win0_5.index t 1 * 512 + 1 * d.val = d.val; rw [hi.2]; try omega

/-- The block of window 7 at an index. -/
theorem blk7 (t : Fin cfg0.N) (k d : Fin 512) : iblk m c 7 t (ix2 k d) = ((if blk k = blk d then 1 else 0) * ((m ((c : Thread nD τ).loc main_arg5) (ix4 0 (blk k) (low k) (low d)) : EReal)) : EReal) := by
  have hi := (by decide +kernel : ∀ t : Fin grid0.N, win0_7.index t 0 = 0 ∧ win0_7.index t 1 = 0) t
  unfold iblk
  rw [View.read_apply]
  have e : V m c main_v37 (ix2 (k) (d)) = ((if blk k = blk d then 1 else 0) * ((m ((c : Thread nD τ).loc main_arg5) (ix4 0 (blk k) (low k) (low d)) : EReal)) : EReal) := by
    rw [host_v37]; exact form_v23_at _ _ _
  refine Eq.trans ?_ e
  show V m c main_v37 _ = V m c main_v37 _
  refine congrArg (V m c main_v37) (funext fun a => Fin.ext ?_)
  match a with
  | ⟨0, _⟩ => show win0_7.index t 0 * 512 + 1 * k.val = k.val; rw [hi.1]; try omega
  | ⟨1, _⟩ => show win0_7.index t 1 * 512 + 1 * d.val = d.val; rw [hi.2]; try omega

end Cert.Kernel7Ideal.RgpHost

end
-- ==== Proof.RgpSpec.lean ====
module

public import proofs.«01_k».proof.Proof.Spec

@[expose] public section

noncomputable section

/- The convolution and the recurrence of a whole sequence that starts from zeros. -/

namespace Cert.RgpSpec

open Idealize.ShloMosaic Cert.RgSpec

/-- The rows of a sequence with three zero rows in front. -/
def padQ (X : Fin 32 → Fin 2048 → Fin 512 → EReal) (b : Fin 32) (s : ℕ) (d : Fin 512) : EReal :=
  if s < 3 then 0 else if h : s < 2051 then X b ⟨s - 3, by omega⟩ d else 0

/-- The causal convolution of a sequence. -/
def cvQ (X : Fin 32 → Fin 2048 → Fin 512 → EReal) (W : Fin 4 → Fin 512 → EReal) (bc : Fin 512 → EReal) (b : Fin 32) (t : ℕ) (d : Fin 512) : EReal :=
  cvE (bc d) (padQ X b t d) (W 0 d) (padQ X b (t + 1) d) (W 1 d) (padQ X b (t + 2) d) (W 2 d) (padQ X b (t + 3) d) (W 3 d)

/-- The recurrence of a sequence: decay times the state plus the input, from zero. -/
def recQ (a u : ℕ → Fin 512 → EReal) : ℕ → Fin 512 → EReal
  | 0 => fun _ => 0
  | t + 1 => fun d => a t d * recQ a u t d + u t d

end Cert.RgpSpec

end
-- ==== Proof.RgpValue.lean ====
module

public import proofs.«01_k».proof.Proof.RgpHost
public import proofs.«01_k».proof.Proof.RgpSpec

@[expose] public section

set_option maxRecDepth 16384

noncomputable section

/- The kernel's three result arrays, as numbers of the program's arguments. -/

namespace Cert.Kernel7Ideal.RgpValue

open Cert.Kernel7Ideal Cert.Kernel7Ideal.Gen Idealize.ShloMosaic Idealize.ShloMosaic.TcCoe Idealize.ShloMosaic.Tactic Idealize.SL.Sem
open Idealize.ShloMosaic.Pipeline (Dat)
open Cert.RgSpec Cert.RgpSpec Cert.Kernel7Ideal.RgpHost Cert.Kernel7Ideal.RgpBlock Cert.Kernel7Ideal.RgpLoop Cert.Kernel7Ideal.RgpOut

variable (m : (ℓ : Loc nD τ sig) → Buf (Elt Ideal) ℓ) (c : Dev nD)

/-- The sequences. -/
def X (b : Fin 32) (t : Fin 2048) (d : Fin 512) : EReal := m ((c : Thread nD τ).loc main_arg0) (ix3 b t d)
/-- The convolution's taps. -/
def W (k : Fin 4) (d : Fin 512) : EReal := m ((c : Thread nD τ).loc main_arg1) (ix3 0 k d)
/-- The convolution's bias. -/
def bc (d : Fin 512) : EReal := m ((c : Thread nD τ).loc main_arg2) (ix2 0 d)
/-- The recurrence gate's blocks. -/
def R (g : Fin 8) (k e : Fin 64) : EReal := m ((c : Thread nD τ).loc main_arg3) (ix4 0 g k e)
/-- The recurrence gate's bias. -/
def br (d : Fin 512) : EReal := m ((c : Thread nD τ).loc main_arg4) (ix2 0 d)
/-- The input gate's blocks. -/
def Q (g : Fin 8) (k e : Fin 64) : EReal := m ((c : Thread nD τ).loc main_arg5) (ix4 0 g k e)
/-- The input gate's bias. -/
def bq (d : Fin 512) : EReal := m ((c : Thread nD τ).loc main_arg6) (ix2 0 d)
/-- The decay's parameter. -/
def lam (d : Fin 512) : EReal := m ((c : Thread nD τ).loc main_arg7) (ix2 0 d)

/-- The convolution at a token. -/
def cvK (b : Fin 32) (t : ℕ) (d : Fin 512) : EReal := cvQ (X m c) (W m c) (bc m c) b t d
/-- The decay at a token. -/
def aK (b : Fin 32) (t : ℕ) (d : Fin 512) : EReal := Ideal.exp (laG (cvK m c b t) (R m c) (br m c) (lam m c) d)
/-- The recurrence's input at a token. -/
def uK (b : Fin 32) (t : ℕ) (d : Fin 512) : EReal := uG (cvK m c b t) (R m c) (br m c) (Q m c) (bq m c) (lam m c) d
/-- The state after `n` tokens. -/
def hK (b : Fin 32) (n : ℕ) (d : Fin 512) : EReal := recQ (aK m c b) (uK m c b) n d

variable (t : Fin cfg0.N)

/-- The recurrence gate with the block-diagonal matrix is the gate with the blocks. -/
theorem gate_r (cv : Fin 512 → EReal) (d : Fin 512) : gateE cv (iblk m c 5 t) (iblk m c 6 t) d = gateG cv (R m c) (br m c) d := by
  unfold gateE gateG
  rw [blockdiag_sum cv (fun k => iblk m c 5 t (ix2 k d)) (R m c) d (fun k => blk5 m c t k d), blk6]
  rfl

/-- The input gate with the block-diagonal matrix is the gate with the blocks. -/
theorem gate_i (cv : Fin 512 → EReal) (d : Fin 512) : gateE cv (iblk m c 7 t) (iblk m c 8 t) d = gateG cv (Q m c) (bq m c) d := by
  unfold gateE gateG
  rw [blockdiag_sum cv (fun k => iblk m c 7 t (ix2 k d)) (Q m c) d (fun k => blk7 m c t k d), blk8]
  rfl

variable (hist : Fin 8 → Fin 3 → Fin 512 → EReal) (h0 : Fin 8 → Fin 512 → EReal)

/-- The rows and the states before a block are those of the whole sequence. -/
structure Start : Prop where
  rows : ∀ b s d, hist b s d = padQ (X m c) (row t b) (128 * (t.val % 16) + s.val) d
  state : ∀ b d, h0 b d = hK m c (row t b) (128 * (t.val % 16)) d

variable {m c t hist h0} (H : Start m c t hist h0)
include H

/-- A block's rows with the three before it in front are the array's. -/
theorem pad_eq (b : Fin 8) (s : ℕ) (hs : s < 131) (d : Fin 512) :
    padP hist (iblk m c 0 t) b s d = padQ (X m c) (row t b) (128 * (t.val % 16) + s) d := by
  unfold padP
  by_cases h3 : s < 3
  · rw [dif_pos h3]; exact H.rows b ⟨s, h3⟩ d
  · rw [dif_neg h3, dif_pos hs, blk0]
    unfold padQ
    rw [if_neg (by omega), dif_pos (by omega)]
    exact congrArg (fun k => X m c (row t b) k d) (Fin.ext (by show 128 * (t.val % 16) + (s - 3) = 128 * (t.val % 16) + s - 3; omega))

/-- A block's convolution is the array's. -/
theorem cv_eq (b : Fin 8) (s : Fin 128) (d : Fin 512) :
    cvB (padP hist (iblk m c 0 t)) (iblk m c 3 t) (iblk m c 4 t) b s d = cvK m c (row t b) (128 * (t.val % 16) + s.val) d := by
  have hs := s.isLt
  unfold cvB cvK cvQ
  rw [pad_eq H _ _ (by omega), pad_eq H _ _ (by omega), pad_eq H _ _ (by omega), pad_eq H _ _ (by omega), blk3, blk3, blk3, blk3, blk4]
  simp only [← Nat.add_assoc]
  rfl

/-- A block's logarithm of the decay is the array's. -/
theorem la_eq (b : Fin 8) (s : Fin 128) (d : Fin 512) :
    laB (padP hist (iblk m c 0 t)) (iblk m c 3 t) (iblk m c 4 t) (iblk m c 5 t) (iblk m c 6 t) (iblk m c 9 t) b s d
      = laG (cvK m c (row t b) (128 * (t.val % 16) + s.val)) (R m c) (br m c) (lam m c) d := by
  unfold laB laG
  rw [gate_r, blk9, funext (cv_eq H b s)]
  rfl

/-- A block's recurrence is the array's. -/
theorem h_eq (n : ℕ) (hn : n ≤ 128) (b : Fin 8) (d : Fin 512) :
    hB (padP hist (iblk m c 0 t)) h0 (iblk m c 3 t) (iblk m c 4 t) (iblk m c 5 t) (iblk m c 6 t) (iblk m c 7 t) (iblk m c 8 t) (iblk m c 9 t) n b d
      = hK m c (row t b) (128 * (t.val % 16) + n) d := by
  induction n with
  | zero => exact H.state b d
  | succ n ih =>
    have hlt : n < 128 := by omega
    rw [← Nat.add_assoc]
    unfold hB hK at ih ⊢
    rw [hRec_succ _ _ _ n hlt, ih (by omega)]
    have ea : aB (padP hist (iblk m c 0 t)) (iblk m c 3 t) (iblk m c 4 t) (iblk m c 5 t) (iblk m c 6 t) (iblk m c 9 t) (ix3 b ⟨n, hlt⟩ d)
        = aK m c (row t b) (128 * (t.val % 16) + n) d :=
      congrArg Ideal.exp (la_eq H b ⟨n, hlt⟩ d)
    have eu : uB (padP hist (iblk m c 0 t)) (iblk m c 3 t) (iblk m c 4 t) (iblk m c 5 t) (iblk m c 6 t) (iblk m c 7 t) (iblk m c 8 t) (iblk m c 9 t) (ix3 b ⟨n, hlt⟩ d)
        = uK m c (row t b) (128 * (t.val % 16) + n) d := by
      show multE (laB (padP hist (iblk m c 0 t)) (iblk m c 3 t) (iblk m c 4 t) (iblk m c 5 t) (iblk m c 6 t) (iblk m c 9 t) b ⟨n, hlt⟩ d)
        * (gateE (cvB (padP hist (iblk m c 0 t)) (iblk m c 3 t) (iblk m c 4 t) b ⟨n, hlt⟩) (iblk m c 7 t) (iblk m c 8 t) d
          * cvB (padP hist (iblk m c 0 t)) (iblk m c 3 t) (iblk m c 4 t) b ⟨n, hlt⟩ d) = _
      rw [la_eq H, gate_i, funext (cv_eq H b ⟨n, hlt⟩)]
      rfl
    rw [ea, eu]
    rfl

omit H
variable (m c t)

/-- What a grid point leaves: its states, the last of them and the last three rows, in the results and for the next point. -/
structure Done : Prop where
  hs : ∀ b (s : Fin 128) d, (outsAt0 m c t.val t.isLt).1 (ix3 b s d) = hK m c (row t b) (128 * (t.val % 16) + (s.val + 1)) d
  last : ∀ b d, (outsAt0 m c t.val t.isLt).2.1 (ix3 b 0 d) = hK m c (row t b) (128 * (t.val % 16) + 128) d
  rows : ∀ b (s : Fin 3) d, (outsAt0 m c t.val t.isLt).2.2.1 (ix3 b s d) = padQ (X m c) (row t b) (128 * (t.val % 16) + (128 + s.val)) d
  pad : ∀ b (s : Fin 3) d, (outsAt0 m c t.val t.isLt).2.2.2.1 (ix3 b ⟨5 + s.val, by have := s.isLt; omega⟩ d)
    = padQ (X m c) (row t b) (128 * (t.val % 16) + (128 + s.val)) d
  state : ∀ b d, (outsAt0 m c t.val t.isLt).2.2.2.2 (ix3 b 0 d) = hK m c (row t b) (128 * (t.val % 16) + 128) d

set_option maxHeartbeats 2000000 in
/-- The first point of a group of sequences starts from zeros. -/
theorem done_A (h : t.val % 16 = 0) : Done m c t := by
  have H : Start m c t (histA (iblk m c 1 t)) (row3 (iblk m c 2 t)) := by
    refine ⟨fun b s d => ?_, fun b d => ?_⟩
    · have hs := s.isLt
      refine (blk1 m c t b s d).trans ?_
      unfold padQ
      rw [if_pos (by omega)]
    · refine (blk2 m c t b d).trans ?_
      rw [h]
      rfl
  have e := outsAt0_A m c t h
  refine ⟨fun b s d => ?_, fun b d => ?_, fun b s d => ?_, fun b s d => ?_, fun b d => ?_⟩ <;> (rw [e]; dsimp only [ptA])
  · have hs := s.isLt
    exact ((outsA ..).1 b s d).trans (h_eq H (s.val + 1) (by omega) b d)
  · exact ((outsA ..).2.1 b d).trans (h_eq H 128 le_rfl b d)
  · have hs := s.isLt
    exact (out12A _ _ _ _ _ _ _ _ _ _ _ _ _ _ _ _ _ _ _ _ _ _ _ _ _ _ _ _ _ _ _ _ _ _ _ _ _ _ _ _ _ _ _ _ _ _ _ b s d).trans (pad_eq H b (128 + s.val) (by omega) d)
  · have hs := s.isLt
    exact (sout0A _ _ _ _ _ _ _ _ _ _ _ _ _ _ _ _ _ _ _ _ _ _ _ _ _ _ _ _ _ _ _ _ _ _ _ _ _ _ _ _ _ _ _ _ _ _ _ b s d).trans (pad_eq H b (128 + s.val) (by omega) d)
  · exact ((outsA ..).2.2 b d).trans (h_eq H 128 le_rfl b d)

set_option maxHeartbeats 2000000 in
/-- A later point of a group starts from what the point before it leaves. -/
theorem done_B (h : ¬t.val % 16 = 0) (D : Done m c ⟨t.val - 1, Nat.lt_of_le_of_lt (Nat.sub_le _ _) t.isLt⟩) : Done m c t := by
  have er : ∀ b, row ⟨t.val - 1, Nat.lt_of_le_of_lt (Nat.sub_le _ _) t.isLt⟩ b = row t b := fun b =>
    Fin.ext (by show 8 * ((t.val - 1) / 16) + b.val = 8 * (t.val / 16) + b.val; omega)
  have H : Start m c t (histB (outsAt0 m c (t.val - 1) (Nat.lt_of_le_of_lt (Nat.sub_le _ _) t.isLt)).2.2.2.1)
      (row3 (outsAt0 m c (t.val - 1) (Nat.lt_of_le_of_lt (Nat.sub_le _ _) t.isLt)).2.2.2.2) := by
    refine ⟨fun b s d => ?_, fun b d => ?_⟩
    · refine (D.pad b s d).trans ?_
      rw [er]
      exact congrArg (fun n => padQ (X m c) (row t b) n d) (by show 128 * ((t.val - 1) % 16) + (128 + s.val) = _; omega)
    · refine (D.state b d).trans ?_
      rw [er]
      exact congrArg (fun n => hK m c (row t b) n d) (by show 128 * ((t.val - 1) % 16) + 128 = _; omega)
  have e := outsAt0_B m c t h
  refine ⟨fun b s d => ?_, fun b d => ?_, fun b s d => ?_, fun b s d => ?_, fun b d => ?_⟩ <;> (rw [e]; dsimp only [ptB])
  · have hs := s.isLt
    exact ((outsB ..).1 b s d).trans (h_eq H (s.val + 1) (by omega) b d)
  · exact ((outsB ..).2.1 b d).trans (h_eq H 128 le_rfl b d)
  · have hs := s.isLt
    exact (out12B _ _ _ _ _ _ _ _ _ _ _ _ _ _ _ _ _ _ _ _ _ _ _ _ _ _ _ _ _ _ _ _ _ _ _ _ _ _ _ _ _ _ _ _ _ _ _ _ _ b s d).trans (pad_eq H b (128 + s.val) (by omega) d)
  · have hs := s.isLt
    exact (sout0B _ _ _ _ _ _ _ _ _ _ _ _ _ _ _ _ _ _ _ _ _ _ _ _ _ _ _ _ _ _ _ _ _ _ _ _ _ _ _ _ _ _ _ _ _ _ _ _ _ b s d).trans (pad_eq H b (128 + s.val) (by omega) d)
  · exact ((outsB ..).2.2 b d).trans (h_eq H 128 le_rfl b d)

/-- What every grid point leaves. -/
theorem done : ∀ (n : ℕ) (hn : n < cfg0.N), Done m c ⟨n, hn⟩
  | 0, hn => done_A m c ⟨0, hn⟩ rfl
  | n + 1, hn => by
    by_cases h : (n + 1) % 16 = 0
    · exact done_A m c ⟨n + 1, hn⟩ h
    · exact done_B m c ⟨n + 1, hn⟩ h (done n (Nat.lt_of_succ_lt hn))

/-- The stacked states. -/
def hs : (⟨S32x2048x512, .bf16⟩ : BufTy).Contents (Elt Ideal) := fun i => hK m c (i 0) ((i 1).val + 1) (i 2)
/-- The last state. -/
def last : (⟨S32x1x512, .f32⟩ : BufTy).Contents (Elt Ideal) := fun i => hK m c (i 0) 2048 (i 2)
/-- The rows carried on. -/
def rows : (⟨S32x3x512, .f32⟩ : BufTy).Contents (Elt Ideal) := fun i => padQ (X m c) (i 0) (2048 + (i 1).val) (i 2)

/-- What a grid point writes back is its block of result 0. -/
theorem flushed_eq10 : (dats m 0 c).flushed 10 t = ((cfg0.win 10).blk t).view.read (Elt Ideal) (hs m c) := by
  have hi := (by decide +kernel : ∀ t : Fin grid0.N, win0_10.index t 0 = t.val / 16 ∧ win0_10.index t 1 = t.val % 16 ∧ win0_10.index t 2 = 0) t
  have D := done m c t.val t.isLt
  show (cfg0.win 10).cut (grid0.coords t) ((dats m 0 c).after 10 t) = _
  rw [after0_10]
  have key : ∀ y : S8x128x512.Idx, (outsAt0 m c t.val t.isLt).1 y = ((cfg0.win 10).blk t).view.read (Elt Ideal) (hs m c) y := by
    intro y
    obtain ⟨b, s, d, rfl⟩ : ∃ (b : Fin 8) (s : Fin 128) (d : Fin 512), y = ix3 b s d := ⟨y 0, y 1, y 2, (ix3_eta y).symm⟩
    rw [View.read_apply]
    have e : (outsAt0 m c t.val t.isLt).1 (ix3 b s d) = hs m c (ix3 (row t b) (tok t s) d) :=
      (D.hs b s d).trans rfl
    refine e.trans ?_
    show hs m c _ = hs m c _
    refine congrArg (hs m c) (funext fun a => Fin.ext ?_)
    match a with
    | ⟨0, _⟩ => show 8 * (t.val / 16) + b.val = win0_10.index t 0 * 8 + 1 * b.val; rw [hi.1]; omega
    | ⟨1, _⟩ => show 128 * (t.val % 16) + s.val = win0_10.index t 1 * 128 + 1 * s.val; rw [hi.2.1]; omega
    | ⟨2, _⟩ => show d.val = win0_10.index t 2 * 512 + 1 * d.val; rw [hi.2.2]; omega
  exact funext key

/-- Result 0 of the kernel. -/
theorem final10 : (dats m 0 c).arrAt 10 cfg0.N = hs m c :=
  (dats m 0 c).arrAt_eq_of_cover 10 (hs m c) (fun t hf => flushed_eq10 m c t) fun i => by
    have h0 : (i 0 : ℕ) < 32 := (i 0).isLt
    have h1 : (i 1 : ℕ) < 2048 := (i 1).isLt
    have h2 : (i 2 : ℕ) < 512 := (i 2).isLt
    let t : Fin cfg0.N := ⟨16 * ((i 0 : ℕ) / 8) + (i 1 : ℕ) / 128, by show 16 * ((i 0 : ℕ) / 8) + (i 1 : ℕ) / 128 < 64; omega⟩
    have ht : t.val = 16 * ((i 0 : ℕ) / 8) + (i 1 : ℕ) / 128 := rfl
    have hi := (by decide +kernel : ∀ t : Fin grid0.N, win0_10.index t 0 = t.val / 16 ∧ win0_10.index t 1 = t.val % 16 ∧ win0_10.index t 2 = 0) t
    have hf := (by decide +kernel : ∀ t : Fin grid0.N, win0_10.flush t = true) t
    refine ⟨t, hf, ?_⟩
    show i ∈ ((View.whole main_v40_0).slice (win0_10.rect t)).set
    rw [View.set_slice_whole, Rect.mem_set_unit]
    intro a
    match a with
    | ⟨0, _⟩ => show win0_10.index t 0 * 8 ≤ (i 0 : ℕ) ∧ (i 0 : ℕ) < win0_10.index t 0 * 8 + 8; rw [hi.1]; omega
    | ⟨1, _⟩ => show win0_10.index t 1 * 128 ≤ (i 1 : ℕ) ∧ (i 1 : ℕ) < win0_10.index t 1 * 128 + 128; rw [hi.2.1]; omega
    | ⟨2, _⟩ => show win0_10.index t 2 * 512 ≤ (i 2 : ℕ) ∧ (i 2 : ℕ) < win0_10.index t 2 * 512 + 512; rw [hi.2.2]; omega

/-- What a grid point writes back is its block of result 1. -/
theorem flushed_eq11 (hf : win0_11.flush t = true) : (dats m 0 c).flushed 11 t = ((cfg0.win 11).blk t).view.read (Elt Ideal) (last m c) := by
  have hi := (by decide +kernel : ∀ t : Fin grid0.N, win0_11.index t 0 = t.val / 16 ∧ win0_11.index t 1 = 0 ∧ win0_11.index t 2 = 0) t
  have h15 := (by decide +kernel : ∀ t : Fin grid0.N, win0_11.flush t = true → t.val % 16 = 15) t hf
  have D := done m c t.val t.isLt
  show (cfg0.win 11).cut (grid0.coords t) ((dats m 0 c).after 11 t) = _
  rw [after0_11]
  have key : ∀ y : S8x1x512.Idx, (outsAt0 m c t.val t.isLt).2.1 y = ((cfg0.win 11).blk t).view.read (Elt Ideal) (last m c) y := by
    intro y
    obtain ⟨b, s, d, rfl⟩ : ∃ (b : Fin 8) (s : Fin 1) (d : Fin 512), y = ix3 b s d := ⟨y 0, y 1, y 2, (ix3_eta y).symm⟩
    obtain rfl : s = 0 := Subsingleton.elim _ _
    rw [View.read_apply]
    have e : (outsAt0 m c t.val t.isLt).2.1 (ix3 b 0 d) = last m c (ix3 (row t b) 0 d) :=
      (D.last b d).trans (congrArg (fun n => hK m c (row t b) n d) (by show 128 * (t.val % 16) + 128 = 2048; omega))
    refine e.trans ?_
    show last m c _ = last m c _
    refine congrArg (last m c) (funext fun a => Fin.ext ?_)
    match a with
    | ⟨0, _⟩ => show 8 * (t.val / 16) + b.val = win0_11.index t 0 * 8 + 1 * b.val; rw [hi.1]; omega
    | ⟨1, _⟩ => show 0 = win0_11.index t 1 * 1 + 1 * 0; rw [hi.2.1]
    | ⟨2, _⟩ => show d.val = win0_11.index t 2 * 512 + 1 * d.val; rw [hi.2.2]; omega
  exact funext key

/-- Result 1 of the kernel. -/
theorem final11 : (dats m 0 c).arrAt 11 cfg0.N = last m c :=
  (dats m 0 c).arrAt_eq_of_cover 11 (last m c) (fun t hf => flushed_eq11 m c t hf) fun i => by
    have h0 : (i 0 : ℕ) < 32 := (i 0).isLt
    have h1 : (i 1 : ℕ) < 1 := (i 1).isLt
    have h2 : (i 2 : ℕ) < 512 := (i 2).isLt
    let t : Fin cfg0.N := ⟨16 * ((i 0 : ℕ) / 8) + 15, by show 16 * ((i 0 : ℕ) / 8) + 15 < 64; omega⟩
    have ht : t.val = 16 * ((i 0 : ℕ) / 8) + 15 := rfl
    have hi := (by decide +kernel : ∀ t : Fin grid0.N, win0_11.index t 0 = t.val / 16 ∧ win0_11.index t 1 = 0 ∧ win0_11.index t 2 = 0) t
    have hf := (by decide +kernel : ∀ t : Fin grid0.N, t.val % 16 = 15 → win0_11.flush t = true) t (by omega)
    refine ⟨t, hf, ?_⟩
    show i ∈ ((View.whole main_v40_1).slice (win0_11.rect t)).set
    rw [View.set_slice_whole, Rect.mem_set_unit]
    intro a
    match a with
    | ⟨0, _⟩ => show win0_11.index t 0 * 8 ≤ (i 0 : ℕ) ∧ (i 0 : ℕ) < win0_11.index t 0 * 8 + 8; rw [hi.1]; omega
    | ⟨1, _⟩ => show win0_11.index t 1 * 1 ≤ (i 1 : ℕ) ∧ (i 1 : ℕ) < win0_11.index t 1 * 1 + 1; rw [hi.2.1]; omega
    | ⟨2, _⟩ => show win0_11.index t 2 * 512 ≤ (i 2 : ℕ) ∧ (i 2 : ℕ) < win0_11.index t 2 * 512 + 512; rw [hi.2.2]; omega

/-- What a grid point writes back is its block of result 2. -/
theorem flushed_eq12 (hf : win0_12.flush t = true) : (dats m 0 c).flushed 12 t = ((cfg0.win 12).blk t).view.read (Elt Ideal) (rows m c) := by
  have hi := (by decide +kernel : ∀ t : Fin grid0.N, win0_12.index t 0 = t.val / 16 ∧ win0_12.index t 1 = 0 ∧ win0_12.index t 2 = 0) t
  have h15 := (by decide +kernel : ∀ t : Fin grid0.N, win0_12.flush t = true → t.val % 16 = 15) t hf
  have D := done m c t.val t.isLt
  show (cfg0.win 12).cut (grid0.coords t) ((dats m 0 c).after 12 t) = _
  rw [after0_12]
  have key : ∀ y : S8x3x512.Idx, (outsAt0 m c t.val t.isLt).2.2.1 y = ((cfg0.win 12).blk t).view.read (Elt Ideal) (rows m c) y := by
    intro y
    obtain ⟨b, s, d, rfl⟩ : ∃ (b : Fin 8) (s : Fin 3) (d : Fin 512), y = ix3 b s d := ⟨y 0, y 1, y 2, (ix3_eta y).symm⟩
    rw [View.read_apply]
    have e : (outsAt0 m c t.val t.isLt).2.2.1 (ix3 b s d) = rows m c (ix3 (row t b) s d) :=
      (D.rows b s d).trans (congrArg (fun n => padQ (X m c) (row t b) n d) (by show 128 * (t.val % 16) + (128 + s.val) = 2048 + s.val; omega))
    refine e.trans ?_
    show rows m c _ = rows m c _
    refine congrArg (rows m c) (funext fun a => Fin.ext ?_)
    match a with
    | ⟨0, _⟩ => show 8 * (t.val / 16) + b.val = win0_12.index t 0 * 8 + 1 * b.val; rw [hi.1]; omega
    | ⟨1, _⟩ => show s.val = win0_12.index t 1 * 3 + 1 * s.val; rw [hi.2.1]; omega
    | ⟨2, _⟩ => show d.val = win0_12.index t 2 * 512 + 1 * d.val; rw [hi.2.2]; omega
  exact funext key

/-- Result 2 of the kernel. -/
theorem final12 : (dats m 0 c).arrAt 12 cfg0.N = rows m c :=
  (dats m 0 c).arrAt_eq_of_cover 12 (rows m c) (fun t hf => flushed_eq12 m c t hf) fun i => by
    have h0 : (i 0 : ℕ) < 32 := (i 0).isLt
    have h1 : (i 1 : ℕ) < 3 := (i 1).isLt
    have h2 : (i 2 : ℕ) < 512 := (i 2).isLt
    let t : Fin cfg0.N := ⟨16 * ((i 0 : ℕ) / 8) + 15, by show 16 * ((i 0 : ℕ) / 8) + 15 < 64; omega⟩
    have ht : t.val = 16 * ((i 0 : ℕ) / 8) + 15 := rfl
    have hi := (by decide +kernel : ∀ t : Fin grid0.N, win0_12.index t 0 = t.val / 16 ∧ win0_12.index t 1 = 0 ∧ win0_12.index t 2 = 0) t
    have hf := (by decide +kernel : ∀ t : Fin grid0.N, t.val % 16 = 15 → win0_12.flush t = true) t (by omega)
    refine ⟨t, hf, ?_⟩
    show i ∈ ((View.whole main_v40_2).slice (win0_12.rect t)).set
    rw [View.set_slice_whole, Rect.mem_set_unit]
    intro a
    match a with
    | ⟨0, _⟩ => show win0_12.index t 0 * 8 ≤ (i 0 : ℕ) ∧ (i 0 : ℕ) < win0_12.index t 0 * 8 + 8; rw [hi.1]; omega
    | ⟨1, _⟩ => show win0_12.index t 1 * 3 ≤ (i 1 : ℕ) ∧ (i 1 : ℕ) < win0_12.index t 1 * 3 + 3; rw [hi.2.1]; omega
    | ⟨2, _⟩ => show win0_12.index t 2 * 512 ≤ (i 2 : ℕ) ∧ (i 2 : ℕ) < win0_12.index t 2 * 512 + 512; rw [hi.2.2]; omega

/-- The kernel's run leaves the three results in the program's result arrays and its arguments as they were. -/
theorem run_values (ρ : Dev nD → PrngReg) : θ_run defs (onTc (τ := τ) (main (F := Ideal))) ⟨m, fun _ => 0, ρ⟩ fun r => ∀ c : Dev nD,
      r.2.mem ((c : Thread nD τ).loc main_v40_0) = hs m c
      ∧ r.2.mem ((c : Thread nD τ).loc main_v40_1) = last m c
      ∧ r.2.mem ((c : Thread nD τ).loc main_v40_2) = rows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 10).trans (final10 m c), ((h c).1 11).trans (final11 m c), ((h c).1 12).trans (final12 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩)
    (run_main (F := Ideal) m ρ)

end Cert.Kernel7Ideal.RgpValue

end
-- ==== Proof.RgpRefVal.lean ====
module

public import proofs.«01_k».proof.Proof.Gen.Reference7Ideal.Step
public import Idealize.ShloMosaic.Lib.Pointwise
public import proofs.«01_k».proof.Proof.RgpSpec

@[expose] public section

set_option maxRecDepth 16384

noncomputable section

/- What the reference computes, as numbers of its arguments. -/

namespace Cert.Reference7Ideal.RgpRef

open Idealize.ShloMosaic Idealize.ShloMosaic.Tactic
open Cert.Reference7Ideal Cert.Reference7Ideal.Gen Cert.Reference7Ideal.Step
open Cert.RgSpec Cert.RgpSpec

variable (x0 : (⟨S32x2048x512, .f32⟩ : BufTy).Contents (Elt Ideal)) (x1 : (⟨S1x4x512, .f32⟩ : BufTy).Contents (Elt Ideal))
  (x2 : (⟨S1x512, .f32⟩ : BufTy).Contents (Elt Ideal)) (x3 : (⟨S1x8x64x64, .f32⟩ : BufTy).Contents (Elt Ideal))
  (x4 : (⟨S1x512, .f32⟩ : BufTy).Contents (Elt Ideal)) (x5 : (⟨S1x8x64x64, .f32⟩ : BufTy).Contents (Elt Ideal))
  (x6 x7 : (⟨S1x512, .f32⟩ : BufTy).Contents (Elt Ideal))

/-- The convolution at a token. -/
abbrev cvR (b : Fin 32) (t : ℕ) (d : Fin 512) : EReal :=
  cvQ (fun b t d => x0 (ix3 b t d)) (fun k d => x1 (ix3 0 k d)) (fun d => x2 (ix2 0 d)) b t d

/-- The decay at a token. -/
abbrev aR (b : Fin 32) (t : ℕ) (d : Fin 512) : EReal :=
  Ideal.exp (laG (cvR x0 x1 x2 b t) (fun g k e => x3 (ix4 0 g k e)) (fun d => x4 (ix2 0 d)) (fun d => x7 (ix2 0 d)) d)

/-- The recurrence's input at a token. -/
abbrev uR (b : Fin 32) (t : ℕ) (d : Fin 512) : EReal :=
  uG (cvR x0 x1 x2 b t) (fun g k e => x3 (ix4 0 g k e)) (fun d => x4 (ix2 0 d)) (fun g k e => x5 (ix4 0 g k e)) (fun d => x6 (ix2 0 d)) (fun d => x7 (ix2 0 d)) d

/-- The state after `n` tokens. -/
abbrev hR (b : Fin 32) (n : ℕ) (d : Fin 512) : EReal :=
  recQ (aR x0 x1 x2 x3 x4 x7 b) (uR x0 x1 x2 x3 x4 x5 x6 x7 b) n d

/-- The carried rows and the tokens, joined. -/
theorem v4_at (b : Fin 32) (s : ℕ) (hs : s < 2051) (d : Fin 512) :
    A_main_v4 (F := Ideal) x0 x1 x2 x3 x4 x5 x6 x7 (ix3 b ⟨s, hs⟩ d)
      = padQ (fun b t d => x0 (ix3 b t d)) b s d := by
  unfold A_main_v4 K_main_v3 K_main_cst
  pointwise
  unfold padQ
  by_cases h : s < 3
  · rw [dif_pos h, if_pos h]
  · rw [dif_neg h, if_neg h, dif_pos hs]

/-- The reference's convolution. -/
theorem v34_at (b : Fin 32) (t : Fin 2048) (d : Fin 512) :
    A_main_v34 (F := Ideal) x0 x1 x2 x3 x4 x5 x6 x7 (ix3 b t d) = cvR x0 x1 x2 b t d := by
  unfold A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v9 A_main_v8 A_main_v7 A_main_v6 A_main_v5 A_main_v1 A_main_v0
  pointwise
  simp only [v4_at]
  unfold cvR cvQ cvE
  rw [Nat.add_comm 1 t.val, Nat.add_comm 2 t.val, Nat.add_comm 3 t.val]
  have e : ∀ q0 q1 q2 q3 a : EReal, q0 + q1 + q2 + q3 + a = a + q0 + q1 + q2 + q3 := by intros; ac_rfl
  exact e _ _ _ _ _

/-- The reference's product with a gate's blocks. -/
theorem v39_at (b : Fin 32) (t : Fin 2048) (d : Fin 512) :
    A_main_v39 (F := Ideal) x0 x1 x2 x3 x4 x5 x6 x7 (ix3 b t d)
      = ∑ k : Fin 64, cvR x0 x1 x2 b t (chan (blk d) k) * x3 (ix4 0 (blk d) k (low d)) := by
  unfold A_main_v39 A_main_v38 A_main_v37 A_main_v36 A_main_v35
  pointwise
  refine Finset.sum_congr rfl fun k _ => ?_
  rw [v34_at, mul_comm]
  rfl

/-- The same for the second gate. -/
theorem v53_at (b : Fin 32) (t : Fin 2048) (d : Fin 512) :
    A_main_v53 (F := Ideal) x0 x1 x2 x3 x4 x5 x6 x7 (ix3 b t d)
      = ∑ k : Fin 64, cvR x0 x1 x2 b t (chan (blk d) k) * x5 (ix4 0 (blk d) k (low d)) := by
  unfold A_main_v53 A_main_v52 A_main_v51 A_main_v50 A_main_v35
  pointwise
  refine Finset.sum_congr rfl fun k _ => ?_
  rw [v34_at, mul_comm]
  rfl

/-- The recurrence gate. -/
theorem v49_at (b : Fin 32) (t : Fin 2048) (d : Fin 512) :
    A_main_v49 (F := Ideal) x0 x1 x2 x3 x4 x5 x6 x7 (ix3 b t d)
      = gateG (cvR x0 x1 x2 b t) (fun g k e => x3 (ix4 0 g k e)) (fun d => x4 (ix2 0 d)) d := by
  unfold A_main_v49 A_main_v47 A_main_v45 A_main_v44 A_main_v43 A_main_v42 A_main_v41 A_main_v40 K_main_v48 K_main_v46 K_main_cst_1 K_main_cst_0
  pointwise
  rw [v39_at]
  rfl

/-- The input gate. -/
theorem v63_at (b : Fin 32) (t : Fin 2048) (d : Fin 512) :
    A_main_v63 (F := Ideal) x0 x1 x2 x3 x4 x5 x6 x7 (ix3 b t d)
      = gateG (cvR x0 x1 x2 b t) (fun g k e => x5 (ix4 0 g k e)) (fun d => x6 (ix2 0 d)) d := by
  unfold A_main_v63 A_main_v61 A_main_v59 A_main_v58 A_main_v57 A_main_v56 A_main_v55 A_main_v54 K_main_v62 K_main_v60 K_main_cst_2 K_main_cst_3
  pointwise
  rw [v53_at]
  rfl

/-- The logarithm of the decay. -/
theorem v70_at (b : Fin 32) (t : Fin 2048) (d : Fin 512) :
    A_main_v70 (F := Ideal) x0 x1 x2 x3 x4 x5 x6 x7 (ix3 b t d)
      = laG (cvR x0 x1 x2 b t) (fun g k e => x3 (ix4 0 g k e)) (fun d => x4 (ix2 0 d)) (fun d => x7 (ix2 0 d)) d := by
  unfold A_main_v70 A_main_v69 A_main_v68 A_main_v67 A_main_v65 A_main_call0_v11 A_main_call0_v10 A_main_call0_v9 A_main_call0_v8 A_main_call0_v7 A_main_call0_v6 A_main_call0_v4 A_main_call0_v3 A_main_call0_v1 A_main_v66 A_main_v2 K_main_call0_v0 K_main_call0_v2 K_main_call0_v5 K_main_call0_cst K_main_v64 K_main_cst_4
  pointwise
  rw [v49_at]
  unfold laG laE spE
  rw [if_neg (not_not.mpr rfl)]
  simp only [zero_sub]

/-- The decay. -/
theorem v80_at (b : Fin 32) (t : Fin 2048) (d : Fin 512) :
    A_main_v80 (F := Ideal) x0 x1 x2 x3 x4 x5 x6 x7 (ix3 t b d) = aR x0 x1 x2 x3 x4 x7 b t d := by
  unfold A_main_v80 A_main_v71
  pointwise
  rw [v70_at]

/-- The recurrence's input. -/
theorem v81_at (b : Fin 32) (t : Fin 2048) (d : Fin 512) :
    A_main_v81 (F := Ideal) x0 x1 x2 x3 x4 x5 x6 x7 (ix3 t b d) = uR x0 x1 x2 x3 x4 x5 x6 x7 b t d := by
  unfold A_main_v81 A_main_v78 A_main_v77 A_main_v76 A_main_v75 A_main_v74 A_main_v73 K_main_v72 K_main_cst_5
  pointwise
  rw [v70_at, v63_at, v34_at]
  have h2 : Ideal.ofBits FTy.f32 1073741824#32 = 2 := by
    simp [Ideal.ofBits, Ideal.ieee, -EReal.coe_mul]; norm_num; rfl
  rw [h2, ← mult_eq]
  rfl

/-- Where a trip's slice starts. -/
theorem start0 (j : ℕ) (hj : j < 2048) (h : S2048x32x512.rank = S1x32x512.rank) :
    Host.clampedStart S2048x32x512 S1x32x512 h (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 0 = j := by
  have e : (BitVec.ofNat 32 j).toInt = (j : ℤ) := by
    rw [BitVec.toInt_eq_toNat_of_lt] <;> rw [BitVec.toNat_ofNat, Nat.mod_eq_of_lt (by omega : j < 2 ^ 32)]; omega
  show (min (max (BitVec.ofNat 32 j).toInt 0) ((2048 - 1 : ℕ) : ℤ)).toNat = j
  rw [e]; omega

theorem start1 (j : ℕ) (hj : j < 2048) (h : S2048x32x512.rank = S1x32x512.rank) :
    Host.clampedStart S2048x32x512 S1x32x512 h (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 1 = 0 := by
  rfl

theorem start2 (j : ℕ) (hj : j < 2048) (h : S2048x32x512.rank = S1x32x512.rank) :
    Host.clampedStart S2048x32x512 S1x32x512 h (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 2 = 0 := by
  rfl

/-- One trip's new state. -/
theorem b9_at (j : ℕ) (hj : j < 2048) (s : State Ideal) (b : Fin 32) (d : Fin 512) :
    b9 j s (ix2 b d) = s.main_v83_0 (ix3 ⟨j, hj⟩ b d) * s.main_v83_3 (ix2 b d) + s.main_v83_1 (ix3 ⟨j, hj⟩ b d) := by
  unfold b9 b8 b7 b6 b5 b4 b3 b2 b1 b0
  pointwise
  simp only [start0 j hj, start1 j hj, start2 j hj, Nat.zero_add]

/-- One trip's new stack of states. -/
theorem b13_at (j : ℕ) (hj : j < 2048) (s : State Ideal) (t : Fin 2048) (b : Fin 32) (d : Fin 512) :
    b13 j s (ix3 t b d) = if t.val = j then b9 j s (ix2 b d) else s.main_v83_4 (ix3 t b d) := by
  unfold b13 b12 b11 b10
  pointwise
  simp only [start0 j hj, start1 j hj, start2 j hj, Nat.zero_le, and_true, Nat.sub_zero, dite_eq_ite]
  by_cases e : t.val = j
  · rw [if_pos e]; exact dif_pos ⟨by omega, by omega⟩
  · rw [if_neg e]; exact dif_neg (by omega)

/-- The states the loop goes through. -/
def it : ℕ → State Ideal
  | 0 => init x0 x1 x2 x3 x4 x5 x6 x7
  | n + 1 => step n (it n)

/-- What a state holds before trip `n`. -/
theorem it_at : ∀ n ≤ 2048,
    (it x0 x1 x2 x3 x4 x5 x6 x7 n).main_v83_0 = A_main_v80 x0 x1 x2 x3 x4 x5 x6 x7
    ∧ (it x0 x1 x2 x3 x4 x5 x6 x7 n).main_v83_1 = A_main_v81 x0 x1 x2 x3 x4 x5 x6 x7
    ∧ (∀ b d, (it x0 x1 x2 x3 x4 x5 x6 x7 n).main_v83_3 (ix2 b d) = hR x0 x1 x2 x3 x4 x5 x6 x7 b n d)
    ∧ (∀ (t : Fin 2048) b d, t.val < n → (it x0 x1 x2 x3 x4 x5 x6 x7 n).main_v83_4 (ix3 t b d) = hR x0 x1 x2 x3 x4 x5 x6 x7 b (t.val + 1) d)
  | 0, _ => by
    refine ⟨rfl, rfl, fun b d => ?_, fun t b d h => absurd h (Nat.not_lt_zero _)⟩
    show K_main_v79 (F := Ideal) (ix2 b d) = (0 : EReal)
    unfold K_main_v79 K_main_cst_6
    pointwise
  | n + 1, hn => by
    obtain ⟨h0, h1, h3, h4⟩ := it_at n (by omega)
    have hlt : n < 2048 := hn
    have h9 : ∀ b d, b9 n (it x0 x1 x2 x3 x4 x5 x6 x7 n) (ix2 b d) = hR x0 x1 x2 x3 x4 x5 x6 x7 b (n + 1) d := by
      intro b d
      rw [b9_at n hlt, h0, h1, h3, v80_at, v81_at]
      exact rfl
    refine ⟨h0, h1, h9, fun t b d ht => ?_⟩
    show b13 n (it x0 x1 x2 x3 x4 x5 x6 x7 n) (ix3 t b d) = _
    rw [b13_at n hlt]
    by_cases e : t.val = n
    · rw [if_pos e, h9, e]
    · rw [if_neg e, h4 t b d (by omega)]

/-- The reference's states. -/
theorem R88_at (b : Fin 32) (t : Fin 2048) (d : Fin 512) :
    R_main_v88 (it x0 x1 x2 x3 x4 x5 x6 x7 2048) (ix3 b t d) = hR x0 x1 x2 x3 x4 x5 x6 x7 b (t.val + 1) d := by
  unfold R_main_v88
  pointwise
  exact (it_at x0 x1 x2 x3 x4 x5 x6 x7 2048 le_rfl).2.2.2 t b d t.isLt

/-- The reference's last state. -/
theorem R89_at (b : Fin 32) (d : Fin 512) :
    R_main_v89 (it x0 x1 x2 x3 x4 x5 x6 x7 2048) (ix3 b 0 d) = hR x0 x1 x2 x3 x4 x5 x6 x7 b 2048 d := by
  unfold R_main_v89
  pointwise
  exact (it_at x0 x1 x2 x3 x4 x5 x6 x7 2048 le_rfl).2.2.1 b d

/-- The reference's carried rows. -/
theorem R86_at (st : State Ideal) (b : Fin 32) (s : Fin 3) (d : Fin 512) :
    R_main_v86 st x0 (ix3 b s d) = padQ (fun b t d => x0 (ix3 b t d)) b (2048 + s.val) d := by
  unfold R_main_v86
  pointwise
  unfold padQ
  have hs := s.isLt
  rw [dif_neg (by omega : ¬ 2048 + s.val < 3), if_neg (by omega : ¬ 2048 + s.val < 3), dif_pos (by omega : 2048 + s.val < 2051)]

end Cert.Reference7Ideal.RgpRef

end
-- ==== Proof.RgpRefRun.lean ====
/- The reference's run told as a sequence of loop states: what every trip of the scan leaves, and the three results of it. -/
module

public import proofs.«01_k».proof.Proof.Gen.Reference7Ideal.Run
public import proofs.«01_k».proof.Proof.Gen.Reference7Ideal.Step

@[expose] public section

set_option maxRecDepth 16384

noncomputable section

namespace Cert.Reference7Ideal.RgpRun

open Idealize.ShloMosaic Idealize.ShloMosaic.TcCoe Idealize.SL.Sem Idealize.ShloMosaic.StableHlo
open Cert.Reference7Ideal Cert.Reference7Ideal.Gen Cert.Reference7Ideal.Value
open Cert.Reference7Ideal.Step

variable {F : FTy → Type} [FloatOps F]

/-- The loop's buffers contain the state `s` before trip number `j`. -/
structure At (W : Valuation τ sig (Elt F)) (s : State F) (j : ℕ) : Prop where
  decay : W (Proc.devRef .tc main_v83_0) = s.main_v83_0
  input : W (Proc.devRef .tc main_v83_1) = s.main_v83_1
  count : W (Proc.devRef .tc main_v83_2) = constantI S_ 32 (BitVec.ofNat 32 j)
  carry : W (Proc.devRef .tc main_v83_3) = s.main_v83_3
  stack : W (Proc.devRef .tc main_v83_4) = s.main_v83_4

variable {W : Valuation τ sig (Elt F)} {s : State F} {j : ℕ}

/-- The new state vector of a trip. -/
theorem new_carry (h : At W s j) : res_main_while0b_v93 W = b9 j s := by
  unfold res_main_while0b_v93 b9 b8 b7 b6 b5 b4 b3 b2 b1 b0
  rw [h.decay, h.input, h.count, h.carry]
  rfl

/-- The new stack of state vectors of a trip. -/
theorem new_stack (h : At W s j) : Value.step_main_v83_4 W = b13 j s := by
  unfold Value.step_main_v83_4 b13 b12 b11 b10
  rw [new_carry h, h.count, h.stack]
  rfl

/-- The new counter of a trip. -/
theorem new_count (h : At W s j) : Value.step_main_v83_2 W = constantI S_ 32 (BitVec.ofNat 32 (j + 1)) := by
  unfold Value.step_main_v83_2
  rw [h.count]
  funext i
  exact (BitVec.ofNat_add j 1).symm

/-- One trip takes a state to the next. -/
theorem next (h : At W s j) : At (STEP W) (step j s) (j + 1) where
  decay := (STEP_main_v83_0 W).trans h.decay
  input := (STEP_main_v83_1 W).trans h.input
  count := (STEP_main_v83_2 W).trans (new_count h)
  carry := (STEP_main_v83_3 W).trans (new_carry h)
  stack := (STEP_main_v83_4 W).trans (new_stack h)

variable (m : (ℓ : Loc nD τ sig) → Buf (Elt F) ℓ) (c : Dev nD)

/-- The state before the first trip. -/
abbrev first : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxRecDepth 65536 in
set_option maxHeartbeats 1000000 in
/-- The operations before the loop leave the first state. -/
theorem at_first : At (entryContents preI m c) (first m c) 0 := by
  refine ⟨?_, ?_, ?_, ?_, ?_⟩ <;> simp only [entryContents, afterL_cons, afterL_nil] <;> after_reads_simp <;> rfl

/-- After `k` trips the buffers contain the `k`-th state. -/
theorem at_trip (it : ℕ → State F) (h0 : it 0 = first m c) (hs : ∀ n, it (n + 1) = step n (it n)) (k : ℕ) :
    At (STEP^[k] (entryContents preI m c)) (it k) k := by
  induction k with
  | zero => rw [h0]; exact at_first m c
  | succ k ih => rw [Function.iterate_succ_apply', hs]; exact next ih

/-- The stacked result, of the last state. -/
theorem out88 (h : At W s j) : out_main_v88 W = R_main_v88 s := by
  unfold out_main_v88 R_main_v88
  rw [h.stack]

/-- The last state vector, of the last state. -/
theorem out89 (h : At W s j) : out_main_v89 W = R_main_v89 s := by
  unfold out_main_v89 R_main_v89
  rw [h.carry]

end Cert.Reference7Ideal.RgpRun

end
-- ==== Proof.RgpJoin.lean ====
module

public import proofs.«01_k».proof.Proof.RgpValue
public import proofs.«01_k».proof.Proof.RgpRefVal
public import proofs.«01_k».proof.Proof.RgpRefRun

@[expose] public section

set_option maxRecDepth 16384

noncomputable section

/- The reference's three results are the kernel's, from memories that agree on the arguments. -/

namespace Cert.RgpJoin

open Idealize.ShloMosaic Idealize.ShloMosaic.TcCoe Idealize.ShloMosaic.Tactic Idealize.SL.Sem
open Cert.Reference7Ideal.RgpRef

variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ) (c : Dev Cert.Kernel7Ideal.nD)

/-- The two memories agree on the arguments of one device. -/
def Agree : Prop :=
  m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
  ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
  ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
  ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
  ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
  ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
  ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
  ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)

/-- The reference's loop after `n` trips. -/
abbrev trip (n : ℕ) : Cert.Reference7Ideal.Step.State Ideal :=
  it (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) n

/-- The reference's buffers after the loop. -/
abbrev after : Valuation Cert.Reference7Ideal.τ Cert.Reference7Ideal.sig (Elt Ideal) :=
  Cert.Reference7Ideal.Value.STEP^[2048] (StableHlo.entryContents Cert.Reference7Ideal.Value.preI m' c)

/-- The reference's buffers contain the loop's last state. -/
theorem at_last : Cert.Reference7Ideal.RgpRun.At (after m' c) (trip m' c 2048) 2048 :=
  Cert.Reference7Ideal.RgpRun.at_trip m' c (trip m' c) rfl (fun _ => rfl) 2048

/-- The reference's state after `n` tokens is the kernel's. -/
theorem h_eq (h : Agree m m' c) (b : Fin 32) (n : ℕ) (d : Fin 512) :
    hR (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) b n d = Cert.Kernel7Ideal.RgpValue.hK m c b n d := by
  obtain ⟨h0, h1, h2, h3, h4, h5, h6, h7⟩ := h
  rw [h0, h1, h2, h3, h4, h5, h6, h7]
  rfl

/-- The stacked states. -/
theorem hs_eq (h : Agree m m' c) : Cert.Reference7Ideal.Value.out_main_v88 (after m' c) = Cert.Kernel7Ideal.RgpValue.hs m c := by
  rw [Cert.Reference7Ideal.RgpRun.out88 (at_last m' c)]
  refine funext fun i => ?_
  obtain ⟨b, t, d, rfl⟩ : ∃ (b : Fin 32) (t : Fin 2048) (d : Fin 512), i = ix3 b t d := ⟨i 0, i 1, i 2, (ix3_eta i).symm⟩
  exact (R88_at _ _ _ _ _ _ _ _ b t d).trans (h_eq m m' c h b (t.val + 1) d)

/-- The last state. -/
theorem last_eq (h : Agree m m' c) : Cert.Reference7Ideal.Value.out_main_v89 (after m' c) = Cert.Kernel7Ideal.RgpValue.last m c := by
  rw [Cert.Reference7Ideal.RgpRun.out89 (at_last m' c)]
  refine funext fun i => ?_
  obtain ⟨b, t, d, rfl⟩ : ∃ (b : Fin 32) (t : Fin 1) (d : Fin 512), i = ix3 b t d := ⟨i 0, i 1, i 2, (ix3_eta i).symm⟩
  obtain rfl : t = 0 := Subsingleton.elim _ _
  exact (R89_at _ _ _ _ _ _ _ _ b d).trans (h_eq m m' c h b 2048 d)

/-- The rows carried on. -/
theorem rows_eq (h : Agree m m' c) : Cert.Reference7Ideal.Value.out_main_v86 (after m' c) = Cert.Kernel7Ideal.RgpValue.rows m c := by
  refine funext fun i => ?_
  obtain ⟨b, t, d, rfl⟩ : ∃ (b : Fin 32) (t : Fin 3) (d : Fin 512), i = ix3 b t d := ⟨i 0, i 1, i 2, (ix3_eta i).symm⟩
  have e : Cert.Reference7Ideal.Value.out_main_v86 (after m' c) = Cert.Reference7Ideal.Step.R_main_v86 (trip m' c 2048) (m' ((c.tc : Thread Cert.Reference7Ideal.nD Cert.Reference7Ideal.τ).loc Cert.Reference7Ideal.main_arg0)) := by
    unfold Cert.Reference7Ideal.Value.out_main_v86 Cert.Reference7Ideal.Step.R_main_v86
    unfold after
    rw [Cert.Reference7Ideal.Value.iter_main_arg0 m' c 2048]
  rw [e]
  refine (R86_at _ _ b t d).trans ?_
  rw [h.1]
  rfl

end Cert.RgpJoin

end
-- ==== Proof.lean ====
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel5.Frame
public import proofs.«01_k».proof.Proof.Gen.Kernel5Ideal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Join
public import proofs.«01_k».proof.Proof.CrossJoin
public import proofs.«01_k».proof.Proof.SProjJoin
public import proofs.«01_k».proof.Proof.MixJoin
public import proofs.«01_k».proof.Proof.MemJoin
public import proofs.«01_k».proof.Proof.InProjJoin
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel6.Frame
public import proofs.«01_k».proof.Proof.Gen.Kernel6Ideal.Frame
public import Idealize.ShloMosaic.Adequacy
public import Idealize.ShloMosaic.Init
public import proofs.«01_k».proof.Proof.RgpBits
public import proofs.«01_k».proof.Proof.RgpJoin

@[expose] public section

noncomputable section

namespace Cert.Proof

open Idealize.ShloMosaic Idealize.SL.Sem

/-- The reference terminates, keeps its arguments and leaves every semaphore at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The kernel and the reference end with equal results. -/
theorem value : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.RgValue.hs m c, fun c => Cert.KernelIdeal.RgValue.last m c, fun c => Cert.KernelIdeal.RgValue.rows m c, ?_, ?_⟩
  · exact (θ_run Cert.KernelIdeal.defs _ _).mono (fun r h c =>
      ⟨(h c).1.trans (Cert.KernelIdeal.RgValue.final10 m c), (h c).2.1.trans (Cert.KernelIdeal.RgValue.final11 m c), (h c).2.2.1.trans (Cert.KernelIdeal.RgValue.final12 m c), (h c).2.2.2⟩)
      (Cert.KernelIdeal.Value.run_blocks (F := Ideal) m ρ)
  · exact (θ_run Cert.ReferenceIdeal.defs _ _).mono (fun r h c =>
      ⟨(h c).1.trans (Cert.RgJoin.hs_eq m m' c (hagree c)), (h c).2.1.trans (Cert.RgJoin.last_eq m m' c (hagree c)),
        (h c).2.2.1.trans (Cert.RgJoin.rows_eq m m' c (hagree c)), (h c).2.2.2⟩)
      (Cert.ReferenceIdeal.Value.run (F := Ideal) m' ρ')

/-- The reference of the input projection terminates, keeps its arguments and leaves every semaphore at zero. -/
theorem reference2_frame : Cert.quiescent_Reference2Ideal (hReference2Ideal := Cert.Reference2Ideal.Gen.facts) := fun m ρ _ =>
  (θ_run Cert.Reference2Ideal.defs _ _).mono (fun r h => ⟨fun c => (h c).2.2.2.2.2.2.2.2, Idealize.ShloMosaic.sem_eq_zero_of_no_sems (by decide) r.2⟩)
    (Cert.Reference2Ideal.Value.run (F := Ideal) m ρ)

/-- The kernel of the input projection and its reference end with equal results. -/
theorem value2 : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2Ideal.InProjValue.xlA m c, fun c => Cert.Kernel2Ideal.InProjValue.qA m c, fun c => Cert.Kernel2Ideal.InProjValue.kA m c, fun c => Cert.Kernel2Ideal.InProjValue.vA m c, fun c => Cert.Kernel2Ideal.InProjValue.qiA m c, fun c => Cert.Kernel2Ideal.InProjValue.kwA m c, fun c => Cert.Kernel2Ideal.InProjValue.glA m c, fun c => Cert.Kernel2Ideal.InProjValue.gaA m c, ?_, ?_⟩
  · exact (θ_run Cert.Kernel2Ideal.defs _ _).mono (fun r h c =>
      ⟨(h c).1.trans (Cert.Kernel2Ideal.InProjValue.final5 m c),
        (h c).2.1.trans (Cert.Kernel2Ideal.InProjValue.final6 m c),
        (h c).2.2.1.trans (Cert.Kernel2Ideal.InProjValue.final7 m c),
        (h c).2.2.2.1.trans (Cert.Kernel2Ideal.InProjValue.final8 m c),
        (h c).2.2.2.2.1.trans (Cert.Kernel2Ideal.InProjValue.final9 m c),
        (h c).2.2.2.2.2.1.trans (Cert.Kernel2Ideal.InProjValue.final10 m c),
        (h c).2.2.2.2.2.2.1.trans (Cert.Kernel2Ideal.InProjValue.final11 m c),
        (h c).2.2.2.2.2.2.2.1.trans (Cert.Kernel2Ideal.InProjValue.final12 m c), (h c).2.2.2.2.2.2.2.2⟩)
      (Cert.Kernel2Ideal.Value.run_blocks (F := Ideal) m ρ)
  · exact (θ_run Cert.Reference2Ideal.defs _ _).mono (fun r h c =>
      ⟨(h c).1.trans (Cert.InProjJoin.xl_eq m m' c (hagree c)),
        (h c).2.1.trans (Cert.InProjJoin.q_eq m m' c (hagree c)),
        (h c).2.2.1.trans (Cert.InProjJoin.k_eq m m' c (hagree c)),
        (h c).2.2.2.1.trans (Cert.InProjJoin.v_eq m m' c (hagree c)),
        (h c).2.2.2.2.1.trans (Cert.InProjJoin.qi_eq m m' c (hagree c)),
        (h c).2.2.2.2.2.1.trans (Cert.InProjJoin.kw_eq m m' c (hagree c)),
        (h c).2.2.2.2.2.2.1.trans (Cert.InProjJoin.gl_eq m m' c (hagree c)),
        (h c).2.2.2.2.2.2.2.1.trans (Cert.InProjJoin.ga_eq m m' c (hagree c)), (h c).2.2.2.2.2.2.2.2⟩)
      (Cert.Reference2Ideal.Value.run (F := Ideal) m' ρ')

/-- The reference of the memory projection terminates, keeps its arguments and leaves every semaphore at zero. -/
theorem reference3_frame : Cert.quiescent_Reference3Ideal (hReference3Ideal := Cert.Reference3Ideal.Gen.facts) := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The kernel of the memory projection and its reference end with equal results. -/
theorem value3 : Cert.algebraic_Kernel3Ideal_Reference3Ideal (hKernel3Ideal := Cert.Kernel3Ideal.Gen.facts) (hReference3Ideal := Cert.Reference3Ideal.Gen.facts) := by
  intro m ρ m' ρ' _ hagree
  refine ⟨fun c => Cert.Kernel3Ideal.MemValue.kA m c, fun c => Cert.Kernel3Ideal.MemValue.vA m c, ?_, ?_⟩
  · exact (θ_run Cert.Kernel3Ideal.defs _ _).mono (fun r h c =>
      ⟨(h c).1.trans (Cert.Kernel3Ideal.MemValue.final4 m c),
        (h c).2.1.trans (Cert.Kernel3Ideal.MemValue.final5 m c), (h c).2.2⟩)
      (Cert.Kernel3Ideal.Value.run_blocks (F := Ideal) m ρ)
  · exact (θ_run Cert.Reference3Ideal.defs _ _).mono (fun r h c =>
      ⟨(h c).1.trans (Cert.MemJoin.k_eq m m' c (hagree c)),
        (h c).2.1.trans (Cert.MemJoin.v_eq m m' c (hagree c)), (h c).2.2⟩)
      (Cert.Reference3Ideal.Value.run (F := Ideal) m' ρ')

/-- The reference of the mixing terminates, keeps its arguments and leaves every semaphore at zero. -/
theorem reference4_frame : Cert.quiescent_Reference4Ideal (hReference4Ideal := Cert.Reference4Ideal.Gen.facts) := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- The kernel of the mixing and its reference end with equal results. -/
theorem value4 : Cert.algebraic_Kernel4Ideal_Reference4Ideal (hKernel4Ideal := Cert.Kernel4Ideal.Gen.facts) (hReference4Ideal := Cert.Reference4Ideal.Gen.facts) := by
  intro m ρ m' ρ' _ hagree
  refine ⟨fun c => Cert.Kernel4Ideal.MixValue.x1A m c, fun c => Cert.Kernel4Ideal.MixValue.qA m c, ?_, ?_⟩
  · exact (θ_run Cert.Kernel4Ideal.defs _ _).mono (fun r h c =>
      ⟨(h c).1.trans (Cert.Kernel4Ideal.MixValue.final10 m c),
        (h c).2.1.trans (Cert.Kernel4Ideal.MixValue.final11 m c), (h c).2.2⟩)
      (Cert.Kernel4Ideal.Value.run_blocks (F := Ideal) m ρ)
  · exact (θ_run Cert.Reference4Ideal.defs _ _).mono (fun r h c =>
      ⟨(h c).1.trans (Cert.MixJoin.x1_eq m m' c (hagree c)),
        (h c).2.1.trans (Cert.MixJoin.q_eq m m' c (hagree c)), (h c).2.2⟩)
      (Cert.Reference4Ideal.Value.run (F := Ideal) m' ρ')

/-- The reference of the sample batch's input projection terminates, keeps its arguments and leaves every semaphore at zero. -/
theorem reference5_frame : Cert.quiescent_Reference5Ideal (hReference5Ideal := Cert.Reference5Ideal.Gen.facts) := fun m ρ _ =>
  (θ_run Cert.Reference5Ideal.defs _ _).mono (fun r h => ⟨fun c => (h c).2.2.2.2.2.2.2.2, Idealize.ShloMosaic.sem_eq_zero_of_no_sems (by decide) r.2⟩)
    (Cert.Reference5Ideal.Value.run (F := Ideal) m ρ)

/-- The kernel of the sample batch's input projection and its reference end with equal results. -/
theorem value5 : Cert.algebraic_Kernel5Ideal_Reference5Ideal (hKernel5Ideal := Cert.Kernel5Ideal.Gen.facts) (hReference5Ideal := Cert.Reference5Ideal.Gen.facts) := by
  intro m ρ m' ρ' _ hagree
  refine ⟨fun c => Cert.Kernel5Ideal.SProjValue.xlA m c, fun c => Cert.Kernel5Ideal.SProjValue.qA m c, fun c => Cert.Kernel5Ideal.SProjValue.kA m c, fun c => Cert.Kernel5Ideal.SProjValue.vA m c, fun c => Cert.Kernel5Ideal.SProjValue.qiA m c, fun c => Cert.Kernel5Ideal.SProjValue.kwA m c, fun c => Cert.Kernel5Ideal.SProjValue.glA m c, fun c => Cert.Kernel5Ideal.SProjValue.gaA m c, ?_, ?_⟩
  · exact (θ_run Cert.Kernel5Ideal.defs _ _).mono (fun r h c =>
      ⟨(h c).1.trans (Cert.Kernel5Ideal.SProjValue.final5 m c),
        (h c).2.1.trans (Cert.Kernel5Ideal.SProjValue.final6 m c),
        (h c).2.2.1.trans (Cert.Kernel5Ideal.SProjValue.final7 m c),
        (h c).2.2.2.1.trans (Cert.Kernel5Ideal.SProjValue.final8 m c),
        (h c).2.2.2.2.1.trans (Cert.Kernel5Ideal.SProjValue.final9 m c),
        (h c).2.2.2.2.2.1.trans (Cert.Kernel5Ideal.SProjValue.final10 m c),
        (h c).2.2.2.2.2.2.1.trans (Cert.Kernel5Ideal.SProjValue.final11 m c),
        (h c).2.2.2.2.2.2.2.1.trans (Cert.Kernel5Ideal.SProjValue.final12 m c), (h c).2.2.2.2.2.2.2.2⟩)
      (Cert.Kernel5Ideal.Value.run_blocks (F := Ideal) m ρ)
  · exact (θ_run Cert.Reference5Ideal.defs _ _).mono (fun r h c =>
      ⟨(h c).1.trans (Cert.SProjJoin.xl_eq m m' c (hagree c)),
        (h c).2.1.trans (Cert.SProjJoin.q_eq m m' c (hagree c)),
        (h c).2.2.1.trans (Cert.SProjJoin.k_eq m m' c (hagree c)),
        (h c).2.2.2.1.trans (Cert.SProjJoin.v_eq m m' c (hagree c)),
        (h c).2.2.2.2.1.trans (Cert.SProjJoin.qi_eq m m' c (hagree c)),
        (h c).2.2.2.2.2.1.trans (Cert.SProjJoin.kw_eq m m' c (hagree c)),
        (h c).2.2.2.2.2.2.1.trans (Cert.SProjJoin.gl_eq m m' c (hagree c)),
        (h c).2.2.2.2.2.2.2.1.trans (Cert.SProjJoin.ga_eq m m' c (hagree c)), (h c).2.2.2.2.2.2.2.2⟩)
      (Cert.Reference5Ideal.Value.run (F := Ideal) m' ρ')

/-- Under the precondition the queries and the memory's keys of every device are real numbers. -/
theorem finite6 (m : (ℓ : Loc Cert.Kernel6Ideal.nD Cert.Kernel6Ideal.τ Cert.Kernel6Ideal.sig) → Buf (Elt Ideal) ℓ)
    (h : Cert.Pre_Kernel6Ideal_finite_scores (hPre_finite_scores := Cert.CrossJoin.preFacts) m) (c : Dev Cert.Kernel6Ideal.nD) : Cert.CrossJoin.Finite m c :=
  letI := Cert.CrossJoin.preFacts
  ⟨Cert.CrossJoin.queries_real _ _ _ _ _ _ _ _ _ _ (h c).1, Cert.CrossJoin.keys_real _ _ _ _ _ _ _ _ _ _ (h c).2⟩

/-- The reference of the cross attention terminates, keeps its arguments and leaves every semaphore at zero. -/
theorem reference6_frame : Cert.quiescent_Reference6Ideal (hReference6Ideal := Cert.Reference6Ideal.Gen.facts) := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The kernel of the cross attention and its reference end with equal results. -/
theorem value6 : Cert.algebraic_Kernel6Ideal_Reference6Ideal_pre_finite_scores (hKernel6Ideal := Cert.Kernel6Ideal.Gen.facts) (hReference6Ideal := Cert.Reference6Ideal.Gen.facts) (hPre_finite_scores := Cert.CrossJoin.preFacts) := by
  intro m ρ m' ρ' hpre hagree
  refine ⟨fun c => Cert.Kernel6Ideal.CrossValue.x2A m c, fun c => Cert.Kernel6Ideal.CrossValue.u3A m c, ?_, ?_⟩
  · exact (θ_run Cert.Kernel6Ideal.defs _ _).mono (fun r h c =>
      ⟨(h c).1.trans (Cert.Kernel6Ideal.CrossValue.final8 m c),
        (h c).2.1.trans (Cert.Kernel6Ideal.CrossValue.final9 m c), (h c).2.2.2⟩)
      (Cert.Kernel6Ideal.Value.run_blocks (F := Ideal) m ρ)
  · exact (θ_run Cert.Reference6Ideal.defs _ _).mono (fun r h c =>
      ⟨(h c).1.trans (Cert.CrossJoin.x2_eq m m' c (hagree c) (finite6 m hpre c)),
        (h c).2.1.trans (Cert.CrossJoin.u3_eq m m' c (hagree c) (finite6 m hpre c)), (h c).2.2⟩)
      (Cert.Reference6Ideal.Value.run (F := Ideal) m' ρ')

/-- The reference of the prompt batch's recurrence terminates, keeps its arguments and leaves every semaphore at zero. -/
theorem reference7_frame : Cert.quiescent_Reference7Ideal (hReference7Ideal := Cert.Reference7Ideal.Gen.facts) := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

/-- The kernel of the prompt batch's recurrence and its reference end with equal results. -/
theorem value7 : Cert.algebraic_Kernel7Ideal_Reference7Ideal (hKernel7Ideal := Cert.Kernel7Ideal.Gen.facts) (hReference7Ideal := Cert.Reference7Ideal.Gen.facts) := by
  intro m ρ m' ρ' _ hagree
  refine ⟨fun c => Cert.Kernel7Ideal.RgpValue.hs m c, fun c => Cert.Kernel7Ideal.RgpValue.last m c, fun c => Cert.Kernel7Ideal.RgpValue.rows m c, ?_, ?_⟩
  · exact Cert.Kernel7Ideal.RgpValue.run_values m ρ
  · exact (θ_run Cert.Reference7Ideal.defs _ _).mono (fun r h c =>
      ⟨(h c).1.trans (Cert.RgpJoin.hs_eq m m' c (hagree c)),
        (h c).2.1.trans (Cert.RgpJoin.last_eq m m' c (hagree c)),
        (h c).2.2.1.trans (Cert.RgpJoin.rows_eq m m' c (hagree c)), (h c).2.2.2⟩)
      (Cert.Reference7Ideal.Value.run (F := Ideal) m' ρ')

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.CrossJoin.preFacts,
  fun m ρ _ => Cert.Kernel.Gen.frame (F := Bits) m ρ,
  fun m ρ _ => Cert.KernelIdeal.Gen.frame (F := Ideal) m ρ,
  reference_frame,
  fun m ρ _ => Cert.Kernel2.Gen.frame (F := Bits) m ρ,
  fun m ρ _ => Cert.Kernel2Ideal.Gen.frame (F := Ideal) m ρ,
  reference2_frame,
  fun m ρ _ => Cert.Kernel3.Gen.frame (F := Bits) m ρ,
  fun m ρ _ => Cert.Kernel3Ideal.Gen.frame (F := Ideal) m ρ,
  reference3_frame,
  fun m ρ _ => Cert.Kernel4.Gen.frame (F := Bits) m ρ,
  fun m ρ _ => Cert.Kernel4Ideal.Gen.frame (F := Ideal) m ρ,
  reference4_frame,
  fun m ρ _ => Cert.Kernel5.Gen.frame (F := Bits) m ρ,
  fun m ρ _ => Cert.Kernel5Ideal.Gen.frame (F := Ideal) m ρ,
  reference5_frame,
  fun m ρ _ => Cert.Kernel6.Gen.frame (F := Bits) m ρ,
  fun m ρ _ => Cert.Kernel6Ideal.Gen.frame (F := Ideal) m ρ,
  fun m ρ _ => Cert.Kernel6Ideal.Gen.frame (F := Ideal) m ρ,
  reference6_frame,
  fun m ρ _ => reference6_frame m ρ trivial,
  Cert.RgpBits.frame,
  fun m ρ _ => Cert.Kernel7Ideal.Gen.frame (F := Ideal) m ρ,
  reference7_frame,
  trivial, value, trivial, value2, trivial, value3, trivial, value4, trivial, value5, trivial, value6, trivial, value7⟩

end Cert.Proof

end
